-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v469) = v0 c
          ∧ r.2.mem ((c.tc : Thread Cert.ReferenceIdeal.nD Cert.ReferenceIdeal.τ).loc Cert.ReferenceIdeal.main_v470) = v1 c
          ∧ r.2.mem ((c.tc : Thread Cert.ReferenceIdeal.nD Cert.ReferenceIdeal.τ).loc Cert.ReferenceIdeal.main_v471) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x512x512 : Shape := ⟨4, ![2, 3, 512, 512]⟩
abbrev S2x80x64x64 : Shape := ⟨4, ![2, 80, 64, 64]⟩
abbrev S2x80x32x32 : Shape := ⟨4, ![2, 80, 32, 32]⟩
abbrev S2x80x16x16 : Shape := ⟨4, ![2, 80, 16, 16]⟩
abbrev S2x80x8x8 : Shape := ⟨4, ![2, 80, 8, 8]⟩
abbrev S2x80x4x4 : Shape := ⟨4, ![2, 80, 4, 4]⟩
abbrev S2x4x64x64 : Shape := ⟨4, ![2, 4, 64, 64]⟩
abbrev S2x4x32x32 : Shape := ⟨4, ![2, 4, 32, 32]⟩
abbrev S2x4x16x16 : Shape := ⟨4, ![2, 4, 16, 16]⟩
abbrev S2x4x8x8 : Shape := ⟨4, ![2, 4, 8, 8]⟩
abbrev S2x4x4x4 : Shape := ⟨4, ![2, 4, 4, 4]⟩
abbrev S2x1x64x64 : Shape := ⟨4, ![2, 1, 64, 64]⟩
abbrev S2x1x32x32 : Shape := ⟨4, ![2, 1, 32, 32]⟩
abbrev S2x1x16x16 : Shape := ⟨4, ![2, 1, 16, 16]⟩
abbrev S2x1x8x8 : Shape := ⟨4, ![2, 1, 8, 8]⟩
abbrev S2x1x4x4 : Shape := ⟨4, ![2, 1, 4, 4]⟩
abbrev S2x64x64x80 : Shape := ⟨4, ![2, 64, 64, 80]⟩
abbrev S2x4096x80 : Shape := ⟨3, ![2, 4096, 80]⟩
abbrev S2x64x64x1 : Shape := ⟨4, ![2, 64, 64, 1]⟩
abbrev S2x4096x1 : Shape := ⟨3, ![2, 4096, 1]⟩
abbrev S2x64x64x4 : Shape := ⟨4, ![2, 64, 64, 4]⟩
abbrev S2x4096x4 : Shape := ⟨3, ![2, 4096, 4]⟩
abbrev S2x327680 : Shape := ⟨2, ![2, 327680]⟩
abbrev S2x1000 : Shape := ⟨2, ![2, 1000]⟩
abbrev S_ : Shape := ⟨0, ![]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S2x32x32x80 : Shape := ⟨4, ![2, 32, 32, 80]⟩
abbrev S2x1024x80 : Shape := ⟨3, ![2, 1024, 80]⟩
abbrev S2x32x32x1 : Shape := ⟨4, ![2, 32, 32, 1]⟩
abbrev S2x1024x1 : Shape := ⟨3, ![2, 1024, 1]⟩
abbrev S2x32x32x4 : Shape := ⟨4, ![2, 32, 32, 4]⟩
abbrev S2x1024x4 : Shape := ⟨3, ![2, 1024, 4]⟩
abbrev S2x81920 : Shape := ⟨2, ![2, 81920]⟩
abbrev S2x16x16x80 : Shape := ⟨4, ![2, 16, 16, 80]⟩
abbrev S2x256x80 : Shape := ⟨3, ![2, 256, 80]⟩
abbrev S2x16x16x1 : Shape := ⟨4, ![2, 16, 16, 1]⟩
abbrev S2x256x1 : Shape := ⟨3, ![2, 256, 1]⟩
abbrev S2x16x16x4 : Shape := ⟨4, ![2, 16, 16, 4]⟩
abbrev S2x256x4 : Shape := ⟨3, ![2, 256, 4]⟩
abbrev S2x20480 : Shape := ⟨2, ![2, 20480]⟩
abbrev S2x8x8x80 : Shape := ⟨4, ![2, 8, 8, 80]⟩
abbrev S2x64x80 : Shape := ⟨3, ![2, 64, 80]⟩
abbrev S2x8x8x1 : Shape := ⟨4, ![2, 8, 8, 1]⟩
abbrev S2x64x1 : Shape := ⟨3, ![2, 64, 1]⟩
abbrev S2x8x8x4 : Shape := ⟨4, ![2, 8, 8, 4]⟩
abbrev S2x64x4 : Shape := ⟨3, ![2, 64, 4]⟩
abbrev S2x5120 : Shape := ⟨2, ![2, 5120]⟩
abbrev S2x4x4x80 : Shape := ⟨4, ![2, 4, 4, 80]⟩
abbrev S2x16x80 : Shape := ⟨3, ![2, 16, 80]⟩
abbrev S2x4x4x1 : Shape := ⟨4, ![2, 4, 4, 1]⟩
abbrev S2x16x1 : Shape := ⟨3, ![2, 16, 1]⟩
abbrev S2x16x4 : Shape := ⟨3, ![2, 16, 4]⟩
abbrev S2x1280 : Shape := ⟨2, ![2, 1280]⟩
abbrev S2x5000x4 : Shape := ⟨3, ![2, 5000, 4]⟩
abbrev S2x5000 : Shape := ⟨2, ![2, 5000]⟩
abbrev S2x4x5000 : Shape := ⟨3, ![2, 4, 5000]⟩
abbrev S2x4x5120 : Shape := ⟨3, ![2, 4, 5120]⟩
abbrev S2x4x8x640 : Shape := ⟨4, ![2, 4, 8, 640]⟩
abbrev S2x8x640 : Shape := ⟨3, ![2, 8, 640]⟩
abbrev S2x4x64 : Shape := ⟨3, ![2, 4, 64]⟩
abbrev S2x1x64 : Shape := ⟨3, ![2, 1, 64]⟩
abbrev S1x4x8x640 : Shape := ⟨4, ![1, 4, 8, 640]⟩
abbrev S1x8x640 : Shape := ⟨3, ![1, 8, 640]⟩
abbrev S1x4x64 : Shape := ⟨3, ![1, 4, 64]⟩
abbrev S1x1x64 : Shape := ⟨3, ![1, 1, 64]⟩
abbrev S4x8x640 : Shape := ⟨3, ![4, 8, 640]⟩
abbrev S8x640 : Shape := ⟨2, ![8, 640]⟩
abbrev S1x64 : Shape := ⟨2, ![1, 64]⟩
abbrev S4x64 : Shape := ⟨2, ![4, 64]⟩
abbrev S2x50x4 : Shape := ⟨3, ![2, 50, 4]⟩
abbrev S2x1x50 : Shape := ⟨3, ![2, 1, 50]⟩
abbrev S2x50 : Shape := ⟨2, ![2, 50]⟩

abbrev nBuf : Space → Nat
  | .hbm => 414
  | .vmem => 29
  | .smem => 0
  | _ => 0

abbrev hbmTy0_0 (i : Nat) : BufTy := match i % 128 with
  | 0 => ⟨S2x3x512x512, .f32⟩
  | 1 => ⟨S2x80x64x64, .f32⟩
  | 2 => ⟨S2x80x32x32, .f32⟩
  | 3 => ⟨S2x80x16x16, .f32⟩
  | 4 => ⟨S2x80x8x8, .f32⟩
  | 5 => ⟨S2x80x4x4, .f32⟩
  | 6 => ⟨S2x4x64x64, .f32⟩
  | 7 => ⟨S2x4x32x32, .f32⟩
  | 8 => ⟨S2x4x16x16, .f32⟩
  | 9 => ⟨S2x4x8x8, .f32⟩
  | 10 => ⟨S2x4x4x4, .f32⟩
  | 11 => ⟨S2x1x64x64, .f32⟩
  | 12 => ⟨S2x1x32x32, .f32⟩
  | 13 => ⟨S2x1x16x16, .f32⟩
  | 14 => ⟨S2x1x8x8, .f32⟩
  | 15 => ⟨S2x1x4x4, .f32⟩
  | 16 => ⟨S2x64x64x80, .f32⟩
  | 17 => ⟨S2x4096x80, .f32⟩
  | 18 => ⟨S2x64x64x1, .f32⟩
  | 19 => ⟨S2x4096x1, .f32⟩
  | 20 => ⟨S2x64x64x4, .f32⟩
  | 21 => ⟨S2x4096x4, .f32⟩
  | 22 => ⟨S2x4096x80, .f32⟩
  | 23 => ⟨S2x327680, .f32⟩
  | 24 => ⟨S2x1000, .f32⟩
  | 25 => ⟨S2x1000, .i32⟩
  | 26 => ⟨S_, .i32⟩
  | 27 => ⟨S_, .i32⟩
  | 28 => ⟨S2x1000, .i32⟩
  | 29 => ⟨S2x1000, .i32⟩
  | 30 => ⟨S2x1000, .i32⟩
  | 31 => ⟨S_, .i32⟩
  | 32 => ⟨S2x1000, .i32⟩
  | 33 => ⟨S2x1000, .i1⟩
  | 34 => ⟨S2x1000, .i32⟩
  | 35 => ⟨S2x1000, .i32⟩
  | 36 => ⟨S_, .i32⟩
  | 37 => ⟨S2x1000, .i32⟩
  | 38 => ⟨S2x1000, .i1⟩
  | 39 => ⟨S2x1000, .i1⟩
  | 40 => ⟨S_, .i32⟩
  | 41 => ⟨S2x1000, .i32⟩
  | 42 => ⟨S2x1000, .i32⟩
  | 43 => ⟨S2x1000, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S2x1000, .i32⟩
  | 51 => ⟨S2x1000, .i32⟩
  | 52 => ⟨S_, .i32⟩
  | 53 => ⟨S2x1000, .i32⟩
  | 54 => ⟨S2x1000, .i1⟩
  | 55 => ⟨S_, .i32⟩
  | 56 => ⟨S2x1000, .i32⟩
  | 57 => ⟨S2x1000, .i1⟩
  | 58 => ⟨S_, .i32⟩
  | 59 => ⟨S_, .i1⟩
  | 60 => ⟨S2x1000, .i1⟩
  | 61 => ⟨S2x1000, .i1⟩
  | 62 => ⟨S2x1000, .i1⟩
  | 63 => ⟨S2x1000, .i32⟩
  | 64 => ⟨S2x1000, .i32⟩
  | 65 => ⟨S2x1000, .i32⟩
  | 66 => ⟨S2x1000x1, .i32⟩
  | 67 => ⟨S_, .i32⟩
  | 68 => ⟨S2x1000x1, .i32⟩
  | 69 => ⟨S2x1000x1, .i1⟩
  | 70 => ⟨S_, .i32⟩
  | 71 => ⟨S2x1000x1, .i32⟩
  | 72 => ⟨S2x1000x1, .i32⟩
  | 73 => ⟨S2x1000x1, .i32⟩
  | 74 => ⟨S1, .i32⟩
  | 75 => ⟨S_, .i32⟩
  | 76 => ⟨S2x1000x1, .i32⟩
  | 77 => ⟨S2x1000x1, .i1⟩
  | 78 => ⟨S1x1x1, .i32⟩
  | 79 => ⟨S2x1000x1, .i32⟩
  | 80 => ⟨S2x1000x1, .i1⟩
  | 81 => ⟨S2x1000x1, .i1⟩
  | 82 => ⟨S_, .i1⟩
  | 83 => ⟨S2x1000, .i1⟩
  | 84 => ⟨S2x1000x4, .f32⟩
  | 85 => ⟨S2x1000x4, .i1⟩
  | 86 => ⟨S_, .f32⟩
  | 87 => ⟨S2x1000x4, .f32⟩
  | 88 => ⟨S2x1000x4, .f32⟩
  | 89 => ⟨S2x32x32x80, .f32⟩
  | 90 => ⟨S2x1024x80, .f32⟩
  | 91 => ⟨S2x32x32x1, .f32⟩
  | 92 => ⟨S2x1024x1, .f32⟩
  | 93 => ⟨S2x32x32x4, .f32⟩
  | 94 => ⟨S2x1024x4, .f32⟩
  | 95 => ⟨S2x1024x80, .f32⟩
  | 96 => ⟨S2x81920, .f32⟩
  | 97 => ⟨S2x1000, .f32⟩
  | 98 => ⟨S2x1000, .i32⟩
  | 99 => ⟨S_, .i32⟩
  | 100 => ⟨S_, .i32⟩
  | 101 => ⟨S2x1000, .i32⟩
  | 102 => ⟨S2x1000, .i32⟩
  | 103 => ⟨S2x1000, .i32⟩
  | 104 => ⟨S_, .i32⟩
  | 105 => ⟨S2x1000, .i32⟩
  | 106 => ⟨S2x1000, .i1⟩
  | 107 => ⟨S2x1000, .i32⟩
  | 108 => ⟨S2x1000, .i32⟩
  | 109 => ⟨S_, .i32⟩
  | 110 => ⟨S2x1000, .i32⟩
  | 111 => ⟨S2x1000, .i1⟩
  | 112 => ⟨S2x1000, .i1⟩
  | 113 => ⟨S_, .i32⟩
  | 114 => ⟨S2x1000, .i32⟩
  | 115 => ⟨S2x1000, .i32⟩
  | 116 => ⟨S2x1000, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S2x1000, .i32⟩
  | 124 => ⟨S2x1000, .i32⟩
  | 125 => ⟨S_, .i32⟩
  | 126 => ⟨S2x1000, .i32⟩
  | 127 => ⟨S2x1000, .i1⟩
  | _ => ⟨S2x3x512x512, .f32⟩

abbrev hbmTy0_1 (i : Nat) : BufTy := match i % 128 with
  | 0 => ⟨S_, .i32⟩
  | 1 => ⟨S2x1000, .i32⟩
  | 2 => ⟨S2x1000, .i1⟩
  | 3 => ⟨S_, .i32⟩
  | 4 => ⟨S_, .i1⟩
  | 5 => ⟨S2x1000, .i1⟩
  | 6 => ⟨S2x1000, .i1⟩
  | 7 => ⟨S2x1000, .i1⟩
  | 8 => ⟨S2x1000, .i32⟩
  | 9 => ⟨S2x1000, .i32⟩
  | 10 => ⟨S2x1000, .i32⟩
  | 11 => ⟨S2x1000x1, .i32⟩
  | 12 => ⟨S_, .i32⟩
  | 13 => ⟨S2x1000x1, .i32⟩
  | 14 => ⟨S2x1000x1, .i1⟩
  | 15 => ⟨S_, .i32⟩
  | 16 => ⟨S2x1000x1, .i32⟩
  | 17 => ⟨S2x1000x1, .i32⟩
  | 18 => ⟨S2x1000x1, .i32⟩
  | 19 => ⟨S1, .i32⟩
  | 20 => ⟨S_, .i32⟩
  | 21 => ⟨S2x1000x1, .i32⟩
  | 22 => ⟨S2x1000x1, .i1⟩
  | 23 => ⟨S1x1x1, .i32⟩
  | 24 => ⟨S2x1000x1, .i32⟩
  | 25 => ⟨S2x1000x1, .i1⟩
  | 26 => ⟨S2x1000x1, .i1⟩
  | 27 => ⟨S_, .i1⟩
  | 28 => ⟨S2x1000, .i1⟩
  | 29 => ⟨S2x1000x4, .f32⟩
  | 30 => ⟨S2x1000x4, .i1⟩
  | 31 => ⟨S_, .f32⟩
  | 32 => ⟨S2x1000x4, .f32⟩
  | 33 => ⟨S2x1000x4, .f32⟩
  | 34 => ⟨S2x16x16x80, .f32⟩
  | 35 => ⟨S2x256x80, .f32⟩
  | 36 => ⟨S2x16x16x1, .f32⟩
  | 37 => ⟨S2x256x1, .f32⟩
  | 38 => ⟨S2x16x16x4, .f32⟩
  | 39 => ⟨S2x256x4, .f32⟩
  | 40 => ⟨S2x256x80, .f32⟩
  | 41 => ⟨S2x20480, .f32⟩
  | 42 => ⟨S2x1000, .f32⟩
  | 43 => ⟨S2x1000, .i32⟩
  | 44 => ⟨S_, .i32⟩
  | 45 => ⟨S_, .i32⟩
  | 46 => ⟨S2x1000, .i32⟩
  | 47 => ⟨S2x1000, .i32⟩
  | 48 => ⟨S2x1000, .i32⟩
  | 49 => ⟨S_, .i32⟩
  | 50 => ⟨S2x1000, .i32⟩
  | 51 => ⟨S2x1000, .i1⟩
  | 52 => ⟨S2x1000, .i32⟩
  | 53 => ⟨S2x1000, .i32⟩
  | 54 => ⟨S_, .i32⟩
  | 55 => ⟨S2x1000, .i32⟩
  | 56 => ⟨S2x1000, .i1⟩
  | 57 => ⟨S2x1000, .i1⟩
  | 58 => ⟨S_, .i32⟩
  | 59 => ⟨S2x1000, .i32⟩
  | 60 => ⟨S2x1000, .i32⟩
  | 61 => ⟨S2x1000, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S2x1000, .i32⟩
  | 69 => ⟨S2x1000, .i32⟩
  | 70 => ⟨S_, .i32⟩
  | 71 => ⟨S2x1000, .i32⟩
  | 72 => ⟨S2x1000, .i1⟩
  | 73 => ⟨S_, .i32⟩
  | 74 => ⟨S2x1000, .i32⟩
  | 75 => ⟨S2x1000, .i1⟩
  | 76 => ⟨S_, .i32⟩
  | 77 => ⟨S_, .i1⟩
  | 78 => ⟨S2x1000, .i1⟩
  | 79 => ⟨S2x1000, .i1⟩
  | 80 => ⟨S2x1000, .i1⟩
  | 81 => ⟨S2x1000, .i32⟩
  | 82 => ⟨S2x1000, .i32⟩
  | 83 => ⟨S2x1000, .i32⟩
  | 84 => ⟨S2x1000x1, .i32⟩
  | 85 => ⟨S_, .i32⟩
  | 86 => ⟨S2x1000x1, .i32⟩
  | 87 => ⟨S2x1000x1, .i1⟩
  | 88 => ⟨S_, .i32⟩
  | 89 => ⟨S2x1000x1, .i32⟩
  | 90 => ⟨S2x1000x1, .i32⟩
  | 91 => ⟨S2x1000x1, .i32⟩
  | 92 => ⟨S1, .i32⟩
  | 93 => ⟨S_, .i32⟩
  | 94 => ⟨S2x1000x1, .i32⟩
  | 95 => ⟨S2x1000x1, .i1⟩
  | 96 => ⟨S1x1x1, .i32⟩
  | 97 => ⟨S2x1000x1, .i32⟩
  | 98 => ⟨S2x1000x1, .i1⟩
  | 99 => ⟨S2x1000x1, .i1⟩
  | 100 => ⟨S_, .i1⟩
  | 101 => ⟨S2x1000, .i1⟩
  | 102 => ⟨S2x1000x4, .f32⟩
  | 103 => ⟨S2x1000x4, .i1⟩
  | 104 => ⟨S_, .f32⟩
  | 105 => ⟨S2x1000x4, .f32⟩
  | 106 => ⟨S2x1000x4, .f32⟩
  | 107 => ⟨S2x8x8x80, .f32⟩
  | 108 => ⟨S2x64x80, .f32⟩
  | 109 => ⟨S2x8x8x1, .f32⟩
  | 110 => ⟨S2x64x1, .f32⟩
  | 111 => ⟨S2x8x8x4, .f32⟩
  | 112 => ⟨S2x64x4, .f32⟩
  | 113 => ⟨S2x64x80, .f32⟩
  | 114 => ⟨S2x5120, .f32⟩
  | 115 => ⟨S2x1000, .f32⟩
  | 116 => ⟨S2x1000, .i32⟩
  | 117 => ⟨S_, .i32⟩
  | 118 => ⟨S_, .i32⟩
  | 119 => ⟨S2x1000, .i32⟩
  | 120 => ⟨S2x1000, .i32⟩
  | 121 => ⟨S2x1000, .i32⟩
  | 122 => ⟨S_, .i32⟩
  | 123 => ⟨S2x1000, .i32⟩
  | 124 => ⟨S2x1000, .i1⟩
  | 125 => ⟨S2x1000, .i32⟩
  | 126 => ⟨S2x1000, .i32⟩
  | 127 => ⟨S_, .i32⟩
  | _ => ⟨S2x3x512x512, .f32⟩

abbrev hbmTy0_2 (i : Nat) : BufTy := match i % 128 with
  | 0 => ⟨S2x1000, .i32⟩
  | 1 => ⟨S2x1000, .i1⟩
  | 2 => ⟨S2x1000, .i1⟩
  | 3 => ⟨S_, .i32⟩
  | 4 => ⟨S2x1000, .i32⟩
  | 5 => ⟨S2x1000, .i32⟩
  | 6 => ⟨S2x1000, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S2x1000, .i32⟩
  | 14 => ⟨S2x1000, .i32⟩
  | 15 => ⟨S_, .i32⟩
  | 16 => ⟨S2x1000, .i32⟩
  | 17 => ⟨S2x1000, .i1⟩
  | 18 => ⟨S_, .i32⟩
  | 19 => ⟨S2x1000, .i32⟩
  | 20 => ⟨S2x1000, .i1⟩
  | 21 => ⟨S_, .i32⟩
  | 22 => ⟨S_, .i1⟩
  | 23 => ⟨S2x1000, .i1⟩
  | 24 => ⟨S2x1000, .i1⟩
  | 25 => ⟨S2x1000, .i1⟩
  | 26 => ⟨S2x1000, .i32⟩
  | 27 => ⟨S2x1000, .i32⟩
  | 28 => ⟨S2x1000, .i32⟩
  | 29 => ⟨S2x1000x1, .i32⟩
  | 30 => ⟨S_, .i32⟩
  | 31 => ⟨S2x1000x1, .i32⟩
  | 32 => ⟨S2x1000x1, .i1⟩
  | 33 => ⟨S_, .i32⟩
  | 34 => ⟨S2x1000x1, .i32⟩
  | 35 => ⟨S2x1000x1, .i32⟩
  | 36 => ⟨S2x1000x1, .i32⟩
  | 37 => ⟨S1, .i32⟩
  | 38 => ⟨S_, .i32⟩
  | 39 => ⟨S2x1000x1, .i32⟩
  | 40 => ⟨S2x1000x1, .i1⟩
  | 41 => ⟨S1x1x1, .i32⟩
  | 42 => ⟨S2x1000x1, .i32⟩
  | 43 => ⟨S2x1000x1, .i1⟩
  | 44 => ⟨S2x1000x1, .i1⟩
  | 45 => ⟨S_, .i1⟩
  | 46 => ⟨S2x1000, .i1⟩
  | 47 => ⟨S2x1000x4, .f32⟩
  | 48 => ⟨S2x1000x4, .i1⟩
  | 49 => ⟨S_, .f32⟩
  | 50 => ⟨S2x1000x4, .f32⟩
  | 51 => ⟨S2x1000x4, .f32⟩
  | 52 => ⟨S2x4x4x80, .f32⟩
  | 53 => ⟨S2x16x80, .f32⟩
  | 54 => ⟨S2x4x4x1, .f32⟩
  | 55 => ⟨S2x16x1, .f32⟩
  | 56 => ⟨S2x4x4x4, .f32⟩
  | 57 => ⟨S2x16x4, .f32⟩
  | 58 => ⟨S2x16x80, .f32⟩
  | 59 => ⟨S2x1280, .f32⟩
  | 60 => ⟨S2x1000, .f32⟩
  | 61 => ⟨S2x1000, .i32⟩
  | 62 => ⟨S_, .i32⟩
  | 63 => ⟨S_, .i32⟩
  | 64 => ⟨S2x1000, .i32⟩
  | 65 => ⟨S2x1000, .i32⟩
  | 66 => ⟨S2x1000, .i32⟩
  | 67 => ⟨S_, .i32⟩
  | 68 => ⟨S2x1000, .i32⟩
  | 69 => ⟨S2x1000, .i1⟩
  | 70 => ⟨S2x1000, .i32⟩
  | 71 => ⟨S2x1000, .i32⟩
  | 72 => ⟨S_, .i32⟩
  | 73 => ⟨S2x1000, .i32⟩
  | 74 => ⟨S2x1000, .i1⟩
  | 75 => ⟨S2x1000, .i1⟩
  | 76 => ⟨S_, .i32⟩
  | 77 => ⟨S2x1000, .i32⟩
  | 78 => ⟨S2x1000, .i32⟩
  | 79 => ⟨S2x1000, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S2x1000, .i32⟩
  | 87 => ⟨S2x1000, .i32⟩
  | 88 => ⟨S_, .i32⟩
  | 89 => ⟨S2x1000, .i32⟩
  | 90 => ⟨S2x1000, .i1⟩
  | 91 => ⟨S_, .i32⟩
  | 92 => ⟨S2x1000, .i32⟩
  | 93 => ⟨S2x1000, .i1⟩
  | 94 => ⟨S_, .i32⟩
  | 95 => ⟨S_, .i1⟩
  | 96 => ⟨S2x1000, .i1⟩
  | 97 => ⟨S2x1000, .i1⟩
  | 98 => ⟨S2x1000, .i1⟩
  | 99 => ⟨S2x1000, .i32⟩
  | 100 => ⟨S2x1000, .i32⟩
  | 101 => ⟨S2x1000, .i32⟩
  | 102 => ⟨S2x1000x1, .i32⟩
  | 103 => ⟨S_, .i32⟩
  | 104 => ⟨S2x1000x1, .i32⟩
  | 105 => ⟨S2x1000x1, .i1⟩
  | 106 => ⟨S_, .i32⟩
  | 107 => ⟨S2x1000x1, .i32⟩
  | 108 => ⟨S2x1000x1, .i32⟩
  | 109 => ⟨S2x1000x1, .i32⟩
  | 110 => ⟨S1, .i32⟩
  | 111 => ⟨S_, .i32⟩
  | 112 => ⟨S2x1000x1, .i32⟩
  | 113 => ⟨S2x1000x1, .i1⟩
  | 114 => ⟨S1x1x1, .i32⟩
  | 115 => ⟨S2x1000x1, .i32⟩
  | 116 => ⟨S2x1000x1, .i1⟩
  | 117 => ⟨S2x1000x1, .i1⟩
  | 118 => ⟨S_, .i1⟩
  | 119 => ⟨S2x1000, .i1⟩
  | 120 => ⟨S2x1000x4, .f32⟩
  | 121 => ⟨S2x1000x4, .i1⟩
  | 122 => ⟨S_, .f32⟩
  | 123 => ⟨S2x1000x4, .f32⟩
  | 124 => ⟨S2x1000x4, .f32⟩
  | 125 => ⟨S2x5000x4, .f32⟩
  | 126 => ⟨S2x5000, .i32⟩
  | 127 => ⟨S2x5000, .f32⟩
  | _ => ⟨S2x3x512x512, .f32⟩

abbrev hbmTy0_3 (i : Nat) : BufTy := match i % 128 with
  | 0 => ⟨S2x5000, .f32⟩
  | 1 => ⟨S2x5000, .i32⟩
  | 2 => ⟨S2x5000, .f32⟩
  | 3 => ⟨S2x4x5000, .f32⟩
  | 4 => ⟨S_, .i32⟩
  | 5 => ⟨S_, .f32⟩
  | 6 => ⟨S2x4x5120, .f32⟩
  | 7 => ⟨S2x4x8x640, .f32⟩
  | 8 => ⟨S_, .i32⟩
  | 9 => ⟨S_, .f32⟩
  | 10 => ⟨S2x5120, .f32⟩
  | 11 => ⟨S2x8x640, .f32⟩
  | 12 => ⟨S_, .i32⟩
  | 13 => ⟨S_, .f32⟩
  | 14 => ⟨S2x5120, .f32⟩
  | 15 => ⟨S2x8x640, .f32⟩
  | 16 => ⟨S_, .i32⟩
  | 17 => ⟨S_, .f32⟩
  | 18 => ⟨S2x5120, .f32⟩
  | 19 => ⟨S2x8x640, .f32⟩
  | 20 => ⟨S2x4x64, .f32⟩
  | 21 => ⟨S2x1x64, .f32⟩
  | 22 => ⟨S2x1x64, .f32⟩
  | 23 => ⟨S2x64x4, .f32⟩
  | 24 => ⟨S2x50x4, .f32⟩
  | 25 => ⟨S2x1x50, .f32⟩
  | 26 => ⟨S2x50, .f32⟩
  | 27 => ⟨S2x1x50, .f32⟩
  | 28 => ⟨S2x50, .f32⟩
  | 29 => ⟨S2x50, .i32⟩
  | _ => ⟨S2x3x512x512, .f32⟩

abbrev hbmTy (i : Nat) : BufTy := match i / 128 with
  | 0 => hbmTy0_0 i
  | 1 => hbmTy0_1 i
  | 2 => hbmTy0_2 i
  | 3 => hbmTy0_3 i
  | _ => ⟨S2x3x512x512, .f32⟩

abbrev bufTy : (tb : Table) → Fin (tcTables nBuf tb) → BufTy
  | .hbm, ⟨i, _⟩ => hbmTy i
  | .local _ .vmem, ⟨0, _⟩ => ⟨S2x4096x80, .f32⟩
  | .local _ .vmem, ⟨1, _⟩ => ⟨S2x4096x1, .f32⟩
  | .local _ .vmem, ⟨2, _⟩ => ⟨S2x4096x80, .f32⟩
  | .local _ .vmem, ⟨3, _⟩ => ⟨S2x1024x80, .f32⟩
  | .local _ .vmem, ⟨4, _⟩ => ⟨S2x1024x1, .f32⟩
  | .local _ .vmem, ⟨5, _⟩ => ⟨S2x1024x80, .f32⟩
  | .local _ .vmem, ⟨6, _⟩ => ⟨S2x256x80, .f32⟩
  | .local _ .vmem, ⟨7, _⟩ => ⟨S2x256x1, .f32⟩
  | .local _ .vmem, ⟨8, _⟩ => ⟨S2x256x80, .f32⟩
  | .local _ .vmem, ⟨9, _⟩ => ⟨S2x64x80, .f32⟩
  | .local _ .vmem, ⟨10, _⟩ => ⟨S2x64x1, .f32⟩
  | .local _ .vmem, ⟨11, _⟩ => ⟨S2x64x80, .f32⟩
  | .local _ .vmem, ⟨12, _⟩ => ⟨S2x16x80, .f32⟩
  | .local _ .vmem, ⟨13, _⟩ => ⟨S2x16x1, .f32⟩
  | .local _ .vmem, ⟨14, _⟩ => ⟨S2x16x80, .f32⟩
  | .local _ .vmem, ⟨15, _⟩ => ⟨S1x4x8x640, .f32⟩
  | .local _ .vmem, ⟨16, _⟩ => ⟨S1x4x8x640, .f32⟩
  | .local _ .vmem, ⟨17, _⟩ => ⟨S1x8x640, .f32⟩
  | .local _ .vmem, ⟨18, _⟩ => ⟨S1x8x640, .f32⟩
  | .local _ .vmem, ⟨19, _⟩ => ⟨S1x8x640, .f32⟩
  | .local _ .vmem, ⟨20, _⟩ => ⟨S1x8x640, .f32⟩
  | .local _ .vmem, ⟨21, _⟩ => ⟨S1x8x640, .f32⟩
  | .local _ .vmem, ⟨22, _⟩ => ⟨S1x8x640, .f32⟩
  | .local _ .vmem, ⟨23, _⟩ => ⟨S1x4x64, .f32⟩
  | .local _ .vmem, ⟨24, _⟩ => ⟨S1x4x64, .f32⟩
  | .local _ .vmem, ⟨25, _⟩ => ⟨S1x1x64, .f32⟩
  | .local _ .vmem, ⟨26, _⟩ => ⟨S1x1x64, .f32⟩
  | .local _ .vmem, ⟨27, _⟩ => ⟨S1x1x64, .f32⟩
  | .local _ .vmem, ⟨28, _⟩ => ⟨S1x1x64, .f32⟩
  | _, _ => ⟨S2x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_values : Ref sig .tc := ⟨.hbm, 24, rfl⟩
abbrev main_indices : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v8 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v9 : Ref sig .tc := ⟨.hbm, 65, rfl⟩
abbrev main_v10 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_c_2 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_c_3 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_values_1 : Ref sig .tc := ⟨.hbm, 97, rfl⟩
abbrev main_indices_2 : Ref sig .tc := ⟨.hbm, 98, rfl⟩
abbrev main_c_3 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v20 : Ref sig .tc := ⟨.hbm, 116, rfl⟩
abbrev main_c_4 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_c_1 : Ref sig .tc := ⟨.hbm, 125, rfl⟩
abbrev main_call4_v5 : Ref sig .tc := ⟨.hbm, 126, rfl⟩
abbrev main_call4_v6 : Ref sig .tc := ⟨.hbm, 127, rfl⟩
abbrev main_call4_c_2 : Ref sig .tc := ⟨.hbm, 128, rfl⟩
abbrev main_call4_v7 : Ref sig .tc := ⟨.hbm, 129, rfl⟩
abbrev main_call4_v8 : Ref sig .tc := ⟨.hbm, 130, rfl⟩
abbrev main_call4_c_3 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_v21 : Ref sig .tc := ⟨.hbm, 138, rfl⟩
abbrev main_v22 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_c_1 : Ref sig .tc := ⟨.hbm, 147, rfl⟩
abbrev main_call5_c_2 : Ref sig .tc := ⟨.hbm, 148, rfl⟩
abbrev main_call5_v5 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_c_3 : Ref sig .tc := ⟨.hbm, 155, rfl⟩
abbrev main_call5_v11 : Ref sig .tc := ⟨.hbm, 156, rfl⟩
abbrev main_call5_v12 : Ref sig .tc := ⟨.hbm, 157, rfl⟩
abbrev main_call5_v13 : Ref sig .tc := ⟨.hbm, 158, rfl⟩
abbrev main_call5_cst : Ref sig .tc := ⟨.hbm, 159, rfl⟩
abbrev main_call5_v14 : Ref sig .tc := ⟨.hbm, 160, rfl⟩
abbrev main_v23 : Ref sig .tc := ⟨.hbm, 161, rfl⟩
abbrev main_v24 : Ref sig .tc := ⟨.hbm, 162, rfl⟩
abbrev main_v25 : Ref sig .tc := ⟨.hbm, 163, rfl⟩
abbrev main_v26 : Ref sig .tc := ⟨.hbm, 164, rfl⟩
abbrev main_v27 : Ref sig .tc := ⟨.hbm, 165, rfl⟩
abbrev main_v28 : Ref sig .tc := ⟨.hbm, 166, rfl⟩
abbrev main_v29 : Ref sig .tc := ⟨.hbm, 167, rfl⟩
abbrev main_v30 : Ref sig .tc := ⟨.hbm, 168, rfl⟩
abbrev main_v31 : Ref sig .tc := ⟨.hbm, 169, rfl⟩
abbrev main_values_5 : Ref sig .tc := ⟨.hbm, 170, rfl⟩
abbrev main_indices_6 : Ref sig .tc := ⟨.hbm, 171, rfl⟩
abbrev main_c_7 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_c : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_0 : Ref sig .tc := ⟨.hbm, 186, rfl⟩
abbrev main_call6_v12 : Ref sig .tc := ⟨.hbm, 187, rfl⟩
abbrev main_call6_v13 : Ref sig .tc := ⟨.hbm, 188, rfl⟩
abbrev main_v32 : Ref sig .tc := ⟨.hbm, 189, rfl⟩
abbrev main_c_8 : Ref sig .tc := ⟨.hbm, 190, rfl⟩
abbrev main_call7_v0 : Ref sig .tc := ⟨.hbm, 191, rfl⟩
abbrev main_call7_c : Ref sig .tc := ⟨.hbm, 192, rfl⟩
abbrev main_call7_v1 : Ref sig .tc := ⟨.hbm, 193, rfl⟩
abbrev main_call7_c_0 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_c_1 : Ref sig .tc := ⟨.hbm, 198, rfl⟩
abbrev main_call7_v5 : Ref sig .tc := ⟨.hbm, 199, rfl⟩
abbrev main_call7_v6 : Ref sig .tc := ⟨.hbm, 200, rfl⟩
abbrev main_call7_c_2 : Ref sig .tc := ⟨.hbm, 201, rfl⟩
abbrev main_call7_v7 : Ref sig .tc := ⟨.hbm, 202, rfl⟩
abbrev main_call7_v8 : Ref sig .tc := ⟨.hbm, 203, rfl⟩
abbrev main_call7_c_3 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_v12 : Ref sig .tc := ⟨.hbm, 208, rfl⟩
abbrev main_call7_v13 : Ref sig .tc := ⟨.hbm, 209, rfl⟩
abbrev main_call7_v14 : Ref sig .tc := ⟨.hbm, 210, rfl⟩
abbrev main_v33 : Ref sig .tc := ⟨.hbm, 211, rfl⟩
abbrev main_v34 : Ref sig .tc := ⟨.hbm, 212, rfl⟩
abbrev main_call8_c : Ref sig .tc := ⟨.hbm, 213, rfl⟩
abbrev main_call8_v0 : Ref sig .tc := ⟨.hbm, 214, rfl⟩
abbrev main_call8_v1 : Ref sig .tc := ⟨.hbm, 215, rfl⟩
abbrev main_call8_c_0 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_call8_c_1 : Ref sig .tc := ⟨.hbm, 220, rfl⟩
abbrev main_call8_c_2 : Ref sig .tc := ⟨.hbm, 221, rfl⟩
abbrev main_call8_v5 : Ref sig .tc := ⟨.hbm, 222, rfl⟩
abbrev main_call8_v6 : Ref sig .tc := ⟨.hbm, 223, rfl⟩
abbrev main_call8_v7 : Ref sig .tc := ⟨.hbm, 224, rfl⟩
abbrev main_call8_v8 : Ref sig .tc := ⟨.hbm, 225, rfl⟩
abbrev main_call8_v9 : Ref sig .tc := ⟨.hbm, 226, rfl⟩
abbrev main_call8_v10 : Ref sig .tc := ⟨.hbm, 227, rfl⟩
abbrev main_call8_c_3 : Ref sig .tc := ⟨.hbm, 228, rfl⟩
abbrev main_call8_v11 : Ref sig .tc := ⟨.hbm, 229, rfl⟩
abbrev main_call8_v12 : Ref sig .tc := ⟨.hbm, 230, rfl⟩
abbrev main_call8_v13 : Ref sig .tc := ⟨.hbm, 231, rfl⟩
abbrev main_call8_cst : Ref sig .tc := ⟨.hbm, 232, rfl⟩
abbrev main_call8_v14 : Ref sig .tc := ⟨.hbm, 233, rfl⟩
abbrev main_v35 : Ref sig .tc := ⟨.hbm, 234, rfl⟩
abbrev main_v36 : Ref sig .tc := ⟨.hbm, 235, rfl⟩
abbrev main_v37 : Ref sig .tc := ⟨.hbm, 236, rfl⟩
abbrev main_v38 : Ref sig .tc := ⟨.hbm, 237, rfl⟩
abbrev main_v39 : Ref sig .tc := ⟨.hbm, 238, rfl⟩
abbrev main_v40 : Ref sig .tc := ⟨.hbm, 239, rfl⟩
abbrev main_v41 : Ref sig .tc := ⟨.hbm, 240, rfl⟩
abbrev main_v42 : Ref sig .tc := ⟨.hbm, 241, rfl⟩
abbrev main_v43 : Ref sig .tc := ⟨.hbm, 242, rfl⟩
abbrev main_values_9 : Ref sig .tc := ⟨.hbm, 243, rfl⟩
abbrev main_indices_10 : Ref sig .tc := ⟨.hbm, 244, rfl⟩
abbrev main_c_11 : Ref sig .tc := ⟨.hbm, 245, rfl⟩
abbrev main_call9_v0 : Ref sig .tc := ⟨.hbm, 246, rfl⟩
abbrev main_call9_v1 : Ref sig .tc := ⟨.hbm, 247, rfl⟩
abbrev main_call9_v2 : Ref sig .tc := ⟨.hbm, 248, rfl⟩
abbrev main_call9_v3 : Ref sig .tc := ⟨.hbm, 249, rfl⟩
abbrev main_call9_v4 : Ref sig .tc := ⟨.hbm, 250, rfl⟩
abbrev main_call9_v5 : Ref sig .tc := ⟨.hbm, 251, rfl⟩
abbrev main_call9_v6 : Ref sig .tc := ⟨.hbm, 252, rfl⟩
abbrev main_call9_v7 : Ref sig .tc := ⟨.hbm, 253, rfl⟩
abbrev main_call9_v8 : Ref sig .tc := ⟨.hbm, 254, rfl⟩
abbrev main_call9_c : Ref sig .tc := ⟨.hbm, 255, rfl⟩
abbrev main_call9_v9 : Ref sig .tc := ⟨.hbm, 256, rfl⟩
abbrev main_call9_v10 : Ref sig .tc := ⟨.hbm, 257, rfl⟩
abbrev main_call9_v11 : Ref sig .tc := ⟨.hbm, 258, rfl⟩
abbrev main_call9_c_0 : Ref sig .tc := ⟨.hbm, 259, rfl⟩
abbrev main_call9_v12 : Ref sig .tc := ⟨.hbm, 260, rfl⟩
abbrev main_call9_v13 : Ref sig .tc := ⟨.hbm, 261, rfl⟩
abbrev main_v44 : Ref sig .tc := ⟨.hbm, 262, rfl⟩
abbrev main_c_12 : Ref sig .tc := ⟨.hbm, 263, rfl⟩
abbrev main_call10_v0 : Ref sig .tc := ⟨.hbm, 264, rfl⟩
abbrev main_call10_c : Ref sig .tc := ⟨.hbm, 265, rfl⟩
abbrev main_call10_v1 : Ref sig .tc := ⟨.hbm, 266, rfl⟩
abbrev main_call10_c_0 : Ref sig .tc := ⟨.hbm, 267, rfl⟩
abbrev main_call10_v2 : Ref sig .tc := ⟨.hbm, 268, rfl⟩
abbrev main_call10_v3 : Ref sig .tc := ⟨.hbm, 269, rfl⟩
abbrev main_call10_v4 : Ref sig .tc := ⟨.hbm, 270, rfl⟩
abbrev main_call10_c_1 : Ref sig .tc := ⟨.hbm, 271, rfl⟩
abbrev main_call10_v5 : Ref sig .tc := ⟨.hbm, 272, rfl⟩
abbrev main_call10_v6 : Ref sig .tc := ⟨.hbm, 273, rfl⟩
abbrev main_call10_c_2 : Ref sig .tc := ⟨.hbm, 274, rfl⟩
abbrev main_call10_v7 : Ref sig .tc := ⟨.hbm, 275, rfl⟩
abbrev main_call10_v8 : Ref sig .tc := ⟨.hbm, 276, rfl⟩
abbrev main_call10_c_3 : Ref sig .tc := ⟨.hbm, 277, rfl⟩
abbrev main_call10_v9 : Ref sig .tc := ⟨.hbm, 278, rfl⟩
abbrev main_call10_v10 : Ref sig .tc := ⟨.hbm, 279, rfl⟩
abbrev main_call10_v11 : Ref sig .tc := ⟨.hbm, 280, rfl⟩
abbrev main_call10_v12 : Ref sig .tc := ⟨.hbm, 281, rfl⟩
abbrev main_call10_v13 : Ref sig .tc := ⟨.hbm, 282, rfl⟩
abbrev main_call10_v14 : Ref sig .tc := ⟨.hbm, 283, rfl⟩
abbrev main_v45 : Ref sig .tc := ⟨.hbm, 284, rfl⟩
abbrev main_v46 : Ref sig .tc := ⟨.hbm, 285, rfl⟩
abbrev main_call11_c : Ref sig .tc := ⟨.hbm, 286, rfl⟩
abbrev main_call11_v0 : Ref sig .tc := ⟨.hbm, 287, rfl⟩
abbrev main_call11_v1 : Ref sig .tc := ⟨.hbm, 288, rfl⟩
abbrev main_call11_c_0 : Ref sig .tc := ⟨.hbm, 289, rfl⟩
abbrev main_call11_v2 : Ref sig .tc := ⟨.hbm, 290, rfl⟩
abbrev main_call11_v3 : Ref sig .tc := ⟨.hbm, 291, rfl⟩
abbrev main_call11_v4 : Ref sig .tc := ⟨.hbm, 292, rfl⟩
abbrev main_call11_c_1 : Ref sig .tc := ⟨.hbm, 293, rfl⟩
abbrev main_call11_c_2 : Ref sig .tc := ⟨.hbm, 294, rfl⟩
abbrev main_call11_v5 : Ref sig .tc := ⟨.hbm, 295, rfl⟩
abbrev main_call11_v6 : Ref sig .tc := ⟨.hbm, 296, rfl⟩
abbrev main_call11_v7 : Ref sig .tc := ⟨.hbm, 297, rfl⟩
abbrev main_call11_v8 : Ref sig .tc := ⟨.hbm, 298, rfl⟩
abbrev main_call11_v9 : Ref sig .tc := ⟨.hbm, 299, rfl⟩
abbrev main_call11_v10 : Ref sig .tc := ⟨.hbm, 300, rfl⟩
abbrev main_call11_c_3 : Ref sig .tc := ⟨.hbm, 301, rfl⟩
abbrev main_call11_v11 : Ref sig .tc := ⟨.hbm, 302, rfl⟩
abbrev main_call11_v12 : Ref sig .tc := ⟨.hbm, 303, rfl⟩
abbrev main_call11_v13 : Ref sig .tc := ⟨.hbm, 304, rfl⟩
abbrev main_call11_cst : Ref sig .tc := ⟨.hbm, 305, rfl⟩
abbrev main_call11_v14 : Ref sig .tc := ⟨.hbm, 306, rfl⟩
abbrev main_v47 : Ref sig .tc := ⟨.hbm, 307, rfl⟩
abbrev main_v48 : Ref sig .tc := ⟨.hbm, 308, rfl⟩
abbrev main_v49 : Ref sig .tc := ⟨.hbm, 309, rfl⟩
abbrev main_v50 : Ref sig .tc := ⟨.hbm, 310, rfl⟩
abbrev main_v51 : Ref sig .tc := ⟨.hbm, 311, rfl⟩
abbrev main_v52 : Ref sig .tc := ⟨.hbm, 312, rfl⟩
abbrev main_v53 : Ref sig .tc := ⟨.hbm, 313, rfl⟩
abbrev main_v54 : Ref sig .tc := ⟨.hbm, 314, rfl⟩
abbrev main_v55 : Ref sig .tc := ⟨.hbm, 315, rfl⟩
abbrev main_values_13 : Ref sig .tc := ⟨.hbm, 316, rfl⟩
abbrev main_indices_14 : Ref sig .tc := ⟨.hbm, 317, rfl⟩
abbrev main_c_15 : Ref sig .tc := ⟨.hbm, 318, rfl⟩
abbrev main_call12_v0 : Ref sig .tc := ⟨.hbm, 319, rfl⟩
abbrev main_call12_v1 : Ref sig .tc := ⟨.hbm, 320, rfl⟩
abbrev main_call12_v2 : Ref sig .tc := ⟨.hbm, 321, rfl⟩
abbrev main_call12_v3 : Ref sig .tc := ⟨.hbm, 322, rfl⟩
abbrev main_call12_v4 : Ref sig .tc := ⟨.hbm, 323, rfl⟩
abbrev main_call12_v5 : Ref sig .tc := ⟨.hbm, 324, rfl⟩
abbrev main_call12_v6 : Ref sig .tc := ⟨.hbm, 325, rfl⟩
abbrev main_call12_v7 : Ref sig .tc := ⟨.hbm, 326, rfl⟩
abbrev main_call12_v8 : Ref sig .tc := ⟨.hbm, 327, rfl⟩
abbrev main_call12_c : Ref sig .tc := ⟨.hbm, 328, rfl⟩
abbrev main_call12_v9 : Ref sig .tc := ⟨.hbm, 329, rfl⟩
abbrev main_call12_v10 : Ref sig .tc := ⟨.hbm, 330, rfl⟩
abbrev main_call12_v11 : Ref sig .tc := ⟨.hbm, 331, rfl⟩
abbrev main_call12_c_0 : Ref sig .tc := ⟨.hbm, 332, rfl⟩
abbrev main_call12_v12 : Ref sig .tc := ⟨.hbm, 333, rfl⟩
abbrev main_call12_v13 : Ref sig .tc := ⟨.hbm, 334, rfl⟩
abbrev main_v56 : Ref sig .tc := ⟨.hbm, 335, rfl⟩
abbrev main_c_16 : Ref sig .tc := ⟨.hbm, 336, rfl⟩
abbrev main_call13_v0 : Ref sig .tc := ⟨.hbm, 337, rfl⟩
abbrev main_call13_c : Ref sig .tc := ⟨.hbm, 338, rfl⟩
abbrev main_call13_v1 : Ref sig .tc := ⟨.hbm, 339, rfl⟩
abbrev main_call13_c_0 : Ref sig .tc := ⟨.hbm, 340, rfl⟩
abbrev main_call13_v2 : Ref sig .tc := ⟨.hbm, 341, rfl⟩
abbrev main_call13_v3 : Ref sig .tc := ⟨.hbm, 342, rfl⟩
abbrev main_call13_v4 : Ref sig .tc := ⟨.hbm, 343, rfl⟩
abbrev main_call13_c_1 : Ref sig .tc := ⟨.hbm, 344, rfl⟩
abbrev main_call13_v5 : Ref sig .tc := ⟨.hbm, 345, rfl⟩
abbrev main_call13_v6 : Ref sig .tc := ⟨.hbm, 346, rfl⟩
abbrev main_call13_c_2 : Ref sig .tc := ⟨.hbm, 347, rfl⟩
abbrev main_call13_v7 : Ref sig .tc := ⟨.hbm, 348, rfl⟩
abbrev main_call13_v8 : Ref sig .tc := ⟨.hbm, 349, rfl⟩
abbrev main_call13_c_3 : Ref sig .tc := ⟨.hbm, 350, rfl⟩
abbrev main_call13_v9 : Ref sig .tc := ⟨.hbm, 351, rfl⟩
abbrev main_call13_v10 : Ref sig .tc := ⟨.hbm, 352, rfl⟩
abbrev main_call13_v11 : Ref sig .tc := ⟨.hbm, 353, rfl⟩
abbrev main_call13_v12 : Ref sig .tc := ⟨.hbm, 354, rfl⟩
abbrev main_call13_v13 : Ref sig .tc := ⟨.hbm, 355, rfl⟩
abbrev main_call13_v14 : Ref sig .tc := ⟨.hbm, 356, rfl⟩
abbrev main_v57 : Ref sig .tc := ⟨.hbm, 357, rfl⟩
abbrev main_v58 : Ref sig .tc := ⟨.hbm, 358, rfl⟩
abbrev main_call14_c : Ref sig .tc := ⟨.hbm, 359, rfl⟩
abbrev main_call14_v0 : Ref sig .tc := ⟨.hbm, 360, rfl⟩
abbrev main_call14_v1 : Ref sig .tc := ⟨.hbm, 361, rfl⟩
abbrev main_call14_c_0 : Ref sig .tc := ⟨.hbm, 362, rfl⟩
abbrev main_call14_v2 : Ref sig .tc := ⟨.hbm, 363, rfl⟩
abbrev main_call14_v3 : Ref sig .tc := ⟨.hbm, 364, rfl⟩
abbrev main_call14_v4 : Ref sig .tc := ⟨.hbm, 365, rfl⟩
abbrev main_call14_c_1 : Ref sig .tc := ⟨.hbm, 366, rfl⟩
abbrev main_call14_c_2 : Ref sig .tc := ⟨.hbm, 367, rfl⟩
abbrev main_call14_v5 : Ref sig .tc := ⟨.hbm, 368, rfl⟩
abbrev main_call14_v6 : Ref sig .tc := ⟨.hbm, 369, rfl⟩
abbrev main_call14_v7 : Ref sig .tc := ⟨.hbm, 370, rfl⟩
abbrev main_call14_v8 : Ref sig .tc := ⟨.hbm, 371, rfl⟩
abbrev main_call14_v9 : Ref sig .tc := ⟨.hbm, 372, rfl⟩
abbrev main_call14_v10 : Ref sig .tc := ⟨.hbm, 373, rfl⟩
abbrev main_call14_c_3 : Ref sig .tc := ⟨.hbm, 374, rfl⟩
abbrev main_call14_v11 : Ref sig .tc := ⟨.hbm, 375, rfl⟩
abbrev main_call14_v12 : Ref sig .tc := ⟨.hbm, 376, rfl⟩
abbrev main_call14_v13 : Ref sig .tc := ⟨.hbm, 377, rfl⟩
abbrev main_call14_cst : Ref sig .tc := ⟨.hbm, 378, rfl⟩
abbrev main_call14_v14 : Ref sig .tc := ⟨.hbm, 379, rfl⟩
abbrev main_v59 : Ref sig .tc := ⟨.hbm, 380, rfl⟩
abbrev main_v60 : Ref sig .tc := ⟨.hbm, 381, rfl⟩
abbrev main_v61 : Ref sig .tc := ⟨.hbm, 382, rfl⟩
abbrev main_v62 : Ref sig .tc := ⟨.hbm, 383, rfl⟩
abbrev main_v63 : Ref sig .tc := ⟨.hbm, 384, rfl⟩
abbrev main_v64 : Ref sig .tc := ⟨.hbm, 385, rfl⟩
abbrev main_v65 : Ref sig .tc := ⟨.hbm, 386, rfl⟩
abbrev main_v66 : Ref sig .tc := ⟨.hbm, 387, rfl⟩
abbrev main_c_17 : Ref sig .tc := ⟨.hbm, 388, rfl⟩
abbrev main_call15_v0 : Ref sig .tc := ⟨.hbm, 389, rfl⟩
abbrev main_v67 : Ref sig .tc := ⟨.hbm, 390, rfl⟩
abbrev main_v68 : Ref sig .tc := ⟨.hbm, 391, rfl⟩
abbrev main_c_18 : Ref sig .tc := ⟨.hbm, 392, rfl⟩
abbrev main_call16_v0 : Ref sig .tc := ⟨.hbm, 393, rfl⟩
abbrev main_v69 : Ref sig .tc := ⟨.hbm, 394, rfl⟩
abbrev main_v70 : Ref sig .tc := ⟨.hbm, 395, rfl⟩
abbrev main_c_19 : Ref sig .tc := ⟨.hbm, 396, rfl⟩
abbrev main_call17_v0 : Ref sig .tc := ⟨.hbm, 397, rfl⟩
abbrev main_v71 : Ref sig .tc := ⟨.hbm, 398, rfl⟩
abbrev main_v72 : Ref sig .tc := ⟨.hbm, 399, rfl⟩
abbrev main_c_20 : Ref sig .tc := ⟨.hbm, 400, rfl⟩
abbrev main_call18_v0 : Ref sig .tc := ⟨.hbm, 401, rfl⟩
abbrev main_v73 : Ref sig .tc := ⟨.hbm, 402, rfl⟩
abbrev main_v74 : Ref sig .tc := ⟨.hbm, 403, rfl⟩
abbrev main_v75_0 : Ref sig .tc := ⟨.hbm, 404, rfl⟩
abbrev main_v75_1 : Ref sig .tc := ⟨.hbm, 405, rfl⟩
abbrev main_v75_2 : Ref sig .tc := ⟨.hbm, 406, rfl⟩
abbrev main_v76 : Ref sig .tc := ⟨.hbm, 407, rfl⟩
abbrev main_v77 : Ref sig .tc := ⟨.hbm, 408, rfl⟩
abbrev main_v78 : Ref sig .tc := ⟨.hbm, 409, rfl⟩
abbrev main_v79 : Ref sig .tc := ⟨.hbm, 410, rfl⟩
abbrev main_v80 : Ref sig .tc := ⟨.hbm, 411, rfl⟩
abbrev main_v81 : Ref sig .tc := ⟨.hbm, 412, rfl⟩
abbrev main_v82 : Ref sig .tc := ⟨.hbm, 413, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc4_stg0_0 : Ref sig .tc := ⟨.vmem, 12, rfl⟩
abbrev cc4_stg1_0 : Ref sig .tc := ⟨.vmem, 13, rfl⟩
abbrev cc4_stg2_0 : Ref sig .tc := ⟨.vmem, 14, rfl⟩
abbrev cc5_stg0_0 : Ref sig .tc := ⟨.vmem, 15, rfl⟩
abbrev cc5_stg0_1 : Ref sig .tc := ⟨.vmem, 16, rfl⟩
abbrev cc5_stg1_0 : Ref sig .tc := ⟨.vmem, 17, rfl⟩
abbrev cc5_stg1_1 : Ref sig .tc := ⟨.vmem, 18, rfl⟩
abbrev cc5_stg2_0 : Ref sig .tc := ⟨.vmem, 19, rfl⟩
abbrev cc5_stg2_1 : Ref sig .tc := ⟨.vmem, 20, rfl⟩
abbrev cc5_stg3_0 : Ref sig .tc := ⟨.vmem, 21, rfl⟩
abbrev cc5_stg3_1 : Ref sig .tc := ⟨.vmem, 22, rfl⟩
abbrev cc5_stg4_0 : Ref sig .tc := ⟨.vmem, 23, rfl⟩
abbrev cc5_stg4_1 : Ref sig .tc := ⟨.vmem, 24, rfl⟩
abbrev cc5_stg5_0 : Ref sig .tc := ⟨.vmem, 25, rfl⟩
abbrev cc5_stg5_1 : Ref sig .tc := ⟨.vmem, 26, rfl⟩
abbrev cc5_stg6_0 : Ref sig .tc := ⟨.vmem, 27, rfl⟩
abbrev cc5_stg6_1 : Ref sig .tc := ⟨.vmem, 28, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc4_sem0_0 : DmaSem sig := 12
abbrev cc4_sem1_0 : DmaSem sig := 13
abbrev cc4_sem2_0 : DmaSem sig := 14
abbrev cc5_sem0_0 : DmaSem sig := 15
abbrev cc5_sem0_1 : DmaSem sig := 16
abbrev cc5_sem1_0 : DmaSem sig := 17
abbrev cc5_sem1_1 : DmaSem sig := 18
abbrev cc5_sem2_0 : DmaSem sig := 19
abbrev cc5_sem2_1 : DmaSem sig := 20
abbrev cc5_sem3_0 : DmaSem sig := 21
abbrev cc5_sem3_1 : DmaSem sig := 22
abbrev cc5_sem4_0 : DmaSem sig := 23
abbrev cc5_sem4_1 : DmaSem sig := 24
abbrev cc5_sem5_0 : DmaSem sig := 25
abbrev cc5_sem5_1 : DmaSem sig := 26
abbrev cc5_sem6_0 : DmaSem sig := 27
abbrev cc5_sem6_1 : DmaSem sig := 28

abbrev nD : Nat := 1
abbrev τ : Topo := Topo.v7x

variable {F : FTy → Type} [FloatOps F]

abbrev grid0 : Pipeline.Grid := .none

abbrev stage0_0 : Fin 1 → Memref sig .tc .vmem S2x4096x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S2x1024x80 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1024x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S2x256x80 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x256x80 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S2x64x80 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2x64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2x64x80 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := .none

abbrev stage4_0 : Fin 1 → Memref sig .tc .vmem S2x16x80 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S2x16x80 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := ⟨1, ![2], ![false]⟩

@[reducible] def k5_t1_loop : Scf.Loop 32 :=
  let c0_i32 : BitVec 32 := 0#32
  let c50_i32 : BitVec 32 := 50#32
  let v94 : BitVec 32 := Scalar.addi c0_i32 c50_i32
  let c1_i32 : BitVec 32 := 1#32
  ⟨c0_i32, v94, c1_i32⟩
def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x4x8x640 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x8x640 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x8x640 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x8x640 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x4x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x1x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]
-- ==== ReferenceIdeal.lean ====
abbrev S2x3x512x512 : Shape := ⟨4, ![2, 3, 512, 512]⟩
abbrev S2x80x64x64 : Shape := ⟨4, ![2, 80, 64, 64]⟩
abbrev S2x80x32x32 : Shape := ⟨4, ![2, 80, 32, 32]⟩
abbrev S2x80x16x16 : Shape := ⟨4, ![2, 80, 16, 16]⟩
abbrev S2x80x8x8 : Shape := ⟨4, ![2, 80, 8, 8]⟩
abbrev S2x80x4x4 : Shape := ⟨4, ![2, 80, 4, 4]⟩
abbrev S2x4x64x64 : Shape := ⟨4, ![2, 4, 64, 64]⟩
abbrev S2x4x32x32 : Shape := ⟨4, ![2, 4, 32, 32]⟩
abbrev S2x4x16x16 : Shape := ⟨4, ![2, 4, 16, 16]⟩
abbrev S2x4x8x8 : Shape := ⟨4, ![2, 4, 8, 8]⟩
abbrev S2x4x4x4 : Shape := ⟨4, ![2, 4, 4, 4]⟩
abbrev S2x1x64x64 : Shape := ⟨4, ![2, 1, 64, 64]⟩
abbrev S2x1x32x32 : Shape := ⟨4, ![2, 1, 32, 32]⟩
abbrev S2x1x16x16 : Shape := ⟨4, ![2, 1, 16, 16]⟩
abbrev S2x1x8x8 : Shape := ⟨4, ![2, 1, 8, 8]⟩
abbrev S2x1x4x4 : Shape := ⟨4, ![2, 1, 4, 4]⟩
abbrev S64 : Shape := ⟨1, ![64]⟩
abbrev S_ : Shape := ⟨0, ![]⟩
abbrev S1x64 : Shape := ⟨2, ![1, 64]⟩
abbrev S64x64 : Shape := ⟨2, ![64, 64]⟩
abbrev S4096 : Shape := ⟨1, ![4096]⟩
abbrev S4096x1 : Shape := ⟨2, ![4096, 1]⟩
abbrev S4096x2 : Shape := ⟨2, ![4096, 2]⟩
abbrev S2x64x64x80 : Shape := ⟨4, ![2, 64, 64, 80]⟩
abbrev S2x4096x80 : Shape := ⟨3, ![2, 4096, 80]⟩
abbrev S2x64x64x4 : Shape := ⟨4, ![2, 64, 64, 4]⟩
abbrev S2x4096x4 : Shape := ⟨3, ![2, 4096, 4]⟩
abbrev S2x64x64x1 : Shape := ⟨4, ![2, 64, 64, 1]⟩
abbrev S2x4096x1 : Shape := ⟨3, ![2, 4096, 1]⟩
abbrev S2x327680 : Shape := ⟨2, ![2, 327680]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x4 : Shape := ⟨3, ![2, 1000, 4]⟩
abbrev S32 : Shape := ⟨1, ![32]⟩
abbrev S1x32 : Shape := ⟨2, ![1, 32]⟩
abbrev S32x32 : Shape := ⟨2, ![32, 32]⟩
abbrev S1024 : Shape := ⟨1, ![1024]⟩
abbrev S1024x1 : Shape := ⟨2, ![1024, 1]⟩
abbrev S1024x2 : Shape := ⟨2, ![1024, 2]⟩
abbrev S2x32x32x80 : Shape := ⟨4, ![2, 32, 32, 80]⟩
abbrev S2x1024x80 : Shape := ⟨3, ![2, 1024, 80]⟩
abbrev S2x32x32x4 : Shape := ⟨4, ![2, 32, 32, 4]⟩
abbrev S2x1024x4 : Shape := ⟨3, ![2, 1024, 4]⟩
abbrev S2x32x32x1 : Shape := ⟨4, ![2, 32, 32, 1]⟩
abbrev S2x1024x1 : Shape := ⟨3, ![2, 1024, 1]⟩
abbrev S2x81920 : Shape := ⟨2, ![2, 81920]⟩
abbrev S16 : Shape := ⟨1, ![16]⟩
abbrev S1x16 : Shape := ⟨2, ![1, 16]⟩
abbrev S16x16 : Shape := ⟨2, ![16, 16]⟩
abbrev S256 : Shape := ⟨1, ![256]⟩
abbrev S256x1 : Shape := ⟨2, ![256, 1]⟩
abbrev S256x2 : Shape := ⟨2, ![256, 2]⟩
abbrev S2x16x16x80 : Shape := ⟨4, ![2, 16, 16, 80]⟩
abbrev S2x256x80 : Shape := ⟨3, ![2, 256, 80]⟩
abbrev S2x16x16x4 : Shape := ⟨4, ![2, 16, 16, 4]⟩
abbrev S2x256x4 : Shape := ⟨3, ![2, 256, 4]⟩
abbrev S2x16x16x1 : Shape := ⟨4, ![2, 16, 16, 1]⟩
abbrev S2x256x1 : Shape := ⟨3, ![2, 256, 1]⟩
abbrev S2x20480 : Shape := ⟨2, ![2, 20480]⟩
abbrev S8 : Shape := ⟨1, ![8]⟩
abbrev S1x8 : Shape := ⟨2, ![1, 8]⟩
abbrev S8x8 : Shape := ⟨2, ![8, 8]⟩
abbrev S64x1 : Shape := ⟨2, ![64, 1]⟩
abbrev S64x2 : Shape := ⟨2, ![64, 2]⟩
abbrev S2x8x8x80 : Shape := ⟨4, ![2, 8, 8, 80]⟩
abbrev S2x64x80 : Shape := ⟨3, ![2, 64, 80]⟩
abbrev S2x8x8x4 : Shape := ⟨4, ![2, 8, 8, 4]⟩
abbrev S2x64x4 : Shape := ⟨3, ![2, 64, 4]⟩
abbrev S2x8x8x1 : Shape := ⟨4, ![2, 8, 8, 1]⟩
abbrev S2x64x1 : Shape := ⟨3, ![2, 64, 1]⟩
abbrev S2x5120 : Shape := ⟨2, ![2, 5120]⟩
abbrev S4 : Shape := ⟨1, ![4]⟩
abbrev S1x4 : Shape := ⟨2, ![1, 4]⟩
abbrev S4x4 : Shape := ⟨2, ![4, 4]⟩
abbrev S16x1 : Shape := ⟨2, ![16, 1]⟩
abbrev S16x2 : Shape := ⟨2, ![16, 2]⟩
abbrev S2x4x4x80 : Shape := ⟨4, ![2, 4, 4, 80]⟩
abbrev S2x16x80 : Shape := ⟨3, ![2, 16, 80]⟩
abbrev S2x16x4 : Shape := ⟨3, ![2, 16, 4]⟩
abbrev S2x4x4x1 : Shape := ⟨4, ![2, 4, 4, 1]⟩
abbrev S2x16x1 : Shape := ⟨3, ![2, 16, 1]⟩
abbrev S2x1280 : Shape := ⟨2, ![2, 1280]⟩
abbrev S2x5000x4 : Shape := ⟨3, ![2, 5000, 4]⟩
abbrev S2x5000 : Shape := ⟨2, ![2, 5000]⟩
abbrev S2x5000x1 : Shape := ⟨3, ![2, 5000, 1]⟩
abbrev S5000 : Shape := ⟨1, ![5000]⟩
abbrev S1x5000 : Shape := ⟨2, ![1, 5000]⟩
abbrev S2x50 : Shape := ⟨2, ![2, 50]⟩
abbrev S2x1 : Shape := ⟨2, ![2, 1]⟩
abbrev S2x1x1 : Shape := ⟨3, ![2, 1, 1]⟩
abbrev S2x1x4 : Shape := ⟨3, ![2, 1, 4]⟩
abbrev S2x50x1 : Shape := ⟨3, ![2, 50, 1]⟩
abbrev S2x50x4 : Shape := ⟨3, ![2, 50, 4]⟩

abbrev nBuf : Space → Nat
  | .hbm => 1219
  | .vmem => 0
  | .smem => 0
  | _ => 0

abbrev hbmTy0_0 (i : Nat) : BufTy := match i % 128 with
  | 0 => ⟨S2x3x512x512, .f32⟩
  | 1 => ⟨S2x80x64x64, .f32⟩
  | 2 => ⟨S2x80x32x32, .f32⟩
  | 3 => ⟨S2x80x16x16, .f32⟩
  | 4 => ⟨S2x80x8x8, .f32⟩
  | 5 => ⟨S2x80x4x4, .f32⟩
  | 6 => ⟨S2x4x64x64, .f32⟩
  | 7 => ⟨S2x4x32x32, .f32⟩
  | 8 => ⟨S2x4x16x16, .f32⟩
  | 9 => ⟨S2x4x8x8, .f32⟩
  | 10 => ⟨S2x4x4x4, .f32⟩
  | 11 => ⟨S2x1x64x64, .f32⟩
  | 12 => ⟨S2x1x32x32, .f32⟩
  | 13 => ⟨S2x1x16x16, .f32⟩
  | 14 => ⟨S2x1x8x8, .f32⟩
  | 15 => ⟨S2x1x4x4, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S1x64, .f32⟩
  | 31 => ⟨S64x64, .f32⟩
  | 32 => ⟨S4096, .f32⟩
  | 33 => ⟨S64x64, .f32⟩
  | 34 => ⟨S4096, .f32⟩
  | 35 => ⟨S4096x1, .f32⟩
  | 36 => ⟨S4096x1, .f32⟩
  | 37 => ⟨S4096x2, .f32⟩
  | 38 => ⟨S2x64x64x80, .f32⟩
  | 39 => ⟨S2x4096x80, .f32⟩
  | 40 => ⟨S2x64x64x4, .f32⟩
  | 41 => ⟨S2x4096x4, .f32⟩
  | 42 => ⟨S2x64x64x1, .f32⟩
  | 43 => ⟨S2x4096x1, .f32⟩
  | 44 => ⟨S2x4096x80, .f32⟩
  | 45 => ⟨S2x4096x80, .f32⟩
  | 46 => ⟨S_, .f32⟩
  | 47 => ⟨S2x4096x80, .f32⟩
  | 48 => ⟨S2x4096x80, .f32⟩
  | 49 => ⟨S_, .f32⟩
  | 50 => ⟨S2x4096x80, .f32⟩
  | 51 => ⟨S2x4096x80, .f32⟩
  | 52 => ⟨S2x4096x1, .f32⟩
  | 53 => ⟨S2x4096x1, .f32⟩
  | 54 => ⟨S_, .f32⟩
  | 55 => ⟨S2x4096x1, .f32⟩
  | 56 => ⟨S2x4096x1, .f32⟩
  | 57 => ⟨S_, .f32⟩
  | 58 => ⟨S2x4096x1, .f32⟩
  | 59 => ⟨S2x4096x1, .f32⟩
  | 60 => ⟨S_, .f32⟩
  | 61 => ⟨S2x4096x80, .f32⟩
  | 62 => ⟨S2x4096x80, .i1⟩
  | 63 => ⟨S2x4096x80, .f32⟩
  | 64 => ⟨S2x4096x80, .f32⟩
  | 65 => ⟨S_, .f32⟩
  | 66 => ⟨S_, .f32⟩
  | 67 => ⟨S2x4096x80, .f32⟩
  | 68 => ⟨S2x4096x80, .f32⟩
  | 69 => ⟨S2x327680, .f32⟩
  | 70 => ⟨S2x1000, .f32⟩
  | 71 => ⟨S2x1000, .i32⟩
  | 72 => ⟨S_, .i32⟩
  | 73 => ⟨S_, .i32⟩
  | 74 => ⟨S2x1000, .i32⟩
  | 75 => ⟨S2x1000, .i32⟩
  | 76 => ⟨S2x1000, .i32⟩
  | 77 => ⟨S_, .i32⟩
  | 78 => ⟨S2x1000, .i32⟩
  | 79 => ⟨S2x1000, .i1⟩
  | 80 => ⟨S2x1000, .i32⟩
  | 81 => ⟨S2x1000, .i32⟩
  | 82 => ⟨S_, .i32⟩
  | 83 => ⟨S2x1000, .i32⟩
  | 84 => ⟨S2x1000, .i1⟩
  | 85 => ⟨S2x1000, .i1⟩
  | 86 => ⟨S_, .i32⟩
  | 87 => ⟨S2x1000, .i32⟩
  | 88 => ⟨S2x1000, .i32⟩
  | 89 => ⟨S2x1000, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S2x1000, .i32⟩
  | 97 => ⟨S2x1000, .i32⟩
  | 98 => ⟨S_, .i32⟩
  | 99 => ⟨S2x1000, .i32⟩
  | 100 => ⟨S2x1000, .i1⟩
  | 101 => ⟨S_, .i32⟩
  | 102 => ⟨S2x1000, .i32⟩
  | 103 => ⟨S2x1000, .i1⟩
  | 104 => ⟨S_, .i32⟩
  | 105 => ⟨S_, .i1⟩
  | 106 => ⟨S2x1000, .i1⟩
  | 107 => ⟨S2x1000, .i1⟩
  | 108 => ⟨S2x1000, .i1⟩
  | 109 => ⟨S2x1000, .i32⟩
  | 110 => ⟨S2x1000, .i32⟩
  | 111 => ⟨S2x1000, .i32⟩
  | 112 => ⟨S2x4096x4, .f32⟩
  | 113 => ⟨S_, .f32⟩
  | 114 => ⟨S2x4096x4, .f32⟩
  | 115 => ⟨S2x4096x4, .f32⟩
  | 116 => ⟨S2x1000x1, .i32⟩
  | 117 => ⟨S_, .i32⟩
  | 118 => ⟨S2x1000x1, .i32⟩
  | 119 => ⟨S2x1000x1, .i1⟩
  | 120 => ⟨S_, .i32⟩
  | 121 => ⟨S2x1000x1, .i32⟩
  | 122 => ⟨S2x1000x1, .i32⟩
  | 123 => ⟨S2x1000x1, .i32⟩
  | 124 => ⟨S1, .i32⟩
  | 125 => ⟨S_, .i32⟩
  | 126 => ⟨S2x1000x1, .i32⟩
  | 127 => ⟨S2x1000x1, .i1⟩
  | _ => ⟨S2x3x512x512, .f32⟩

abbrev hbmTy0_1 (i : Nat) : BufTy := match i % 128 with
  | 0 => ⟨S1x1x1, .i32⟩
  | 1 => ⟨S2x1000x1, .i32⟩
  | 2 => ⟨S2x1000x1, .i1⟩
  | 3 => ⟨S2x1000x1, .i1⟩
  | 4 => ⟨S_, .i1⟩
  | 5 => ⟨S2x1000, .i1⟩
  | 6 => ⟨S2x1000x4, .f32⟩
  | 7 => ⟨S2x1000x4, .i1⟩
  | 8 => ⟨S_, .f32⟩
  | 9 => ⟨S2x1000x4, .f32⟩
  | 10 => ⟨S2x1000x4, .f32⟩
  | 11 => ⟨S4096x1, .f32⟩
  | 12 => ⟨S4096, .f32⟩
  | 13 => ⟨S_, .i32⟩
  | 14 => ⟨S2x1000, .i32⟩
  | 15 => ⟨S2x1000, .i1⟩
  | 16 => ⟨S_, .i32⟩
  | 17 => ⟨S2x1000, .i32⟩
  | 18 => ⟨S2x1000, .i32⟩
  | 19 => ⟨S2x1000, .i32⟩
  | 20 => ⟨S2x1000x1, .i32⟩
  | 21 => ⟨S2x1000, .f32⟩
  | 22 => ⟨S4096x1, .f32⟩
  | 23 => ⟨S4096, .f32⟩
  | 24 => ⟨S_, .i32⟩
  | 25 => ⟨S2x1000, .i32⟩
  | 26 => ⟨S2x1000, .i1⟩
  | 27 => ⟨S_, .i32⟩
  | 28 => ⟨S2x1000, .i32⟩
  | 29 => ⟨S2x1000, .i32⟩
  | 30 => ⟨S2x1000, .i32⟩
  | 31 => ⟨S2x1000x1, .i32⟩
  | 32 => ⟨S2x1000, .f32⟩
  | 33 => ⟨S2x1000x1, .f32⟩
  | 34 => ⟨S2x1000, .f32⟩
  | 35 => ⟨S2x1000, .f32⟩
  | 36 => ⟨S_, .f32⟩
  | 37 => ⟨S_, .f32⟩
  | 38 => ⟨S_, .f32⟩
  | 39 => ⟨S2x1000, .f32⟩
  | 40 => ⟨S2x1000, .f32⟩
  | 41 => ⟨S_, .f32⟩
  | 42 => ⟨S2x1000, .f32⟩
  | 43 => ⟨S2x1000, .f32⟩
  | 44 => ⟨S2x1000x1, .f32⟩
  | 45 => ⟨S2x1000, .f32⟩
  | 46 => ⟨S2x1000, .f32⟩
  | 47 => ⟨S_, .f32⟩
  | 48 => ⟨S_, .f32⟩
  | 49 => ⟨S_, .f32⟩
  | 50 => ⟨S2x1000, .f32⟩
  | 51 => ⟨S2x1000, .f32⟩
  | 52 => ⟨S_, .f32⟩
  | 53 => ⟨S2x1000, .f32⟩
  | 54 => ⟨S2x1000, .f32⟩
  | 55 => ⟨S2x1000x1, .f32⟩
  | 56 => ⟨S2x1000, .f32⟩
  | 57 => ⟨S2x1000, .f32⟩
  | 58 => ⟨S_, .f32⟩
  | 59 => ⟨S_, .f32⟩
  | 60 => ⟨S_, .f32⟩
  | 61 => ⟨S2x1000, .f32⟩
  | 62 => ⟨S2x1000, .f32⟩
  | 63 => ⟨S_, .f32⟩
  | 64 => ⟨S2x1000, .f32⟩
  | 65 => ⟨S2x1000, .f32⟩
  | 66 => ⟨S2x1000x1, .f32⟩
  | 67 => ⟨S2x1000, .f32⟩
  | 68 => ⟨S2x1000, .f32⟩
  | 69 => ⟨S_, .f32⟩
  | 70 => ⟨S_, .f32⟩
  | 71 => ⟨S_, .f32⟩
  | 72 => ⟨S2x1000, .f32⟩
  | 73 => ⟨S2x1000, .f32⟩
  | 74 => ⟨S_, .f32⟩
  | 75 => ⟨S2x1000, .f32⟩
  | 76 => ⟨S2x1000, .f32⟩
  | 77 => ⟨S2x1000x1, .f32⟩
  | 78 => ⟨S2x1000x1, .f32⟩
  | 79 => ⟨S2x1000x1, .f32⟩
  | 80 => ⟨S2x1000x1, .f32⟩
  | 81 => ⟨S2x1000x4, .f32⟩
  | 82 => ⟨S_, .f32⟩
  | 83 => ⟨S2x1000, .f32⟩
  | 84 => ⟨S2x1000, .f32⟩
  | 85 => ⟨S2x1000, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S1x32, .f32⟩
  | 101 => ⟨S32x32, .f32⟩
  | 102 => ⟨S1024, .f32⟩
  | 103 => ⟨S32x32, .f32⟩
  | 104 => ⟨S1024, .f32⟩
  | 105 => ⟨S1024x1, .f32⟩
  | 106 => ⟨S1024x1, .f32⟩
  | 107 => ⟨S1024x2, .f32⟩
  | 108 => ⟨S2x32x32x80, .f32⟩
  | 109 => ⟨S2x1024x80, .f32⟩
  | 110 => ⟨S2x32x32x4, .f32⟩
  | 111 => ⟨S2x1024x4, .f32⟩
  | 112 => ⟨S2x32x32x1, .f32⟩
  | 113 => ⟨S2x1024x1, .f32⟩
  | 114 => ⟨S2x1024x80, .f32⟩
  | 115 => ⟨S2x1024x80, .f32⟩
  | 116 => ⟨S_, .f32⟩
  | 117 => ⟨S2x1024x80, .f32⟩
  | 118 => ⟨S2x1024x80, .f32⟩
  | 119 => ⟨S_, .f32⟩
  | 120 => ⟨S2x1024x80, .f32⟩
  | 121 => ⟨S2x1024x80, .f32⟩
  | 122 => ⟨S2x1024x1, .f32⟩
  | 123 => ⟨S2x1024x1, .f32⟩
  | 124 => ⟨S_, .f32⟩
  | 125 => ⟨S2x1024x1, .f32⟩
  | 126 => ⟨S2x1024x1, .f32⟩
  | 127 => ⟨S_, .f32⟩
  | _ => ⟨S2x3x512x512, .f32⟩

abbrev hbmTy0_2 (i : Nat) : BufTy := match i % 128 with
  | 0 => ⟨S2x1024x1, .f32⟩
  | 1 => ⟨S2x1024x1, .f32⟩
  | 2 => ⟨S_, .f32⟩
  | 3 => ⟨S2x1024x80, .f32⟩
  | 4 => ⟨S2x1024x80, .i1⟩
  | 5 => ⟨S2x1024x80, .f32⟩
  | 6 => ⟨S2x1024x80, .f32⟩
  | 7 => ⟨S_, .f32⟩
  | 8 => ⟨S_, .f32⟩
  | 9 => ⟨S2x1024x80, .f32⟩
  | 10 => ⟨S2x1024x80, .f32⟩
  | 11 => ⟨S2x81920, .f32⟩
  | 12 => ⟨S2x1000, .f32⟩
  | 13 => ⟨S2x1000, .i32⟩
  | 14 => ⟨S_, .i32⟩
  | 15 => ⟨S_, .i32⟩
  | 16 => ⟨S2x1000, .i32⟩
  | 17 => ⟨S2x1000, .i32⟩
  | 18 => ⟨S2x1000, .i32⟩
  | 19 => ⟨S_, .i32⟩
  | 20 => ⟨S2x1000, .i32⟩
  | 21 => ⟨S2x1000, .i1⟩
  | 22 => ⟨S2x1000, .i32⟩
  | 23 => ⟨S2x1000, .i32⟩
  | 24 => ⟨S_, .i32⟩
  | 25 => ⟨S2x1000, .i32⟩
  | 26 => ⟨S2x1000, .i1⟩
  | 27 => ⟨S2x1000, .i1⟩
  | 28 => ⟨S_, .i32⟩
  | 29 => ⟨S2x1000, .i32⟩
  | 30 => ⟨S2x1000, .i32⟩
  | 31 => ⟨S2x1000, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2x1000, .i32⟩
  | 39 => ⟨S2x1000, .i32⟩
  | 40 => ⟨S_, .i32⟩
  | 41 => ⟨S2x1000, .i32⟩
  | 42 => ⟨S2x1000, .i1⟩
  | 43 => ⟨S_, .i32⟩
  | 44 => ⟨S2x1000, .i32⟩
  | 45 => ⟨S2x1000, .i1⟩
  | 46 => ⟨S_, .i32⟩
  | 47 => ⟨S_, .i1⟩
  | 48 => ⟨S2x1000, .i1⟩
  | 49 => ⟨S2x1000, .i1⟩
  | 50 => ⟨S2x1000, .i1⟩
  | 51 => ⟨S2x1000, .i32⟩
  | 52 => ⟨S2x1000, .i32⟩
  | 53 => ⟨S2x1000, .i32⟩
  | 54 => ⟨S2x1024x4, .f32⟩
  | 55 => ⟨S_, .f32⟩
  | 56 => ⟨S2x1024x4, .f32⟩
  | 57 => ⟨S2x1024x4, .f32⟩
  | 58 => ⟨S2x1000x1, .i32⟩
  | 59 => ⟨S_, .i32⟩
  | 60 => ⟨S2x1000x1, .i32⟩
  | 61 => ⟨S2x1000x1, .i1⟩
  | 62 => ⟨S_, .i32⟩
  | 63 => ⟨S2x1000x1, .i32⟩
  | 64 => ⟨S2x1000x1, .i32⟩
  | 65 => ⟨S2x1000x1, .i32⟩
  | 66 => ⟨S1, .i32⟩
  | 67 => ⟨S_, .i32⟩
  | 68 => ⟨S2x1000x1, .i32⟩
  | 69 => ⟨S2x1000x1, .i1⟩
  | 70 => ⟨S1x1x1, .i32⟩
  | 71 => ⟨S2x1000x1, .i32⟩
  | 72 => ⟨S2x1000x1, .i1⟩
  | 73 => ⟨S2x1000x1, .i1⟩
  | 74 => ⟨S_, .i1⟩
  | 75 => ⟨S2x1000, .i1⟩
  | 76 => ⟨S2x1000x4, .f32⟩
  | 77 => ⟨S2x1000x4, .i1⟩
  | 78 => ⟨S_, .f32⟩
  | 79 => ⟨S2x1000x4, .f32⟩
  | 80 => ⟨S2x1000x4, .f32⟩
  | 81 => ⟨S1024x1, .f32⟩
  | 82 => ⟨S1024, .f32⟩
  | 83 => ⟨S_, .i32⟩
  | 84 => ⟨S2x1000, .i32⟩
  | 85 => ⟨S2x1000, .i1⟩
  | 86 => ⟨S_, .i32⟩
  | 87 => ⟨S2x1000, .i32⟩
  | 88 => ⟨S2x1000, .i32⟩
  | 89 => ⟨S2x1000, .i32⟩
  | 90 => ⟨S2x1000x1, .i32⟩
  | 91 => ⟨S2x1000, .f32⟩
  | 92 => ⟨S1024x1, .f32⟩
  | 93 => ⟨S1024, .f32⟩
  | 94 => ⟨S_, .i32⟩
  | 95 => ⟨S2x1000, .i32⟩
  | 96 => ⟨S2x1000, .i1⟩
  | 97 => ⟨S_, .i32⟩
  | 98 => ⟨S2x1000, .i32⟩
  | 99 => ⟨S2x1000, .i32⟩
  | 100 => ⟨S2x1000, .i32⟩
  | 101 => ⟨S2x1000x1, .i32⟩
  | 102 => ⟨S2x1000, .f32⟩
  | 103 => ⟨S2x1000x1, .f32⟩
  | 104 => ⟨S2x1000, .f32⟩
  | 105 => ⟨S2x1000, .f32⟩
  | 106 => ⟨S_, .f32⟩
  | 107 => ⟨S_, .f32⟩
  | 108 => ⟨S_, .f32⟩
  | 109 => ⟨S2x1000, .f32⟩
  | 110 => ⟨S2x1000, .f32⟩
  | 111 => ⟨S_, .f32⟩
  | 112 => ⟨S2x1000, .f32⟩
  | 113 => ⟨S2x1000, .f32⟩
  | 114 => ⟨S2x1000x1, .f32⟩
  | 115 => ⟨S2x1000, .f32⟩
  | 116 => ⟨S2x1000, .f32⟩
  | 117 => ⟨S_, .f32⟩
  | 118 => ⟨S_, .f32⟩
  | 119 => ⟨S_, .f32⟩
  | 120 => ⟨S2x1000, .f32⟩
  | 121 => ⟨S2x1000, .f32⟩
  | 122 => ⟨S_, .f32⟩
  | 123 => ⟨S2x1000, .f32⟩
  | 124 => ⟨S2x1000, .f32⟩
  | 125 => ⟨S2x1000x1, .f32⟩
  | 126 => ⟨S2x1000, .f32⟩
  | 127 => ⟨S2x1000, .f32⟩
  | _ => ⟨S2x3x512x512, .f32⟩

abbrev hbmTy0_3 (i : Nat) : BufTy := match i % 128 with
  | 0 => ⟨S_, .f32⟩
  | 1 => ⟨S_, .f32⟩
  | 2 => ⟨S_, .f32⟩
  | 3 => ⟨S2x1000, .f32⟩
  | 4 => ⟨S2x1000, .f32⟩
  | 5 => ⟨S_, .f32⟩
  | 6 => ⟨S2x1000, .f32⟩
  | 7 => ⟨S2x1000, .f32⟩
  | 8 => ⟨S2x1000x1, .f32⟩
  | 9 => ⟨S2x1000, .f32⟩
  | 10 => ⟨S2x1000, .f32⟩
  | 11 => ⟨S_, .f32⟩
  | 12 => ⟨S_, .f32⟩
  | 13 => ⟨S_, .f32⟩
  | 14 => ⟨S2x1000, .f32⟩
  | 15 => ⟨S2x1000, .f32⟩
  | 16 => ⟨S_, .f32⟩
  | 17 => ⟨S2x1000, .f32⟩
  | 18 => ⟨S2x1000, .f32⟩
  | 19 => ⟨S2x1000x1, .f32⟩
  | 20 => ⟨S2x1000x1, .f32⟩
  | 21 => ⟨S2x1000x1, .f32⟩
  | 22 => ⟨S2x1000x1, .f32⟩
  | 23 => ⟨S2x1000x4, .f32⟩
  | 24 => ⟨S_, .f32⟩
  | 25 => ⟨S2x1000, .f32⟩
  | 26 => ⟨S2x1000, .f32⟩
  | 27 => ⟨S2x1000, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S1x16, .f32⟩
  | 43 => ⟨S16x16, .f32⟩
  | 44 => ⟨S256, .f32⟩
  | 45 => ⟨S16x16, .f32⟩
  | 46 => ⟨S256, .f32⟩
  | 47 => ⟨S256x1, .f32⟩
  | 48 => ⟨S256x1, .f32⟩
  | 49 => ⟨S256x2, .f32⟩
  | 50 => ⟨S2x16x16x80, .f32⟩
  | 51 => ⟨S2x256x80, .f32⟩
  | 52 => ⟨S2x16x16x4, .f32⟩
  | 53 => ⟨S2x256x4, .f32⟩
  | 54 => ⟨S2x16x16x1, .f32⟩
  | 55 => ⟨S2x256x1, .f32⟩
  | 56 => ⟨S2x256x80, .f32⟩
  | 57 => ⟨S2x256x80, .f32⟩
  | 58 => ⟨S_, .f32⟩
  | 59 => ⟨S2x256x80, .f32⟩
  | 60 => ⟨S2x256x80, .f32⟩
  | 61 => ⟨S_, .f32⟩
  | 62 => ⟨S2x256x80, .f32⟩
  | 63 => ⟨S2x256x80, .f32⟩
  | 64 => ⟨S2x256x1, .f32⟩
  | 65 => ⟨S2x256x1, .f32⟩
  | 66 => ⟨S_, .f32⟩
  | 67 => ⟨S2x256x1, .f32⟩
  | 68 => ⟨S2x256x1, .f32⟩
  | 69 => ⟨S_, .f32⟩
  | 70 => ⟨S2x256x1, .f32⟩
  | 71 => ⟨S2x256x1, .f32⟩
  | 72 => ⟨S_, .f32⟩
  | 73 => ⟨S2x256x80, .f32⟩
  | 74 => ⟨S2x256x80, .i1⟩
  | 75 => ⟨S2x256x80, .f32⟩
  | 76 => ⟨S2x256x80, .f32⟩
  | 77 => ⟨S_, .f32⟩
  | 78 => ⟨S_, .f32⟩
  | 79 => ⟨S2x256x80, .f32⟩
  | 80 => ⟨S2x256x80, .f32⟩
  | 81 => ⟨S2x20480, .f32⟩
  | 82 => ⟨S2x1000, .f32⟩
  | 83 => ⟨S2x1000, .i32⟩
  | 84 => ⟨S_, .i32⟩
  | 85 => ⟨S_, .i32⟩
  | 86 => ⟨S2x1000, .i32⟩
  | 87 => ⟨S2x1000, .i32⟩
  | 88 => ⟨S2x1000, .i32⟩
  | 89 => ⟨S_, .i32⟩
  | 90 => ⟨S2x1000, .i32⟩
  | 91 => ⟨S2x1000, .i1⟩
  | 92 => ⟨S2x1000, .i32⟩
  | 93 => ⟨S2x1000, .i32⟩
  | 94 => ⟨S_, .i32⟩
  | 95 => ⟨S2x1000, .i32⟩
  | 96 => ⟨S2x1000, .i1⟩
  | 97 => ⟨S2x1000, .i1⟩
  | 98 => ⟨S_, .i32⟩
  | 99 => ⟨S2x1000, .i32⟩
  | 100 => ⟨S2x1000, .i32⟩
  | 101 => ⟨S2x1000, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S2x1000, .i32⟩
  | 109 => ⟨S2x1000, .i32⟩
  | 110 => ⟨S_, .i32⟩
  | 111 => ⟨S2x1000, .i32⟩
  | 112 => ⟨S2x1000, .i1⟩
  | 113 => ⟨S_, .i32⟩
  | 114 => ⟨S2x1000, .i32⟩
  | 115 => ⟨S2x1000, .i1⟩
  | 116 => ⟨S_, .i32⟩
  | 117 => ⟨S_, .i1⟩
  | 118 => ⟨S2x1000, .i1⟩
  | 119 => ⟨S2x1000, .i1⟩
  | 120 => ⟨S2x1000, .i1⟩
  | 121 => ⟨S2x1000, .i32⟩
  | 122 => ⟨S2x1000, .i32⟩
  | 123 => ⟨S2x1000, .i32⟩
  | 124 => ⟨S2x256x4, .f32⟩
  | 125 => ⟨S_, .f32⟩
  | 126 => ⟨S2x256x4, .f32⟩
  | 127 => ⟨S2x256x4, .f32⟩
  | _ => ⟨S2x3x512x512, .f32⟩

abbrev hbmTy0_4 (i : Nat) : BufTy := match i % 128 with
  | 0 => ⟨S2x1000x1, .i32⟩
  | 1 => ⟨S_, .i32⟩
  | 2 => ⟨S2x1000x1, .i32⟩
  | 3 => ⟨S2x1000x1, .i1⟩
  | 4 => ⟨S_, .i32⟩
  | 5 => ⟨S2x1000x1, .i32⟩
  | 6 => ⟨S2x1000x1, .i32⟩
  | 7 => ⟨S2x1000x1, .i32⟩
  | 8 => ⟨S1, .i32⟩
  | 9 => ⟨S_, .i32⟩
  | 10 => ⟨S2x1000x1, .i32⟩
  | 11 => ⟨S2x1000x1, .i1⟩
  | 12 => ⟨S1x1x1, .i32⟩
  | 13 => ⟨S2x1000x1, .i32⟩
  | 14 => ⟨S2x1000x1, .i1⟩
  | 15 => ⟨S2x1000x1, .i1⟩
  | 16 => ⟨S_, .i1⟩
  | 17 => ⟨S2x1000, .i1⟩
  | 18 => ⟨S2x1000x4, .f32⟩
  | 19 => ⟨S2x1000x4, .i1⟩
  | 20 => ⟨S_, .f32⟩
  | 21 => ⟨S2x1000x4, .f32⟩
  | 22 => ⟨S2x1000x4, .f32⟩
  | 23 => ⟨S256x1, .f32⟩
  | 24 => ⟨S256, .f32⟩
  | 25 => ⟨S_, .i32⟩
  | 26 => ⟨S2x1000, .i32⟩
  | 27 => ⟨S2x1000, .i1⟩
  | 28 => ⟨S_, .i32⟩
  | 29 => ⟨S2x1000, .i32⟩
  | 30 => ⟨S2x1000, .i32⟩
  | 31 => ⟨S2x1000, .i32⟩
  | 32 => ⟨S2x1000x1, .i32⟩
  | 33 => ⟨S2x1000, .f32⟩
  | 34 => ⟨S256x1, .f32⟩
  | 35 => ⟨S256, .f32⟩
  | 36 => ⟨S_, .i32⟩
  | 37 => ⟨S2x1000, .i32⟩
  | 38 => ⟨S2x1000, .i1⟩
  | 39 => ⟨S_, .i32⟩
  | 40 => ⟨S2x1000, .i32⟩
  | 41 => ⟨S2x1000, .i32⟩
  | 42 => ⟨S2x1000, .i32⟩
  | 43 => ⟨S2x1000x1, .i32⟩
  | 44 => ⟨S2x1000, .f32⟩
  | 45 => ⟨S2x1000x1, .f32⟩
  | 46 => ⟨S2x1000, .f32⟩
  | 47 => ⟨S2x1000, .f32⟩
  | 48 => ⟨S_, .f32⟩
  | 49 => ⟨S_, .f32⟩
  | 50 => ⟨S_, .f32⟩
  | 51 => ⟨S2x1000, .f32⟩
  | 52 => ⟨S2x1000, .f32⟩
  | 53 => ⟨S_, .f32⟩
  | 54 => ⟨S2x1000, .f32⟩
  | 55 => ⟨S2x1000, .f32⟩
  | 56 => ⟨S2x1000x1, .f32⟩
  | 57 => ⟨S2x1000, .f32⟩
  | 58 => ⟨S2x1000, .f32⟩
  | 59 => ⟨S_, .f32⟩
  | 60 => ⟨S_, .f32⟩
  | 61 => ⟨S_, .f32⟩
  | 62 => ⟨S2x1000, .f32⟩
  | 63 => ⟨S2x1000, .f32⟩
  | 64 => ⟨S_, .f32⟩
  | 65 => ⟨S2x1000, .f32⟩
  | 66 => ⟨S2x1000, .f32⟩
  | 67 => ⟨S2x1000x1, .f32⟩
  | 68 => ⟨S2x1000, .f32⟩
  | 69 => ⟨S2x1000, .f32⟩
  | 70 => ⟨S_, .f32⟩
  | 71 => ⟨S_, .f32⟩
  | 72 => ⟨S_, .f32⟩
  | 73 => ⟨S2x1000, .f32⟩
  | 74 => ⟨S2x1000, .f32⟩
  | 75 => ⟨S_, .f32⟩
  | 76 => ⟨S2x1000, .f32⟩
  | 77 => ⟨S2x1000, .f32⟩
  | 78 => ⟨S2x1000x1, .f32⟩
  | 79 => ⟨S2x1000, .f32⟩
  | 80 => ⟨S2x1000, .f32⟩
  | 81 => ⟨S_, .f32⟩
  | 82 => ⟨S_, .f32⟩
  | 83 => ⟨S_, .f32⟩
  | 84 => ⟨S2x1000, .f32⟩
  | 85 => ⟨S2x1000, .f32⟩
  | 86 => ⟨S_, .f32⟩
  | 87 => ⟨S2x1000, .f32⟩
  | 88 => ⟨S2x1000, .f32⟩
  | 89 => ⟨S2x1000x1, .f32⟩
  | 90 => ⟨S2x1000x1, .f32⟩
  | 91 => ⟨S2x1000x1, .f32⟩
  | 92 => ⟨S2x1000x1, .f32⟩
  | 93 => ⟨S2x1000x4, .f32⟩
  | 94 => ⟨S_, .f32⟩
  | 95 => ⟨S2x1000, .f32⟩
  | 96 => ⟨S2x1000, .f32⟩
  | 97 => ⟨S2x1000, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S1x8, .f32⟩
  | 113 => ⟨S8x8, .f32⟩
  | 114 => ⟨S64, .f32⟩
  | 115 => ⟨S8x8, .f32⟩
  | 116 => ⟨S64, .f32⟩
  | 117 => ⟨S64x1, .f32⟩
  | 118 => ⟨S64x1, .f32⟩
  | 119 => ⟨S64x2, .f32⟩
  | 120 => ⟨S2x8x8x80, .f32⟩
  | 121 => ⟨S2x64x80, .f32⟩
  | 122 => ⟨S2x8x8x4, .f32⟩
  | 123 => ⟨S2x64x4, .f32⟩
  | 124 => ⟨S2x8x8x1, .f32⟩
  | 125 => ⟨S2x64x1, .f32⟩
  | 126 => ⟨S2x64x80, .f32⟩
  | 127 => ⟨S2x64x80, .f32⟩
  | _ => ⟨S2x3x512x512, .f32⟩

abbrev hbmTy0_5 (i : Nat) : BufTy := match i % 128 with
  | 0 => ⟨S_, .f32⟩
  | 1 => ⟨S2x64x80, .f32⟩
  | 2 => ⟨S2x64x80, .f32⟩
  | 3 => ⟨S_, .f32⟩
  | 4 => ⟨S2x64x80, .f32⟩
  | 5 => ⟨S2x64x80, .f32⟩
  | 6 => ⟨S2x64x1, .f32⟩
  | 7 => ⟨S2x64x1, .f32⟩
  | 8 => ⟨S_, .f32⟩
  | 9 => ⟨S2x64x1, .f32⟩
  | 10 => ⟨S2x64x1, .f32⟩
  | 11 => ⟨S_, .f32⟩
  | 12 => ⟨S2x64x1, .f32⟩
  | 13 => ⟨S2x64x1, .f32⟩
  | 14 => ⟨S_, .f32⟩
  | 15 => ⟨S2x64x80, .f32⟩
  | 16 => ⟨S2x64x80, .i1⟩
  | 17 => ⟨S2x64x80, .f32⟩
  | 18 => ⟨S2x64x80, .f32⟩
  | 19 => ⟨S_, .f32⟩
  | 20 => ⟨S_, .f32⟩
  | 21 => ⟨S2x64x80, .f32⟩
  | 22 => ⟨S2x64x80, .f32⟩
  | 23 => ⟨S2x5120, .f32⟩
  | 24 => ⟨S2x1000, .f32⟩
  | 25 => ⟨S2x1000, .i32⟩
  | 26 => ⟨S_, .i32⟩
  | 27 => ⟨S_, .i32⟩
  | 28 => ⟨S2x1000, .i32⟩
  | 29 => ⟨S2x1000, .i32⟩
  | 30 => ⟨S2x1000, .i32⟩
  | 31 => ⟨S_, .i32⟩
  | 32 => ⟨S2x1000, .i32⟩
  | 33 => ⟨S2x1000, .i1⟩
  | 34 => ⟨S2x1000, .i32⟩
  | 35 => ⟨S2x1000, .i32⟩
  | 36 => ⟨S_, .i32⟩
  | 37 => ⟨S2x1000, .i32⟩
  | 38 => ⟨S2x1000, .i1⟩
  | 39 => ⟨S2x1000, .i1⟩
  | 40 => ⟨S_, .i32⟩
  | 41 => ⟨S2x1000, .i32⟩
  | 42 => ⟨S2x1000, .i32⟩
  | 43 => ⟨S2x1000, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S2x1000, .i32⟩
  | 51 => ⟨S2x1000, .i32⟩
  | 52 => ⟨S_, .i32⟩
  | 53 => ⟨S2x1000, .i32⟩
  | 54 => ⟨S2x1000, .i1⟩
  | 55 => ⟨S_, .i32⟩
  | 56 => ⟨S2x1000, .i32⟩
  | 57 => ⟨S2x1000, .i1⟩
  | 58 => ⟨S_, .i32⟩
  | 59 => ⟨S_, .i1⟩
  | 60 => ⟨S2x1000, .i1⟩
  | 61 => ⟨S2x1000, .i1⟩
  | 62 => ⟨S2x1000, .i1⟩
  | 63 => ⟨S2x1000, .i32⟩
  | 64 => ⟨S2x1000, .i32⟩
  | 65 => ⟨S2x1000, .i32⟩
  | 66 => ⟨S2x64x4, .f32⟩
  | 67 => ⟨S_, .f32⟩
  | 68 => ⟨S2x64x4, .f32⟩
  | 69 => ⟨S2x64x4, .f32⟩
  | 70 => ⟨S2x1000x1, .i32⟩
  | 71 => ⟨S_, .i32⟩
  | 72 => ⟨S2x1000x1, .i32⟩
  | 73 => ⟨S2x1000x1, .i1⟩
  | 74 => ⟨S_, .i32⟩
  | 75 => ⟨S2x1000x1, .i32⟩
  | 76 => ⟨S2x1000x1, .i32⟩
  | 77 => ⟨S2x1000x1, .i32⟩
  | 78 => ⟨S1, .i32⟩
  | 79 => ⟨S_, .i32⟩
  | 80 => ⟨S2x1000x1, .i32⟩
  | 81 => ⟨S2x1000x1, .i1⟩
  | 82 => ⟨S1x1x1, .i32⟩
  | 83 => ⟨S2x1000x1, .i32⟩
  | 84 => ⟨S2x1000x1, .i1⟩
  | 85 => ⟨S2x1000x1, .i1⟩
  | 86 => ⟨S_, .i1⟩
  | 87 => ⟨S2x1000, .i1⟩
  | 88 => ⟨S2x1000x4, .f32⟩
  | 89 => ⟨S2x1000x4, .i1⟩
  | 90 => ⟨S_, .f32⟩
  | 91 => ⟨S2x1000x4, .f32⟩
  | 92 => ⟨S2x1000x4, .f32⟩
  | 93 => ⟨S64x1, .f32⟩
  | 94 => ⟨S64, .f32⟩
  | 95 => ⟨S_, .i32⟩
  | 96 => ⟨S2x1000, .i32⟩
  | 97 => ⟨S2x1000, .i1⟩
  | 98 => ⟨S_, .i32⟩
  | 99 => ⟨S2x1000, .i32⟩
  | 100 => ⟨S2x1000, .i32⟩
  | 101 => ⟨S2x1000, .i32⟩
  | 102 => ⟨S2x1000x1, .i32⟩
  | 103 => ⟨S2x1000, .f32⟩
  | 104 => ⟨S64x1, .f32⟩
  | 105 => ⟨S64, .f32⟩
  | 106 => ⟨S_, .i32⟩
  | 107 => ⟨S2x1000, .i32⟩
  | 108 => ⟨S2x1000, .i1⟩
  | 109 => ⟨S_, .i32⟩
  | 110 => ⟨S2x1000, .i32⟩
  | 111 => ⟨S2x1000, .i32⟩
  | 112 => ⟨S2x1000, .i32⟩
  | 113 => ⟨S2x1000x1, .i32⟩
  | 114 => ⟨S2x1000, .f32⟩
  | 115 => ⟨S2x1000x1, .f32⟩
  | 116 => ⟨S2x1000, .f32⟩
  | 117 => ⟨S2x1000, .f32⟩
  | 118 => ⟨S_, .f32⟩
  | 119 => ⟨S_, .f32⟩
  | 120 => ⟨S_, .f32⟩
  | 121 => ⟨S2x1000, .f32⟩
  | 122 => ⟨S2x1000, .f32⟩
  | 123 => ⟨S_, .f32⟩
  | 124 => ⟨S2x1000, .f32⟩
  | 125 => ⟨S2x1000, .f32⟩
  | 126 => ⟨S2x1000x1, .f32⟩
  | 127 => ⟨S2x1000, .f32⟩
  | _ => ⟨S2x3x512x512, .f32⟩

abbrev hbmTy0_6 (i : Nat) : BufTy := match i % 128 with
  | 0 => ⟨S2x1000, .f32⟩
  | 1 => ⟨S_, .f32⟩
  | 2 => ⟨S_, .f32⟩
  | 3 => ⟨S_, .f32⟩
  | 4 => ⟨S2x1000, .f32⟩
  | 5 => ⟨S2x1000, .f32⟩
  | 6 => ⟨S_, .f32⟩
  | 7 => ⟨S2x1000, .f32⟩
  | 8 => ⟨S2x1000, .f32⟩
  | 9 => ⟨S2x1000x1, .f32⟩
  | 10 => ⟨S2x1000, .f32⟩
  | 11 => ⟨S2x1000, .f32⟩
  | 12 => ⟨S_, .f32⟩
  | 13 => ⟨S_, .f32⟩
  | 14 => ⟨S_, .f32⟩
  | 15 => ⟨S2x1000, .f32⟩
  | 16 => ⟨S2x1000, .f32⟩
  | 17 => ⟨S_, .f32⟩
  | 18 => ⟨S2x1000, .f32⟩
  | 19 => ⟨S2x1000, .f32⟩
  | 20 => ⟨S2x1000x1, .f32⟩
  | 21 => ⟨S2x1000, .f32⟩
  | 22 => ⟨S2x1000, .f32⟩
  | 23 => ⟨S_, .f32⟩
  | 24 => ⟨S_, .f32⟩
  | 25 => ⟨S_, .f32⟩
  | 26 => ⟨S2x1000, .f32⟩
  | 27 => ⟨S2x1000, .f32⟩
  | 28 => ⟨S_, .f32⟩
  | 29 => ⟨S2x1000, .f32⟩
  | 30 => ⟨S2x1000, .f32⟩
  | 31 => ⟨S2x1000x1, .f32⟩
  | 32 => ⟨S2x1000x1, .f32⟩
  | 33 => ⟨S2x1000x1, .f32⟩
  | 34 => ⟨S2x1000x1, .f32⟩
  | 35 => ⟨S2x1000x4, .f32⟩
  | 36 => ⟨S_, .f32⟩
  | 37 => ⟨S2x1000, .f32⟩
  | 38 => ⟨S2x1000, .f32⟩
  | 39 => ⟨S2x1000, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S1x4, .f32⟩
  | 55 => ⟨S4x4, .f32⟩
  | 56 => ⟨S16, .f32⟩
  | 57 => ⟨S4x4, .f32⟩
  | 58 => ⟨S16, .f32⟩
  | 59 => ⟨S16x1, .f32⟩
  | 60 => ⟨S16x1, .f32⟩
  | 61 => ⟨S16x2, .f32⟩
  | 62 => ⟨S2x4x4x80, .f32⟩
  | 63 => ⟨S2x16x80, .f32⟩
  | 64 => ⟨S2x4x4x4, .f32⟩
  | 65 => ⟨S2x16x4, .f32⟩
  | 66 => ⟨S2x4x4x1, .f32⟩
  | 67 => ⟨S2x16x1, .f32⟩
  | 68 => ⟨S2x16x80, .f32⟩
  | 69 => ⟨S2x16x80, .f32⟩
  | 70 => ⟨S_, .f32⟩
  | 71 => ⟨S2x16x80, .f32⟩
  | 72 => ⟨S2x16x80, .f32⟩
  | 73 => ⟨S_, .f32⟩
  | 74 => ⟨S2x16x80, .f32⟩
  | 75 => ⟨S2x16x80, .f32⟩
  | 76 => ⟨S2x16x1, .f32⟩
  | 77 => ⟨S2x16x1, .f32⟩
  | 78 => ⟨S_, .f32⟩
  | 79 => ⟨S2x16x1, .f32⟩
  | 80 => ⟨S2x16x1, .f32⟩
  | 81 => ⟨S_, .f32⟩
  | 82 => ⟨S2x16x1, .f32⟩
  | 83 => ⟨S2x16x1, .f32⟩
  | 84 => ⟨S_, .f32⟩
  | 85 => ⟨S2x16x80, .f32⟩
  | 86 => ⟨S2x16x80, .i1⟩
  | 87 => ⟨S2x16x80, .f32⟩
  | 88 => ⟨S2x16x80, .f32⟩
  | 89 => ⟨S_, .f32⟩
  | 90 => ⟨S_, .f32⟩
  | 91 => ⟨S2x16x80, .f32⟩
  | 92 => ⟨S2x16x80, .f32⟩
  | 93 => ⟨S2x1280, .f32⟩
  | 94 => ⟨S2x1000, .f32⟩
  | 95 => ⟨S2x1000, .i32⟩
  | 96 => ⟨S_, .i32⟩
  | 97 => ⟨S_, .i32⟩
  | 98 => ⟨S2x1000, .i32⟩
  | 99 => ⟨S2x1000, .i32⟩
  | 100 => ⟨S2x1000, .i32⟩
  | 101 => ⟨S_, .i32⟩
  | 102 => ⟨S2x1000, .i32⟩
  | 103 => ⟨S2x1000, .i1⟩
  | 104 => ⟨S2x1000, .i32⟩
  | 105 => ⟨S2x1000, .i32⟩
  | 106 => ⟨S_, .i32⟩
  | 107 => ⟨S2x1000, .i32⟩
  | 108 => ⟨S2x1000, .i1⟩
  | 109 => ⟨S2x1000, .i1⟩
  | 110 => ⟨S_, .i32⟩
  | 111 => ⟨S2x1000, .i32⟩
  | 112 => ⟨S2x1000, .i32⟩
  | 113 => ⟨S2x1000, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S2x1000, .i32⟩
  | 121 => ⟨S2x1000, .i32⟩
  | 122 => ⟨S_, .i32⟩
  | 123 => ⟨S2x1000, .i32⟩
  | 124 => ⟨S2x1000, .i1⟩
  | 125 => ⟨S_, .i32⟩
  | 126 => ⟨S2x1000, .i32⟩
  | 127 => ⟨S2x1000, .i1⟩
  | _ => ⟨S2x3x512x512, .f32⟩

abbrev hbmTy0_7 (i : Nat) : BufTy := match i % 128 with
  | 0 => ⟨S_, .i32⟩
  | 1 => ⟨S_, .i1⟩
  | 2 => ⟨S2x1000, .i1⟩
  | 3 => ⟨S2x1000, .i1⟩
  | 4 => ⟨S2x1000, .i1⟩
  | 5 => ⟨S2x1000, .i32⟩
  | 6 => ⟨S2x1000, .i32⟩
  | 7 => ⟨S2x1000, .i32⟩
  | 8 => ⟨S2x16x4, .f32⟩
  | 9 => ⟨S_, .f32⟩
  | 10 => ⟨S2x16x4, .f32⟩
  | 11 => ⟨S2x16x4, .f32⟩
  | 12 => ⟨S2x1000x1, .i32⟩
  | 13 => ⟨S_, .i32⟩
  | 14 => ⟨S2x1000x1, .i32⟩
  | 15 => ⟨S2x1000x1, .i1⟩
  | 16 => ⟨S_, .i32⟩
  | 17 => ⟨S2x1000x1, .i32⟩
  | 18 => ⟨S2x1000x1, .i32⟩
  | 19 => ⟨S2x1000x1, .i32⟩
  | 20 => ⟨S1, .i32⟩
  | 21 => ⟨S_, .i32⟩
  | 22 => ⟨S2x1000x1, .i32⟩
  | 23 => ⟨S2x1000x1, .i1⟩
  | 24 => ⟨S1x1x1, .i32⟩
  | 25 => ⟨S2x1000x1, .i32⟩
  | 26 => ⟨S2x1000x1, .i1⟩
  | 27 => ⟨S2x1000x1, .i1⟩
  | 28 => ⟨S_, .i1⟩
  | 29 => ⟨S2x1000, .i1⟩
  | 30 => ⟨S2x1000x4, .f32⟩
  | 31 => ⟨S2x1000x4, .i1⟩
  | 32 => ⟨S_, .f32⟩
  | 33 => ⟨S2x1000x4, .f32⟩
  | 34 => ⟨S2x1000x4, .f32⟩
  | 35 => ⟨S16x1, .f32⟩
  | 36 => ⟨S16, .f32⟩
  | 37 => ⟨S_, .i32⟩
  | 38 => ⟨S2x1000, .i32⟩
  | 39 => ⟨S2x1000, .i1⟩
  | 40 => ⟨S_, .i32⟩
  | 41 => ⟨S2x1000, .i32⟩
  | 42 => ⟨S2x1000, .i32⟩
  | 43 => ⟨S2x1000, .i32⟩
  | 44 => ⟨S2x1000x1, .i32⟩
  | 45 => ⟨S2x1000, .f32⟩
  | 46 => ⟨S16x1, .f32⟩
  | 47 => ⟨S16, .f32⟩
  | 48 => ⟨S_, .i32⟩
  | 49 => ⟨S2x1000, .i32⟩
  | 50 => ⟨S2x1000, .i1⟩
  | 51 => ⟨S_, .i32⟩
  | 52 => ⟨S2x1000, .i32⟩
  | 53 => ⟨S2x1000, .i32⟩
  | 54 => ⟨S2x1000, .i32⟩
  | 55 => ⟨S2x1000x1, .i32⟩
  | 56 => ⟨S2x1000, .f32⟩
  | 57 => ⟨S2x1000x1, .f32⟩
  | 58 => ⟨S2x1000, .f32⟩
  | 59 => ⟨S2x1000, .f32⟩
  | 60 => ⟨S_, .f32⟩
  | 61 => ⟨S_, .f32⟩
  | 62 => ⟨S_, .f32⟩
  | 63 => ⟨S2x1000, .f32⟩
  | 64 => ⟨S2x1000, .f32⟩
  | 65 => ⟨S_, .f32⟩
  | 66 => ⟨S2x1000, .f32⟩
  | 67 => ⟨S2x1000, .f32⟩
  | 68 => ⟨S2x1000x1, .f32⟩
  | 69 => ⟨S2x1000, .f32⟩
  | 70 => ⟨S2x1000, .f32⟩
  | 71 => ⟨S_, .f32⟩
  | 72 => ⟨S_, .f32⟩
  | 73 => ⟨S_, .f32⟩
  | 74 => ⟨S2x1000, .f32⟩
  | 75 => ⟨S2x1000, .f32⟩
  | 76 => ⟨S_, .f32⟩
  | 77 => ⟨S2x1000, .f32⟩
  | 78 => ⟨S2x1000, .f32⟩
  | 79 => ⟨S2x1000x1, .f32⟩
  | 80 => ⟨S2x1000, .f32⟩
  | 81 => ⟨S2x1000, .f32⟩
  | 82 => ⟨S_, .f32⟩
  | 83 => ⟨S_, .f32⟩
  | 84 => ⟨S_, .f32⟩
  | 85 => ⟨S2x1000, .f32⟩
  | 86 => ⟨S2x1000, .f32⟩
  | 87 => ⟨S_, .f32⟩
  | 88 => ⟨S2x1000, .f32⟩
  | 89 => ⟨S2x1000, .f32⟩
  | 90 => ⟨S2x1000x1, .f32⟩
  | 91 => ⟨S2x1000, .f32⟩
  | 92 => ⟨S2x1000, .f32⟩
  | 93 => ⟨S_, .f32⟩
  | 94 => ⟨S_, .f32⟩
  | 95 => ⟨S_, .f32⟩
  | 96 => ⟨S2x1000, .f32⟩
  | 97 => ⟨S2x1000, .f32⟩
  | 98 => ⟨S_, .f32⟩
  | 99 => ⟨S2x1000, .f32⟩
  | 100 => ⟨S2x1000, .f32⟩
  | 101 => ⟨S2x1000x1, .f32⟩
  | 102 => ⟨S2x1000x1, .f32⟩
  | 103 => ⟨S2x1000x1, .f32⟩
  | 104 => ⟨S2x1000x1, .f32⟩
  | 105 => ⟨S2x1000x4, .f32⟩
  | 106 => ⟨S_, .f32⟩
  | 107 => ⟨S2x1000, .f32⟩
  | 108 => ⟨S2x1000, .f32⟩
  | 109 => ⟨S2x1000, .f32⟩
  | 110 => ⟨S2x5000x4, .f32⟩
  | 111 => ⟨S2x5000, .f32⟩
  | 112 => ⟨S2x5000, .i32⟩
  | 113 => ⟨S2x5000, .f32⟩
  | 114 => ⟨S2x5000x1, .f32⟩
  | 115 => ⟨S_, .f32⟩
  | 116 => ⟨S2x5000x1, .f32⟩
  | 117 => ⟨S2x5000x1, .f32⟩
  | 118 => ⟨S2x5000x4, .f32⟩
  | 119 => ⟨S2x5000x4, .f32⟩
  | 120 => ⟨S5000, .i32⟩
  | 121 => ⟨S1x5000, .i32⟩
  | 122 => ⟨S_, .i32⟩
  | 123 => ⟨S2x50, .i32⟩
  | 124 => ⟨S_, .i32⟩
  | 125 => ⟨S_, .i32⟩
  | 126 => ⟨S2x5000x4, .f32⟩
  | 127 => ⟨S1x5000, .i32⟩
  | _ => ⟨S2x3x512x512, .f32⟩

abbrev hbmTy0_8 (i : Nat) : BufTy := match i % 128 with
  | 0 => ⟨S_, .i32⟩
  | 1 => ⟨S_, .i32⟩
  | 2 => ⟨S2x5000, .f32⟩
  | 3 => ⟨S2x50, .i32⟩
  | 4 => ⟨S_, .i32⟩
  | 5 => ⟨S_, .i1⟩
  | 6 => ⟨S_, .i32⟩
  | 7 => ⟨S_, .i32⟩
  | 8 => ⟨S2x1, .f32⟩
  | 9 => ⟨S2x1, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S2x50, .i32⟩
  | 25 => ⟨S2x1x1, .i32⟩
  | 26 => ⟨S_, .i32⟩
  | 27 => ⟨S2x1x1, .i32⟩
  | 28 => ⟨S2x1x1, .i1⟩
  | 29 => ⟨S_, .i32⟩
  | 30 => ⟨S2x1x1, .i32⟩
  | 31 => ⟨S2x1x1, .i32⟩
  | 32 => ⟨S2x1x1, .i32⟩
  | 33 => ⟨S1, .i32⟩
  | 34 => ⟨S_, .i32⟩
  | 35 => ⟨S2x1x1, .i32⟩
  | 36 => ⟨S2x1x1, .i1⟩
  | 37 => ⟨S1x1x1, .i32⟩
  | 38 => ⟨S2x1x1, .i32⟩
  | 39 => ⟨S2x1x1, .i1⟩
  | 40 => ⟨S2x1x1, .i1⟩
  | 41 => ⟨S_, .i1⟩
  | 42 => ⟨S2x1, .i1⟩
  | 43 => ⟨S2x1x4, .f32⟩
  | 44 => ⟨S2x1x4, .i1⟩
  | 45 => ⟨S_, .f32⟩
  | 46 => ⟨S2x1x4, .f32⟩
  | 47 => ⟨S2x1x4, .f32⟩
  | 48 => ⟨S2x1x1, .f32⟩
  | 49 => ⟨S2x1, .f32⟩
  | 50 => ⟨S2x5000x1, .f32⟩
  | 51 => ⟨S2x5000, .f32⟩
  | 52 => ⟨S2x5000, .f32⟩
  | 53 => ⟨S2x5000, .f32⟩
  | 54 => ⟨S2x1x1, .f32⟩
  | 55 => ⟨S2x1, .f32⟩
  | 56 => ⟨S2x5000x1, .f32⟩
  | 57 => ⟨S2x5000, .f32⟩
  | 58 => ⟨S2x5000, .f32⟩
  | 59 => ⟨S2x5000, .f32⟩
  | 60 => ⟨S2x1x1, .f32⟩
  | 61 => ⟨S2x1, .f32⟩
  | 62 => ⟨S2x5000x1, .f32⟩
  | 63 => ⟨S2x5000, .f32⟩
  | 64 => ⟨S2x5000, .f32⟩
  | 65 => ⟨S2x5000, .f32⟩
  | 66 => ⟨S2x1x1, .f32⟩
  | 67 => ⟨S2x1, .f32⟩
  | 68 => ⟨S2x5000x1, .f32⟩
  | 69 => ⟨S2x5000, .f32⟩
  | 70 => ⟨S2x5000, .f32⟩
  | 71 => ⟨S2x5000, .f32⟩
  | 72 => ⟨S2x5000, .f32⟩
  | 73 => ⟨S_, .f32⟩
  | 74 => ⟨S_, .f32⟩
  | 75 => ⟨S2x5000, .f32⟩
  | 76 => ⟨S2x5000, .f32⟩
  | 77 => ⟨S2x5000, .f32⟩
  | 78 => ⟨S_, .f32⟩
  | 79 => ⟨S_, .f32⟩
  | 80 => ⟨S2x5000, .f32⟩
  | 81 => ⟨S2x5000, .f32⟩
  | 82 => ⟨S2x5000, .f32⟩
  | 83 => ⟨S2x1x1, .f32⟩
  | 84 => ⟨S2x1, .f32⟩
  | 85 => ⟨S2x1x1, .f32⟩
  | 86 => ⟨S2x1, .f32⟩
  | 87 => ⟨S2x1, .f32⟩
  | 88 => ⟨S2x1x1, .f32⟩
  | 89 => ⟨S2x1, .f32⟩
  | 90 => ⟨S2x1x1, .f32⟩
  | 91 => ⟨S2x1, .f32⟩
  | 92 => ⟨S2x1, .f32⟩
  | 93 => ⟨S2x1, .f32⟩
  | 94 => ⟨S2x5000x1, .f32⟩
  | 95 => ⟨S2x5000, .f32⟩
  | 96 => ⟨S2x5000x1, .f32⟩
  | 97 => ⟨S2x5000, .f32⟩
  | 98 => ⟨S2x5000, .f32⟩
  | 99 => ⟨S2x5000x1, .f32⟩
  | 100 => ⟨S2x5000, .f32⟩
  | 101 => ⟨S2x5000x1, .f32⟩
  | 102 => ⟨S2x5000, .f32⟩
  | 103 => ⟨S2x5000, .f32⟩
  | 104 => ⟨S2x5000, .f32⟩
  | 105 => ⟨S2x5000, .f32⟩
  | 106 => ⟨S2x5000, .f32⟩
  | 107 => ⟨S2x5000, .f32⟩
  | 108 => ⟨S_, .f32⟩
  | 109 => ⟨S2x5000, .f32⟩
  | 110 => ⟨S2x5000, .f32⟩
  | 111 => ⟨S2x5000, .f32⟩
  | 112 => ⟨S_, .f32⟩
  | 113 => ⟨S2x5000, .f32⟩
  | 114 => ⟨S2x5000, .i1⟩
  | 115 => ⟨S_, .f32⟩
  | 116 => ⟨S_, .f32⟩
  | 117 => ⟨S2x5000, .f32⟩
  | 118 => ⟨S2x5000, .f32⟩
  | 119 => ⟨S2x5000, .i32⟩
  | 120 => ⟨S2x5000, .i32⟩
  | 121 => ⟨S2x5000, .i1⟩
  | 122 => ⟨S_, .f32⟩
  | 123 => ⟨S_, .f32⟩
  | 124 => ⟨S2x5000, .f32⟩
  | 125 => ⟨S2x5000, .f32⟩
  | 126 => ⟨S_, .i32⟩
  | 127 => ⟨S_, .i32⟩
  | _ => ⟨S2x3x512x512, .f32⟩

abbrev hbmTy0_9 (i : Nat) : BufTy := match i % 128 with
  | 0 => ⟨S2x50x1, .i32⟩
  | 1 => ⟨S_, .i32⟩
  | 2 => ⟨S2x50x1, .i32⟩
  | 3 => ⟨S2x50x1, .i1⟩
  | 4 => ⟨S_, .i32⟩
  | 5 => ⟨S2x50x1, .i32⟩
  | 6 => ⟨S2x50x1, .i32⟩
  | 7 => ⟨S2x50x1, .i32⟩
  | 8 => ⟨S1, .i32⟩
  | 9 => ⟨S_, .i32⟩
  | 10 => ⟨S2x50x1, .i32⟩
  | 11 => ⟨S2x50x1, .i1⟩
  | 12 => ⟨S1x1x1, .i32⟩
  | 13 => ⟨S2x50x1, .i32⟩
  | 14 => ⟨S2x50x1, .i1⟩
  | 15 => ⟨S2x50x1, .i1⟩
  | 16 => ⟨S_, .i1⟩
  | 17 => ⟨S2x50, .i1⟩
  | 18 => ⟨S2x50x4, .f32⟩
  | 19 => ⟨S2x50x4, .i1⟩
  | 20 => ⟨S_, .f32⟩
  | 21 => ⟨S2x50x4, .f32⟩
  | 22 => ⟨S2x50x4, .f32⟩
  | 23 => ⟨S_, .i32⟩
  | 24 => ⟨S2x50, .i32⟩
  | 25 => ⟨S2x50, .i1⟩
  | 26 => ⟨S_, .i32⟩
  | 27 => ⟨S2x50, .i32⟩
  | 28 => ⟨S2x50, .i32⟩
  | 29 => ⟨S2x50, .i32⟩
  | 30 => ⟨S2x50x1, .i32⟩
  | 31 => ⟨S1, .i32⟩
  | 32 => ⟨S_, .i32⟩
  | 33 => ⟨S2x50x1, .i32⟩
  | 34 => ⟨S2x50x1, .i1⟩
  | 35 => ⟨S1x1x1, .i32⟩
  | 36 => ⟨S2x50x1, .i32⟩
  | 37 => ⟨S2x50x1, .i1⟩
  | 38 => ⟨S2x50x1, .i1⟩
  | 39 => ⟨S_, .i1⟩
  | 40 => ⟨S2x50, .i1⟩
  | 41 => ⟨S2x50, .f32⟩
  | 42 => ⟨S_, .f32⟩
  | 43 => ⟨S2x50, .f32⟩
  | 44 => ⟨S2x50, .f32⟩
  | 45 => ⟨S_, .i32⟩
  | 46 => ⟨S2x50, .i32⟩
  | 47 => ⟨S2x50, .i1⟩
  | 48 => ⟨S_, .i32⟩
  | 49 => ⟨S2x50, .i32⟩
  | 50 => ⟨S2x50, .i32⟩
  | 51 => ⟨S2x50, .i32⟩
  | 52 => ⟨S2x50x1, .i32⟩
  | 53 => ⟨S1, .i32⟩
  | 54 => ⟨S_, .i32⟩
  | 55 => ⟨S2x50x1, .i32⟩
  | 56 => ⟨S2x50x1, .i1⟩
  | 57 => ⟨S1x1x1, .i32⟩
  | 58 => ⟨S2x50x1, .i32⟩
  | 59 => ⟨S2x50x1, .i1⟩
  | 60 => ⟨S2x50x1, .i1⟩
  | 61 => ⟨S_, .i1⟩
  | 62 => ⟨S2x50, .i1⟩
  | 63 => ⟨S2x50, .i32⟩
  | 64 => ⟨S_, .i32⟩
  | 65 => ⟨S2x50, .i32⟩
  | 66 => ⟨S2x50, .i32⟩
  | _ => ⟨S2x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S2x3x512x512, .f32⟩

abbrev bufTy : (tb : Table) → Fin (tcTables nBuf tb) → BufTy
  | .hbm, ⟨i, _⟩ => hbmTy i
  | _, _ => ⟨S2x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_call0_v0 : Ref sig .tc := ⟨.hbm, 66, rfl⟩
abbrev main_call0_v1 : Ref sig .tc := ⟨.hbm, 67, rfl⟩
abbrev main_v40 : Ref sig .tc := ⟨.hbm, 68, rfl⟩
abbrev main_v41 : Ref sig .tc := ⟨.hbm, 69, rfl⟩
abbrev main_values : Ref sig .tc := ⟨.hbm, 70, rfl⟩
abbrev main_indices : Ref sig .tc := ⟨.hbm, 71, rfl⟩
abbrev main_c : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_0 : Ref sig .tc := ⟨.hbm, 86, rfl⟩
abbrev main_call1_v12 : Ref sig .tc := ⟨.hbm, 87, rfl⟩
abbrev main_call1_v13 : Ref sig .tc := ⟨.hbm, 88, rfl⟩
abbrev main_v42 : Ref sig .tc := ⟨.hbm, 89, rfl⟩
abbrev main_c_9 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_c_1 : Ref sig .tc := ⟨.hbm, 98, rfl⟩
abbrev main_call2_v5 : Ref sig .tc := ⟨.hbm, 99, rfl⟩
abbrev main_call2_v6 : Ref sig .tc := ⟨.hbm, 100, rfl⟩
abbrev main_call2_c_2 : Ref sig .tc := ⟨.hbm, 101, rfl⟩
abbrev main_call2_v7 : Ref sig .tc := ⟨.hbm, 102, rfl⟩
abbrev main_call2_v8 : Ref sig .tc := ⟨.hbm, 103, rfl⟩
abbrev main_call2_c_3 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_v43 : Ref sig .tc := ⟨.hbm, 111, rfl⟩
abbrev main_v44 : Ref sig .tc := ⟨.hbm, 112, rfl⟩
abbrev main_cst_10 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_call3_c : Ref sig .tc := ⟨.hbm, 117, rfl⟩
abbrev main_call3_v0 : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_1 : Ref sig .tc := ⟨.hbm, 124, rfl⟩
abbrev main_call3_c_2 : Ref sig .tc := ⟨.hbm, 125, rfl⟩
abbrev main_call3_v5 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_call3_c_3 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_call3_cst : Ref sig .tc := ⟨.hbm, 136, rfl⟩
abbrev main_call3_v14 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_c_11 : Ref sig .tc := ⟨.hbm, 141, rfl⟩
abbrev main_v51 : Ref sig .tc := ⟨.hbm, 142, rfl⟩
abbrev main_v52 : Ref sig .tc := ⟨.hbm, 143, rfl⟩
abbrev main_c_12 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_c_13 : Ref sig .tc := ⟨.hbm, 152, rfl⟩
abbrev main_v60 : Ref sig .tc := ⟨.hbm, 153, rfl⟩
abbrev main_v61 : Ref sig .tc := ⟨.hbm, 154, rfl⟩
abbrev main_c_14 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_cst_15 : Ref sig .tc := ⟨.hbm, 164, rfl⟩
abbrev main_cst_16 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_cst_17 : Ref sig .tc := ⟨.hbm, 175, rfl⟩
abbrev main_cst_18 : Ref sig .tc := ⟨.hbm, 176, rfl⟩
abbrev main_call5_v0 : Ref sig .tc := ⟨.hbm, 177, rfl⟩
abbrev main_call5_v1 : Ref sig .tc := ⟨.hbm, 178, rfl⟩
abbrev main_call5_v2 : Ref sig .tc := ⟨.hbm, 179, rfl⟩
abbrev main_call5_v3 : Ref sig .tc := ⟨.hbm, 180, rfl⟩
abbrev main_call5_v4 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_cst_19 : Ref sig .tc := ⟨.hbm, 186, rfl⟩
abbrev main_cst_20 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_cst_21 : Ref sig .tc := ⟨.hbm, 197, rfl⟩
abbrev main_cst_22 : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_call7_v3 : Ref sig .tc := ⟨.hbm, 202, rfl⟩
abbrev main_call7_v4 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_cst_23 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_cst_24 : Ref sig .tc := ⟨.hbm, 215, rfl⟩
abbrev main_v92 : Ref sig .tc := ⟨.hbm, 216, rfl⟩
abbrev main_v93 : Ref sig .tc := ⟨.hbm, 217, rfl⟩
abbrev main_cst_25 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_cst_26 : Ref sig .tc := ⟨.hbm, 222, rfl⟩
abbrev main_v97 : Ref sig .tc := ⟨.hbm, 223, rfl⟩
abbrev main_v98 : Ref sig .tc := ⟨.hbm, 224, rfl⟩
abbrev main_cst_27 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_v115 : Ref sig .tc := ⟨.hbm, 242, rfl⟩
abbrev main_v116 : Ref sig .tc := ⟨.hbm, 243, rfl⟩
abbrev main_cst_28 : Ref sig .tc := ⟨.hbm, 244, rfl⟩
abbrev main_v117 : Ref sig .tc := ⟨.hbm, 245, rfl⟩
abbrev main_v118 : Ref sig .tc := ⟨.hbm, 246, rfl⟩
abbrev main_cst_29 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_cst_30 : Ref sig .tc := ⟨.hbm, 252, rfl⟩
abbrev main_v123 : Ref sig .tc := ⟨.hbm, 253, rfl⟩
abbrev main_v124 : Ref sig .tc := ⟨.hbm, 254, rfl⟩
abbrev main_cst_31 : Ref sig .tc := ⟨.hbm, 255, rfl⟩
abbrev main_v125 : Ref sig .tc := ⟨.hbm, 256, rfl⟩
abbrev main_v126 : Ref sig .tc := ⟨.hbm, 257, rfl⟩
abbrev main_cst_32 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_cst_33 : Ref sig .tc := ⟨.hbm, 263, rfl⟩
abbrev main_call8_v0 : Ref sig .tc := ⟨.hbm, 264, rfl⟩
abbrev main_call8_v1 : Ref sig .tc := ⟨.hbm, 265, rfl⟩
abbrev main_v131 : Ref sig .tc := ⟨.hbm, 266, rfl⟩
abbrev main_v132 : Ref sig .tc := ⟨.hbm, 267, rfl⟩
abbrev main_values_34 : Ref sig .tc := ⟨.hbm, 268, rfl⟩
abbrev main_indices_35 : Ref sig .tc := ⟨.hbm, 269, rfl⟩
abbrev main_c_36 : Ref sig .tc := ⟨.hbm, 270, rfl⟩
abbrev main_call9_v0 : Ref sig .tc := ⟨.hbm, 271, rfl⟩
abbrev main_call9_v1 : Ref sig .tc := ⟨.hbm, 272, rfl⟩
abbrev main_call9_v2 : Ref sig .tc := ⟨.hbm, 273, rfl⟩
abbrev main_call9_v3 : Ref sig .tc := ⟨.hbm, 274, rfl⟩
abbrev main_call9_v4 : Ref sig .tc := ⟨.hbm, 275, rfl⟩
abbrev main_call9_v5 : Ref sig .tc := ⟨.hbm, 276, rfl⟩
abbrev main_call9_v6 : Ref sig .tc := ⟨.hbm, 277, rfl⟩
abbrev main_call9_v7 : Ref sig .tc := ⟨.hbm, 278, rfl⟩
abbrev main_call9_v8 : Ref sig .tc := ⟨.hbm, 279, rfl⟩
abbrev main_call9_c : Ref sig .tc := ⟨.hbm, 280, rfl⟩
abbrev main_call9_v9 : Ref sig .tc := ⟨.hbm, 281, rfl⟩
abbrev main_call9_v10 : Ref sig .tc := ⟨.hbm, 282, rfl⟩
abbrev main_call9_v11 : Ref sig .tc := ⟨.hbm, 283, rfl⟩
abbrev main_call9_c_0 : Ref sig .tc := ⟨.hbm, 284, rfl⟩
abbrev main_call9_v12 : Ref sig .tc := ⟨.hbm, 285, rfl⟩
abbrev main_call9_v13 : Ref sig .tc := ⟨.hbm, 286, rfl⟩
abbrev main_v133 : Ref sig .tc := ⟨.hbm, 287, rfl⟩
abbrev main_c_37 : Ref sig .tc := ⟨.hbm, 288, rfl⟩
abbrev main_call10_v0 : Ref sig .tc := ⟨.hbm, 289, rfl⟩
abbrev main_call10_c : Ref sig .tc := ⟨.hbm, 290, rfl⟩
abbrev main_call10_v1 : Ref sig .tc := ⟨.hbm, 291, rfl⟩
abbrev main_call10_c_0 : Ref sig .tc := ⟨.hbm, 292, rfl⟩
abbrev main_call10_v2 : Ref sig .tc := ⟨.hbm, 293, rfl⟩
abbrev main_call10_v3 : Ref sig .tc := ⟨.hbm, 294, rfl⟩
abbrev main_call10_v4 : Ref sig .tc := ⟨.hbm, 295, rfl⟩
abbrev main_call10_c_1 : Ref sig .tc := ⟨.hbm, 296, rfl⟩
abbrev main_call10_v5 : Ref sig .tc := ⟨.hbm, 297, rfl⟩
abbrev main_call10_v6 : Ref sig .tc := ⟨.hbm, 298, rfl⟩
abbrev main_call10_c_2 : Ref sig .tc := ⟨.hbm, 299, rfl⟩
abbrev main_call10_v7 : Ref sig .tc := ⟨.hbm, 300, rfl⟩
abbrev main_call10_v8 : Ref sig .tc := ⟨.hbm, 301, rfl⟩
abbrev main_call10_c_3 : Ref sig .tc := ⟨.hbm, 302, rfl⟩
abbrev main_call10_v9 : Ref sig .tc := ⟨.hbm, 303, rfl⟩
abbrev main_call10_v10 : Ref sig .tc := ⟨.hbm, 304, rfl⟩
abbrev main_call10_v11 : Ref sig .tc := ⟨.hbm, 305, rfl⟩
abbrev main_call10_v12 : Ref sig .tc := ⟨.hbm, 306, rfl⟩
abbrev main_call10_v13 : Ref sig .tc := ⟨.hbm, 307, rfl⟩
abbrev main_call10_v14 : Ref sig .tc := ⟨.hbm, 308, rfl⟩
abbrev main_v134 : Ref sig .tc := ⟨.hbm, 309, rfl⟩
abbrev main_v135 : Ref sig .tc := ⟨.hbm, 310, rfl⟩
abbrev main_cst_38 : Ref sig .tc := ⟨.hbm, 311, rfl⟩
abbrev main_v136 : Ref sig .tc := ⟨.hbm, 312, rfl⟩
abbrev main_v137 : Ref sig .tc := ⟨.hbm, 313, rfl⟩
abbrev main_v138 : Ref sig .tc := ⟨.hbm, 314, rfl⟩
abbrev main_call11_c : Ref sig .tc := ⟨.hbm, 315, rfl⟩
abbrev main_call11_v0 : Ref sig .tc := ⟨.hbm, 316, rfl⟩
abbrev main_call11_v1 : Ref sig .tc := ⟨.hbm, 317, rfl⟩
abbrev main_call11_c_0 : Ref sig .tc := ⟨.hbm, 318, rfl⟩
abbrev main_call11_v2 : Ref sig .tc := ⟨.hbm, 319, rfl⟩
abbrev main_call11_v3 : Ref sig .tc := ⟨.hbm, 320, rfl⟩
abbrev main_call11_v4 : Ref sig .tc := ⟨.hbm, 321, rfl⟩
abbrev main_call11_c_1 : Ref sig .tc := ⟨.hbm, 322, rfl⟩
abbrev main_call11_c_2 : Ref sig .tc := ⟨.hbm, 323, rfl⟩
abbrev main_call11_v5 : Ref sig .tc := ⟨.hbm, 324, rfl⟩
abbrev main_call11_v6 : Ref sig .tc := ⟨.hbm, 325, rfl⟩
abbrev main_call11_v7 : Ref sig .tc := ⟨.hbm, 326, rfl⟩
abbrev main_call11_v8 : Ref sig .tc := ⟨.hbm, 327, rfl⟩
abbrev main_call11_v9 : Ref sig .tc := ⟨.hbm, 328, rfl⟩
abbrev main_call11_v10 : Ref sig .tc := ⟨.hbm, 329, rfl⟩
abbrev main_call11_c_3 : Ref sig .tc := ⟨.hbm, 330, rfl⟩
abbrev main_call11_v11 : Ref sig .tc := ⟨.hbm, 331, rfl⟩
abbrev main_call11_v12 : Ref sig .tc := ⟨.hbm, 332, rfl⟩
abbrev main_call11_v13 : Ref sig .tc := ⟨.hbm, 333, rfl⟩
abbrev main_call11_cst : Ref sig .tc := ⟨.hbm, 334, rfl⟩
abbrev main_call11_v14 : Ref sig .tc := ⟨.hbm, 335, rfl⟩
abbrev main_v139 : Ref sig .tc := ⟨.hbm, 336, rfl⟩
abbrev main_v140 : Ref sig .tc := ⟨.hbm, 337, rfl⟩
abbrev main_v141 : Ref sig .tc := ⟨.hbm, 338, rfl⟩
abbrev main_c_39 : Ref sig .tc := ⟨.hbm, 339, rfl⟩
abbrev main_v142 : Ref sig .tc := ⟨.hbm, 340, rfl⟩
abbrev main_v143 : Ref sig .tc := ⟨.hbm, 341, rfl⟩
abbrev main_c_40 : Ref sig .tc := ⟨.hbm, 342, rfl⟩
abbrev main_v144 : Ref sig .tc := ⟨.hbm, 343, rfl⟩
abbrev main_v145 : Ref sig .tc := ⟨.hbm, 344, rfl⟩
abbrev main_v146 : Ref sig .tc := ⟨.hbm, 345, rfl⟩
abbrev main_v147 : Ref sig .tc := ⟨.hbm, 346, rfl⟩
abbrev main_v148 : Ref sig .tc := ⟨.hbm, 347, rfl⟩
abbrev main_v149 : Ref sig .tc := ⟨.hbm, 348, rfl⟩
abbrev main_v150 : Ref sig .tc := ⟨.hbm, 349, rfl⟩
abbrev main_c_41 : Ref sig .tc := ⟨.hbm, 350, rfl⟩
abbrev main_v151 : Ref sig .tc := ⟨.hbm, 351, rfl⟩
abbrev main_v152 : Ref sig .tc := ⟨.hbm, 352, rfl⟩
abbrev main_c_42 : Ref sig .tc := ⟨.hbm, 353, rfl⟩
abbrev main_v153 : Ref sig .tc := ⟨.hbm, 354, rfl⟩
abbrev main_v154 : Ref sig .tc := ⟨.hbm, 355, rfl⟩
abbrev main_v155 : Ref sig .tc := ⟨.hbm, 356, rfl⟩
abbrev main_v156 : Ref sig .tc := ⟨.hbm, 357, rfl⟩
abbrev main_v157 : Ref sig .tc := ⟨.hbm, 358, rfl⟩
abbrev main_v158 : Ref sig .tc := ⟨.hbm, 359, rfl⟩
abbrev main_v159 : Ref sig .tc := ⟨.hbm, 360, rfl⟩
abbrev main_v160 : Ref sig .tc := ⟨.hbm, 361, rfl⟩
abbrev main_cst_43 : Ref sig .tc := ⟨.hbm, 362, rfl⟩
abbrev main_cst_44 : Ref sig .tc := ⟨.hbm, 363, rfl⟩
abbrev main_call12_v0 : Ref sig .tc := ⟨.hbm, 364, rfl⟩
abbrev main_call12_v1 : Ref sig .tc := ⟨.hbm, 365, rfl⟩
abbrev main_call12_v2 : Ref sig .tc := ⟨.hbm, 366, rfl⟩
abbrev main_call12_v3 : Ref sig .tc := ⟨.hbm, 367, rfl⟩
abbrev main_call12_v4 : Ref sig .tc := ⟨.hbm, 368, rfl⟩
abbrev main_v161 : Ref sig .tc := ⟨.hbm, 369, rfl⟩
abbrev main_v162 : Ref sig .tc := ⟨.hbm, 370, rfl⟩
abbrev main_v163 : Ref sig .tc := ⟨.hbm, 371, rfl⟩
abbrev main_v164 : Ref sig .tc := ⟨.hbm, 372, rfl⟩
abbrev main_cst_45 : Ref sig .tc := ⟨.hbm, 373, rfl⟩
abbrev main_cst_46 : Ref sig .tc := ⟨.hbm, 374, rfl⟩
abbrev main_call13_v0 : Ref sig .tc := ⟨.hbm, 375, rfl⟩
abbrev main_call13_v1 : Ref sig .tc := ⟨.hbm, 376, rfl⟩
abbrev main_call13_v2 : Ref sig .tc := ⟨.hbm, 377, rfl⟩
abbrev main_call13_v3 : Ref sig .tc := ⟨.hbm, 378, rfl⟩
abbrev main_call13_v4 : Ref sig .tc := ⟨.hbm, 379, rfl⟩
abbrev main_v165 : Ref sig .tc := ⟨.hbm, 380, rfl⟩
abbrev main_v166 : Ref sig .tc := ⟨.hbm, 381, rfl⟩
abbrev main_v167 : Ref sig .tc := ⟨.hbm, 382, rfl⟩
abbrev main_v168 : Ref sig .tc := ⟨.hbm, 383, rfl⟩
abbrev main_cst_47 : Ref sig .tc := ⟨.hbm, 384, rfl⟩
abbrev main_cst_48 : Ref sig .tc := ⟨.hbm, 385, rfl⟩
abbrev main_call14_v0 : Ref sig .tc := ⟨.hbm, 386, rfl⟩
abbrev main_call14_v1 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_v169 : Ref sig .tc := ⟨.hbm, 391, rfl⟩
abbrev main_v170 : Ref sig .tc := ⟨.hbm, 392, rfl⟩
abbrev main_v171 : Ref sig .tc := ⟨.hbm, 393, rfl⟩
abbrev main_v172 : Ref sig .tc := ⟨.hbm, 394, rfl⟩
abbrev main_cst_49 : Ref sig .tc := ⟨.hbm, 395, rfl⟩
abbrev main_cst_50 : Ref sig .tc := ⟨.hbm, 396, rfl⟩
abbrev main_call15_v0 : Ref sig .tc := ⟨.hbm, 397, rfl⟩
abbrev main_call15_v1 : Ref sig .tc := ⟨.hbm, 398, rfl⟩
abbrev main_call15_v2 : Ref sig .tc := ⟨.hbm, 399, rfl⟩
abbrev main_call15_v3 : Ref sig .tc := ⟨.hbm, 400, rfl⟩
abbrev main_call15_v4 : Ref sig .tc := ⟨.hbm, 401, rfl⟩
abbrev main_v173 : Ref sig .tc := ⟨.hbm, 402, rfl⟩
abbrev main_v174 : Ref sig .tc := ⟨.hbm, 403, rfl⟩
abbrev main_v175 : Ref sig .tc := ⟨.hbm, 404, rfl⟩
abbrev main_v176 : Ref sig .tc := ⟨.hbm, 405, rfl⟩
abbrev main_v177 : Ref sig .tc := ⟨.hbm, 406, rfl⟩
abbrev main_v178 : Ref sig .tc := ⟨.hbm, 407, rfl⟩
abbrev main_cst_51 : Ref sig .tc := ⟨.hbm, 408, rfl⟩
abbrev main_v179 : Ref sig .tc := ⟨.hbm, 409, rfl⟩
abbrev main_v180 : Ref sig .tc := ⟨.hbm, 410, rfl⟩
abbrev main_v181 : Ref sig .tc := ⟨.hbm, 411, rfl⟩
abbrev main_v182 : Ref sig .tc := ⟨.hbm, 412, rfl⟩
abbrev main_cst_52 : Ref sig .tc := ⟨.hbm, 413, rfl⟩
abbrev main_v183 : Ref sig .tc := ⟨.hbm, 414, rfl⟩
abbrev main_v184 : Ref sig .tc := ⟨.hbm, 415, rfl⟩
abbrev main_cst_53 : Ref sig .tc := ⟨.hbm, 416, rfl⟩
abbrev main_v185 : Ref sig .tc := ⟨.hbm, 417, rfl⟩
abbrev main_v186 : Ref sig .tc := ⟨.hbm, 418, rfl⟩
abbrev main_v187 : Ref sig .tc := ⟨.hbm, 419, rfl⟩
abbrev main_cst_54 : Ref sig .tc := ⟨.hbm, 420, rfl⟩
abbrev main_v188 : Ref sig .tc := ⟨.hbm, 421, rfl⟩
abbrev main_v189 : Ref sig .tc := ⟨.hbm, 422, rfl⟩
abbrev main_cst_55 : Ref sig .tc := ⟨.hbm, 423, rfl⟩
abbrev main_v190 : Ref sig .tc := ⟨.hbm, 424, rfl⟩
abbrev main_v191 : Ref sig .tc := ⟨.hbm, 425, rfl⟩
abbrev main_v192 : Ref sig .tc := ⟨.hbm, 426, rfl⟩
abbrev main_v193 : Ref sig .tc := ⟨.hbm, 427, rfl⟩
abbrev main_v194 : Ref sig .tc := ⟨.hbm, 428, rfl⟩
abbrev main_v195 : Ref sig .tc := ⟨.hbm, 429, rfl⟩
abbrev main_v196 : Ref sig .tc := ⟨.hbm, 430, rfl⟩
abbrev main_v197 : Ref sig .tc := ⟨.hbm, 431, rfl⟩
abbrev main_v198 : Ref sig .tc := ⟨.hbm, 432, rfl⟩
abbrev main_v199 : Ref sig .tc := ⟨.hbm, 433, rfl⟩
abbrev main_v200 : Ref sig .tc := ⟨.hbm, 434, rfl⟩
abbrev main_v201 : Ref sig .tc := ⟨.hbm, 435, rfl⟩
abbrev main_v202 : Ref sig .tc := ⟨.hbm, 436, rfl⟩
abbrev main_v203 : Ref sig .tc := ⟨.hbm, 437, rfl⟩
abbrev main_v204 : Ref sig .tc := ⟨.hbm, 438, rfl⟩
abbrev main_v205 : Ref sig .tc := ⟨.hbm, 439, rfl⟩
abbrev main_v206 : Ref sig .tc := ⟨.hbm, 440, rfl⟩
abbrev main_v207 : Ref sig .tc := ⟨.hbm, 441, rfl⟩
abbrev main_cst_56 : Ref sig .tc := ⟨.hbm, 442, rfl⟩
abbrev main_v208 : Ref sig .tc := ⟨.hbm, 443, rfl⟩
abbrev main_v209 : Ref sig .tc := ⟨.hbm, 444, rfl⟩
abbrev main_cst_57 : Ref sig .tc := ⟨.hbm, 445, rfl⟩
abbrev main_v210 : Ref sig .tc := ⟨.hbm, 446, rfl⟩
abbrev main_v211 : Ref sig .tc := ⟨.hbm, 447, rfl⟩
abbrev main_v212 : Ref sig .tc := ⟨.hbm, 448, rfl⟩
abbrev main_v213 : Ref sig .tc := ⟨.hbm, 449, rfl⟩
abbrev main_cst_58 : Ref sig .tc := ⟨.hbm, 450, rfl⟩
abbrev main_v214 : Ref sig .tc := ⟨.hbm, 451, rfl⟩
abbrev main_v215 : Ref sig .tc := ⟨.hbm, 452, rfl⟩
abbrev main_cst_59 : Ref sig .tc := ⟨.hbm, 453, rfl⟩
abbrev main_v216 : Ref sig .tc := ⟨.hbm, 454, rfl⟩
abbrev main_v217 : Ref sig .tc := ⟨.hbm, 455, rfl⟩
abbrev main_cst_60 : Ref sig .tc := ⟨.hbm, 456, rfl⟩
abbrev main_v218 : Ref sig .tc := ⟨.hbm, 457, rfl⟩
abbrev main_v219 : Ref sig .tc := ⟨.hbm, 458, rfl⟩
abbrev main_v220 : Ref sig .tc := ⟨.hbm, 459, rfl⟩
abbrev main_v221 : Ref sig .tc := ⟨.hbm, 460, rfl⟩
abbrev main_cst_61 : Ref sig .tc := ⟨.hbm, 461, rfl⟩
abbrev main_call16_v0 : Ref sig .tc := ⟨.hbm, 462, rfl⟩
abbrev main_call16_v1 : Ref sig .tc := ⟨.hbm, 463, rfl⟩
abbrev main_v222 : Ref sig .tc := ⟨.hbm, 464, rfl⟩
abbrev main_v223 : Ref sig .tc := ⟨.hbm, 465, rfl⟩
abbrev main_values_62 : Ref sig .tc := ⟨.hbm, 466, rfl⟩
abbrev main_indices_63 : Ref sig .tc := ⟨.hbm, 467, rfl⟩
abbrev main_c_64 : Ref sig .tc := ⟨.hbm, 468, rfl⟩
abbrev main_call17_v0 : Ref sig .tc := ⟨.hbm, 469, rfl⟩
abbrev main_call17_v1 : Ref sig .tc := ⟨.hbm, 470, rfl⟩
abbrev main_call17_v2 : Ref sig .tc := ⟨.hbm, 471, rfl⟩
abbrev main_call17_v3 : Ref sig .tc := ⟨.hbm, 472, rfl⟩
abbrev main_call17_v4 : Ref sig .tc := ⟨.hbm, 473, rfl⟩
abbrev main_call17_v5 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_c : Ref sig .tc := ⟨.hbm, 478, rfl⟩
abbrev main_call17_v9 : Ref sig .tc := ⟨.hbm, 479, rfl⟩
abbrev main_call17_v10 : Ref sig .tc := ⟨.hbm, 480, rfl⟩
abbrev main_call17_v11 : Ref sig .tc := ⟨.hbm, 481, rfl⟩
abbrev main_call17_c_0 : Ref sig .tc := ⟨.hbm, 482, rfl⟩
abbrev main_call17_v12 : Ref sig .tc := ⟨.hbm, 483, rfl⟩
abbrev main_call17_v13 : Ref sig .tc := ⟨.hbm, 484, rfl⟩
abbrev main_v224 : Ref sig .tc := ⟨.hbm, 485, rfl⟩
abbrev main_c_65 : Ref sig .tc := ⟨.hbm, 486, rfl⟩
abbrev main_call18_v0 : Ref sig .tc := ⟨.hbm, 487, rfl⟩
abbrev main_call18_c : Ref sig .tc := ⟨.hbm, 488, rfl⟩
abbrev main_call18_v1 : Ref sig .tc := ⟨.hbm, 489, rfl⟩
abbrev main_call18_c_0 : Ref sig .tc := ⟨.hbm, 490, rfl⟩
abbrev main_call18_v2 : Ref sig .tc := ⟨.hbm, 491, rfl⟩
abbrev main_call18_v3 : Ref sig .tc := ⟨.hbm, 492, rfl⟩
abbrev main_call18_v4 : Ref sig .tc := ⟨.hbm, 493, rfl⟩
abbrev main_call18_c_1 : Ref sig .tc := ⟨.hbm, 494, rfl⟩
abbrev main_call18_v5 : Ref sig .tc := ⟨.hbm, 495, rfl⟩
abbrev main_call18_v6 : Ref sig .tc := ⟨.hbm, 496, rfl⟩
abbrev main_call18_c_2 : Ref sig .tc := ⟨.hbm, 497, rfl⟩
abbrev main_call18_v7 : Ref sig .tc := ⟨.hbm, 498, rfl⟩
abbrev main_call18_v8 : Ref sig .tc := ⟨.hbm, 499, rfl⟩
abbrev main_call18_c_3 : Ref sig .tc := ⟨.hbm, 500, rfl⟩
abbrev main_call18_v9 : Ref sig .tc := ⟨.hbm, 501, rfl⟩
abbrev main_call18_v10 : Ref sig .tc := ⟨.hbm, 502, rfl⟩
abbrev main_call18_v11 : Ref sig .tc := ⟨.hbm, 503, rfl⟩
abbrev main_call18_v12 : Ref sig .tc := ⟨.hbm, 504, rfl⟩
abbrev main_call18_v13 : Ref sig .tc := ⟨.hbm, 505, rfl⟩
abbrev main_call18_v14 : Ref sig .tc := ⟨.hbm, 506, rfl⟩
abbrev main_v225 : Ref sig .tc := ⟨.hbm, 507, rfl⟩
abbrev main_v226 : Ref sig .tc := ⟨.hbm, 508, rfl⟩
abbrev main_cst_66 : Ref sig .tc := ⟨.hbm, 509, rfl⟩
abbrev main_v227 : Ref sig .tc := ⟨.hbm, 510, rfl⟩
abbrev main_v228 : Ref sig .tc := ⟨.hbm, 511, rfl⟩
abbrev main_v229 : Ref sig .tc := ⟨.hbm, 512, rfl⟩
abbrev main_call19_c : Ref sig .tc := ⟨.hbm, 513, rfl⟩
abbrev main_call19_v0 : Ref sig .tc := ⟨.hbm, 514, rfl⟩
abbrev main_call19_v1 : Ref sig .tc := ⟨.hbm, 515, rfl⟩
abbrev main_call19_c_0 : Ref sig .tc := ⟨.hbm, 516, rfl⟩
abbrev main_call19_v2 : Ref sig .tc := ⟨.hbm, 517, rfl⟩
abbrev main_call19_v3 : Ref sig .tc := ⟨.hbm, 518, rfl⟩
abbrev main_call19_v4 : Ref sig .tc := ⟨.hbm, 519, rfl⟩
abbrev main_call19_c_1 : Ref sig .tc := ⟨.hbm, 520, rfl⟩
abbrev main_call19_c_2 : Ref sig .tc := ⟨.hbm, 521, rfl⟩
abbrev main_call19_v5 : Ref sig .tc := ⟨.hbm, 522, rfl⟩
abbrev main_call19_v6 : Ref sig .tc := ⟨.hbm, 523, rfl⟩
abbrev main_call19_v7 : Ref sig .tc := ⟨.hbm, 524, rfl⟩
abbrev main_call19_v8 : Ref sig .tc := ⟨.hbm, 525, rfl⟩
abbrev main_call19_v9 : Ref sig .tc := ⟨.hbm, 526, rfl⟩
abbrev main_call19_v10 : Ref sig .tc := ⟨.hbm, 527, rfl⟩
abbrev main_call19_c_3 : Ref sig .tc := ⟨.hbm, 528, rfl⟩
abbrev main_call19_v11 : Ref sig .tc := ⟨.hbm, 529, rfl⟩
abbrev main_call19_v12 : Ref sig .tc := ⟨.hbm, 530, rfl⟩
abbrev main_call19_v13 : Ref sig .tc := ⟨.hbm, 531, rfl⟩
abbrev main_call19_cst : Ref sig .tc := ⟨.hbm, 532, rfl⟩
abbrev main_call19_v14 : Ref sig .tc := ⟨.hbm, 533, rfl⟩
abbrev main_v230 : Ref sig .tc := ⟨.hbm, 534, rfl⟩
abbrev main_v231 : Ref sig .tc := ⟨.hbm, 535, rfl⟩
abbrev main_v232 : Ref sig .tc := ⟨.hbm, 536, rfl⟩
abbrev main_c_67 : Ref sig .tc := ⟨.hbm, 537, rfl⟩
abbrev main_v233 : Ref sig .tc := ⟨.hbm, 538, rfl⟩
abbrev main_v234 : Ref sig .tc := ⟨.hbm, 539, rfl⟩
abbrev main_c_68 : Ref sig .tc := ⟨.hbm, 540, rfl⟩
abbrev main_v235 : Ref sig .tc := ⟨.hbm, 541, rfl⟩
abbrev main_v236 : Ref sig .tc := ⟨.hbm, 542, rfl⟩
abbrev main_v237 : Ref sig .tc := ⟨.hbm, 543, rfl⟩
abbrev main_v238 : Ref sig .tc := ⟨.hbm, 544, rfl⟩
abbrev main_v239 : Ref sig .tc := ⟨.hbm, 545, rfl⟩
abbrev main_v240 : Ref sig .tc := ⟨.hbm, 546, rfl⟩
abbrev main_v241 : Ref sig .tc := ⟨.hbm, 547, rfl⟩
abbrev main_c_69 : Ref sig .tc := ⟨.hbm, 548, rfl⟩
abbrev main_v242 : Ref sig .tc := ⟨.hbm, 549, rfl⟩
abbrev main_v243 : Ref sig .tc := ⟨.hbm, 550, rfl⟩
abbrev main_c_70 : Ref sig .tc := ⟨.hbm, 551, rfl⟩
abbrev main_v244 : Ref sig .tc := ⟨.hbm, 552, rfl⟩
abbrev main_v245 : Ref sig .tc := ⟨.hbm, 553, rfl⟩
abbrev main_v246 : Ref sig .tc := ⟨.hbm, 554, rfl⟩
abbrev main_v247 : Ref sig .tc := ⟨.hbm, 555, rfl⟩
abbrev main_v248 : Ref sig .tc := ⟨.hbm, 556, rfl⟩
abbrev main_v249 : Ref sig .tc := ⟨.hbm, 557, rfl⟩
abbrev main_v250 : Ref sig .tc := ⟨.hbm, 558, rfl⟩
abbrev main_v251 : Ref sig .tc := ⟨.hbm, 559, rfl⟩
abbrev main_cst_71 : Ref sig .tc := ⟨.hbm, 560, rfl⟩
abbrev main_cst_72 : Ref sig .tc := ⟨.hbm, 561, rfl⟩
abbrev main_call20_v0 : Ref sig .tc := ⟨.hbm, 562, rfl⟩
abbrev main_call20_v1 : Ref sig .tc := ⟨.hbm, 563, rfl⟩
abbrev main_call20_v2 : Ref sig .tc := ⟨.hbm, 564, rfl⟩
abbrev main_call20_v3 : Ref sig .tc := ⟨.hbm, 565, rfl⟩
abbrev main_call20_v4 : Ref sig .tc := ⟨.hbm, 566, rfl⟩
abbrev main_v252 : Ref sig .tc := ⟨.hbm, 567, rfl⟩
abbrev main_v253 : Ref sig .tc := ⟨.hbm, 568, rfl⟩
abbrev main_v254 : Ref sig .tc := ⟨.hbm, 569, rfl⟩
abbrev main_v255 : Ref sig .tc := ⟨.hbm, 570, rfl⟩
abbrev main_cst_73 : Ref sig .tc := ⟨.hbm, 571, rfl⟩
abbrev main_cst_74 : Ref sig .tc := ⟨.hbm, 572, rfl⟩
abbrev main_call21_v0 : Ref sig .tc := ⟨.hbm, 573, rfl⟩
abbrev main_call21_v1 : Ref sig .tc := ⟨.hbm, 574, rfl⟩
abbrev main_call21_v2 : Ref sig .tc := ⟨.hbm, 575, rfl⟩
abbrev main_call21_v3 : Ref sig .tc := ⟨.hbm, 576, rfl⟩
abbrev main_call21_v4 : Ref sig .tc := ⟨.hbm, 577, rfl⟩
abbrev main_v256 : Ref sig .tc := ⟨.hbm, 578, rfl⟩
abbrev main_v257 : Ref sig .tc := ⟨.hbm, 579, rfl⟩
abbrev main_v258 : Ref sig .tc := ⟨.hbm, 580, rfl⟩
abbrev main_v259 : Ref sig .tc := ⟨.hbm, 581, rfl⟩
abbrev main_cst_75 : Ref sig .tc := ⟨.hbm, 582, rfl⟩
abbrev main_cst_76 : Ref sig .tc := ⟨.hbm, 583, rfl⟩
abbrev main_call22_v0 : Ref sig .tc := ⟨.hbm, 584, rfl⟩
abbrev main_call22_v1 : Ref sig .tc := ⟨.hbm, 585, rfl⟩
abbrev main_call22_v2 : Ref sig .tc := ⟨.hbm, 586, rfl⟩
abbrev main_call22_v3 : Ref sig .tc := ⟨.hbm, 587, rfl⟩
abbrev main_call22_v4 : Ref sig .tc := ⟨.hbm, 588, rfl⟩
abbrev main_v260 : Ref sig .tc := ⟨.hbm, 589, rfl⟩
abbrev main_v261 : Ref sig .tc := ⟨.hbm, 590, rfl⟩
abbrev main_v262 : Ref sig .tc := ⟨.hbm, 591, rfl⟩
abbrev main_v263 : Ref sig .tc := ⟨.hbm, 592, rfl⟩
abbrev main_cst_77 : Ref sig .tc := ⟨.hbm, 593, rfl⟩
abbrev main_cst_78 : Ref sig .tc := ⟨.hbm, 594, rfl⟩
abbrev main_call23_v0 : Ref sig .tc := ⟨.hbm, 595, rfl⟩
abbrev main_call23_v1 : Ref sig .tc := ⟨.hbm, 596, rfl⟩
abbrev main_call23_v2 : Ref sig .tc := ⟨.hbm, 597, rfl⟩
abbrev main_call23_v3 : Ref sig .tc := ⟨.hbm, 598, rfl⟩
abbrev main_call23_v4 : Ref sig .tc := ⟨.hbm, 599, rfl⟩
abbrev main_v264 : Ref sig .tc := ⟨.hbm, 600, rfl⟩
abbrev main_v265 : Ref sig .tc := ⟨.hbm, 601, rfl⟩
abbrev main_v266 : Ref sig .tc := ⟨.hbm, 602, rfl⟩
abbrev main_v267 : Ref sig .tc := ⟨.hbm, 603, rfl⟩
abbrev main_v268 : Ref sig .tc := ⟨.hbm, 604, rfl⟩
abbrev main_v269 : Ref sig .tc := ⟨.hbm, 605, rfl⟩
abbrev main_cst_79 : Ref sig .tc := ⟨.hbm, 606, rfl⟩
abbrev main_v270 : Ref sig .tc := ⟨.hbm, 607, rfl⟩
abbrev main_v271 : Ref sig .tc := ⟨.hbm, 608, rfl⟩
abbrev main_v272 : Ref sig .tc := ⟨.hbm, 609, rfl⟩
abbrev main_v273 : Ref sig .tc := ⟨.hbm, 610, rfl⟩
abbrev main_cst_80 : Ref sig .tc := ⟨.hbm, 611, rfl⟩
abbrev main_v274 : Ref sig .tc := ⟨.hbm, 612, rfl⟩
abbrev main_v275 : Ref sig .tc := ⟨.hbm, 613, rfl⟩
abbrev main_cst_81 : Ref sig .tc := ⟨.hbm, 614, rfl⟩
abbrev main_v276 : Ref sig .tc := ⟨.hbm, 615, rfl⟩
abbrev main_v277 : Ref sig .tc := ⟨.hbm, 616, rfl⟩
abbrev main_v278 : Ref sig .tc := ⟨.hbm, 617, rfl⟩
abbrev main_cst_82 : Ref sig .tc := ⟨.hbm, 618, rfl⟩
abbrev main_v279 : Ref sig .tc := ⟨.hbm, 619, rfl⟩
abbrev main_v280 : Ref sig .tc := ⟨.hbm, 620, rfl⟩
abbrev main_cst_83 : Ref sig .tc := ⟨.hbm, 621, rfl⟩
abbrev main_v281 : Ref sig .tc := ⟨.hbm, 622, rfl⟩
abbrev main_v282 : Ref sig .tc := ⟨.hbm, 623, rfl⟩
abbrev main_v283 : Ref sig .tc := ⟨.hbm, 624, rfl⟩
abbrev main_v284 : Ref sig .tc := ⟨.hbm, 625, rfl⟩
abbrev main_v285 : Ref sig .tc := ⟨.hbm, 626, rfl⟩
abbrev main_v286 : Ref sig .tc := ⟨.hbm, 627, rfl⟩
abbrev main_v287 : Ref sig .tc := ⟨.hbm, 628, rfl⟩
abbrev main_v288 : Ref sig .tc := ⟨.hbm, 629, rfl⟩
abbrev main_v289 : Ref sig .tc := ⟨.hbm, 630, rfl⟩
abbrev main_v290 : Ref sig .tc := ⟨.hbm, 631, rfl⟩
abbrev main_v291 : Ref sig .tc := ⟨.hbm, 632, rfl⟩
abbrev main_v292 : Ref sig .tc := ⟨.hbm, 633, rfl⟩
abbrev main_v293 : Ref sig .tc := ⟨.hbm, 634, rfl⟩
abbrev main_v294 : Ref sig .tc := ⟨.hbm, 635, rfl⟩
abbrev main_v295 : Ref sig .tc := ⟨.hbm, 636, rfl⟩
abbrev main_v296 : Ref sig .tc := ⟨.hbm, 637, rfl⟩
abbrev main_v297 : Ref sig .tc := ⟨.hbm, 638, rfl⟩
abbrev main_v298 : Ref sig .tc := ⟨.hbm, 639, rfl⟩
abbrev main_cst_84 : Ref sig .tc := ⟨.hbm, 640, rfl⟩
abbrev main_v299 : Ref sig .tc := ⟨.hbm, 641, rfl⟩
abbrev main_v300 : Ref sig .tc := ⟨.hbm, 642, rfl⟩
abbrev main_cst_85 : Ref sig .tc := ⟨.hbm, 643, rfl⟩
abbrev main_v301 : Ref sig .tc := ⟨.hbm, 644, rfl⟩
abbrev main_v302 : Ref sig .tc := ⟨.hbm, 645, rfl⟩
abbrev main_v303 : Ref sig .tc := ⟨.hbm, 646, rfl⟩
abbrev main_v304 : Ref sig .tc := ⟨.hbm, 647, rfl⟩
abbrev main_cst_86 : Ref sig .tc := ⟨.hbm, 648, rfl⟩
abbrev main_v305 : Ref sig .tc := ⟨.hbm, 649, rfl⟩
abbrev main_v306 : Ref sig .tc := ⟨.hbm, 650, rfl⟩
abbrev main_cst_87 : Ref sig .tc := ⟨.hbm, 651, rfl⟩
abbrev main_v307 : Ref sig .tc := ⟨.hbm, 652, rfl⟩
abbrev main_v308 : Ref sig .tc := ⟨.hbm, 653, rfl⟩
abbrev main_cst_88 : Ref sig .tc := ⟨.hbm, 654, rfl⟩
abbrev main_v309 : Ref sig .tc := ⟨.hbm, 655, rfl⟩
abbrev main_v310 : Ref sig .tc := ⟨.hbm, 656, rfl⟩
abbrev main_v311 : Ref sig .tc := ⟨.hbm, 657, rfl⟩
abbrev main_v312 : Ref sig .tc := ⟨.hbm, 658, rfl⟩
abbrev main_cst_89 : Ref sig .tc := ⟨.hbm, 659, rfl⟩
abbrev main_call24_v0 : Ref sig .tc := ⟨.hbm, 660, rfl⟩
abbrev main_call24_v1 : Ref sig .tc := ⟨.hbm, 661, rfl⟩
abbrev main_v313 : Ref sig .tc := ⟨.hbm, 662, rfl⟩
abbrev main_v314 : Ref sig .tc := ⟨.hbm, 663, rfl⟩
abbrev main_values_90 : Ref sig .tc := ⟨.hbm, 664, rfl⟩
abbrev main_indices_91 : Ref sig .tc := ⟨.hbm, 665, rfl⟩
abbrev main_c_92 : Ref sig .tc := ⟨.hbm, 666, rfl⟩
abbrev main_call25_v0 : Ref sig .tc := ⟨.hbm, 667, rfl⟩
abbrev main_call25_v1 : Ref sig .tc := ⟨.hbm, 668, rfl⟩
abbrev main_call25_v2 : Ref sig .tc := ⟨.hbm, 669, rfl⟩
abbrev main_call25_v3 : Ref sig .tc := ⟨.hbm, 670, rfl⟩
abbrev main_call25_v4 : Ref sig .tc := ⟨.hbm, 671, rfl⟩
abbrev main_call25_v5 : Ref sig .tc := ⟨.hbm, 672, rfl⟩
abbrev main_call25_v6 : Ref sig .tc := ⟨.hbm, 673, rfl⟩
abbrev main_call25_v7 : Ref sig .tc := ⟨.hbm, 674, rfl⟩
abbrev main_call25_v8 : Ref sig .tc := ⟨.hbm, 675, rfl⟩
abbrev main_call25_c : Ref sig .tc := ⟨.hbm, 676, rfl⟩
abbrev main_call25_v9 : Ref sig .tc := ⟨.hbm, 677, rfl⟩
abbrev main_call25_v10 : Ref sig .tc := ⟨.hbm, 678, rfl⟩
abbrev main_call25_v11 : Ref sig .tc := ⟨.hbm, 679, rfl⟩
abbrev main_call25_c_0 : Ref sig .tc := ⟨.hbm, 680, rfl⟩
abbrev main_call25_v12 : Ref sig .tc := ⟨.hbm, 681, rfl⟩
abbrev main_call25_v13 : Ref sig .tc := ⟨.hbm, 682, rfl⟩
abbrev main_v315 : Ref sig .tc := ⟨.hbm, 683, rfl⟩
abbrev main_c_93 : Ref sig .tc := ⟨.hbm, 684, rfl⟩
abbrev main_call26_v0 : Ref sig .tc := ⟨.hbm, 685, rfl⟩
abbrev main_call26_c : Ref sig .tc := ⟨.hbm, 686, rfl⟩
abbrev main_call26_v1 : Ref sig .tc := ⟨.hbm, 687, rfl⟩
abbrev main_call26_c_0 : Ref sig .tc := ⟨.hbm, 688, rfl⟩
abbrev main_call26_v2 : Ref sig .tc := ⟨.hbm, 689, rfl⟩
abbrev main_call26_v3 : Ref sig .tc := ⟨.hbm, 690, rfl⟩
abbrev main_call26_v4 : Ref sig .tc := ⟨.hbm, 691, rfl⟩
abbrev main_call26_c_1 : Ref sig .tc := ⟨.hbm, 692, rfl⟩
abbrev main_call26_v5 : Ref sig .tc := ⟨.hbm, 693, rfl⟩
abbrev main_call26_v6 : Ref sig .tc := ⟨.hbm, 694, rfl⟩
abbrev main_call26_c_2 : Ref sig .tc := ⟨.hbm, 695, rfl⟩
abbrev main_call26_v7 : Ref sig .tc := ⟨.hbm, 696, rfl⟩
abbrev main_call26_v8 : Ref sig .tc := ⟨.hbm, 697, rfl⟩
abbrev main_call26_c_3 : Ref sig .tc := ⟨.hbm, 698, rfl⟩
abbrev main_call26_v9 : Ref sig .tc := ⟨.hbm, 699, rfl⟩
abbrev main_call26_v10 : Ref sig .tc := ⟨.hbm, 700, rfl⟩
abbrev main_call26_v11 : Ref sig .tc := ⟨.hbm, 701, rfl⟩
abbrev main_call26_v12 : Ref sig .tc := ⟨.hbm, 702, rfl⟩
abbrev main_call26_v13 : Ref sig .tc := ⟨.hbm, 703, rfl⟩
abbrev main_call26_v14 : Ref sig .tc := ⟨.hbm, 704, rfl⟩
abbrev main_v316 : Ref sig .tc := ⟨.hbm, 705, rfl⟩
abbrev main_v317 : Ref sig .tc := ⟨.hbm, 706, rfl⟩
abbrev main_cst_94 : Ref sig .tc := ⟨.hbm, 707, rfl⟩
abbrev main_v318 : Ref sig .tc := ⟨.hbm, 708, rfl⟩
abbrev main_v319 : Ref sig .tc := ⟨.hbm, 709, rfl⟩
abbrev main_v320 : Ref sig .tc := ⟨.hbm, 710, rfl⟩
abbrev main_call27_c : Ref sig .tc := ⟨.hbm, 711, rfl⟩
abbrev main_call27_v0 : Ref sig .tc := ⟨.hbm, 712, rfl⟩
abbrev main_call27_v1 : Ref sig .tc := ⟨.hbm, 713, rfl⟩
abbrev main_call27_c_0 : Ref sig .tc := ⟨.hbm, 714, rfl⟩
abbrev main_call27_v2 : Ref sig .tc := ⟨.hbm, 715, rfl⟩
abbrev main_call27_v3 : Ref sig .tc := ⟨.hbm, 716, rfl⟩
abbrev main_call27_v4 : Ref sig .tc := ⟨.hbm, 717, rfl⟩
abbrev main_call27_c_1 : Ref sig .tc := ⟨.hbm, 718, rfl⟩
abbrev main_call27_c_2 : Ref sig .tc := ⟨.hbm, 719, rfl⟩
abbrev main_call27_v5 : Ref sig .tc := ⟨.hbm, 720, rfl⟩
abbrev main_call27_v6 : Ref sig .tc := ⟨.hbm, 721, rfl⟩
abbrev main_call27_v7 : Ref sig .tc := ⟨.hbm, 722, rfl⟩
abbrev main_call27_v8 : Ref sig .tc := ⟨.hbm, 723, rfl⟩
abbrev main_call27_v9 : Ref sig .tc := ⟨.hbm, 724, rfl⟩
abbrev main_call27_v10 : Ref sig .tc := ⟨.hbm, 725, rfl⟩
abbrev main_call27_c_3 : Ref sig .tc := ⟨.hbm, 726, rfl⟩
abbrev main_call27_v11 : Ref sig .tc := ⟨.hbm, 727, rfl⟩
abbrev main_call27_v12 : Ref sig .tc := ⟨.hbm, 728, rfl⟩
abbrev main_call27_v13 : Ref sig .tc := ⟨.hbm, 729, rfl⟩
abbrev main_call27_cst : Ref sig .tc := ⟨.hbm, 730, rfl⟩
abbrev main_call27_v14 : Ref sig .tc := ⟨.hbm, 731, rfl⟩
abbrev main_v321 : Ref sig .tc := ⟨.hbm, 732, rfl⟩
abbrev main_v322 : Ref sig .tc := ⟨.hbm, 733, rfl⟩
abbrev main_v323 : Ref sig .tc := ⟨.hbm, 734, rfl⟩
abbrev main_c_95 : Ref sig .tc := ⟨.hbm, 735, rfl⟩
abbrev main_v324 : Ref sig .tc := ⟨.hbm, 736, rfl⟩
abbrev main_v325 : Ref sig .tc := ⟨.hbm, 737, rfl⟩
abbrev main_c_96 : Ref sig .tc := ⟨.hbm, 738, rfl⟩
abbrev main_v326 : Ref sig .tc := ⟨.hbm, 739, rfl⟩
abbrev main_v327 : Ref sig .tc := ⟨.hbm, 740, rfl⟩
abbrev main_v328 : Ref sig .tc := ⟨.hbm, 741, rfl⟩
abbrev main_v329 : Ref sig .tc := ⟨.hbm, 742, rfl⟩
abbrev main_v330 : Ref sig .tc := ⟨.hbm, 743, rfl⟩
abbrev main_v331 : Ref sig .tc := ⟨.hbm, 744, rfl⟩
abbrev main_v332 : Ref sig .tc := ⟨.hbm, 745, rfl⟩
abbrev main_c_97 : Ref sig .tc := ⟨.hbm, 746, rfl⟩
abbrev main_v333 : Ref sig .tc := ⟨.hbm, 747, rfl⟩
abbrev main_v334 : Ref sig .tc := ⟨.hbm, 748, rfl⟩
abbrev main_c_98 : Ref sig .tc := ⟨.hbm, 749, rfl⟩
abbrev main_v335 : Ref sig .tc := ⟨.hbm, 750, rfl⟩
abbrev main_v336 : Ref sig .tc := ⟨.hbm, 751, rfl⟩
abbrev main_v337 : Ref sig .tc := ⟨.hbm, 752, rfl⟩
abbrev main_v338 : Ref sig .tc := ⟨.hbm, 753, rfl⟩
abbrev main_v339 : Ref sig .tc := ⟨.hbm, 754, rfl⟩
abbrev main_v340 : Ref sig .tc := ⟨.hbm, 755, rfl⟩
abbrev main_v341 : Ref sig .tc := ⟨.hbm, 756, rfl⟩
abbrev main_v342 : Ref sig .tc := ⟨.hbm, 757, rfl⟩
abbrev main_cst_99 : Ref sig .tc := ⟨.hbm, 758, rfl⟩
abbrev main_cst_100 : Ref sig .tc := ⟨.hbm, 759, rfl⟩
abbrev main_call28_v0 : Ref sig .tc := ⟨.hbm, 760, rfl⟩
abbrev main_call28_v1 : Ref sig .tc := ⟨.hbm, 761, rfl⟩
abbrev main_call28_v2 : Ref sig .tc := ⟨.hbm, 762, rfl⟩
abbrev main_call28_v3 : Ref sig .tc := ⟨.hbm, 763, rfl⟩
abbrev main_call28_v4 : Ref sig .tc := ⟨.hbm, 764, rfl⟩
abbrev main_v343 : Ref sig .tc := ⟨.hbm, 765, rfl⟩
abbrev main_v344 : Ref sig .tc := ⟨.hbm, 766, rfl⟩
abbrev main_v345 : Ref sig .tc := ⟨.hbm, 767, rfl⟩
abbrev main_v346 : Ref sig .tc := ⟨.hbm, 768, rfl⟩
abbrev main_cst_101 : Ref sig .tc := ⟨.hbm, 769, rfl⟩
abbrev main_cst_102 : Ref sig .tc := ⟨.hbm, 770, rfl⟩
abbrev main_call29_v0 : Ref sig .tc := ⟨.hbm, 771, rfl⟩
abbrev main_call29_v1 : Ref sig .tc := ⟨.hbm, 772, rfl⟩
abbrev main_call29_v2 : Ref sig .tc := ⟨.hbm, 773, rfl⟩
abbrev main_call29_v3 : Ref sig .tc := ⟨.hbm, 774, rfl⟩
abbrev main_call29_v4 : Ref sig .tc := ⟨.hbm, 775, rfl⟩
abbrev main_v347 : Ref sig .tc := ⟨.hbm, 776, rfl⟩
abbrev main_v348 : Ref sig .tc := ⟨.hbm, 777, rfl⟩
abbrev main_v349 : Ref sig .tc := ⟨.hbm, 778, rfl⟩
abbrev main_v350 : Ref sig .tc := ⟨.hbm, 779, rfl⟩
abbrev main_cst_103 : Ref sig .tc := ⟨.hbm, 780, rfl⟩
abbrev main_cst_104 : Ref sig .tc := ⟨.hbm, 781, rfl⟩
abbrev main_call30_v0 : Ref sig .tc := ⟨.hbm, 782, rfl⟩
abbrev main_call30_v1 : Ref sig .tc := ⟨.hbm, 783, rfl⟩
abbrev main_call30_v2 : Ref sig .tc := ⟨.hbm, 784, rfl⟩
abbrev main_call30_v3 : Ref sig .tc := ⟨.hbm, 785, rfl⟩
abbrev main_call30_v4 : Ref sig .tc := ⟨.hbm, 786, rfl⟩
abbrev main_v351 : Ref sig .tc := ⟨.hbm, 787, rfl⟩
abbrev main_v352 : Ref sig .tc := ⟨.hbm, 788, rfl⟩
abbrev main_v353 : Ref sig .tc := ⟨.hbm, 789, rfl⟩
abbrev main_v354 : Ref sig .tc := ⟨.hbm, 790, rfl⟩
abbrev main_cst_105 : Ref sig .tc := ⟨.hbm, 791, rfl⟩
abbrev main_cst_106 : Ref sig .tc := ⟨.hbm, 792, rfl⟩
abbrev main_call31_v0 : Ref sig .tc := ⟨.hbm, 793, rfl⟩
abbrev main_call31_v1 : Ref sig .tc := ⟨.hbm, 794, rfl⟩
abbrev main_call31_v2 : Ref sig .tc := ⟨.hbm, 795, rfl⟩
abbrev main_call31_v3 : Ref sig .tc := ⟨.hbm, 796, rfl⟩
abbrev main_call31_v4 : Ref sig .tc := ⟨.hbm, 797, rfl⟩
abbrev main_v355 : Ref sig .tc := ⟨.hbm, 798, rfl⟩
abbrev main_v356 : Ref sig .tc := ⟨.hbm, 799, rfl⟩
abbrev main_v357 : Ref sig .tc := ⟨.hbm, 800, rfl⟩
abbrev main_v358 : Ref sig .tc := ⟨.hbm, 801, rfl⟩
abbrev main_v359 : Ref sig .tc := ⟨.hbm, 802, rfl⟩
abbrev main_v360 : Ref sig .tc := ⟨.hbm, 803, rfl⟩
abbrev main_cst_107 : Ref sig .tc := ⟨.hbm, 804, rfl⟩
abbrev main_v361 : Ref sig .tc := ⟨.hbm, 805, rfl⟩
abbrev main_v362 : Ref sig .tc := ⟨.hbm, 806, rfl⟩
abbrev main_v363 : Ref sig .tc := ⟨.hbm, 807, rfl⟩
abbrev main_v364 : Ref sig .tc := ⟨.hbm, 808, rfl⟩
abbrev main_cst_108 : Ref sig .tc := ⟨.hbm, 809, rfl⟩
abbrev main_v365 : Ref sig .tc := ⟨.hbm, 810, rfl⟩
abbrev main_v366 : Ref sig .tc := ⟨.hbm, 811, rfl⟩
abbrev main_cst_109 : Ref sig .tc := ⟨.hbm, 812, rfl⟩
abbrev main_v367 : Ref sig .tc := ⟨.hbm, 813, rfl⟩
abbrev main_v368 : Ref sig .tc := ⟨.hbm, 814, rfl⟩
abbrev main_v369 : Ref sig .tc := ⟨.hbm, 815, rfl⟩
abbrev main_cst_110 : Ref sig .tc := ⟨.hbm, 816, rfl⟩
abbrev main_v370 : Ref sig .tc := ⟨.hbm, 817, rfl⟩
abbrev main_v371 : Ref sig .tc := ⟨.hbm, 818, rfl⟩
abbrev main_cst_111 : Ref sig .tc := ⟨.hbm, 819, rfl⟩
abbrev main_v372 : Ref sig .tc := ⟨.hbm, 820, rfl⟩
abbrev main_v373 : Ref sig .tc := ⟨.hbm, 821, rfl⟩
abbrev main_v374 : Ref sig .tc := ⟨.hbm, 822, rfl⟩
abbrev main_v375 : Ref sig .tc := ⟨.hbm, 823, rfl⟩
abbrev main_v376 : Ref sig .tc := ⟨.hbm, 824, rfl⟩
abbrev main_v377 : Ref sig .tc := ⟨.hbm, 825, rfl⟩
abbrev main_v378 : Ref sig .tc := ⟨.hbm, 826, rfl⟩
abbrev main_v379 : Ref sig .tc := ⟨.hbm, 827, rfl⟩
abbrev main_v380 : Ref sig .tc := ⟨.hbm, 828, rfl⟩
abbrev main_v381 : Ref sig .tc := ⟨.hbm, 829, rfl⟩
abbrev main_v382 : Ref sig .tc := ⟨.hbm, 830, rfl⟩
abbrev main_v383 : Ref sig .tc := ⟨.hbm, 831, rfl⟩
abbrev main_v384 : Ref sig .tc := ⟨.hbm, 832, rfl⟩
abbrev main_v385 : Ref sig .tc := ⟨.hbm, 833, rfl⟩
abbrev main_v386 : Ref sig .tc := ⟨.hbm, 834, rfl⟩
abbrev main_v387 : Ref sig .tc := ⟨.hbm, 835, rfl⟩
abbrev main_v388 : Ref sig .tc := ⟨.hbm, 836, rfl⟩
abbrev main_v389 : Ref sig .tc := ⟨.hbm, 837, rfl⟩
abbrev main_cst_112 : Ref sig .tc := ⟨.hbm, 838, rfl⟩
abbrev main_v390 : Ref sig .tc := ⟨.hbm, 839, rfl⟩
abbrev main_v391 : Ref sig .tc := ⟨.hbm, 840, rfl⟩
abbrev main_cst_113 : Ref sig .tc := ⟨.hbm, 841, rfl⟩
abbrev main_v392 : Ref sig .tc := ⟨.hbm, 842, rfl⟩
abbrev main_v393 : Ref sig .tc := ⟨.hbm, 843, rfl⟩
abbrev main_v394 : Ref sig .tc := ⟨.hbm, 844, rfl⟩
abbrev main_v395 : Ref sig .tc := ⟨.hbm, 845, rfl⟩
abbrev main_cst_114 : Ref sig .tc := ⟨.hbm, 846, rfl⟩
abbrev main_v396 : Ref sig .tc := ⟨.hbm, 847, rfl⟩
abbrev main_v397 : Ref sig .tc := ⟨.hbm, 848, rfl⟩
abbrev main_cst_115 : Ref sig .tc := ⟨.hbm, 849, rfl⟩
abbrev main_v398 : Ref sig .tc := ⟨.hbm, 850, rfl⟩
abbrev main_v399 : Ref sig .tc := ⟨.hbm, 851, rfl⟩
abbrev main_cst_116 : Ref sig .tc := ⟨.hbm, 852, rfl⟩
abbrev main_v400 : Ref sig .tc := ⟨.hbm, 853, rfl⟩
abbrev main_v401 : Ref sig .tc := ⟨.hbm, 854, rfl⟩
abbrev main_v402 : Ref sig .tc := ⟨.hbm, 855, rfl⟩
abbrev main_v403 : Ref sig .tc := ⟨.hbm, 856, rfl⟩
abbrev main_cst_117 : Ref sig .tc := ⟨.hbm, 857, rfl⟩
abbrev main_call32_v0 : Ref sig .tc := ⟨.hbm, 858, rfl⟩
abbrev main_call32_v1 : Ref sig .tc := ⟨.hbm, 859, rfl⟩
abbrev main_v404 : Ref sig .tc := ⟨.hbm, 860, rfl⟩
abbrev main_v405 : Ref sig .tc := ⟨.hbm, 861, rfl⟩
abbrev main_values_118 : Ref sig .tc := ⟨.hbm, 862, rfl⟩
abbrev main_indices_119 : Ref sig .tc := ⟨.hbm, 863, rfl⟩
abbrev main_c_120 : Ref sig .tc := ⟨.hbm, 864, rfl⟩
abbrev main_call33_v0 : Ref sig .tc := ⟨.hbm, 865, rfl⟩
abbrev main_call33_v1 : Ref sig .tc := ⟨.hbm, 866, rfl⟩
abbrev main_call33_v2 : Ref sig .tc := ⟨.hbm, 867, rfl⟩
abbrev main_call33_v3 : Ref sig .tc := ⟨.hbm, 868, rfl⟩
abbrev main_call33_v4 : Ref sig .tc := ⟨.hbm, 869, rfl⟩
abbrev main_call33_v5 : Ref sig .tc := ⟨.hbm, 870, rfl⟩
abbrev main_call33_v6 : Ref sig .tc := ⟨.hbm, 871, rfl⟩
abbrev main_call33_v7 : Ref sig .tc := ⟨.hbm, 872, rfl⟩
abbrev main_call33_v8 : Ref sig .tc := ⟨.hbm, 873, rfl⟩
abbrev main_call33_c : Ref sig .tc := ⟨.hbm, 874, rfl⟩
abbrev main_call33_v9 : Ref sig .tc := ⟨.hbm, 875, rfl⟩
abbrev main_call33_v10 : Ref sig .tc := ⟨.hbm, 876, rfl⟩
abbrev main_call33_v11 : Ref sig .tc := ⟨.hbm, 877, rfl⟩
abbrev main_call33_c_0 : Ref sig .tc := ⟨.hbm, 878, rfl⟩
abbrev main_call33_v12 : Ref sig .tc := ⟨.hbm, 879, rfl⟩
abbrev main_call33_v13 : Ref sig .tc := ⟨.hbm, 880, rfl⟩
abbrev main_v406 : Ref sig .tc := ⟨.hbm, 881, rfl⟩
abbrev main_c_121 : Ref sig .tc := ⟨.hbm, 882, rfl⟩
abbrev main_call34_v0 : Ref sig .tc := ⟨.hbm, 883, rfl⟩
abbrev main_call34_c : Ref sig .tc := ⟨.hbm, 884, rfl⟩
abbrev main_call34_v1 : Ref sig .tc := ⟨.hbm, 885, rfl⟩
abbrev main_call34_c_0 : Ref sig .tc := ⟨.hbm, 886, rfl⟩
abbrev main_call34_v2 : Ref sig .tc := ⟨.hbm, 887, rfl⟩
abbrev main_call34_v3 : Ref sig .tc := ⟨.hbm, 888, rfl⟩
abbrev main_call34_v4 : Ref sig .tc := ⟨.hbm, 889, rfl⟩
abbrev main_call34_c_1 : Ref sig .tc := ⟨.hbm, 890, rfl⟩
abbrev main_call34_v5 : Ref sig .tc := ⟨.hbm, 891, rfl⟩
abbrev main_call34_v6 : Ref sig .tc := ⟨.hbm, 892, rfl⟩
abbrev main_call34_c_2 : Ref sig .tc := ⟨.hbm, 893, rfl⟩
abbrev main_call34_v7 : Ref sig .tc := ⟨.hbm, 894, rfl⟩
abbrev main_call34_v8 : Ref sig .tc := ⟨.hbm, 895, rfl⟩
abbrev main_call34_c_3 : Ref sig .tc := ⟨.hbm, 896, rfl⟩
abbrev main_call34_v9 : Ref sig .tc := ⟨.hbm, 897, rfl⟩
abbrev main_call34_v10 : Ref sig .tc := ⟨.hbm, 898, rfl⟩
abbrev main_call34_v11 : Ref sig .tc := ⟨.hbm, 899, rfl⟩
abbrev main_call34_v12 : Ref sig .tc := ⟨.hbm, 900, rfl⟩
abbrev main_call34_v13 : Ref sig .tc := ⟨.hbm, 901, rfl⟩
abbrev main_call34_v14 : Ref sig .tc := ⟨.hbm, 902, rfl⟩
abbrev main_v407 : Ref sig .tc := ⟨.hbm, 903, rfl⟩
abbrev main_v408 : Ref sig .tc := ⟨.hbm, 904, rfl⟩
abbrev main_cst_122 : Ref sig .tc := ⟨.hbm, 905, rfl⟩
abbrev main_v409 : Ref sig .tc := ⟨.hbm, 906, rfl⟩
abbrev main_v410 : Ref sig .tc := ⟨.hbm, 907, rfl⟩
abbrev main_v411 : Ref sig .tc := ⟨.hbm, 908, rfl⟩
abbrev main_call35_c : Ref sig .tc := ⟨.hbm, 909, rfl⟩
abbrev main_call35_v0 : Ref sig .tc := ⟨.hbm, 910, rfl⟩
abbrev main_call35_v1 : Ref sig .tc := ⟨.hbm, 911, rfl⟩
abbrev main_call35_c_0 : Ref sig .tc := ⟨.hbm, 912, rfl⟩
abbrev main_call35_v2 : Ref sig .tc := ⟨.hbm, 913, rfl⟩
abbrev main_call35_v3 : Ref sig .tc := ⟨.hbm, 914, rfl⟩
abbrev main_call35_v4 : Ref sig .tc := ⟨.hbm, 915, rfl⟩
abbrev main_call35_c_1 : Ref sig .tc := ⟨.hbm, 916, rfl⟩
abbrev main_call35_c_2 : Ref sig .tc := ⟨.hbm, 917, rfl⟩
abbrev main_call35_v5 : Ref sig .tc := ⟨.hbm, 918, rfl⟩
abbrev main_call35_v6 : Ref sig .tc := ⟨.hbm, 919, rfl⟩
abbrev main_call35_v7 : Ref sig .tc := ⟨.hbm, 920, rfl⟩
abbrev main_call35_v8 : Ref sig .tc := ⟨.hbm, 921, rfl⟩
abbrev main_call35_v9 : Ref sig .tc := ⟨.hbm, 922, rfl⟩
abbrev main_call35_v10 : Ref sig .tc := ⟨.hbm, 923, rfl⟩
abbrev main_call35_c_3 : Ref sig .tc := ⟨.hbm, 924, rfl⟩
abbrev main_call35_v11 : Ref sig .tc := ⟨.hbm, 925, rfl⟩
abbrev main_call35_v12 : Ref sig .tc := ⟨.hbm, 926, rfl⟩
abbrev main_call35_v13 : Ref sig .tc := ⟨.hbm, 927, rfl⟩
abbrev main_call35_cst : Ref sig .tc := ⟨.hbm, 928, rfl⟩
abbrev main_call35_v14 : Ref sig .tc := ⟨.hbm, 929, rfl⟩
abbrev main_v412 : Ref sig .tc := ⟨.hbm, 930, rfl⟩
abbrev main_v413 : Ref sig .tc := ⟨.hbm, 931, rfl⟩
abbrev main_v414 : Ref sig .tc := ⟨.hbm, 932, rfl⟩
abbrev main_c_123 : Ref sig .tc := ⟨.hbm, 933, rfl⟩
abbrev main_v415 : Ref sig .tc := ⟨.hbm, 934, rfl⟩
abbrev main_v416 : Ref sig .tc := ⟨.hbm, 935, rfl⟩
abbrev main_c_124 : Ref sig .tc := ⟨.hbm, 936, rfl⟩
abbrev main_v417 : Ref sig .tc := ⟨.hbm, 937, rfl⟩
abbrev main_v418 : Ref sig .tc := ⟨.hbm, 938, rfl⟩
abbrev main_v419 : Ref sig .tc := ⟨.hbm, 939, rfl⟩
abbrev main_v420 : Ref sig .tc := ⟨.hbm, 940, rfl⟩
abbrev main_v421 : Ref sig .tc := ⟨.hbm, 941, rfl⟩
abbrev main_v422 : Ref sig .tc := ⟨.hbm, 942, rfl⟩
abbrev main_v423 : Ref sig .tc := ⟨.hbm, 943, rfl⟩
abbrev main_c_125 : Ref sig .tc := ⟨.hbm, 944, rfl⟩
abbrev main_v424 : Ref sig .tc := ⟨.hbm, 945, rfl⟩
abbrev main_v425 : Ref sig .tc := ⟨.hbm, 946, rfl⟩
abbrev main_c_126 : Ref sig .tc := ⟨.hbm, 947, rfl⟩
abbrev main_v426 : Ref sig .tc := ⟨.hbm, 948, rfl⟩
abbrev main_v427 : Ref sig .tc := ⟨.hbm, 949, rfl⟩
abbrev main_v428 : Ref sig .tc := ⟨.hbm, 950, rfl⟩
abbrev main_v429 : Ref sig .tc := ⟨.hbm, 951, rfl⟩
abbrev main_v430 : Ref sig .tc := ⟨.hbm, 952, rfl⟩
abbrev main_v431 : Ref sig .tc := ⟨.hbm, 953, rfl⟩
abbrev main_v432 : Ref sig .tc := ⟨.hbm, 954, rfl⟩
abbrev main_v433 : Ref sig .tc := ⟨.hbm, 955, rfl⟩
abbrev main_cst_127 : Ref sig .tc := ⟨.hbm, 956, rfl⟩
abbrev main_cst_128 : Ref sig .tc := ⟨.hbm, 957, rfl⟩
abbrev main_call36_v0 : Ref sig .tc := ⟨.hbm, 958, rfl⟩
abbrev main_call36_v1 : Ref sig .tc := ⟨.hbm, 959, rfl⟩
abbrev main_call36_v2 : Ref sig .tc := ⟨.hbm, 960, rfl⟩
abbrev main_call36_v3 : Ref sig .tc := ⟨.hbm, 961, rfl⟩
abbrev main_call36_v4 : Ref sig .tc := ⟨.hbm, 962, rfl⟩
abbrev main_v434 : Ref sig .tc := ⟨.hbm, 963, rfl⟩
abbrev main_v435 : Ref sig .tc := ⟨.hbm, 964, rfl⟩
abbrev main_v436 : Ref sig .tc := ⟨.hbm, 965, rfl⟩
abbrev main_v437 : Ref sig .tc := ⟨.hbm, 966, rfl⟩
abbrev main_cst_129 : Ref sig .tc := ⟨.hbm, 967, rfl⟩
abbrev main_cst_130 : Ref sig .tc := ⟨.hbm, 968, rfl⟩
abbrev main_call37_v0 : Ref sig .tc := ⟨.hbm, 969, rfl⟩
abbrev main_call37_v1 : Ref sig .tc := ⟨.hbm, 970, rfl⟩
abbrev main_call37_v2 : Ref sig .tc := ⟨.hbm, 971, rfl⟩
abbrev main_call37_v3 : Ref sig .tc := ⟨.hbm, 972, rfl⟩
abbrev main_call37_v4 : Ref sig .tc := ⟨.hbm, 973, rfl⟩
abbrev main_v438 : Ref sig .tc := ⟨.hbm, 974, rfl⟩
abbrev main_v439 : Ref sig .tc := ⟨.hbm, 975, rfl⟩
abbrev main_v440 : Ref sig .tc := ⟨.hbm, 976, rfl⟩
abbrev main_v441 : Ref sig .tc := ⟨.hbm, 977, rfl⟩
abbrev main_cst_131 : Ref sig .tc := ⟨.hbm, 978, rfl⟩
abbrev main_cst_132 : Ref sig .tc := ⟨.hbm, 979, rfl⟩
abbrev main_call38_v0 : Ref sig .tc := ⟨.hbm, 980, rfl⟩
abbrev main_call38_v1 : Ref sig .tc := ⟨.hbm, 981, rfl⟩
abbrev main_call38_v2 : Ref sig .tc := ⟨.hbm, 982, rfl⟩
abbrev main_call38_v3 : Ref sig .tc := ⟨.hbm, 983, rfl⟩
abbrev main_call38_v4 : Ref sig .tc := ⟨.hbm, 984, rfl⟩
abbrev main_v442 : Ref sig .tc := ⟨.hbm, 985, rfl⟩
abbrev main_v443 : Ref sig .tc := ⟨.hbm, 986, rfl⟩
abbrev main_v444 : Ref sig .tc := ⟨.hbm, 987, rfl⟩
abbrev main_v445 : Ref sig .tc := ⟨.hbm, 988, rfl⟩
abbrev main_cst_133 : Ref sig .tc := ⟨.hbm, 989, rfl⟩
abbrev main_cst_134 : Ref sig .tc := ⟨.hbm, 990, rfl⟩
abbrev main_call39_v0 : Ref sig .tc := ⟨.hbm, 991, rfl⟩
abbrev main_call39_v1 : Ref sig .tc := ⟨.hbm, 992, rfl⟩
abbrev main_call39_v2 : Ref sig .tc := ⟨.hbm, 993, rfl⟩
abbrev main_call39_v3 : Ref sig .tc := ⟨.hbm, 994, rfl⟩
abbrev main_call39_v4 : Ref sig .tc := ⟨.hbm, 995, rfl⟩
abbrev main_v446 : Ref sig .tc := ⟨.hbm, 996, rfl⟩
abbrev main_v447 : Ref sig .tc := ⟨.hbm, 997, rfl⟩
abbrev main_v448 : Ref sig .tc := ⟨.hbm, 998, rfl⟩
abbrev main_v449 : Ref sig .tc := ⟨.hbm, 999, rfl⟩
abbrev main_v450 : Ref sig .tc := ⟨.hbm, 1000, rfl⟩
abbrev main_v451 : Ref sig .tc := ⟨.hbm, 1001, rfl⟩
abbrev main_cst_135 : Ref sig .tc := ⟨.hbm, 1002, rfl⟩
abbrev main_v452 : Ref sig .tc := ⟨.hbm, 1003, rfl⟩
abbrev main_v453 : Ref sig .tc := ⟨.hbm, 1004, rfl⟩
abbrev main_v454 : Ref sig .tc := ⟨.hbm, 1005, rfl⟩
abbrev main_v455 : Ref sig .tc := ⟨.hbm, 1006, rfl⟩
abbrev main_v456 : Ref sig .tc := ⟨.hbm, 1007, rfl⟩
abbrev main_v457 : Ref sig .tc := ⟨.hbm, 1008, rfl⟩
abbrev main_v458 : Ref sig .tc := ⟨.hbm, 1009, rfl⟩
abbrev main_v459 : Ref sig .tc := ⟨.hbm, 1010, rfl⟩
abbrev main_cst_136 : Ref sig .tc := ⟨.hbm, 1011, rfl⟩
abbrev main_v460 : Ref sig .tc := ⟨.hbm, 1012, rfl⟩
abbrev main_v461 : Ref sig .tc := ⟨.hbm, 1013, rfl⟩
abbrev main_v462 : Ref sig .tc := ⟨.hbm, 1014, rfl⟩
abbrev main_v463 : Ref sig .tc := ⟨.hbm, 1015, rfl⟩
abbrev main_v464 : Ref sig .tc := ⟨.hbm, 1016, rfl⟩
abbrev main_v465 : Ref sig .tc := ⟨.hbm, 1017, rfl⟩
abbrev main_c_137 : Ref sig .tc := ⟨.hbm, 1018, rfl⟩
abbrev main_v466 : Ref sig .tc := ⟨.hbm, 1019, rfl⟩
abbrev main_c_138 : Ref sig .tc := ⟨.hbm, 1020, rfl⟩
abbrev main_c_139 : Ref sig .tc := ⟨.hbm, 1021, rfl⟩
abbrev main_v467_0 : Ref sig .tc := ⟨.hbm, 1022, rfl⟩
abbrev main_v467_1 : Ref sig .tc := ⟨.hbm, 1023, rfl⟩
abbrev main_v467_2 : Ref sig .tc := ⟨.hbm, 1024, rfl⟩
abbrev main_v467_3 : Ref sig .tc := ⟨.hbm, 1025, rfl⟩
abbrev main_v467_4 : Ref sig .tc := ⟨.hbm, 1026, rfl⟩
abbrev main_v467_5 : Ref sig .tc := ⟨.hbm, 1027, rfl⟩
abbrev main_while0c_c_145 : Ref sig .tc := ⟨.hbm, 1028, rfl⟩
abbrev main_while0c_v472 : Ref sig .tc := ⟨.hbm, 1029, rfl⟩
abbrev main_while0b_c_145 : Ref sig .tc := ⟨.hbm, 1030, rfl⟩
abbrev main_while0b_v472 : Ref sig .tc := ⟨.hbm, 1031, rfl⟩
abbrev main_while0b_values_146 : Ref sig .tc := ⟨.hbm, 1032, rfl⟩
abbrev main_while0b_indices_147 : Ref sig .tc := ⟨.hbm, 1033, rfl⟩
abbrev main_while0b_c_148 : Ref sig .tc := ⟨.hbm, 1034, rfl⟩
abbrev main_while0b_c_149 : Ref sig .tc := ⟨.hbm, 1035, rfl⟩
abbrev main_while0b_v473 : Ref sig .tc := ⟨.hbm, 1036, rfl⟩
abbrev main_while0b_c_150 : Ref sig .tc := ⟨.hbm, 1037, rfl⟩
abbrev main_while0b_c_151 : Ref sig .tc := ⟨.hbm, 1038, rfl⟩
abbrev main_while0b_v474 : Ref sig .tc := ⟨.hbm, 1039, rfl⟩
abbrev main_while0b_c_152 : Ref sig .tc := ⟨.hbm, 1040, rfl⟩
abbrev main_while0b_v475 : Ref sig .tc := ⟨.hbm, 1041, rfl⟩
abbrev main_while0b_c_153 : Ref sig .tc := ⟨.hbm, 1042, rfl⟩
abbrev main_while0b_v476 : Ref sig .tc := ⟨.hbm, 1043, rfl⟩
abbrev main_while0b_v477 : Ref sig .tc := ⟨.hbm, 1044, rfl⟩
abbrev main_while0b_c_154 : Ref sig .tc := ⟨.hbm, 1045, rfl⟩
abbrev main_while0b_v478 : Ref sig .tc := ⟨.hbm, 1046, rfl⟩
abbrev main_while0b_v479 : Ref sig .tc := ⟨.hbm, 1047, rfl⟩
abbrev main_while0b_v480 : Ref sig .tc := ⟨.hbm, 1048, rfl⟩
abbrev main_while0b_v481 : Ref sig .tc := ⟨.hbm, 1049, rfl⟩
abbrev main_while0b_call40_c : Ref sig .tc := ⟨.hbm, 1050, rfl⟩
abbrev main_while0b_call40_v0 : Ref sig .tc := ⟨.hbm, 1051, rfl⟩
abbrev main_while0b_call40_v1 : Ref sig .tc := ⟨.hbm, 1052, rfl⟩
abbrev main_while0b_call40_c_0 : Ref sig .tc := ⟨.hbm, 1053, rfl⟩
abbrev main_while0b_call40_v2 : Ref sig .tc := ⟨.hbm, 1054, rfl⟩
abbrev main_while0b_call40_v3 : Ref sig .tc := ⟨.hbm, 1055, rfl⟩
abbrev main_while0b_call40_v4 : Ref sig .tc := ⟨.hbm, 1056, rfl⟩
abbrev main_while0b_call40_c_1 : Ref sig .tc := ⟨.hbm, 1057, rfl⟩
abbrev main_while0b_call40_c_2 : Ref sig .tc := ⟨.hbm, 1058, rfl⟩
abbrev main_while0b_call40_v5 : Ref sig .tc := ⟨.hbm, 1059, rfl⟩
abbrev main_while0b_call40_v6 : Ref sig .tc := ⟨.hbm, 1060, rfl⟩
abbrev main_while0b_call40_v7 : Ref sig .tc := ⟨.hbm, 1061, rfl⟩
abbrev main_while0b_call40_v8 : Ref sig .tc := ⟨.hbm, 1062, rfl⟩
abbrev main_while0b_call40_v9 : Ref sig .tc := ⟨.hbm, 1063, rfl⟩
abbrev main_while0b_call40_v10 : Ref sig .tc := ⟨.hbm, 1064, rfl⟩
abbrev main_while0b_call40_c_3 : Ref sig .tc := ⟨.hbm, 1065, rfl⟩
abbrev main_while0b_call40_v11 : Ref sig .tc := ⟨.hbm, 1066, rfl⟩
abbrev main_while0b_call40_v12 : Ref sig .tc := ⟨.hbm, 1067, rfl⟩
abbrev main_while0b_call40_v13 : Ref sig .tc := ⟨.hbm, 1068, rfl⟩
abbrev main_while0b_call40_cst : Ref sig .tc := ⟨.hbm, 1069, rfl⟩
abbrev main_while0b_call40_v14 : Ref sig .tc := ⟨.hbm, 1070, rfl⟩
abbrev main_while0b_v482 : Ref sig .tc := ⟨.hbm, 1071, rfl⟩
abbrev main_while0b_v483 : Ref sig .tc := ⟨.hbm, 1072, rfl⟩
abbrev main_while0b_v484 : Ref sig .tc := ⟨.hbm, 1073, rfl⟩
abbrev main_while0b_v485 : Ref sig .tc := ⟨.hbm, 1074, rfl⟩
abbrev main_while0b_v486 : Ref sig .tc := ⟨.hbm, 1075, rfl⟩
abbrev main_while0b_v487 : Ref sig .tc := ⟨.hbm, 1076, rfl⟩
abbrev main_while0b_v488 : Ref sig .tc := ⟨.hbm, 1077, rfl⟩
abbrev main_while0b_v489 : Ref sig .tc := ⟨.hbm, 1078, rfl⟩
abbrev main_while0b_v490 : Ref sig .tc := ⟨.hbm, 1079, rfl⟩
abbrev main_while0b_v491 : Ref sig .tc := ⟨.hbm, 1080, rfl⟩
abbrev main_while0b_v492 : Ref sig .tc := ⟨.hbm, 1081, rfl⟩
abbrev main_while0b_v493 : Ref sig .tc := ⟨.hbm, 1082, rfl⟩
abbrev main_while0b_v494 : Ref sig .tc := ⟨.hbm, 1083, rfl⟩
abbrev main_while0b_v495 : Ref sig .tc := ⟨.hbm, 1084, rfl⟩
abbrev main_while0b_v496 : Ref sig .tc := ⟨.hbm, 1085, rfl⟩
abbrev main_while0b_v497 : Ref sig .tc := ⟨.hbm, 1086, rfl⟩
abbrev main_while0b_v498 : Ref sig .tc := ⟨.hbm, 1087, rfl⟩
abbrev main_while0b_v499 : Ref sig .tc := ⟨.hbm, 1088, rfl⟩
abbrev main_while0b_v500 : Ref sig .tc := ⟨.hbm, 1089, rfl⟩
abbrev main_while0b_v501 : Ref sig .tc := ⟨.hbm, 1090, rfl⟩
abbrev main_while0b_v502 : Ref sig .tc := ⟨.hbm, 1091, rfl⟩
abbrev main_while0b_v503 : Ref sig .tc := ⟨.hbm, 1092, rfl⟩
abbrev main_while0b_v504 : Ref sig .tc := ⟨.hbm, 1093, rfl⟩
abbrev main_while0b_v505 : Ref sig .tc := ⟨.hbm, 1094, rfl⟩
abbrev main_while0b_v506 : Ref sig .tc := ⟨.hbm, 1095, rfl⟩
abbrev main_while0b_v507 : Ref sig .tc := ⟨.hbm, 1096, rfl⟩
abbrev main_while0b_cst_155 : Ref sig .tc := ⟨.hbm, 1097, rfl⟩
abbrev main_while0b_call41_v0 : Ref sig .tc := ⟨.hbm, 1098, rfl⟩
abbrev main_while0b_call41_v1 : Ref sig .tc := ⟨.hbm, 1099, rfl⟩
abbrev main_while0b_v508 : Ref sig .tc := ⟨.hbm, 1100, rfl⟩
abbrev main_while0b_v509 : Ref sig .tc := ⟨.hbm, 1101, rfl⟩
abbrev main_while0b_cst_156 : Ref sig .tc := ⟨.hbm, 1102, rfl⟩
abbrev main_while0b_call42_v0 : Ref sig .tc := ⟨.hbm, 1103, rfl⟩
abbrev main_while0b_call42_v1 : Ref sig .tc := ⟨.hbm, 1104, rfl⟩
abbrev main_while0b_v510 : Ref sig .tc := ⟨.hbm, 1105, rfl⟩
abbrev main_while0b_v511 : Ref sig .tc := ⟨.hbm, 1106, rfl⟩
abbrev main_while0b_v512 : Ref sig .tc := ⟨.hbm, 1107, rfl⟩
abbrev main_while0b_v513 : Ref sig .tc := ⟨.hbm, 1108, rfl⟩
abbrev main_while0b_v514 : Ref sig .tc := ⟨.hbm, 1109, rfl⟩
abbrev main_while0b_v515 : Ref sig .tc := ⟨.hbm, 1110, rfl⟩
abbrev main_while0b_v516 : Ref sig .tc := ⟨.hbm, 1111, rfl⟩
abbrev main_while0b_v517 : Ref sig .tc := ⟨.hbm, 1112, rfl⟩
abbrev main_while0b_v518 : Ref sig .tc := ⟨.hbm, 1113, rfl⟩
abbrev main_while0b_v519 : Ref sig .tc := ⟨.hbm, 1114, rfl⟩
abbrev main_while0b_v520 : Ref sig .tc := ⟨.hbm, 1115, rfl⟩
abbrev main_while0b_v521 : Ref sig .tc := ⟨.hbm, 1116, rfl⟩
abbrev main_while0b_v522 : Ref sig .tc := ⟨.hbm, 1117, rfl⟩
abbrev main_while0b_v523 : Ref sig .tc := ⟨.hbm, 1118, rfl⟩
abbrev main_while0b_v524 : Ref sig .tc := ⟨.hbm, 1119, rfl⟩
abbrev main_while0b_v525 : Ref sig .tc := ⟨.hbm, 1120, rfl⟩
abbrev main_while0b_v526 : Ref sig .tc := ⟨.hbm, 1121, rfl⟩
abbrev main_while0b_v527 : Ref sig .tc := ⟨.hbm, 1122, rfl⟩
abbrev main_while0b_v528 : Ref sig .tc := ⟨.hbm, 1123, rfl⟩
abbrev main_while0b_v529 : Ref sig .tc := ⟨.hbm, 1124, rfl⟩
abbrev main_while0b_v530 : Ref sig .tc := ⟨.hbm, 1125, rfl⟩
abbrev main_while0b_v531 : Ref sig .tc := ⟨.hbm, 1126, rfl⟩
abbrev main_while0b_v532 : Ref sig .tc := ⟨.hbm, 1127, rfl⟩
abbrev main_while0b_v533 : Ref sig .tc := ⟨.hbm, 1128, rfl⟩
abbrev main_while0b_v534 : Ref sig .tc := ⟨.hbm, 1129, rfl⟩
abbrev main_while0b_v535 : Ref sig .tc := ⟨.hbm, 1130, rfl⟩
abbrev main_while0b_v536 : Ref sig .tc := ⟨.hbm, 1131, rfl⟩
abbrev main_while0b_cst_157 : Ref sig .tc := ⟨.hbm, 1132, rfl⟩
abbrev main_while0b_v537 : Ref sig .tc := ⟨.hbm, 1133, rfl⟩
abbrev main_while0b_v538 : Ref sig .tc := ⟨.hbm, 1134, rfl⟩
abbrev main_while0b_v539 : Ref sig .tc := ⟨.hbm, 1135, rfl⟩
abbrev main_while0b_cst_158 : Ref sig .tc := ⟨.hbm, 1136, rfl⟩
abbrev main_while0b_v540 : Ref sig .tc := ⟨.hbm, 1137, rfl⟩
abbrev main_while0b_v541 : Ref sig .tc := ⟨.hbm, 1138, rfl⟩
abbrev main_while0b_cst_159 : Ref sig .tc := ⟨.hbm, 1139, rfl⟩
abbrev main_while0b_call43_v0 : Ref sig .tc := ⟨.hbm, 1140, rfl⟩
abbrev main_while0b_call43_v1 : Ref sig .tc := ⟨.hbm, 1141, rfl⟩
abbrev main_while0b_v542 : Ref sig .tc := ⟨.hbm, 1142, rfl⟩
abbrev main_while0b_v543 : Ref sig .tc := ⟨.hbm, 1143, rfl⟩
abbrev main_while0b_v544 : Ref sig .tc := ⟨.hbm, 1144, rfl⟩
abbrev main_while0b_v545 : Ref sig .tc := ⟨.hbm, 1145, rfl⟩
abbrev main_while0b_cst_160 : Ref sig .tc := ⟨.hbm, 1146, rfl⟩
abbrev main_while0b_call44_v0 : Ref sig .tc := ⟨.hbm, 1147, rfl⟩
abbrev main_while0b_call44_v1 : Ref sig .tc := ⟨.hbm, 1148, rfl⟩
abbrev main_while0b_v546 : Ref sig .tc := ⟨.hbm, 1149, rfl⟩
abbrev main_while0b_c_161 : Ref sig .tc := ⟨.hbm, 1150, rfl⟩
abbrev main_while0b_v547 : Ref sig .tc := ⟨.hbm, 1151, rfl⟩
abbrev main_v468 : Ref sig .tc := ⟨.hbm, 1152, rfl⟩
abbrev main_call45_c : Ref sig .tc := ⟨.hbm, 1153, rfl⟩
abbrev main_call45_v0 : Ref sig .tc := ⟨.hbm, 1154, rfl⟩
abbrev main_call45_v1 : Ref sig .tc := ⟨.hbm, 1155, rfl⟩
abbrev main_call45_c_0 : Ref sig .tc := ⟨.hbm, 1156, rfl⟩
abbrev main_call45_v2 : Ref sig .tc := ⟨.hbm, 1157, rfl⟩
abbrev main_call45_v3 : Ref sig .tc := ⟨.hbm, 1158, rfl⟩
abbrev main_call45_v4 : Ref sig .tc := ⟨.hbm, 1159, rfl⟩
abbrev main_call45_c_1 : Ref sig .tc := ⟨.hbm, 1160, rfl⟩
abbrev main_call45_c_2 : Ref sig .tc := ⟨.hbm, 1161, rfl⟩
abbrev main_call45_v5 : Ref sig .tc := ⟨.hbm, 1162, rfl⟩
abbrev main_call45_v6 : Ref sig .tc := ⟨.hbm, 1163, rfl⟩
abbrev main_call45_v7 : Ref sig .tc := ⟨.hbm, 1164, rfl⟩
abbrev main_call45_v8 : Ref sig .tc := ⟨.hbm, 1165, rfl⟩
abbrev main_call45_v9 : Ref sig .tc := ⟨.hbm, 1166, rfl⟩
abbrev main_call45_v10 : Ref sig .tc := ⟨.hbm, 1167, rfl⟩
abbrev main_call45_c_3 : Ref sig .tc := ⟨.hbm, 1168, rfl⟩
abbrev main_call45_v11 : Ref sig .tc := ⟨.hbm, 1169, rfl⟩
abbrev main_call45_v12 : Ref sig .tc := ⟨.hbm, 1170, rfl⟩
abbrev main_call45_v13 : Ref sig .tc := ⟨.hbm, 1171, rfl⟩
abbrev main_call45_cst : Ref sig .tc := ⟨.hbm, 1172, rfl⟩
abbrev main_call45_v14 : Ref sig .tc := ⟨.hbm, 1173, rfl⟩
abbrev main_v469 : Ref sig .tc := ⟨.hbm, 1174, rfl⟩
abbrev main_call46_c : Ref sig .tc := ⟨.hbm, 1175, rfl⟩
abbrev main_call46_v0 : Ref sig .tc := ⟨.hbm, 1176, rfl⟩
abbrev main_call46_v1 : Ref sig .tc := ⟨.hbm, 1177, rfl⟩
abbrev main_call46_c_0 : Ref sig .tc := ⟨.hbm, 1178, rfl⟩
abbrev main_call46_v2 : Ref sig .tc := ⟨.hbm, 1179, rfl⟩
abbrev main_call46_v3 : Ref sig .tc := ⟨.hbm, 1180, rfl⟩
abbrev main_call46_v4 : Ref sig .tc := ⟨.hbm, 1181, rfl⟩
abbrev main_call46_v5 : Ref sig .tc := ⟨.hbm, 1182, rfl⟩
abbrev main_call46_c_1 : Ref sig .tc := ⟨.hbm, 1183, rfl⟩
abbrev main_call46_c_2 : Ref sig .tc := ⟨.hbm, 1184, rfl⟩
abbrev main_call46_v6 : Ref sig .tc := ⟨.hbm, 1185, rfl⟩
abbrev main_call46_v7 : Ref sig .tc := ⟨.hbm, 1186, rfl⟩
abbrev main_call46_v8 : Ref sig .tc := ⟨.hbm, 1187, rfl⟩
abbrev main_call46_v9 : Ref sig .tc := ⟨.hbm, 1188, rfl⟩
abbrev main_call46_v10 : Ref sig .tc := ⟨.hbm, 1189, rfl⟩
abbrev main_call46_v11 : Ref sig .tc := ⟨.hbm, 1190, rfl⟩
abbrev main_call46_c_3 : Ref sig .tc := ⟨.hbm, 1191, rfl⟩
abbrev main_call46_v12 : Ref sig .tc := ⟨.hbm, 1192, rfl⟩
abbrev main_call46_v13 : Ref sig .tc := ⟨.hbm, 1193, rfl⟩
abbrev main_call46_cst : Ref sig .tc := ⟨.hbm, 1194, rfl⟩
abbrev main_call46_v14 : Ref sig .tc := ⟨.hbm, 1195, rfl⟩
abbrev main_v470 : Ref sig .tc := ⟨.hbm, 1196, rfl⟩
abbrev main_call47_c : Ref sig .tc := ⟨.hbm, 1197, rfl⟩
abbrev main_call47_v0 : Ref sig .tc := ⟨.hbm, 1198, rfl⟩
abbrev main_call47_v1 : Ref sig .tc := ⟨.hbm, 1199, rfl⟩
abbrev main_call47_c_0 : Ref sig .tc := ⟨.hbm, 1200, rfl⟩
abbrev main_call47_v2 : Ref sig .tc := ⟨.hbm, 1201, rfl⟩
abbrev main_call47_v3 : Ref sig .tc := ⟨.hbm, 1202, rfl⟩
abbrev main_call47_v4 : Ref sig .tc := ⟨.hbm, 1203, rfl⟩
abbrev main_call47_v5 : Ref sig .tc := ⟨.hbm, 1204, rfl⟩
abbrev main_call47_c_1 : Ref sig .tc := ⟨.hbm, 1205, rfl⟩
abbrev main_call47_c_2 : Ref sig .tc := ⟨.hbm, 1206, rfl⟩
abbrev main_call47_v6 : Ref sig .tc := ⟨.hbm, 1207, rfl⟩
abbrev main_call47_v7 : Ref sig .tc := ⟨.hbm, 1208, rfl⟩
abbrev main_call47_v8 : Ref sig .tc := ⟨.hbm, 1209, rfl⟩
abbrev main_call47_v9 : Ref sig .tc := ⟨.hbm, 1210, rfl⟩
abbrev main_call47_v10 : Ref sig .tc := ⟨.hbm, 1211, rfl⟩
abbrev main_call47_v11 : Ref sig .tc := ⟨.hbm, 1212, rfl⟩
abbrev main_call47_c_3 : Ref sig .tc := ⟨.hbm, 1213, rfl⟩
abbrev main_call47_v12 : Ref sig .tc := ⟨.hbm, 1214, rfl⟩
abbrev main_call47_v13 : Ref sig .tc := ⟨.hbm, 1215, rfl⟩
abbrev main_call47_c_4 : Ref sig .tc := ⟨.hbm, 1216, rfl⟩
abbrev main_call47_v14 : Ref sig .tc := ⟨.hbm, 1217, rfl⟩
abbrev main_v471 : Ref sig .tc := ⟨.hbm, 1218, rfl⟩

abbrev nD : Nat := 1
abbrev τ : Topo := Topo.v7x

variable {F : FTy → Type} [FloatOps F]

abbrev main_while0_count : Scf.Loop 32 := ⟨0#32, 50#32, 1#32⟩
-- ==== Proof.BodyKernelIdeal.lean ====
/- The six kernel bodies of `KernelIdeal` run on whole staging buffers, and the pipelines' proof data.
   Regions 0 to 4 are the score kernels of the five levels (one grid point, two inputs, one output); region 5 is the
   suppression kernel (two grid points, one image each), whose 50-trip loop carries values alone: it runs as the fold
   `nmsFold` of `nmsTrip`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fcos

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The TensorCore's buffers as a region finds them. -/
abbrev Entry (F : FTy → Type) : Type := (c : Dev nD) → (b : Ref sig .tc) → Buf (Elt F) ((c : Thread nD τ).loc b)

variable (V : Entry F)

/-- Window `w`'s block of region 0 at point `t`, off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the score body of level 0 leaves in its output's buffer, from its inputs' blocks. -/
def out0_2 (x0 : Vec F S2x4096x80 .f32) (x1 : Vec F S2x4096x1 .f32) : Vec F S2x4096x80 .f32 :=
  View.canon [⟨(Rect.unit (s := S2x4096x80) ![0, 0, 0] S2x4096x80.size inb_S2x4096x80_S2x4096x80_0_0_0), k0_pay1 (View.ld x0 (Rect.unit (s := S2x4096x80) ![0, 0, 0] S2x4096x80.size inb_S2x4096x80_S2x4096x80_0_0_0)) (View.ld x1 (Rect.unit (s := S2x4096x1) ![0, 0, 0] S2x4096x1.size inb_S2x4096x1_S2x4096x1_0_0_0))⟩]

set_option maxHeartbeats 1000000 in
/-- The score body of level 0 on whole buffers: the inputs stay, the output ends at `out0_2` of them. -/
theorem run0 (c : Dev nD) (E : Set ℕ) (arg0 : Memref sig .tc .vmem S2x4096x80 .f32) (h0 : arg0.IsWhole) (arg1 : Memref sig .tc .vmem S2x4096x1 .f32) (h1 : arg1.IsWhole)
    (arg2 : Memref sig .tc .vmem S2x4096x80 .f32) (h2 : arg2.IsWhole) (x0 : Vec F S2x4096x80 .f32) (x1 : Vec F S2x4096x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__score_kernel arg0 h0 arg1 h1 arg2 h2) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => View.cover_of_tiled [⟨(Rect.unit (s := S2x4096x80) ![0, 0, 0] S2x4096x80.size inb_S2x4096x80_S2x4096x80_0_0_0), _⟩] S2x4096x80.size (by rfl) y)

/-- Pipeline 0's proof data: the arrays as found, each input's buffer at its block, each output's at what the body stores. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0_2 (blk0 V c 0 t) (blk0 V c 1 t)
  Φ _ := Pipeline.ΦA spec0 c
  q _ := fullShare
  owed _ := 0

/-- The data's arrays are the entry contents. -/
theorem dat0_A (c : Dev nD) (w : Fin cfg0.W) : (dat0 V c).A w = V c (Pipeline.arrRef spec0 w) := by
  dsimp only [dat0]

/-- A step of region 0 leaves its input window 0 as it was fetched. -/
theorem dat0_after0 (c : Dev nD) (t : Fin cfg0.N) : (dat0 V c).after 0 t = blk0 V c 0 t := by dsimp only [dat0]
/-- A step of region 0 leaves its input window 1 as it was fetched. -/
theorem dat0_after1 (c : Dev nD) (t : Fin cfg0.N) : (dat0 V c).after 1 t = blk0 V c 1 t := by dsimp only [dat0]
/-- A step of region 0 leaves in window 2 what the body computes from its inputs. -/
theorem dat0_after2 (c : Dev nD) (t : Fin cfg0.N) : (dat0 V c).after 2 t = out0_2 (blk0 V c 0 t) (blk0 V c 1 t) := by dsimp only [dat0]
/-- Input 0's buffer holds its block when the body runs. -/
theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
/-- Input 1's buffer holds its block when the body runs. -/
theorem dat0_before1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-- The body of region 0 at any point: its inputs hold their blocks, so the body's run applies. -/
theorem body0 (c : Dev nD) (t : Fin cfg0.N) :
    iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)))
      ⊢ wp frame (wpE (defs₀ (F := F)) Variants.none c none) Set.univ (bodyAt0 t)
        (fun _ => iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl, dat0_after0, dat0_after1, dat0_after2]
  iintro ⟨HΦ, Ho, ⟨%d0, H0⟩, ⟨%d1, H1⟩, ⟨%d2, H2⟩⟩
  iapply (run0 c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of region 0's body. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0 V c t) rfl .rfl fun _ => .rfl

/-- Window `w`'s block of region 1 at point `t`, off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the score body of level 1 leaves in its output's buffer, from its inputs' blocks. -/
def out1_2 (x0 : Vec F S2x1024x80 .f32) (x1 : Vec F S2x1024x1 .f32) : Vec F S2x1024x80 .f32 :=
  View.canon [⟨(Rect.unit (s := S2x1024x80) ![0, 0, 0] S2x1024x80.size inb_S2x1024x80_S2x1024x80_0_0_0), k1_pay1 (View.ld x0 (Rect.unit (s := S2x1024x80) ![0, 0, 0] S2x1024x80.size inb_S2x1024x80_S2x1024x80_0_0_0)) (View.ld x1 (Rect.unit (s := S2x1024x1) ![0, 0, 0] S2x1024x1.size inb_S2x1024x1_S2x1024x1_0_0_0))⟩]

set_option maxHeartbeats 1000000 in
/-- The score body of level 1 on whole buffers: the inputs stay, the output ends at `out1_2` of them. -/
theorem run1 (c : Dev nD) (E : Set ℕ) (arg0 : Memref sig .tc .vmem S2x1024x80 .f32) (h0 : arg0.IsWhole) (arg1 : Memref sig .tc .vmem S2x1024x1 .f32) (h1 : arg1.IsWhole)
    (arg2 : Memref sig .tc .vmem S2x1024x80 .f32) (h2 : arg2.IsWhole) (x0 : Vec F S2x1024x80 .f32) (x1 : Vec F S2x1024x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__score_kernel arg0 h0 arg1 h1 arg2 h2) K := by
  simp only [cc1__score_kernel_eq_skeleton]; unfold cc1__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => View.cover_of_tiled [⟨(Rect.unit (s := S2x1024x80) ![0, 0, 0] S2x1024x80.size inb_S2x1024x80_S2x1024x80_0_0_0), _⟩] S2x1024x80.size (by rfl) y)

/-- Pipeline 1's proof data: the arrays as found, each input's buffer at its block, each output's at what the body stores. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1_2 (blk1 V c 0 t) (blk1 V c 1 t)
  Φ _ := Pipeline.ΦA spec1 c
  q _ := fullShare
  owed _ := 0

/-- The data's arrays are the entry contents. -/
theorem dat1_A (c : Dev nD) (w : Fin cfg1.W) : (dat1 V c).A w = V c (Pipeline.arrRef spec1 w) := by
  dsimp only [dat1]

/-- A step of region 1 leaves its input window 0 as it was fetched. -/
theorem dat1_after0 (c : Dev nD) (t : Fin cfg1.N) : (dat1 V c).after 0 t = blk1 V c 0 t := by dsimp only [dat1]
/-- A step of region 1 leaves its input window 1 as it was fetched. -/
theorem dat1_after1 (c : Dev nD) (t : Fin cfg1.N) : (dat1 V c).after 1 t = blk1 V c 1 t := by dsimp only [dat1]
/-- A step of region 1 leaves in window 2 what the body computes from its inputs. -/
theorem dat1_after2 (c : Dev nD) (t : Fin cfg1.N) : (dat1 V c).after 2 t = out1_2 (blk1 V c 0 t) (blk1 V c 1 t) := by dsimp only [dat1]
/-- Input 0's buffer holds its block when the body runs. -/
theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
/-- Input 1's buffer holds its block when the body runs. -/
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- The body of region 1 at any point: its inputs hold their blocks, so the body's run applies. -/
theorem body1 (c : Dev nD) (t : Fin cfg1.N) :
    iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)))
      ⊢ wp frame (wpE (defs₀ (F := F)) Variants.none c none) Set.univ (bodyAt1 t)
        (fun _ => iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t))) := by
  unfold bodyAt1
  simp only [dat1_before0, dat1_before1]
  rw [show (dat1 V c).Φ t.succ = (dat1 V c).Φ t.castSucc from rfl,
    show (dat1 V c).owesAt () t.succ = (dat1 V c).owesAt () t.castSucc from rfl, dat1_after0, dat1_after1, dat1_after2]
  iintro ⟨HΦ, Ho, ⟨%d0, H0⟩, ⟨%d1, H1⟩, ⟨%d2, H2⟩⟩
  iapply (run1 c Set.univ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of region 1's body. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (body1 V c t) rfl .rfl fun _ => .rfl

/-- Window `w`'s block of region 2 at point `t`, off the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the score body of level 2 leaves in its output's buffer, from its inputs' blocks. -/
def out2_2 (x0 : Vec F S2x256x80 .f32) (x1 : Vec F S2x256x1 .f32) : Vec F S2x256x80 .f32 :=
  View.canon [⟨(Rect.unit (s := S2x256x80) ![0, 0, 0] S2x256x80.size inb_S2x256x80_S2x256x80_0_0_0), k2_pay1 (View.ld x0 (Rect.unit (s := S2x256x80) ![0, 0, 0] S2x256x80.size inb_S2x256x80_S2x256x80_0_0_0)) (View.ld x1 (Rect.unit (s := S2x256x1) ![0, 0, 0] S2x256x1.size inb_S2x256x1_S2x256x1_0_0_0))⟩]

set_option maxHeartbeats 1000000 in
/-- The score body of level 2 on whole buffers: the inputs stay, the output ends at `out2_2` of them. -/
theorem run2 (c : Dev nD) (E : Set ℕ) (arg0 : Memref sig .tc .vmem S2x256x80 .f32) (h0 : arg0.IsWhole) (arg1 : Memref sig .tc .vmem S2x256x1 .f32) (h1 : arg1.IsWhole)
    (arg2 : Memref sig .tc .vmem S2x256x80 .f32) (h2 : arg2.IsWhole) (x0 : Vec F S2x256x80 .f32) (x1 : Vec F S2x256x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__score_kernel arg0 h0 arg1 h1 arg2 h2) K := by
  simp only [cc2__score_kernel_eq_skeleton]; unfold cc2__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => View.cover_of_tiled [⟨(Rect.unit (s := S2x256x80) ![0, 0, 0] S2x256x80.size inb_S2x256x80_S2x256x80_0_0_0), _⟩] S2x256x80.size (by rfl) y)

/-- Pipeline 2's proof data: the arrays as found, each input's buffer at its block, each output's at what the body stores. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2_2 (blk2 V c 0 t) (blk2 V c 1 t)
  Φ _ := Pipeline.ΦA spec2 c
  q _ := fullShare
  owed _ := 0

/-- The data's arrays are the entry contents. -/
theorem dat2_A (c : Dev nD) (w : Fin cfg2.W) : (dat2 V c).A w = V c (Pipeline.arrRef spec2 w) := by
  dsimp only [dat2]

/-- A step of region 2 leaves its input window 0 as it was fetched. -/
theorem dat2_after0 (c : Dev nD) (t : Fin cfg2.N) : (dat2 V c).after 0 t = blk2 V c 0 t := by dsimp only [dat2]
/-- A step of region 2 leaves its input window 1 as it was fetched. -/
theorem dat2_after1 (c : Dev nD) (t : Fin cfg2.N) : (dat2 V c).after 1 t = blk2 V c 1 t := by dsimp only [dat2]
/-- A step of region 2 leaves in window 2 what the body computes from its inputs. -/
theorem dat2_after2 (c : Dev nD) (t : Fin cfg2.N) : (dat2 V c).after 2 t = out2_2 (blk2 V c 0 t) (blk2 V c 1 t) := by dsimp only [dat2]
/-- Input 0's buffer holds its block when the body runs. -/
theorem dat2_before0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)
/-- Input 1's buffer holds its block when the body runs. -/
theorem dat2_before1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

/-- The body of region 2 at any point: its inputs hold their blocks, so the body's run applies. -/
theorem body2 (c : Dev nD) (t : Fin cfg2.N) :
    iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)))
      ⊢ wp frame (wpE (defs₀ (F := F)) Variants.none c none) Set.univ (bodyAt2 t)
        (fun _ => iprop((dat2 V c).Φ t.succ ∗ (dat2 V c).owesAt () t.succ ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t))) := by
  unfold bodyAt2
  simp only [dat2_before0, dat2_before1]
  rw [show (dat2 V c).Φ t.succ = (dat2 V c).Φ t.castSucc from rfl,
    show (dat2 V c).owesAt () t.succ = (dat2 V c).owesAt () t.castSucc from rfl, dat2_after0, dat2_after1, dat2_after2]
  iintro ⟨HΦ, Ho, ⟨%d0, H0⟩, ⟨%d1, H1⟩, ⟨%d2, H2⟩⟩
  iapply (run2 c Set.univ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of region 2's body. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (body2 V c t) rfl .rfl fun _ => .rfl

/-- Window `w`'s block of region 3 at point `t`, off the array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the score body of level 3 leaves in its output's buffer, from its inputs' blocks. -/
def out3_2 (x0 : Vec F S2x64x80 .f32) (x1 : Vec F S2x64x1 .f32) : Vec F S2x64x80 .f32 :=
  View.canon [⟨(Rect.unit (s := S2x64x80) ![0, 0, 0] S2x64x80.size inb_S2x64x80_S2x64x80_0_0_0), k3_pay1 (View.ld x0 (Rect.unit (s := S2x64x80) ![0, 0, 0] S2x64x80.size inb_S2x64x80_S2x64x80_0_0_0)) (View.ld x1 (Rect.unit (s := S2x64x1) ![0, 0, 0] S2x64x1.size inb_S2x64x1_S2x64x1_0_0_0))⟩]

set_option maxHeartbeats 1000000 in
/-- The score body of level 3 on whole buffers: the inputs stay, the output ends at `out3_2` of them. -/
theorem run3 (c : Dev nD) (E : Set ℕ) (arg0 : Memref sig .tc .vmem S2x64x80 .f32) (h0 : arg0.IsWhole) (arg1 : Memref sig .tc .vmem S2x64x1 .f32) (h1 : arg1.IsWhole)
    (arg2 : Memref sig .tc .vmem S2x64x80 .f32) (h2 : arg2.IsWhole) (x0 : Vec F S2x64x80 .f32) (x1 : Vec F S2x64x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__score_kernel arg0 h0 arg1 h1 arg2 h2) K := by
  simp only [cc3__score_kernel_eq_skeleton]; unfold cc3__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => View.cover_of_tiled [⟨(Rect.unit (s := S2x64x80) ![0, 0, 0] S2x64x80.size inb_S2x64x80_S2x64x80_0_0_0), _⟩] S2x64x80.size (by rfl) y)

/-- Pipeline 3's proof data: the arrays as found, each input's buffer at its block, each output's at what the body stores. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3_2 (blk3 V c 0 t) (blk3 V c 1 t)
  Φ _ := Pipeline.ΦA spec3 c
  q _ := fullShare
  owed _ := 0

/-- The data's arrays are the entry contents. -/
theorem dat3_A (c : Dev nD) (w : Fin cfg3.W) : (dat3 V c).A w = V c (Pipeline.arrRef spec3 w) := by
  dsimp only [dat3]

/-- A step of region 3 leaves its input window 0 as it was fetched. -/
theorem dat3_after0 (c : Dev nD) (t : Fin cfg3.N) : (dat3 V c).after 0 t = blk3 V c 0 t := by dsimp only [dat3]
/-- A step of region 3 leaves its input window 1 as it was fetched. -/
theorem dat3_after1 (c : Dev nD) (t : Fin cfg3.N) : (dat3 V c).after 1 t = blk3 V c 1 t := by dsimp only [dat3]
/-- A step of region 3 leaves in window 2 what the body computes from its inputs. -/
theorem dat3_after2 (c : Dev nD) (t : Fin cfg3.N) : (dat3 V c).after 2 t = out3_2 (blk3 V c 0 t) (blk3 V c 1 t) := by dsimp only [dat3]
/-- Input 0's buffer holds its block when the body runs. -/
theorem dat3_before0 (c : Dev nD) (t : Fin cfg3.N) (d) : (dat3 V c).before 0 t d = blk3 V c 0 t :=
  ((dat3 V c).before_in_eq_fetched 0 rfl (fun _ => rfl) (fun _ _ _ => rfl)
      (fun t => by rw [dat3_after0]; unfold Dat.blockOf blk3; rw [dat3_A]; try rfl) t d).trans
    (by unfold Dat.fetched Dat.blockOf blk3; rw [dat3_A]; try rfl)
/-- Input 1's buffer holds its block when the body runs. -/
theorem dat3_before1 (c : Dev nD) (t : Fin cfg3.N) (d) : (dat3 V c).before 1 t d = blk3 V c 1 t :=
  ((dat3 V c).before_in_eq_fetched 1 rfl (fun _ => rfl) (fun _ _ _ => rfl)
      (fun t => by rw [dat3_after1]; unfold Dat.blockOf blk3; rw [dat3_A]; try rfl) t d).trans
    (by unfold Dat.fetched Dat.blockOf blk3; rw [dat3_A]; try rfl)

/-- The body of region 3 at any point: its inputs hold their blocks, so the body's run applies. -/
theorem body3 (c : Dev nD) (t : Fin cfg3.N) :
    iprop((dat3 V c).Φ t.castSucc ∗ (dat3 V c).owesAt () t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)))
      ⊢ wp frame (wpE (defs₀ (F := F)) Variants.none c none) Set.univ (bodyAt3 t)
        (fun _ => iprop((dat3 V c).Φ t.succ ∗ (dat3 V c).owesAt () t.succ ∗ owns (c : Thread nD τ) (st3_0 t) fullShare ((dat3 V c).after 0 t) ∗ owns (c : Thread nD τ) (st3_1 t) fullShare ((dat3 V c).after 1 t) ∗ owns (c : Thread nD τ) (st3_2 t) fullShare ((dat3 V c).after 2 t))) := by
  unfold bodyAt3
  simp only [dat3_before0, dat3_before1]
  rw [show (dat3 V c).Φ t.succ = (dat3 V c).Φ t.castSucc from rfl,
    show (dat3 V c).owesAt () t.succ = (dat3 V c).owesAt () t.castSucc from rfl, dat3_after0, dat3_after1, dat3_after2]
  iintro ⟨HΦ, Ho, ⟨%d0, H0⟩, ⟨%d1, H1⟩, ⟨%d2, H2⟩⟩
  iapply (run3 c Set.univ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of region 3's body. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  exact triple_restated (body3 V c t) rfl .rfl fun _ => .rfl

/-- Window `w`'s block of region 4 at point `t`, off the array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the score body of level 4 leaves in its output's buffer, from its inputs' blocks. -/
def out4_2 (x0 : Vec F S2x16x80 .f32) (x1 : Vec F S2x16x1 .f32) : Vec F S2x16x80 .f32 :=
  View.canon [⟨(Rect.unit (s := S2x16x80) ![0, 0, 0] S2x16x80.size inb_S2x16x80_S2x16x80_0_0_0), k4_pay1 (View.ld x0 (Rect.unit (s := S2x16x80) ![0, 0, 0] S2x16x80.size inb_S2x16x80_S2x16x80_0_0_0)) (View.ld x1 (Rect.unit (s := S2x16x1) ![0, 0, 0] S2x16x1.size inb_S2x16x1_S2x16x1_0_0_0))⟩]

set_option maxHeartbeats 1000000 in
/-- The score body of level 4 on whole buffers: the inputs stay, the output ends at `out4_2` of them. -/
theorem run4 (c : Dev nD) (E : Set ℕ) (arg0 : Memref sig .tc .vmem S2x16x80 .f32) (h0 : arg0.IsWhole) (arg1 : Memref sig .tc .vmem S2x16x1 .f32) (h1 : arg1.IsWhole)
    (arg2 : Memref sig .tc .vmem S2x16x80 .f32) (h2 : arg2.IsWhole) (x0 : Vec F S2x16x80 .f32) (x1 : Vec F S2x16x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__score_kernel arg0 h0 arg1 h1 arg2 h2) K := by
  simp only [cc4__score_kernel_eq_skeleton]; unfold cc4__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => View.cover_of_tiled [⟨(Rect.unit (s := S2x16x80) ![0, 0, 0] S2x16x80.size inb_S2x16x80_S2x16x80_0_0_0), _⟩] S2x16x80.size (by rfl) y)

/-- Pipeline 4's proof data: the arrays as found, each input's buffer at its block, each output's at what the body stores. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => out4_2 (blk4 V c 0 t) (blk4 V c 1 t)
  Φ _ := Pipeline.ΦA spec4 c
  q _ := fullShare
  owed _ := 0

/-- The data's arrays are the entry contents. -/
theorem dat4_A (c : Dev nD) (w : Fin cfg4.W) : (dat4 V c).A w = V c (Pipeline.arrRef spec4 w) := by
  dsimp only [dat4]

/-- A step of region 4 leaves its input window 0 as it was fetched. -/
theorem dat4_after0 (c : Dev nD) (t : Fin cfg4.N) : (dat4 V c).after 0 t = blk4 V c 0 t := by dsimp only [dat4]
/-- A step of region 4 leaves its input window 1 as it was fetched. -/
theorem dat4_after1 (c : Dev nD) (t : Fin cfg4.N) : (dat4 V c).after 1 t = blk4 V c 1 t := by dsimp only [dat4]
/-- A step of region 4 leaves in window 2 what the body computes from its inputs. -/
theorem dat4_after2 (c : Dev nD) (t : Fin cfg4.N) : (dat4 V c).after 2 t = out4_2 (blk4 V c 0 t) (blk4 V c 1 t) := by dsimp only [dat4]
/-- Input 0's buffer holds its block when the body runs. -/
theorem dat4_before0 (c : Dev nD) (t : Fin cfg4.N) (d) : (dat4 V c).before 0 t d = blk4 V c 0 t :=
  ((dat4 V c).before_in_eq_fetched 0 rfl (fun _ => rfl) (fun _ _ _ => rfl)
      (fun t => by rw [dat4_after0]; unfold Dat.blockOf blk4; rw [dat4_A]; try rfl) t d).trans
    (by unfold Dat.fetched Dat.blockOf blk4; rw [dat4_A]; try rfl)
/-- Input 1's buffer holds its block when the body runs. -/
theorem dat4_before1 (c : Dev nD) (t : Fin cfg4.N) (d) : (dat4 V c).before 1 t d = blk4 V c 1 t :=
  ((dat4 V c).before_in_eq_fetched 1 rfl (fun _ => rfl) (fun _ _ _ => rfl)
      (fun t => by rw [dat4_after1]; unfold Dat.blockOf blk4; rw [dat4_A]; try rfl) t d).trans
    (by unfold Dat.fetched Dat.blockOf blk4; rw [dat4_A]; try rfl)

/-- The body of region 4 at any point: its inputs hold their blocks, so the body's run applies. -/
theorem body4 (c : Dev nD) (t : Fin cfg4.N) :
    iprop((dat4 V c).Φ t.castSucc ∗ (dat4 V c).owesAt () t.castSucc ∗ (∃ d, owns (c : Thread nD τ) (st4_0 t) fullShare ((dat4 V c).before 0 t d)) ∗ (∃ d, owns (c : Thread nD τ) (st4_1 t) fullShare ((dat4 V c).before 1 t d)) ∗ (∃ d, owns (c : Thread nD τ) (st4_2 t) fullShare ((dat4 V c).before 2 t d)))
      ⊢ wp frame (wpE (defs₀ (F := F)) Variants.none c none) Set.univ (bodyAt4 t)
        (fun _ => iprop((dat4 V c).Φ t.succ ∗ (dat4 V c).owesAt () t.succ ∗ owns (c : Thread nD τ) (st4_0 t) fullShare ((dat4 V c).after 0 t) ∗ owns (c : Thread nD τ) (st4_1 t) fullShare ((dat4 V c).after 1 t) ∗ owns (c : Thread nD τ) (st4_2 t) fullShare ((dat4 V c).after 2 t))) := by
  unfold bodyAt4
  simp only [dat4_before0, dat4_before1]
  rw [show (dat4 V c).Φ t.succ = (dat4 V c).Φ t.castSucc from rfl,
    show (dat4 V c).owesAt () t.succ = (dat4 V c).owesAt () t.castSucc from rfl, dat4_after0, dat4_after1, dat4_after2]
  iintro ⟨HΦ, Ho, ⟨%d0, H0⟩, ⟨%d1, H1⟩, ⟨%d2, H2⟩⟩
  iapply (run4 c Set.univ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline asks of region 4's body. -/
theorem obligation4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t from by
    unfold defs₀; rw [Defs.onTc_tc]]
  exact triple_restated (body4 V c t) rfl .rfl fun _ => .rfl

/-- Window `w`'s block of region 5 at point `t`, off the array as the region finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the suppression loop carries: the live scores, then per output lane the kept box's four sides, score and class. -/
abbrev Carry (F : FTy → Type) : Type := FVec F S8x640 .f32 × FVec F S1x64 .f32 × FVec F S1x64 .f32 × FVec F S1x64 .f32 × FVec F S1x64 .f32 × FVec F S1x64 .f32 × FVec F S1x64 .f32

/-- The lane index of the six output rows. -/
def lanes : IVec S1x64 32 := iota .tc S1x64 32 [1] iota_S1x64_d1_w32

/-- One trip of the suppression loop, from the decoded sides `v54 v61 v68 v75` (x1, y1, x2, y2), the class `v7` and the flat
    lane index `v12`. -/
def nmsTrip (v7 : FVec F S8x640 .f32) (v12 : IVec S8x640 32) (v54 v61 v68 v75 v82 : FVec F S8x640 .f32) (v92 : IVec S1x64 32) (k : Fin k5_t1_loop.trips) (a : Carry F) : Carry F :=
  let i : BitVec 32 := Scf.iv 0#32 1#32 k
  let pick := k5_pay13 v12 a.1
  let cls := k5_pay14 v7 v12 a.1
  let sc := k5_pay15 v12 v82 a.1
  let b0 := k5_pay16 v12 (k5_pay3 v7 v54) a.1
  let b1 := k5_pay17 v12 (k5_pay4 v7 v61) a.1
  let b2 := k5_pay18 v12 (k5_pay5 v7 v68) a.1
  (k5_pay21 (k5_pay3 v7 v54) (k5_pay4 v7 v61) (k5_pay5 v7 v68) (k5_pay6 v7 v75) (k5_pay7 v7 v54 v61 v68 v75) a.1 pick b0 b1 b2 (k5_pay19 (F := F)),
    k5_pay24 v92 a.2.1 i cls b0, k5_pay25 v92 a.2.2.1 i cls b1, k5_pay26 v92 a.2.2.2.1 i cls b2,
    k5_pay27 (k5_pay6 v7 v75) v92 a.2.2.2.2.1 i pick cls (k5_pay19 (F := F)), k5_pay28 v92 a.2.2.2.2.2.1 i sc,
    k5_pay9 a.2.2.2.2.2.2 cls (k5_pay22 v92 i))

set_option maxHeartbeats 4000000 in
/-- A trip of the loop's region returns `nmsTrip` and does nothing else. -/
theorem trip_pure (i : grid5.Coords) (arg1 : Memref sig .tc .vmem S1x4x8x640 .f32) (h1 : arg1.IsWhole) (arg2 : Memref sig .tc .vmem S1x8x640 .f32) (h2 : arg2.IsWhole) (arg3 : Memref sig .tc .vmem S1x8x640 .f32) (h3 : arg3.IsWhole) (arg4 : Memref sig .tc .vmem S1x8x640 .f32) (h4 : arg4.IsWhole) (arg5 : Memref sig .tc .vmem S1x4x64 .f32) (h5 : arg5.IsWhole) (arg6 : Memref sig .tc .vmem S1x1x64 .f32) (h6 : arg6.IsWhole) (arg7 : Memref sig .tc .vmem S1x1x64 .f32) (h7 : arg7.IsWhole) (v7 : FVec F S8x640 .f32) (v12 : IVec S8x640 32)
    (v54 v61 v68 v75 : FVec F S8x640 .f32) (v77 : IVec S8x640 1) (v80 v81 : FVec F S8x640 .f32) (v92 : IVec S1x64 32) (k : Fin k5_t1_loop.trips) (a : Carry F) :
    k5_t1_body i arg1 h1 arg2 h2 arg3 h3 arg4 h4 arg5 h5 arg6 h6 arg7 h7 v7 v12 v54 v61 v68 v75 v77 v80 v81 v92 k a = .ret (nmsTrip v7 v12 v54 v61 v68 v75 (k5_pay1 v77 v80 v81) v92 k a) := by
  obtain ⟨a0, a1, a2, a3, a4, a5, a6⟩ := a
  unfold k5_t1_body nmsTrip
  simp only [k5_part1_eq_skeleton, k5_part2_eq_skeleton]
  unfold k5_part1_skel k5_part2_skel
  rfl

/-- So the loop returns the trips' fold. -/
theorem loop_pure (i : grid5.Coords) (arg1 : Memref sig .tc .vmem S1x4x8x640 .f32) (h1 : arg1.IsWhole) (arg2 : Memref sig .tc .vmem S1x8x640 .f32) (h2 : arg2.IsWhole) (arg3 : Memref sig .tc .vmem S1x8x640 .f32) (h3 : arg3.IsWhole) (arg4 : Memref sig .tc .vmem S1x8x640 .f32) (h4 : arg4.IsWhole) (arg5 : Memref sig .tc .vmem S1x4x64 .f32) (h5 : arg5.IsWhole) (arg6 : Memref sig .tc .vmem S1x1x64 .f32) (h6 : arg6.IsWhole) (arg7 : Memref sig .tc .vmem S1x1x64 .f32) (h7 : arg7.IsWhole) (v7 : FVec F S8x640 .f32) (v12 : IVec S8x640 32)
    (v54 v61 v68 v75 : FVec F S8x640 .f32) (v77 : IVec S8x640 1) (v80 v81 : FVec F S8x640 .f32) (v92 : IVec S1x64 32) (a : Carry F) :
    Scf.Loop.for k5_t1_loop k5_t1_ok a (k5_t1_body i arg1 h1 arg2 h2 arg3 h3 arg4 h4 arg5 h5 arg6 h6 arg7 h7 v7 v12 v54 v61 v68 v75 v77 v80 v81 v92)
      = .ret (Scf.fold (nmsTrip v7 v12 v54 v61 v68 v75 (k5_pay1 v77 v80 v81) v92) a) :=
  Scf.for_pure _ _ _ k5_t1_ok a _ _ (trip_pure i arg1 h1 arg2 h2 arg3 h3 arg4 h4 arg5 h5 arg6 h6 arg7 h7 v7 v12 v54 v61 v68 v75 v77 v80 v81 v92)

/-- The 50 trips, from the blocks the body loads. -/
def nmsFold (x0 : Vec F S1x4x8x640 .f32) (x1 x2 x3 : Vec F S1x8x640 .f32) : Carry F :=
  let v1 := k5_pay29 x0
  let v3 := k5_pay30 x1
  let v5 := k5_pay31 x2
  let v7 := k5_pay32 x3
  let v29 := k5_pay34 (F := F)
  let v33 := k5_pay36 x1
  let v34 := k5_pay37 x1
  let v82 := k5_pay1 (k5_pay45 k5_pay33) (k5_pay46 v5) (k5_pay47 (F := F))
  Scf.fold (nmsTrip v7 k5_pay33 (k5_pay41 v1 v29 v33) (k5_pay42 v1 v3 v29 v34) (k5_pay43 v1 v29 v33) (k5_pay44 v1 v3 v29 v34) v82 lanes)
    (v82, k5_pay8 (F := F), k5_pay8 (F := F), k5_pay8 (F := F), k5_pay8 (F := F), k5_pay8 (F := F), k5_pay8 (F := F))

/-- The loaded blocks' fold. -/
abbrev nmsOf (x0 : Vec F S1x4x8x640 .f32) (x1 x2 x3 : Vec F S1x8x640 .f32) : Carry F :=
  nmsFold (View.ld x0 (Rect.unit (s := S1x4x8x640) ![0, 0, 0, 0] S1x4x8x640.size inb_S1x4x8x640_S1x4x8x640_0_0_0_0)) (View.ld x1 (Rect.unit (s := S1x8x640) ![0, 0, 0] S1x8x640.size inb_S1x8x640_S1x8x640_0_0_0)) (View.ld x2 (Rect.unit (s := S1x8x640) ![0, 0, 0] S1x8x640.size inb_S1x8x640_S1x8x640_0_0_0)) (View.ld x3 (Rect.unit (s := S1x8x640) ![0, 0, 0] S1x8x640.size inb_S1x8x640_S1x8x640_0_0_0))

/-- What the body leaves in its three outputs' buffers. -/
def out5_4 (x0 : Vec F S1x4x8x640 .f32) (x1 : Vec F S1x8x640 .f32) (x2 : Vec F S1x8x640 .f32) (x3 : Vec F S1x8x640 .f32) : Vec F S1x4x64 .f32 :=
  View.canon [⟨(Rect.unit (s := S1x4x64) ![0, 0, 0] S1x4x64.size inb_S1x4x64_S1x4x64_0_0_0), k5_pay10 (nmsOf x0 x1 x2 x3).2.1 (nmsOf x0 x1 x2 x3).2.2.1 (nmsOf x0 x1 x2 x3).2.2.2.1 (nmsOf x0 x1 x2 x3).2.2.2.2.1⟩]
/-- Window 5: the kept candidates' scores. -/
def out5_5 (x0 : Vec F S1x4x8x640 .f32) (x1 : Vec F S1x8x640 .f32) (x2 : Vec F S1x8x640 .f32) (x3 : Vec F S1x8x640 .f32) : Vec F S1x1x64 .f32 :=
  View.canon [⟨(Rect.unit (s := S1x1x64) ![0, 0, 0] S1x1x64.size inb_S1x1x64_S1x1x64_0_0_0), k5_pay11 (nmsOf x0 x1 x2 x3).2.2.2.2.2.1⟩]
/-- Window 6: their classes. -/
def out5_6 (x0 : Vec F S1x4x8x640 .f32) (x1 : Vec F S1x8x640 .f32) (x2 : Vec F S1x8x640 .f32) (x3 : Vec F S1x8x640 .f32) : Vec F S1x1x64 .f32 :=
  View.canon [⟨(Rect.unit (s := S1x1x64) ![0, 0, 0] S1x1x64.size inb_S1x1x64_S1x1x64_0_0_0), k5_pay12 (nmsOf x0 x1 x2 x3).2.2.2.2.2.2⟩]

set_option maxHeartbeats 4000000 in
/-- The suppression body on whole buffers: the inputs stay, the outputs end at `out5_4`, `out5_5`, `out5_6` of them. -/
theorem run5 (c : Dev nD) (E : Set ℕ) (i : grid5.Coords) (arg1 : Memref sig .tc .vmem S1x4x8x640 .f32) (h1 : arg1.IsWhole) (arg2 : Memref sig .tc .vmem S1x8x640 .f32) (h2 : arg2.IsWhole) (arg3 : Memref sig .tc .vmem S1x8x640 .f32) (h3 : arg3.IsWhole) (arg4 : Memref sig .tc .vmem S1x8x640 .f32) (h4 : arg4.IsWhole) (arg5 : Memref sig .tc .vmem S1x4x64 .f32) (h5 : arg5.IsWhole) (arg6 : Memref sig .tc .vmem S1x1x64 .f32) (h6 : arg6.IsWhole) (arg7 : Memref sig .tc .vmem S1x1x64 .f32) (h7 : arg7.IsWhole)
    (x0 : Vec F S1x4x8x640 .f32) (x1 : Vec F S1x8x640 .f32) (x2 : Vec F S1x8x640 .f32) (x3 : Vec F S1x8x640 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3) ∗ owns (c : Thread nD τ) arg6 fullShare (out5_5 x0 x1 x2 x3) ∗ owns (c : Thread nD τ) arg7 fullShare (out5_6 x0 x1 x2 x3)) -∗ K ⟨⟩))
      ⊢ wp frame (wpE (defs₀ (F := F)) Variants.none c none) E (cc5__nms_kernel i arg1 h1 arg2 h2 arg3 h3 arg4 h4 arg5 h5 arg6 h6 arg7 h7) K := by
  simp only [cc5__nms_kernel_eq_skeleton]; unfold cc5__nms_kernel_skel
  simp only [loop_pure]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (fun y => View.cover_of_tiled [⟨(Rect.unit (s := S1x4x64) ![0, 0, 0] S1x4x64.size inb_S1x4x64_S1x4x64_0_0_0), _⟩] S1x4x64.size (by rfl) y)
  isplitl [H5]
  · iexists _; isplitr
    swap; · iexact H5
    ipureintro
    exact View.read_writes_eq_canon _ _ _ (fun y => View.cover_of_tiled [⟨(Rect.unit (s := S1x1x64) ![0, 0, 0] S1x1x64.size inb_S1x1x64_S1x1x64_0_0_0), _⟩] S1x1x64.size (by rfl) y)
  iexists _; isplitr
  swap; · iexact H6
  ipureintro
  exact View.read_writes_eq_canon _ _ _ (fun y => View.cover_of_tiled [⟨(Rect.unit (s := S1x1x64) ![0, 0, 0] S1x1x64.size inb_S1x1x64_S1x1x64_0_0_0), _⟩] S1x1x64.size (by rfl) y)

/-- Pipeline 5's proof data: the arrays as found, each input's buffer at its block, each output's at what the body stores. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => out5_4 (blk5 V c 0 t) (blk5 V c 1 t) (blk5 V c 2 t) (blk5 V c 3 t)
    | ⟨5, _⟩ => out5_5 (blk5 V c 0 t) (blk5 V c 1 t) (blk5 V c 2 t) (blk5 V c 3 t)
    | ⟨6, _⟩ => out5_6 (blk5 V c 0 t) (blk5 V c 1 t) (blk5 V c 2 t) (blk5 V c 3 t)
  Φ _ := Pipeline.ΦA spec5 c
  q _ := fullShare
  owed _ := 0

/-- The data's arrays are the entry contents. -/
theorem dat5_A (c : Dev nD) (w : Fin cfg5.W) : (dat5 V c).A w = V c (Pipeline.arrRef spec5 w) := by
  dsimp only [dat5]

/-- A step of region 5 leaves its input window 0 as it was fetched. -/
theorem dat5_after0 (c : Dev nD) (t : Fin cfg5.N) : (dat5 V c).after 0 t = blk5 V c 0 t := by dsimp only [dat5]
/-- A step of region 5 leaves its input window 1 as it was fetched. -/
theorem dat5_after1 (c : Dev nD) (t : Fin cfg5.N) : (dat5 V c).after 1 t = blk5 V c 1 t := by dsimp only [dat5]
/-- A step of region 5 leaves its input window 2 as it was fetched. -/
theorem dat5_after2 (c : Dev nD) (t : Fin cfg5.N) : (dat5 V c).after 2 t = blk5 V c 2 t := by dsimp only [dat5]
/-- A step of region 5 leaves its input window 3 as it was fetched. -/
theorem dat5_after3 (c : Dev nD) (t : Fin cfg5.N) : (dat5 V c).after 3 t = blk5 V c 3 t := by dsimp only [dat5]
/-- A step of region 5 leaves in window 4 what the body computes from its inputs. -/
theorem dat5_after4 (c : Dev nD) (t : Fin cfg5.N) : (dat5 V c).after 4 t = out5_4 (blk5 V c 0 t) (blk5 V c 1 t) (blk5 V c 2 t) (blk5 V c 3 t) := by dsimp only [dat5]
/-- A step of region 5 leaves in window 5 what the body computes from its inputs. -/
theorem dat5_after5 (c : Dev nD) (t : Fin cfg5.N) : (dat5 V c).after 5 t = out5_5 (blk5 V c 0 t) (blk5 V c 1 t) (blk5 V c 2 t) (blk5 V c 3 t) := by dsimp only [dat5]
/-- A step of region 5 leaves in window 6 what the body computes from its inputs. -/
theorem dat5_after6 (c : Dev nD) (t : Fin cfg5.N) : (dat5 V c).after 6 t = out5_6 (blk5 V c 0 t) (blk5 V c 1 t) (blk5 V c 2 t) (blk5 V c 3 t) := by dsimp only [dat5]
/-- Input 0's buffer holds its block when the body runs. -/
theorem dat5_before0 (c : Dev nD) (t : Fin cfg5.N) (d) : (dat5 V c).before 0 t d = blk5 V c 0 t :=
  ((dat5 V c).before_in_eq_fetched 0 rfl (fun _ => rfl) (fun _ _ _ => rfl)
      (fun t => by rw [dat5_after0]; unfold Dat.blockOf blk5; rw [dat5_A]; try rfl) t d).trans
    (by unfold Dat.fetched Dat.blockOf blk5; rw [dat5_A]; try rfl)
/-- Input 1's buffer holds its block when the body runs. -/
theorem dat5_before1 (c : Dev nD) (t : Fin cfg5.N) (d) : (dat5 V c).before 1 t d = blk5 V c 1 t :=
  ((dat5 V c).before_in_eq_fetched 1 rfl (fun _ => rfl) (fun _ _ _ => rfl)
      (fun t => by rw [dat5_after1]; unfold Dat.blockOf blk5; rw [dat5_A]; try rfl) t d).trans
    (by unfold Dat.fetched Dat.blockOf blk5; rw [dat5_A]; try rfl)
/-- Input 2's buffer holds its block when the body runs. -/
theorem dat5_before2 (c : Dev nD) (t : Fin cfg5.N) (d) : (dat5 V c).before 2 t d = blk5 V c 2 t :=
  ((dat5 V c).before_in_eq_fetched 2 rfl (fun _ => rfl) (fun _ _ _ => rfl)
      (fun t => by rw [dat5_after2]; unfold Dat.blockOf blk5; rw [dat5_A]; try rfl) t d).trans
    (by unfold Dat.fetched Dat.blockOf blk5; rw [dat5_A]; try rfl)
/-- Input 3's buffer holds its block when the body runs. -/
theorem dat5_before3 (c : Dev nD) (t : Fin cfg5.N) (d) : (dat5 V c).before 3 t d = blk5 V c 3 t :=
  ((dat5 V c).before_in_eq_fetched 3 rfl (fun _ => rfl) (fun _ _ _ => rfl)
      (fun t => by rw [dat5_after3]; unfold Dat.blockOf blk5; rw [dat5_A]; try rfl) t d).trans
    (by unfold Dat.fetched Dat.blockOf blk5; rw [dat5_A]; try rfl)

/-- The body of region 5 at any point: its inputs hold their blocks, so the body's run applies. -/
theorem body5 (c : Dev nD) (t : Fin cfg5.N) :
    iprop((dat5 V c).Φ t.castSucc ∗ (dat5 V c).owesAt () t.castSucc ∗ (∃ d, owns (c : Thread nD τ) (st5_0 t) fullShare ((dat5 V c).before 0 t d)) ∗ (∃ d, owns (c : Thread nD τ) (st5_1 t) fullShare ((dat5 V c).before 1 t d)) ∗ (∃ d, owns (c : Thread nD τ) (st5_2 t) fullShare ((dat5 V c).before 2 t d)) ∗ (∃ d, owns (c : Thread nD τ) (st5_3 t) fullShare ((dat5 V c).before 3 t d)) ∗ (∃ d, owns (c : Thread nD τ) (st5_4 t) fullShare ((dat5 V c).before 4 t d)) ∗ (∃ d, owns (c : Thread nD τ) (st5_5 t) fullShare ((dat5 V c).before 5 t d)) ∗ (∃ d, owns (c : Thread nD τ) (st5_6 t) fullShare ((dat5 V c).before 6 t d)))
      ⊢ wp frame (wpE (defs₀ (F := F)) Variants.none c none) Set.univ (bodyAt5 t)
        (fun _ => iprop((dat5 V c).Φ t.succ ∗ (dat5 V c).owesAt () t.succ ∗ owns (c : Thread nD τ) (st5_0 t) fullShare ((dat5 V c).after 0 t) ∗ owns (c : Thread nD τ) (st5_1 t) fullShare ((dat5 V c).after 1 t) ∗ owns (c : Thread nD τ) (st5_2 t) fullShare ((dat5 V c).after 2 t) ∗ owns (c : Thread nD τ) (st5_3 t) fullShare ((dat5 V c).after 3 t) ∗ owns (c : Thread nD τ) (st5_4 t) fullShare ((dat5 V c).after 4 t) ∗ owns (c : Thread nD τ) (st5_5 t) fullShare ((dat5 V c).after 5 t) ∗ owns (c : Thread nD τ) (st5_6 t) fullShare ((dat5 V c).after 6 t))) := by
  unfold bodyAt5
  simp only [dat5_before0, dat5_before1, dat5_before2, dat5_before3]
  rw [show (dat5 V c).Φ t.succ = (dat5 V c).Φ t.castSucc from rfl,
    show (dat5 V c).owesAt () t.succ = (dat5 V c).owesAt () t.castSucc from rfl, dat5_after0, dat5_after1, dat5_after2, dat5_after3, dat5_after4, dat5_after5, dat5_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run5 c Set.univ _ _ _ _ _ _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the pipeline asks of region 5's body. -/
theorem obligation5 (c : Dev nD) : BodyObligation (dat5 (F := F) V c) (defs₀ (F := F)) Variants.none () Set.univ := fun t => by
  rw [bigSep_W5, bigSep_W5, show defs₀ (F := F) .tc cfg5.body (cfg5.bodyArgs t (cfg5.slots t)) = bodyAt5 t from by
    unfold defs₀; rw [Defs.onTc_tc]]
  exact triple_restated (body5 V c t) rfl .rfl fun _ => .rfl

end Cert.KernelIdeal.Fcos

end
-- ==== Proof.RunKernelIdeal.lean ====
/- The run of `KernelIdeal`'s @main: its six regions as segments between the host stretches, and what the memory holds at the
   end. `Good m outs` says that the contents `outs` are what the six pipelines leave when each is entered from the contents
   the items before it leave; such contents exist (`good_exists`), and every execution ends with every unscoped buffer at
   the last valuation `V51 m outs` and every counter at zero (`run_contents`). -/
module

public import proofs.«01_k».proof.Proof.BodyKernelIdeal
public import proofs.«01_k».proof.Proof.Gen.KernelIdeal.Regions

@[expose] public section

set_option maxRecDepth 16384

noncomputable section

namespace Cert.KernelIdeal.Fcos

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-- A valuation read at the TensorCore's references. -/
abbrev entry (W : Dev nD → Valuation τ sig (Elt F)) : Entry F := fun c b => W c b

/-- Every pipeline's proof data, each at its region's entry contents. -/
def pdats : (p : Fin 6) → (c : Dev nD) → Dat τ (Elt F) Unit ℕ (UR sig nD τ) ℕ (cfgs p) c
  | ⟨0, _⟩ => fun c => dat0 (entry (V1 m)) c
  | ⟨1, _⟩ => fun c => dat1 (entry (V9 m outs)) c
  | ⟨2, _⟩ => fun c => dat2 (entry (V17 m outs)) c
  | ⟨3, _⟩ => fun c => dat3 (entry (V25 m outs)) c
  | ⟨4, _⟩ => fun c => dat4 (entry (V33 m outs)) c
  | ⟨5, _⟩ => fun c => dat5 (entry (V49 m outs)) c

/-- No core owes another anything, and no level is assigned. -/
abbrev noLev : GSem nD τ sig → Finset Unit := fun _ => ∅
abbrev lev0 : GSem nD τ sig → Unit → ℕ := fun _ _ => 0

/-- What rides beside the buffers: the generator register at some state, and nothing owed. -/
abbrev Rest (c : Dev nD) : sProp 𝕄 := iprop((∃ r, prngReg c r) ∗ ∃ W, owes (c : Thread nD τ) (0 : CellTallies nD τ sig Unit) W)

-- the library's lemmas are stated at the pinned configuration, met here by unfolding definitions in types
set_option backward.isDefEq.respectTransparency.types false in
/-- A region as a segment, for any of the six: entered from every unscoped buffer at `Wa`, left at `Wb`, given that the data's
    arrays are `Wa`'s, that what the pipeline leaves in its arrays is `Wb`'s and that the other buffers do not change. -/
def segOf (p : Fin 6) (lf : Pipeline.LaunchFacts (nD := nD) (τ := τ) cfgs p)
    (pd : (p : Fin 6) → (c : Dev nD) → Dat τ (Elt F) Unit ℕ (UR sig nD τ) ℕ (cfgs p) c)
    (hbody : ∀ c, BodyObligation (pd p c) (defs₀ (F := F)) Variants.none () Set.univ)
    (hΦ : ∀ c t, (pd p c).Φ t = Pipeline.ΦA (cfgs p).spec c) (hq : ∀ c w, (pd p c).q w = fullShare) (ho : ∀ c t, (pd p c).owed t = 0)
    (hr : ∀ c t x, x ∈ (pd p c).recorded t)
    (Wa Wb : Dev nD → Valuation τ sig (Elt F))
    (hA : ∀ c w, (pd p c).A w = Wa c (Proc.devRef .tc (Pipeline.arrRef (cfgs p).spec w)))
    (hF : ∀ c w, (pd p c).arrAt w (cfgs p).N = Wb c (Proc.devRef .tc (Pipeline.arrRef (cfgs p).spec w)))
    (hrest : ∀ c (b : Ref sig .tc), b ∉ Finset.univ.image (Pipeline.arrRef (cfgs p).spec) → Wb c (Proc.devRef .tc b) = Wa c (Proc.devRef .tc b)) :
    Pipeline.RegionSeg (pcfgs (F := F)) adm pd () defs₀ Variants.none noLev lev0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLev lev0 p fun c t => ho c t
  pre c := iprop(StableHlo.held (c : Thread nD τ) (Pipeline.ucRefs τ sig) (Wa c) ∗ Rest c)
  post c := iprop(StableHlo.held (c : Thread nD τ) (Pipeline.ucRefs τ sig) (Wb c) ∗ Rest c)
  X c := iprop(∃ r, prngReg c r)
  Y c := iprop(∃ r, prngReg c r)
  Z c := Pipeline.unscopedRest (Ix := Unit) (Name := ℕ) (U := UR sig nD τ) (Lvl := ℕ) (cfgs p).spec c (entry Wa c)
  hentry c := by
    rw [Pipeline.ownSems0_none]
    have hsplit := Pipeline.arrays_of_unscopedBufs (p := p) (pcfgs (F := F)) adm pd lf.win lf.arr_whole c
      ((pd p c).share_full fun w => hq c w) (entry Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd p c).owed 0 = 0 from ho c 0]
      icases HO with ⟨%W, HO⟩; iexists W; isplitr; · ipureintro; exact fun x _ => Or.inl (hr c 0 x)
      iexact HO
    isplitl [Hp]; · iexact Hp
    iexact Hrest
  hin c := by
    rw [show (pd p c).Φ 0 = Pipeline.ΦA (cfgs p).spec c from hΦ c 0]; unfold Pipeline.ΦA
    iintro ⟨Hp, -, Hr⟩
    isplitl [Hr]; · iexact Hr
    iexact Hp
  hout c := by
    rw [Pipeline.ownSems0_none, show (pd p c).Φ (Fin.last _) = Pipeline.ΦA (cfgs p).spec c from hΦ c _]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full fun w => hq c w)
      (entry Wa c) (entry Wb c) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pd p c).owed (Fin.last _) = 0 from ho c _]
    icases HO with ⟨%W, -, HO⟩; iexists W; iexact HO

/-- `outs` are what the six pipelines leave, each entered from what the items before it leave. -/
structure Good : Prop where
  g0 : ∀ c, outs 2 main_v6 c = (dat0 (entry (V1 m)) c).arrAt 2 cfg0.N
  g1 : ∀ c, outs 10 main_v18 c = (dat1 (entry (V9 m outs)) c).arrAt 2 cfg1.N
  g2 : ∀ c, outs 18 main_v30 c = (dat2 (entry (V17 m outs)) c).arrAt 2 cfg2.N
  g3 : ∀ c, outs 26 main_v42 c = (dat3 (entry (V25 m outs)) c).arrAt 2 cfg3.N
  g4 : ∀ c, outs 34 main_v54 c = (dat4 (entry (V33 m outs)) c).arrAt 2 cfg4.N
  g5_4 : ∀ c, outs 50 main_v75_0 c = (dat5 (entry (V49 m outs)) c).arrAt 4 cfg5.N
  g5_5 : ∀ c, outs 50 main_v75_1 c = (dat5 (entry (V49 m outs)) c).arrAt 5 cfg5.N
  g5_6 : ∀ c, outs 50 main_v75_2 c = (dat5 (entry (V49 m outs)) c).arrAt 6 cfg5.N

/-- The contents `outs` with what one item leaves in one buffer set, the rest as before. -/
theorem exists_set (outs : Outs (F := F)) (j : ℕ) (r : Ref sig .tc) (x : (c : Dev nD) → Buf (Elt F) ((c : Thread nD τ).loc r)) :
    ∃ o : Outs (F := F), o j r = x ∧ (∀ j' r', j' ≠ j → o j' r' = outs j' r') ∧ ∀ r', r' ≠ r → o j r' = outs j r' :=
  ⟨Function.update outs j (Function.update (outs j) r x), by rw [Function.update_self, Function.update_self],
    fun j' r' h => by rw [Function.update_of_ne h], fun r' h => by rw [Function.update_self, Function.update_of_ne h]⟩

section Agree
variable {outs} {outs' : Outs (F := F)}

/-- The contents region 1 is entered from depend on what the regions before it leave alone. -/
theorem entry1_agree (h0 : outs 2 main_v6 = outs' 2 main_v6) : V9 m outs = V9 m outs' := by
  funext c
  have e : V2 m outs c = V2 m outs' c := by simp only [V2]; rw [h0]
  simp only [V9, V8, V7, V6, V5, V4, V3]; rw [e]

/-- The contents region 2 is entered from depend on what the regions before it leave alone. -/
theorem entry2_agree (h0 : outs 2 main_v6 = outs' 2 main_v6) (h1 : outs 10 main_v18 = outs' 10 main_v18) : V17 m outs = V17 m outs' := by
  funext c
  have e : V10 m outs c = V10 m outs' c := by simp only [V10]; rw [h1, entry1_agree m h0]
  simp only [V17, V16, V15, V14, V13, V12, V11]; rw [e]

/-- The contents region 3 is entered from depend on what the regions before it leave alone. -/
theorem entry3_agree (h0 : outs 2 main_v6 = outs' 2 main_v6) (h1 : outs 10 main_v18 = outs' 10 main_v18) (h2 : outs 18 main_v30 = outs' 18 main_v30) : V25 m outs = V25 m outs' := by
  funext c
  have e : V18 m outs c = V18 m outs' c := by simp only [V18]; rw [h2, entry2_agree m h0 h1]
  simp only [V25, V24, V23, V22, V21, V20, V19]; rw [e]

/-- The contents region 4 is entered from depend on what the regions before it leave alone. -/
theorem entry4_agree (h0 : outs 2 main_v6 = outs' 2 main_v6) (h1 : outs 10 main_v18 = outs' 10 main_v18) (h2 : outs 18 main_v30 = outs' 18 main_v30) (h3 : outs 26 main_v42 = outs' 26 main_v42) : V33 m outs = V33 m outs' := by
  funext c
  have e : V26 m outs c = V26 m outs' c := by simp only [V26]; rw [h3, entry3_agree m h0 h1 h2]
  simp only [V33, V32, V31, V30, V29, V28, V27]; rw [e]

/-- The contents region 5 is entered from depend on what the regions before it leave alone. -/
theorem entry5_agree (h0 : outs 2 main_v6 = outs' 2 main_v6) (h1 : outs 10 main_v18 = outs' 10 main_v18) (h2 : outs 18 main_v30 = outs' 18 main_v30) (h3 : outs 26 main_v42 = outs' 26 main_v42) (h4 : outs 34 main_v54 = outs' 34 main_v54) : V49 m outs = V49 m outs' := by
  funext c
  have e : V34 m outs c = V34 m outs' c := by simp only [V34]; rw [h4, entry4_agree m h0 h1 h2 h3]
  simp only [V49, V48, V47, V46, V45, V44, V43, V42, V41, V40, V39, V38, V37, V36, V35]; rw [e]

end Agree

/-- Such contents exist: set them region by region. -/
theorem good_exists : ∃ outs : Outs (F := F), Good m outs := by
  obtain ⟨o1, s1, i1, -⟩ := exists_set (F := F) (fun _ r c => m ((c : Thread nD τ).loc r)) 2 main_v6 fun c => (dat0 (entry (V1 m)) c).arrAt 2 cfg0.N
  obtain ⟨o2, s2, i2, -⟩ := exists_set (F := F) o1 10 main_v18 fun c => (dat1 (entry (V9 m o1)) c).arrAt 2 cfg1.N
  obtain ⟨o3, s3, i3, -⟩ := exists_set (F := F) o2 18 main_v30 fun c => (dat2 (entry (V17 m o2)) c).arrAt 2 cfg2.N
  obtain ⟨o4, s4, i4, -⟩ := exists_set (F := F) o3 26 main_v42 fun c => (dat3 (entry (V25 m o3)) c).arrAt 2 cfg3.N
  obtain ⟨o5, s5, i5, -⟩ := exists_set (F := F) o4 34 main_v54 fun c => (dat4 (entry (V33 m o4)) c).arrAt 2 cfg4.N
  obtain ⟨o6, s6, i6, r6⟩ := exists_set (F := F) o5 50 main_v75_0 fun c => (dat5 (entry (V49 m o5)) c).arrAt 4 cfg5.N
  obtain ⟨o7, s7, i7, r7⟩ := exists_set (F := F) o6 50 main_v75_1 fun c => (dat5 (entry (V49 m o5)) c).arrAt 5 cfg5.N
  obtain ⟨o8, s8, i8, r8⟩ := exists_set (F := F) o7 50 main_v75_2 fun c => (dat5 (entry (V49 m o5)) c).arrAt 6 cfg5.N
  have u2_0 : o2 2 main_v6 = o1 2 main_v6 := i2 2 main_v6 (by decide)
  have u2_1 : o2 10 main_v18 = o2 10 main_v18 := rfl
  have u3_0 : o3 2 main_v6 = o1 2 main_v6 := (i3 2 main_v6 (by decide)).trans (i2 2 main_v6 (by decide))
  have u3_1 : o3 10 main_v18 = o2 10 main_v18 := i3 10 main_v18 (by decide)
  have u3_2 : o3 18 main_v30 = o3 18 main_v30 := rfl
  have u4_0 : o4 2 main_v6 = o1 2 main_v6 := (i4 2 main_v6 (by decide)).trans ((i3 2 main_v6 (by decide)).trans (i2 2 main_v6 (by decide)))
  have u4_1 : o4 10 main_v18 = o2 10 main_v18 := (i4 10 main_v18 (by decide)).trans (i3 10 main_v18 (by decide))
  have u4_2 : o4 18 main_v30 = o3 18 main_v30 := i4 18 main_v30 (by decide)
  have u4_3 : o4 26 main_v42 = o4 26 main_v42 := rfl
  have u5_0 : o5 2 main_v6 = o1 2 main_v6 := (i5 2 main_v6 (by decide)).trans ((i4 2 main_v6 (by decide)).trans ((i3 2 main_v6 (by decide)).trans (i2 2 main_v6 (by decide))))
  have u5_1 : o5 10 main_v18 = o2 10 main_v18 := (i5 10 main_v18 (by decide)).trans ((i4 10 main_v18 (by decide)).trans (i3 10 main_v18 (by decide)))
  have u5_2 : o5 18 main_v30 = o3 18 main_v30 := (i5 18 main_v30 (by decide)).trans (i4 18 main_v30 (by decide))
  have u5_3 : o5 26 main_v42 = o4 26 main_v42 := i5 26 main_v42 (by decide)
  have u5_4 : o5 34 main_v54 = o5 34 main_v54 := rfl
  have u8_0 : o8 2 main_v6 = o1 2 main_v6 := (i8 2 main_v6 (by decide)).trans ((i7 2 main_v6 (by decide)).trans ((i6 2 main_v6 (by decide)).trans ((i5 2 main_v6 (by decide)).trans ((i4 2 main_v6 (by decide)).trans ((i3 2 main_v6 (by decide)).trans (i2 2 main_v6 (by decide)))))))
  have u8_1 : o8 10 main_v18 = o2 10 main_v18 := (i8 10 main_v18 (by decide)).trans ((i7 10 main_v18 (by decide)).trans ((i6 10 main_v18 (by decide)).trans ((i5 10 main_v18 (by decide)).trans ((i4 10 main_v18 (by decide)).trans (i3 10 main_v18 (by decide))))))
  have u8_2 : o8 18 main_v30 = o3 18 main_v30 := (i8 18 main_v30 (by decide)).trans ((i7 18 main_v30 (by decide)).trans ((i6 18 main_v30 (by decide)).trans ((i5 18 main_v30 (by decide)).trans (i4 18 main_v30 (by decide)))))
  have u8_3 : o8 26 main_v42 = o4 26 main_v42 := (i8 26 main_v42 (by decide)).trans ((i7 26 main_v42 (by decide)).trans ((i6 26 main_v42 (by decide)).trans (i5 26 main_v42 (by decide))))
  have u8_4 : o8 34 main_v54 = o5 34 main_v54 := (i8 34 main_v54 (by decide)).trans ((i7 34 main_v54 (by decide)).trans (i6 34 main_v54 (by decide)))
  have u1_0 : o1 2 main_v6 = o1 2 main_v6 := rfl
  refine ⟨o8, ?_, ?_, ?_, ?_, ?_, ?_, ?_, ?_⟩
  · intro c; rw [u8_0, s1]
  · intro c; rw [u8_1, entry1_agree m (u8_0.trans u1_0.symm), s2]
  · intro c; rw [u8_2, entry2_agree m (u8_0.trans u2_0.symm) (u8_1.trans u2_1.symm), s3]
  · intro c; rw [u8_3, entry3_agree m (u8_0.trans u3_0.symm) (u8_1.trans u3_1.symm) (u8_2.trans u3_2.symm), s4]
  · intro c; rw [u8_4, entry4_agree m (u8_0.trans u4_0.symm) (u8_1.trans u4_1.symm) (u8_2.trans u4_2.symm) (u8_3.trans u4_3.symm), s5]
  · intro c; rw [entry5_agree m (u8_0.trans u5_0.symm) (u8_1.trans u5_1.symm) (u8_2.trans u5_2.symm) (u8_3.trans u5_3.symm) (u8_4.trans u5_4.symm), r8 main_v75_0 (by decide), r7 main_v75_0 (by decide), s6]
  · intro c; rw [entry5_agree m (u8_0.trans u5_0.symm) (u8_1.trans u5_1.symm) (u8_2.trans u5_2.symm) (u8_3.trans u5_3.symm) (u8_4.trans u5_4.symm), r8 main_v75_1 (by decide), s7]
  · intro c; rw [entry5_agree m (u8_0.trans u5_0.symm) (u8_1.trans u5_1.symm) (u8_2.trans u5_2.symm) (u8_3.trans u5_3.symm) (u8_4.trans u5_4.symm), s8]

variable {outs}

/-- Region 0 leaves its output array at its write-backs and its inputs as they were. -/
theorem left0 (hg : Good m outs) (c : Dev nD) (w : Fin cfg0.W) :
    (dat0 (entry (V1 m)) c).arrAt w cfg0.N = V2 m outs c (Proc.devRef .tc (Pipeline.arrRef spec0 w)) := by
  match w with
  | ⟨0, _⟩ => exact (((dat0 (entry (V1 m)) c).arrAt_in 0 rfl _).trans (dat0_A _ c 0)).trans (V2_of m outs c (Pipeline.arrRef spec0 0) (by decide)).symm
  | ⟨1, _⟩ => exact (((dat0 (entry (V1 m)) c).arrAt_in 1 rfl _).trans (dat0_A _ c 1)).trans (V2_of m outs c (Pipeline.arrRef spec0 1) (by decide)).symm
  | ⟨2, _⟩ =>
    refine (hg.g0 c).symm.trans ?_
    exact (Function.update_self (Proc.devRef .tc main_v6 : DevRef τ sig) (outs 2 main_v6 c) (V1 m c)).symm

/-- Region 0 leaves every buffer that is not one of its arrays as it was. -/
theorem kept0 (c : Dev nD) (b : Ref sig .tc) (hb : b ∉ Finset.univ.image (Pipeline.arrRef spec0)) :
    V2 m outs c (Proc.devRef .tc b) = V1 m c (Proc.devRef .tc b) :=
  V2_of m outs c b fun h => hb (Finset.mem_image.mpr ⟨2, Finset.mem_univ _, (List.mem_singleton.mp h).symm⟩)

/-- Region 1 leaves its output array at its write-backs and its inputs as they were. -/
theorem left1 (hg : Good m outs) (c : Dev nD) (w : Fin cfg1.W) :
    (dat1 (entry (V9 m outs)) c).arrAt w cfg1.N = V10 m outs c (Proc.devRef .tc (Pipeline.arrRef spec1 w)) := by
  match w with
  | ⟨0, _⟩ => exact (((dat1 (entry (V9 m outs)) c).arrAt_in 0 rfl _).trans (dat1_A _ c 0)).trans (V10_of m outs c (Pipeline.arrRef spec1 0) (by decide)).symm
  | ⟨1, _⟩ => exact (((dat1 (entry (V9 m outs)) c).arrAt_in 1 rfl _).trans (dat1_A _ c 1)).trans (V10_of m outs c (Pipeline.arrRef spec1 1) (by decide)).symm
  | ⟨2, _⟩ =>
    refine (hg.g1 c).symm.trans ?_
    exact (Function.update_self (Proc.devRef .tc main_v18 : DevRef τ sig) (outs 10 main_v18 c) (V9 m outs c)).symm

/-- Region 1 leaves every buffer that is not one of its arrays as it was. -/
theorem kept1 (c : Dev nD) (b : Ref sig .tc) (hb : b ∉ Finset.univ.image (Pipeline.arrRef spec1)) :
    V10 m outs c (Proc.devRef .tc b) = V9 m outs c (Proc.devRef .tc b) :=
  V10_of m outs c b fun h => hb (Finset.mem_image.mpr ⟨2, Finset.mem_univ _, (List.mem_singleton.mp h).symm⟩)

/-- Region 2 leaves its output array at its write-backs and its inputs as they were. -/
theorem left2 (hg : Good m outs) (c : Dev nD) (w : Fin cfg2.W) :
    (dat2 (entry (V17 m outs)) c).arrAt w cfg2.N = V18 m outs c (Proc.devRef .tc (Pipeline.arrRef spec2 w)) := by
  match w with
  | ⟨0, _⟩ => exact (((dat2 (entry (V17 m outs)) c).arrAt_in 0 rfl _).trans (dat2_A _ c 0)).trans (V18_of m outs c (Pipeline.arrRef spec2 0) (by decide)).symm
  | ⟨1, _⟩ => exact (((dat2 (entry (V17 m outs)) c).arrAt_in 1 rfl _).trans (dat2_A _ c 1)).trans (V18_of m outs c (Pipeline.arrRef spec2 1) (by decide)).symm
  | ⟨2, _⟩ =>
    refine (hg.g2 c).symm.trans ?_
    exact (Function.update_self (Proc.devRef .tc main_v30 : DevRef τ sig) (outs 18 main_v30 c) (V17 m outs c)).symm

/-- Region 2 leaves every buffer that is not one of its arrays as it was. -/
theorem kept2 (c : Dev nD) (b : Ref sig .tc) (hb : b ∉ Finset.univ.image (Pipeline.arrRef spec2)) :
    V18 m outs c (Proc.devRef .tc b) = V17 m outs c (Proc.devRef .tc b) :=
  V18_of m outs c b fun h => hb (Finset.mem_image.mpr ⟨2, Finset.mem_univ _, (List.mem_singleton.mp h).symm⟩)

/-- Region 3 leaves its output array at its write-backs and its inputs as they were. -/
theorem left3 (hg : Good m outs) (c : Dev nD) (w : Fin cfg3.W) :
    (dat3 (entry (V25 m outs)) c).arrAt w cfg3.N = V26 m outs c (Proc.devRef .tc (Pipeline.arrRef spec3 w)) := by
  match w with
  | ⟨0, _⟩ => exact (((dat3 (entry (V25 m outs)) c).arrAt_in 0 rfl _).trans (dat3_A _ c 0)).trans (V26_of m outs c (Pipeline.arrRef spec3 0) (by decide)).symm
  | ⟨1, _⟩ => exact (((dat3 (entry (V25 m outs)) c).arrAt_in 1 rfl _).trans (dat3_A _ c 1)).trans (V26_of m outs c (Pipeline.arrRef spec3 1) (by decide)).symm
  | ⟨2, _⟩ =>
    refine (hg.g3 c).symm.trans ?_
    exact (Function.update_self (Proc.devRef .tc main_v42 : DevRef τ sig) (outs 26 main_v42 c) (V25 m outs c)).symm

/-- Region 3 leaves every buffer that is not one of its arrays as it was. -/
theorem kept3 (c : Dev nD) (b : Ref sig .tc) (hb : b ∉ Finset.univ.image (Pipeline.arrRef spec3)) :
    V26 m outs c (Proc.devRef .tc b) = V25 m outs c (Proc.devRef .tc b) :=
  V26_of m outs c b fun h => hb (Finset.mem_image.mpr ⟨2, Finset.mem_univ _, (List.mem_singleton.mp h).symm⟩)

/-- Region 4 leaves its output array at its write-backs and its inputs as they were. -/
theorem left4 (hg : Good m outs) (c : Dev nD) (w : Fin cfg4.W) :
    (dat4 (entry (V33 m outs)) c).arrAt w cfg4.N = V34 m outs c (Proc.devRef .tc (Pipeline.arrRef spec4 w)) := by
  match w with
  | ⟨0, _⟩ => exact (((dat4 (entry (V33 m outs)) c).arrAt_in 0 rfl _).trans (dat4_A _ c 0)).trans (V34_of m outs c (Pipeline.arrRef spec4 0) (by decide)).symm
  | ⟨1, _⟩ => exact (((dat4 (entry (V33 m outs)) c).arrAt_in 1 rfl _).trans (dat4_A _ c 1)).trans (V34_of m outs c (Pipeline.arrRef spec4 1) (by decide)).symm
  | ⟨2, _⟩ =>
    refine (hg.g4 c).symm.trans ?_
    exact (Function.update_self (Proc.devRef .tc main_v54 : DevRef τ sig) (outs 34 main_v54 c) (V33 m outs c)).symm

/-- Region 4 leaves every buffer that is not one of its arrays as it was. -/
theorem kept4 (c : Dev nD) (b : Ref sig .tc) (hb : b ∉ Finset.univ.image (Pipeline.arrRef spec4)) :
    V34 m outs c (Proc.devRef .tc b) = V33 m outs c (Proc.devRef .tc b) :=
  V34_of m outs c b fun h => hb (Finset.mem_image.mpr ⟨2, Finset.mem_univ _, (List.mem_singleton.mp h).symm⟩)

section Out5
variable (outs)
/-- The last region's three outputs are read back where its exit contents put them. -/
theorem V50_v75_2 (c : Dev nD) : V50 m outs c main_v75_2 = outs 50 main_v75_2 c := by
  simp only [V50, Function.update_self]
/-- The second of them. -/
theorem V50_v75_1 (c : Dev nD) : V50 m outs c main_v75_1 = outs 50 main_v75_1 c := by
  simp only [V50, Function.update_of_ne (StableHlo.devRef_ne_of_ne (by decide) : (Proc.devRef .tc main_v75_1 : DevRef τ sig) ≠ Proc.devRef .tc main_v75_2), Function.update_self]
/-- The first of them. -/
theorem V50_v75_0 (c : Dev nD) : V50 m outs c main_v75_0 = outs 50 main_v75_0 c := by
  simp only [V50, Function.update_of_ne (StableHlo.devRef_ne_of_ne (by decide) : (Proc.devRef .tc main_v75_0 : DevRef τ sig) ≠ Proc.devRef .tc main_v75_2),
    Function.update_of_ne (StableHlo.devRef_ne_of_ne (by decide) : (Proc.devRef .tc main_v75_0 : DevRef τ sig) ≠ Proc.devRef .tc main_v75_1), Function.update_self]
end Out5

/-- Region 5 leaves its three output arrays at their write-backs and its inputs as they were. -/
theorem left5 (hg : Good m outs) (c : Dev nD) (w : Fin cfg5.W) :
    (dat5 (entry (V49 m outs)) c).arrAt w cfg5.N = V50 m outs c (Proc.devRef .tc (Pipeline.arrRef spec5 w)) := by
  match w with
  | ⟨0, _⟩ => exact (((dat5 (entry (V49 m outs)) c).arrAt_in 0 rfl _).trans (dat5_A _ c 0)).trans (V50_of m outs c (Pipeline.arrRef spec5 0) (by decide)).symm
  | ⟨1, _⟩ => exact (((dat5 (entry (V49 m outs)) c).arrAt_in 1 rfl _).trans (dat5_A _ c 1)).trans (V50_of m outs c (Pipeline.arrRef spec5 1) (by decide)).symm
  | ⟨2, _⟩ => exact (((dat5 (entry (V49 m outs)) c).arrAt_in 2 rfl _).trans (dat5_A _ c 2)).trans (V50_of m outs c (Pipeline.arrRef spec5 2) (by decide)).symm
  | ⟨3, _⟩ => exact (((dat5 (entry (V49 m outs)) c).arrAt_in 3 rfl _).trans (dat5_A _ c 3)).trans (V50_of m outs c (Pipeline.arrRef spec5 3) (by decide)).symm
  | ⟨4, _⟩ => exact (hg.g5_4 c).symm.trans (V50_v75_0 m outs c).symm
  | ⟨5, _⟩ => exact (hg.g5_5 c).symm.trans (V50_v75_1 m outs c).symm
  | ⟨6, _⟩ => exact (hg.g5_6 c).symm.trans (V50_v75_2 m outs c).symm

/-- Region 5 leaves every buffer that is not one of its arrays as it was. -/
theorem kept5 (c : Dev nD) (b : Ref sig .tc) (hb : b ∉ Finset.univ.image (Pipeline.arrRef spec5)) :
    V50 m outs c (Proc.devRef .tc b) = V49 m outs c (Proc.devRef .tc b) :=
  V50_of m outs c b fun h => hb (Finset.mem_image.mpr (by
    simp only [List.mem_cons, List.mem_singleton, List.not_mem_nil, or_false] at h
    rcases h with h | h | h
    · exact ⟨4, Finset.mem_univ _, h.symm⟩
    · exact ⟨5, Finset.mem_univ _, h.symm⟩
    · exact ⟨6, Finset.mem_univ _, h.symm⟩))

/-- Region 0 as a segment. -/
def reg0 (hg : Good m outs) : Pipeline.RegionSeg (pcfgs (F := F)) adm (pdats m outs) () defs₀ Variants.none noLev lev0 0 :=
  segOf 0 launch0 (pdats m outs) (fun c => obligation0 (entry (V1 m)) c) (fun _ _ => rfl) (fun _ _ => rfl) (fun _ _ => rfl) (fun _ _ _ => trivial)
    (V1 m) (V2 m outs) (fun c w => dat0_A (entry (V1 m)) c w) (left0 m hg) (kept0 m)

/-- Region 1 as a segment. -/
def reg1 (hg : Good m outs) : Pipeline.RegionSeg (pcfgs (F := F)) adm (pdats m outs) () defs₀ Variants.none noLev lev0 1 :=
  segOf 1 launch1 (pdats m outs) (fun c => obligation1 (entry (V9 m outs)) c) (fun _ _ => rfl) (fun _ _ => rfl) (fun _ _ => rfl) (fun _ _ _ => trivial)
    (V9 m outs) (V10 m outs) (fun c w => dat1_A (entry (V9 m outs)) c w) (left1 m hg) (kept1 m)

/-- Region 2 as a segment. -/
def reg2 (hg : Good m outs) : Pipeline.RegionSeg (pcfgs (F := F)) adm (pdats m outs) () defs₀ Variants.none noLev lev0 2 :=
  segOf 2 launch2 (pdats m outs) (fun c => obligation2 (entry (V17 m outs)) c) (fun _ _ => rfl) (fun _ _ => rfl) (fun _ _ => rfl) (fun _ _ _ => trivial)
    (V17 m outs) (V18 m outs) (fun c w => dat2_A (entry (V17 m outs)) c w) (left2 m hg) (kept2 m)

/-- Region 3 as a segment. -/
def reg3 (hg : Good m outs) : Pipeline.RegionSeg (pcfgs (F := F)) adm (pdats m outs) () defs₀ Variants.none noLev lev0 3 :=
  segOf 3 launch3 (pdats m outs) (fun c => obligation3 (entry (V25 m outs)) c) (fun _ _ => rfl) (fun _ _ => rfl) (fun _ _ => rfl) (fun _ _ _ => trivial)
    (V25 m outs) (V26 m outs) (fun c w => dat3_A (entry (V25 m outs)) c w) (left3 m hg) (kept3 m)

/-- Region 4 as a segment. -/
def reg4 (hg : Good m outs) : Pipeline.RegionSeg (pcfgs (F := F)) adm (pdats m outs) () defs₀ Variants.none noLev lev0 4 :=
  segOf 4 launch4 (pdats m outs) (fun c => obligation4 (entry (V33 m outs)) c) (fun _ _ => rfl) (fun _ _ => rfl) (fun _ _ => rfl) (fun _ _ _ => trivial)
    (V33 m outs) (V34 m outs) (fun c w => dat4_A (entry (V33 m outs)) c w) (left4 m hg) (kept4 m)

/-- Region 5 as a segment. -/
def reg5 (hg : Good m outs) : Pipeline.RegionSeg (pcfgs (F := F)) adm (pdats m outs) () defs₀ Variants.none noLev lev0 5 :=
  segOf 5 launch5 (pdats m outs) (fun c => obligation5 (entry (V49 m outs)) c) (fun _ _ => rfl) (fun _ _ => rfl) (fun _ _ => rfl) (fun _ _ _ => trivial)
    (V49 m outs) (V50 m outs) (fun c w => dat5_A (entry (V49 m outs)) c w) (left5 m hg) (kept5 m)

/-- @main's items as segments. -/
abbrev items (hg : Good m outs) : Dev nD → List (Pipeline.Seg (pcfgs (F := F)) adm (pdats m outs) () defs₀ Variants.none noLev lev0) :=
  Gen.segs m outs Variants.none noLev lev0 (fun _ c => Rest c) () (pdats m outs) (reg0 m hg) (reg1 m hg) (reg2 m hg) (reg3 m hg) (reg4 m hg) (reg5 m hg)

/-- @main is the run of its items. -/
theorem main_items (hg : Good m outs) (c : Dev nD) : main (F := F) c = Pipeline.Seg.run (items m hg c) := by
  rewrite [main_chain c, Pipeline.Seg.run_eq_chain,
    show (items m hg c).map Pipeline.Seg.prog = [
      StableHlo.seq hostOps0, Prog.lift (.customCall (Pipeline.entry 0) ()), StableHlo.seq hostOps1, StableHlo.seq hostOps1_1, StableHlo.seq hostOps1_2, StableHlo.seq hostOps1_3, StableHlo.seq hostOps1_4, StableHlo.seq hostOps1_5, StableHlo.seq hostOps1_6, Prog.lift (.customCall (Pipeline.entry 1) ()), StableHlo.seq hostOps2, StableHlo.seq hostOps2_1, StableHlo.seq hostOps2_2, StableHlo.seq hostOps2_3, StableHlo.seq hostOps2_4, StableHlo.seq hostOps2_5, StableHlo.seq hostOps2_6, Prog.lift (.customCall (Pipeline.entry 2) ()), StableHlo.seq hostOps3, StableHlo.seq hostOps3_1, StableHlo.seq hostOps3_2, StableHlo.seq hostOps3_3, StableHlo.seq hostOps3_4, StableHlo.seq hostOps3_5, StableHlo.seq hostOps3_6, Prog.lift (.customCall (Pipeline.entry 3) ()), StableHlo.seq hostOps4, StableHlo.seq hostOps4_1, StableHlo.seq hostOps4_2, StableHlo.seq hostOps4_3, StableHlo.seq hostOps4_4, StableHlo.seq hostOps4_5, StableHlo.seq hostOps4_6, Prog.lift (.customCall (Pipeline.entry 4) ()), StableHlo.seq hostOps5, StableHlo.seq hostOps5_1, StableHlo.seq hostOps5_2, StableHlo.seq hostOps5_3, StableHlo.seq hostOps5_4, StableHlo.seq hostOps5_5, StableHlo.seq hostOps5_6, StableHlo.seq hostOps5_7, StableHlo.seq hostOps5_8, StableHlo.seq hostOps5_9, StableHlo.seq hostOps5_10, StableHlo.seq hostOps5_11, StableHlo.seq hostOps5_12, StableHlo.seq hostOps5_13, StableHlo.seq hostOps5_14, Prog.lift (.customCall (Pipeline.entry 5) ()), StableHlo.seq hostOps6 ] from rfl]
  rfl

-- the launch's implicit arguments are found by unifying its conclusion with this one
set_option backward.isDefEq.respectTransparency.types false in
/-- THE RUN: from any memory with zero counters every execution of @main terminates, and every final state has every unscoped
    buffer at the last valuation and every counter at zero. -/
theorem run_contents (hg : Good m outs) : θ_run defs (onTc (τ := τ) (main (F := F))) ⟨m, fun _ => 0, ρ⟩ (fun r =>
      (∀ c : Dev nD, ∀ b ∈ Pipeline.ucRefs τ sig, r.2.mem (c, b) = V51 m outs c b) ∧ r.2.sem = fun _ => 0) := by
  refine Pipeline.θ_run_regions_kit_dev_sems (pcfgs (F := F)) adm (pdats m outs) () cellOf_inj emb₁ defs₀ Variants.none noLev lev0 m ρ main
    (items m hg) (fun c Q => by rw [main_items m hg c])
    (fun c => by simp only [items, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Rest c))
    (Tₙ := fun c => StableHlo.held (c : Thread nD τ) (Pipeline.ucRefs τ sig) (V51 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl ?_⟩)
    (hinit := ?_) (QY := fun c s => ∀ b ∈ Pipeline.ucRefs τ sig, s.mem (c, b) = V51 m outs c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨-, HO⟩; iexact HO
  · refine Pipeline.initEach noLev lev0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V51 m outs c) s')
    isplitl [Hh] <;> iassumption

/-- An unscoped reference is among those the run reports. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

omit outs in
/-- THE FRAME: every execution terminates with every argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15))
      ∧ r.2.sem = fun _ => 0) := by
  obtain ⟨outs, hg⟩ := good_exists m
  refine (θ_run defs _ _).mono (fun _ h => ⟨fun c => ⟨(h.1 c _ (mem_uc main_arg0 (by decide))).trans (V51_main_arg0 m outs c), (h.1 c _ (mem_uc main_arg1 (by decide))).trans (V51_main_arg1 m outs c), (h.1 c _ (mem_uc main_arg2 (by decide))).trans (V51_main_arg2 m outs c), (h.1 c _ (mem_uc main_arg3 (by decide))).trans (V51_main_arg3 m outs c), (h.1 c _ (mem_uc main_arg4 (by decide))).trans (V51_main_arg4 m outs c), (h.1 c _ (mem_uc main_arg5 (by decide))).trans (V51_main_arg5 m outs c), (h.1 c _ (mem_uc main_arg6 (by decide))).trans (V51_main_arg6 m outs c), (h.1 c _ (mem_uc main_arg7 (by decide))).trans (V51_main_arg7 m outs c), (h.1 c _ (mem_uc main_arg8 (by decide))).trans (V51_main_arg8 m outs c), (h.1 c _ (mem_uc main_arg9 (by decide))).trans (V51_main_arg9 m outs c), (h.1 c _ (mem_uc main_arg10 (by decide))).trans (V51_main_arg10 m outs c), (h.1 c _ (mem_uc main_arg11 (by decide))).trans (V51_main_arg11 m outs c), (h.1 c _ (mem_uc main_arg12 (by decide))).trans (V51_main_arg12 m outs c), (h.1 c _ (mem_uc main_arg13 (by decide))).trans (V51_main_arg13 m outs c), (h.1 c _ (mem_uc main_arg14 (by decide))).trans (V51_main_arg14 m outs c), (h.1 c _ (mem_uc main_arg15 (by decide))).trans (V51_main_arg15 m outs c)⟩, h.2⟩) (run_contents m ρ hg)

end Cert.KernelIdeal.Fcos

end
-- ==== Proof.RefRun.lean ====
/- The run of `ReferenceIdeal`'s @main: the host operations before the loop, the loop's 50 trips and the operations after it.
   `run_final` says that every execution ends with every unscoped buffer at the contents those operations compute and every
   counter at zero; `frame` reads the arguments off it. -/
module

public import proofs.«01_k».proof.Proof.Gen.ReferenceIdeal.Run

@[expose] public section

set_option maxRecDepth 16384

noncomputable section

namespace Cert.ReferenceIdeal.Fcos

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg ucRefs)
open Cert.ReferenceIdeal.Gen Cert.ReferenceIdeal.Value

variable {F : FTy → Type} [FloatOps F]
variable (m : (ℓ : Loc nD τ sig) → Buf (Elt F) ℓ) (ρ : Dev nD → PrngReg)

local notation "𝕄" => MT nD τ sig Unit (Elt F) ℕ (Option PUnit) ℕ

/-- The program has no pipeline, hence nothing to choose for one. -/
abbrev noAdm : (p : Fin 0) → (pcfgs (F := F) p).Adm := fun p => p.elim0
/-- No ticket is used. -/
abbrev noTk : Fin 0 → Pipeline.Ticket (Ix := Unit) (Name := ℕ) (U := Option PUnit) (Lvl := ℕ) (nD := nD) (τ := τ) (pcfgs (F := F)) noAdm := fun j => j.elim0
abbrev noLev : GSem nD τ sig → Finset Unit := fun _ => ∅
abbrev lev0 : GSem nD τ sig → Unit → ℕ := fun _ _ => 0
/-- What is carried beside the buffers: the core owes nothing. -/
abbrev Owes (c : Dev nD) : sProp 𝕄 := iprop(∃ W, owes (c : Thread nD τ) (0 : CellTallies nD τ sig Unit) W)

/-- The condition's specification with the core's debts carried through it. -/
theorem cond_carried : LoopCond (pcfgs (F := F)) defs₀ Variants.none loops (Owes (F := F)) main_while0_cond condOps bodyI (entryContents preI m) 50 := by
  intro k hk c bd
  have key : ∀ v : Elt F .i1,
      iprop(iprop(⌜v = 1#1 ↔ k < 50⌝ ∗ boundary (c : Thread nD τ) ∗ held (c : Thread nD τ) (ucRefs τ sig) (after condOps (atK m k c))) ∗ Owes (F := F) c)
        ⊢ iprop(⌜v = 1#1 ↔ k < 50⌝ ∗ boundary (c : Thread nD τ) ∗ held (c : Thread nD τ) (ucRefs τ sig) (after condOps (atK m k c)) ∗ Owes (F := F) c) := by
    intro v
    iintro ⟨⟨%hv, Hb, Hh⟩, HO⟩
    isplitr; · ipureintro; exact hv
    isplitl [Hb]; · iexact Hb
    isplitl [Hh] <;> iassumption
  refine BIBase.Entails.trans ?_ (((sep_mono_left (cond_spec m k hk c bd)).trans (wp_frame_r _ _ _)).trans (wp_mono _ _ _ key))
  iintro ⟨Hb, Hh, HO⟩
  isplitl [Hb Hh]; · isplitl [Hb] <;> iassumption
  iexact HO

/-- @main in segments: the stretches before the loop, the loop, the stretches after. -/
def mainSegs : List (CSeg (pcfgs (F := F)) noAdm defs₀ Variants.none noLev lev0 loops noTk) :=
  segsOf _ _ _ _ _ _ _ _ Owes preI hpre (launchContents m)
    ++ loopSeg _ _ _ _ _ _ _ _ 0 main_while0_cond main_while0_body rfl condOps bodyI hbodyI (by rw [while0_body_chain]; rfl) 50
        (entryContents preI m) Owes (cond_carried m)
      :: segsOf _ _ _ _ _ _ _ _ Owes postI hpost (fun c => after condOps (atK m 50 c))

/-- The segments' programs, in order, are @main's items. -/
theorem mainSegs_prog : (mainSegs (F := F) m).map CSeg.prog
    = ((preI (F := F)).map fun ops => (seq ops : Prog _ PUnit)) ++ HostLoop.enter 0 :: (postI (F := F)).map fun ops => (seq ops : Prog _ PUnit) := by
  unfold mainSegs
  rw [List.map_append, List.map_cons, segsOf_prog, segsOf_prog]
  rfl

/-- They chain from the launch's contents to the final ones. -/
theorem mainSegs_chain : CSeg.Chains (fun c => iprop(held (c : Thread nD τ) (ucRefs τ sig) (launchContents m c) ∗ Owes (F := F) c)) (mainSegs m)
    (fun c => iprop(iprop(held (c : Thread nD τ) (ucRefs τ sig) (finalContents condOps preI bodyI postI 50 m c)) ∗ Owes (F := F) c)) := by
  unfold mainSegs
  exact CSeg.Chains.append (segsOf_chains _ _ _ _ _ _ _ _ Owes preI hpre _) ⟨fun _ => .rfl, segsOf_chains _ _ _ _ _ _ _ _ Owes postI hpost _⟩

/-- Every semaphore of the program is scoped. -/
theorem sems_scoped : ∀ s : SemLoc sig, s.isScoped .tc = true := by decide

set_option maxRecDepth 100000 in
/-- @main is those items in order. -/
theorem main_eq (c : Dev nD) : main (F := F) c
    = Pipeline.chain (((preI (F := F)).map fun ops => (seq ops : Prog _ PUnit)) ++ HostLoop.enter 0 :: (postI (F := F)).map fun ops => (seq ops : Prog _ PUnit)) := by
  rw [main_chain]; rfl

-- the launch's implicit arguments are found by unifying its conclusion with this one
set_option backward.isDefEq.respectTransparency.types false in
/-- THE RUN: from any memory with zero counters every execution of @main terminates, and every final state has every unscoped
    buffer at the final contents and every counter at zero. -/
theorem run_final : θ_run (defs (F := F)) (onTc (τ := τ) (main (F := F))) ⟨m, fun _ => 0, ρ⟩ (fun r =>
      (∀ c : Dev nD, ∀ b ∈ ucRefs τ sig, r.2.mem (c, b) = finalContents condOps preI bodyI postI 50 m c b) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noLev lev0 loops noTk m ρ main (mainSegs m)
    (fun c Q => ?_) (Pipeline.CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ Owes c))
    (Tₙ := fun c => iprop(held (c : Thread nD τ) (ucRefs τ sig) (finalContents condOps preI bodyI postI 50 m c)))
    (hch := mainSegs_chain m) (hinit := ?_)
    (QY := fun c s => ∀ b ∈ ucRefs τ sig, s.mem (c, b) = finalContents condOps preI bodyI postI 50 m c b)
    (hfin := fun c s' => ?_) (hQ := fun _ h hz => ⟨h, funext fun g => hz g (.inr (sems_scoped g.2))⟩)
  · rw [main_eq c]
    unfold Pipeline.CSeg.runL
    rw [mainSegs_prog]
  · iintro -
    imodintro
    isplitl []
    · rw [Finset.univ_eq_empty, BI.bigSep_empty]; iempintro
    iapply (show (BI.emp : sProp 𝕄) ⊢ bigSep Finset.univ (fun _ : Dev nD => (BI.emp : sProp 𝕄)) from by rw [BI.bigSep_emp_const])
    iempintro
  · refine Pipeline.initEach noLev lev0 fun c => ?_
    rw [show unscopedBufs c (fun b => m ((c : Thread nD τ).loc b)) = held (c : Thread nD τ) (ucRefs τ sig) (launchContents m c)
      from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    imodintro
    iapply (pointsTo_read_all (ucRefs τ sig) (fun b => (c, b)) (finalContents condOps preI bodyI postI 50 m c) s')
    isplitl [Hh] <;> iassumption

/-! ## The arguments are not written -/

/-- The line of operations leaves the program's sixteen arguments, its first sixteen arrays, as they are. -/
def KeepsArgs (ops : List (HloOp τ sig (Elt F))) : Prop :=
  ∀ (V : Valuation τ sig (Elt F)) (r : Ref sig .tc), r.idx.val < 16 → r.space = .hbm → after ops V (Proc.devRef .tc r) = V (Proc.devRef .tc r)

/-- A line keeps the arguments when the arrays it writes all come after them. -/
theorem of_writes {W : List (Ref sig .tc)} {ops : List (HloOp τ sig (Elt F))}
    (hW : ops.Forall fun op => op.writes ⊆ (W.map (Proc.devRef (τ := τ) .tc)).toFinset)
    (h : (W.all fun w => decide (16 ≤ w.idx.val)) = true) : KeepsArgs ops := fun V r hr _ =>
  after_of_writes_sub ops V hW fun hm => by
    have := of_decide_eq_true (List.all_eq_true.mp h r hm)
    omega

/-- Every line of the list keeps the arguments. -/
inductive AllKeep : List (List (HloOp τ sig (Elt F))) → Prop
  | nil : AllKeep []
  | cons {ops : List (HloOp τ sig (Elt F))} {rest : List (List (HloOp τ sig (Elt F)))} : KeepsArgs ops → AllKeep rest → AllKeep (ops :: rest)

/-- A list of such lines leaves the arguments as they are. -/
theorem keeps_lines : ∀ {items : List (List (HloOp τ sig (Elt F)))}, AllKeep items →
    ∀ (V : Valuation τ sig (Elt F)) (r : Ref sig .tc), r.idx.val < 16 → r.space = .hbm → afterL items V (Proc.devRef .tc r) = V (Proc.devRef .tc r)
  | [], _, _, _, _, _ => rfl
  | _ :: _, .cons h hrest, V, r, hr, hs => by
    rw [afterL_cons, keeps_lines hrest _ r hr hs, h V r hr hs]

/-- The lines before the loop keep the arguments. -/
theorem keeps_pre : AllKeep (preI (F := F)) :=
  (.cons (of_writes hostOps0_writes rfl) (.cons (of_writes hostOps0_1_writes rfl) (.cons (of_writes hostOps0_2_writes rfl)
    (.cons (of_writes hostOps0_3_writes rfl) (.cons (of_writes hostOps0_4_writes rfl) (.cons (of_writes hostOps0_5_writes rfl)
    (.cons (of_writes hostOps0_6_writes rfl) (.cons (of_writes hostOps0_7_writes rfl) (.cons (of_writes hostOps0_8_writes rfl)
    (.cons (of_writes hostOps0_9_writes rfl) (.cons (of_writes hostOps0_10_writes rfl) (.cons (of_writes hostOps0_11_writes rfl)
    (.cons (of_writes hostOps0_12_writes rfl) (.cons (of_writes hostOps0_13_writes rfl) (.cons (of_writes hostOps0_14_writes rfl)
    (.cons (of_writes hostOps0_15_writes rfl) (.cons (of_writes hostOps0_16_writes rfl) (.cons (of_writes hostOps0_17_writes rfl)
    (.cons (of_writes hostOps0_18_writes rfl) (.cons (of_writes hostOps0_19_writes rfl) (.cons (of_writes hostOps0_20_writes rfl)
    (.cons (of_writes hostOps0_21_writes rfl) (.cons (of_writes hostOps0_22_writes rfl) (.cons (of_writes hostOps0_23_writes rfl)
    (.cons (of_writes hostOps0_24_writes rfl) (.cons (of_writes hostOps0_25_writes rfl) (.cons (of_writes hostOps0_26_writes rfl)
    (.cons (of_writes hostOps0_27_writes rfl) (.cons (of_writes hostOps0_28_writes rfl) (.cons (of_writes hostOps0_29_writes rfl)
    (.cons (of_writes hostOps0_30_writes rfl) (.cons (of_writes hostOps0_31_writes rfl) (.cons (of_writes hostOps0_32_writes rfl)
    (.cons (of_writes hostOps0_33_writes rfl) (.cons (of_writes hostOps0_34_writes rfl) (.cons (of_writes hostOps0_35_writes rfl)
    (.cons (of_writes hostOps0_36_writes rfl) (.cons (of_writes hostOps0_37_writes rfl) (.cons (of_writes hostOps0_38_writes rfl)
    (.cons (of_writes hostOps0_39_writes rfl) (.cons (of_writes hostOps0_40_writes rfl) (.cons (of_writes hostOps0_41_writes rfl)
    (.cons (of_writes hostOps0_42_writes rfl) (.cons (of_writes hostOps0_43_writes rfl) (.cons (of_writes hostOps0_44_writes rfl)
    (.cons (of_writes hostOps0_45_writes rfl) (.cons (of_writes hostOps0_46_writes rfl) (.cons (of_writes hostOps0_47_writes rfl)
    (.cons (of_writes hostOps0_48_writes rfl) (.cons (of_writes hostOps0_49_writes rfl) (.cons (of_writes hostOps0_50_writes rfl)
    (.cons (of_writes hostOps0_51_writes rfl) (.cons (of_writes hostOps0_52_writes rfl) (.cons (of_writes hostOps0_53_writes rfl)
    (.cons (of_writes hostOps0_54_writes rfl) (.cons (of_writes hostOps0_55_writes rfl) (.cons (of_writes hostOps0_56_writes rfl)
    (.cons (of_writes hostOps0_57_writes rfl) (.cons (of_writes hostOps0_58_writes rfl) (.cons (of_writes hostOps0_59_writes rfl)
    (.cons (of_writes hostOps0_60_writes rfl) (.cons (of_writes hostOps0_61_writes rfl) (.cons (of_writes hostOps0_62_writes rfl)
    (.cons (of_writes hostOps0_63_writes rfl) (.cons (of_writes hostOps0_64_writes rfl) (.cons (of_writes hostOps0_65_writes rfl)
    (.cons (of_writes hostOps0_66_writes rfl) (.cons (of_writes hostOps0_67_writes rfl) (.cons (of_writes hostOps0_68_writes rfl)
    (.cons (of_writes hostOps0_69_writes rfl) (.cons (of_writes hostOps0_70_writes rfl) (.cons (of_writes hostOps0_71_writes rfl)
    (.cons (of_writes hostOps0_72_writes rfl) (.cons (of_writes hostOps0_73_writes rfl) (.cons (of_writes hostOps0_74_writes rfl)
    (.cons (of_writes hostOps0_75_writes rfl) (.cons (of_writes hostOps0_76_writes rfl) (.cons (of_writes hostOps0_77_writes rfl)
    (.cons (of_writes hostOps0_78_writes rfl) (.cons (of_writes hostOps0_79_writes rfl) (.cons (of_writes hostOps0_80_writes rfl) .nil)))))))))))))))))))))))))))))))))))))))))))))))))))))))))))))))))))))))))))))))))

/-- The loop's body keeps the arguments. -/
theorem keeps_body : AllKeep (bodyI (F := F)) :=
  (.cons (of_writes while0Ops0_writes rfl) (.cons (of_writes while0Ops0_1_writes rfl) (.cons (of_writes while0Ops0_2_writes rfl)
    (.cons (of_writes while0Ops0_3_writes rfl) (.cons (of_writes while0Ops0_4_writes rfl) (.cons (of_writes while0Ops0_5_writes rfl)
    (.cons (of_writes while0Ops0_6_writes rfl) (.cons (of_writes while0Ops0_7_writes rfl) (.cons (of_writes while0Ops0_8_writes rfl)
    (.cons (of_writes while0Ops0_9_writes rfl) (.cons (of_writes while0Ops0_10_writes rfl) .nil)))))))))))

/-- The lines after the loop keep the arguments. -/
theorem keeps_post : AllKeep (postI (F := F)) :=
  .cons (of_writes (forall_writes_sub_of_map (W := [main_v468]) rfl) rfl) (.cons (of_writes (forall_writes_sub_of_map (W := [main_call45_c, main_call45_v0, main_call45_v1, main_call45_c_0, main_call45_v2, main_call45_v3, main_call45_v4, main_call45_c_1, main_call45_c_2, main_call45_v5, main_call45_v6, main_call45_v7, main_call45_v8, main_call45_v9, main_call45_v10, main_call45_c_3, main_call45_v11, main_call45_v12, main_call45_v13, main_call45_cst, main_call45_v14, main_v469]) rfl) rfl) (.cons
    (of_writes (forall_writes_sub_of_map (W := [main_call46_c, main_call46_v0, main_call46_v1, main_call46_c_0, main_call46_v2, main_call46_v3, main_call46_v4, main_call46_v5, main_call46_c_1, main_call46_c_2, main_call46_v6, main_call46_v7, main_call46_v8, main_call46_v9, main_call46_v10, main_call46_v11, main_call46_c_3, main_call46_v12, main_call46_v13, main_call46_cst, main_call46_v14, main_v470]) rfl) rfl) (.cons (of_writes (forall_writes_sub_of_map (W := [main_call47_c, main_call47_v0, main_call47_v1, main_call47_c_0, main_call47_v2, main_call47_v3, main_call47_v4, main_call47_v5, main_call47_c_1, main_call47_c_2, main_call47_v6, main_call47_v7, main_call47_v8, main_call47_v9, main_call47_v10, main_call47_v11, main_call47_c_3, main_call47_v12, main_call47_v13, main_call47_c_4, main_call47_v14, main_v471]) rfl) rfl) .nil)))

/-- The trips keep the arguments. -/
theorem keeps_trips (V : Dev nD → Valuation τ sig (Elt F)) (c : Dev nD) (r : Ref sig .tc) (hr : r.idx.val < 16) (hs : r.space = .hbm) :
    ∀ n, atTrip condOps bodyI V n c (Proc.devRef .tc r) = V c (Proc.devRef .tc r)
  | 0 => rfl
  | n + 1 => by
    rw [atTrip_succ, keeps_lines keeps_body _ r hr hs, of_writes condOps_writes rfl _ r hr hs, keeps_trips V c r hr hs n]

/-- At the end every argument is what it was at the launch. -/
theorem final_arg (c : Dev nD) (r : Ref sig .tc) (hr : r.idx.val < 16) (hs : r.space = .hbm) :
    finalContents condOps preI bodyI postI 50 m c (Proc.devRef .tc r) = m (c, Proc.devRef .tc r) := by
  unfold finalContents entryContents
  rw [keeps_lines keeps_post _ r hr hs, of_writes condOps_writes rfl _ r hr hs, keeps_trips _ c r hr hs, keeps_lines keeps_pre _ r hr hs]

/-- An unscoped reference is among those the run reports. -/
theorem mem_uc (b : Ref sig .tc) (h : ¬ (Proc.devRef .tc b : DevRef τ sig).isScoped) : Proc.devRef .tc b ∈ ucRefs τ sig :=
  Finset.mem_filter.mpr ⟨devRef_mem_tcRefs b, h⟩

/-- THE FRAME: every execution terminates, the arguments unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨(h.1 c _ (mem_uc main_arg0 (by decide))).trans (final_arg m c main_arg0 (by decide) rfl),
    (h.1 c _ (mem_uc main_arg1 (by decide))).trans (final_arg m c main_arg1 (by decide) rfl),
    (h.1 c _ (mem_uc main_arg2 (by decide))).trans (final_arg m c main_arg2 (by decide) rfl),
    (h.1 c _ (mem_uc main_arg3 (by decide))).trans (final_arg m c main_arg3 (by decide) rfl),
    (h.1 c _ (mem_uc main_arg4 (by decide))).trans (final_arg m c main_arg4 (by decide) rfl),
    (h.1 c _ (mem_uc main_arg5 (by decide))).trans (final_arg m c main_arg5 (by decide) rfl),
    (h.1 c _ (mem_uc main_arg6 (by decide))).trans (final_arg m c main_arg6 (by decide) rfl),
    (h.1 c _ (mem_uc main_arg7 (by decide))).trans (final_arg m c main_arg7 (by decide) rfl),
    (h.1 c _ (mem_uc main_arg8 (by decide))).trans (final_arg m c main_arg8 (by decide) rfl),
    (h.1 c _ (mem_uc main_arg9 (by decide))).trans (final_arg m c main_arg9 (by decide) rfl),
    (h.1 c _ (mem_uc main_arg10 (by decide))).trans (final_arg m c main_arg10 (by decide) rfl),
    (h.1 c _ (mem_uc main_arg11 (by decide))).trans (final_arg m c main_arg11 (by decide) rfl),
    (h.1 c _ (mem_uc main_arg12 (by decide))).trans (final_arg m c main_arg12 (by decide) rfl),
    (h.1 c _ (mem_uc main_arg13 (by decide))).trans (final_arg m c main_arg13 (by decide) rfl),
    (h.1 c _ (mem_uc main_arg14 (by decide))).trans (final_arg m c main_arg14 (by decide) rfl),
    (h.1 c _ (mem_uc main_arg15 (by decide))).trans (final_arg m c main_arg15 (by decide) rfl)⟩, h.2⟩) (run_final m ρ)

end Cert.ReferenceIdeal.Fcos

end
-- ==== Proof.Suppress.lean ====
/- Greedy suppression, stated over plain functions of a candidate's number: which candidate a round picks, which
   candidates it then drops, and the picks of fifty rounds. Also that the first entry of a stable top-k is that pick. -/
module

public import Idealize.ShloMosaic.PureOps.Ideal
public import Idealize.ShloMosaic.PureOps.Ideal.Laws
public import Idealize.ShloMosaic.Lib.SortFacts
public import Idealize.ShloMosaic.Lib.ValueIdxCore

@[expose] public section

noncomputable section

namespace Cert.Fcos

open Idealize.ShloMosaic Idealize.ShloMosaic.ValueIdx

/-- `p` is the first place at which `s` takes its greatest value. -/
structure IsPick {n : ℕ} (s : Fin n → EReal) (p : Fin n) : Prop where
  le : ∀ q, s q ≤ s p
  lt : ∀ q, q < p → s q < s p

/-- There is one such place at most. -/
theorem IsPick.unique {n : ℕ} {s : Fin n → EReal} {p q : Fin n} (hp : IsPick s p) (hq : IsPick s q) : p = q := by
  rcases lt_trichotomy p q with h | h | h
  · exact absurd (hp.le q) (not_le.mpr (hq.lt p h))
  · exact h
  · exact absurd (hq.le p) (not_le.mpr (hp.lt q h))

/-- A stable sort of places in order, greatest value first, begins with the first place of the greatest value. -/
theorem head_stableSort {n : ℕ} (s : Fin n → EReal) (l : List (Fin n)) (hl : l.Pairwise (· < ·)) (hne : l ≠ []) :
    ∃ h t, stableSort (fun a b => decide (s b < s a)) l = h :: t ∧ h ∈ l ∧ (∀ q ∈ l, s q ≤ s h) ∧ ∀ q ∈ l, q < h → s q < s h := by
  induction l with
  | nil => exact absurd rfl hne
  | cons a l ih =>
    rw [List.pairwise_cons] at hl
    by_cases h0 : l = []
    · subst h0
      refine ⟨a, [], rfl, List.mem_singleton.mpr rfl, fun q hq => ?_, fun q hq hlt => ?_⟩
      · rw [List.mem_singleton.mp hq]
      · rw [List.mem_singleton.mp hq] at hlt; exact absurd hlt (lt_irrefl _)
    · obtain ⟨b, t, hs, hm, hle, hlt⟩ := ih hl.2 h0
      by_cases hab : s a < s b
      · refine ⟨b, insertBefore (fun a b => decide (s b < s a)) a t, ?_, List.mem_cons_of_mem _ hm, ?_, ?_⟩
        · rw [stableSort, hs, insertBefore, if_pos (decide_eq_true hab)]
        · intro q hq
          rcases List.mem_cons.mp hq with rfl | hq
          · exact hab.le
          · exact hle q hq
        · intro q hq hqb
          rcases List.mem_cons.mp hq with rfl | hq
          · exact hab
          · exact hlt q hq hqb
      · refine ⟨a, b :: t, ?_, List.mem_cons_self, ?_, ?_⟩
        · rw [stableSort, hs, insertBefore, if_neg (by simpa using hab)]
        · intro q hq
          rcases List.mem_cons.mp hq with rfl | hq
          · exact le_rfl
          · exact (hle q hq).trans (not_lt.mp hab)
        · intro q hq hqa
          rcases List.mem_cons.mp hq with rfl | hq
          · exact absurd hqa (lt_irrefl _)
          · exact absurd (hl.1 q hq) (not_lt.mpr hqa.le)

/-- The first position's source under the stable sort, greatest first, is the first place of the greatest value. -/
theorem isPick_sortedFrom {n : ℕ} (s : Fin n → EReal) (k : Fin n) (hk : k.val = 0) :
    IsPick s (sortedFrom (fun a b => decide (s b < s a)) k) := by
  have hne : List.finRange n ≠ [] := by
    intro h
    have := congrArg List.length h
    rw [List.length_finRange] at this
    have := k.isLt
    simp_all
  obtain ⟨h, t, hs, -, hle, hlt⟩ := head_stableSort s (List.finRange n) (List.pairwise_lt_finRange n) hne
  have he : sortedFrom (fun a b => decide (s b < s a)) k = h := by
    have h1 : ∀ (m : List (Fin n)) (i : Fin m.length), m = h :: t → i.val = 0 → m.get i = h := by
      rintro m ⟨i, hi⟩ rfl hi0
      subst hi0
      rfl
    exact h1 _ _ hs hk
  rw [he]
  exact ⟨fun q => hle q (List.mem_finRange q), fun q hq => hlt q (List.mem_finRange q) hq⟩

/-- Some place is the first of the greatest value. -/
theorem exists_isPick {n : ℕ} (s : Fin n → EReal) (h : 0 < n) : ∃ p, IsPick s p := ⟨_, isPick_sortedFrom s ⟨0, h⟩ rfl⟩

/-- The candidate a round picks: the first of the greatest score. -/
def pick (s : Fin 5000 → EReal) : Fin 5000 := (exists_isPick s (by decide)).choose

/-- The pick is a first candidate of largest score. -/
theorem isPick_pick (s : Fin 5000 → EReal) : IsPick s (pick s) := (exists_isPick s (by decide)).choose_spec

/-- A first candidate of largest score is the pick. -/
theorem eq_pick {s : Fin 5000 → EReal} {p : Fin 5000} (h : IsPick s p) : p = pick s := h.unique (isPick_pick s)

/-- The four sides of each candidate's box, moved apart by its class. -/
structure Sides where
  x1 : Fin 5000 → EReal
  y1 : Fin 5000 → EReal
  x2 : Fin 5000 → EReal
  y2 : Fin 5000 → EReal

namespace Sides

variable (B : Sides)

/-- The common area of two boxes. -/
def inter (p q : Fin 5000) : EReal :=
  max (min (B.x2 p) (B.x2 q) - max (B.x1 p) (B.x1 q)) 0 * max (min (B.y2 p) (B.y2 q) - max (B.y1 p) (B.y1 q)) 0

/-- A box's area. -/
def area (p : Fin 5000) : EReal := (B.x2 p - B.x1 p) * (B.y2 p - B.y1 p)

/-- The common area over the area of the union. -/
def iou (p q : Fin 5000) : EReal :=
  Ideal.div (B.inter p q) (max (B.area p + B.area q - B.inter p q) (Ideal.ofBits .f32 0x358637BD#32))

/-- The scores after a round: the pick and what overlaps it too much are put at minus one. -/
def next (s : Fin 5000 → EReal) : Fin 5000 → EReal := fun q =>
  if q = pick s then Ideal.ofBits .f32 0xBF800000#32
  else if Ideal.ofBits .f32 0x3EE66666#32 < B.iou (pick s) q then Ideal.ofBits .f32 0xBF800000#32 else s q

/-- The scores after `k` rounds. -/
def after (s : Fin 5000 → EReal) (k : ℕ) : Fin 5000 → EReal := B.next^[k] s

/-- The candidate that round `k` picks. -/
def keep (s : Fin 5000 → EReal) (k : ℕ) : Fin 5000 := pick (B.after s k)

/-- One round more is one round after the others. -/
theorem after_succ (s : Fin 5000 → EReal) (k : ℕ) : B.after s (k + 1) = B.next (B.after s k) := Function.iterate_succ_apply' _ _ _

/-- No score falls below minus one. -/
theorem le_after {s : Fin 5000 → EReal} (h : ∀ q, Ideal.ofBits .f32 0xBF800000#32 ≤ s q) (k : ℕ) (q : Fin 5000) :
    Ideal.ofBits .f32 0xBF800000#32 ≤ B.after s k q := by
  induction k generalizing q with
  | zero => exact h q
  | succ k ih =>
    rw [after_succ]
    unfold next
    split
    · exact le_rfl
    · split
      · exact le_rfl
      · exact ih q

end Sides

/-- The total comparison's bit, tested, is the order of the extended reals. -/
theorem cmpfTotal_gt_beq (a b : Ideal .f32) : ((FloatOps.cmpfTotal .gt a b : BitVec 1) == 1#1) = decide ((b : EReal) < a) := by
  rw [Ideal.cmpfTotal_def]
  show (BitVec.ofBool (decide ((b : EReal) < a)) == 1#1) = _
  by_cases h : (b : EReal) < a <;> simp [h]

end Cert.Fcos
end
-- ==== Proof.Reads.lean ====
/- Host operations on batches, read at an index: a stable top-k's places, an entry taken along an axis by a place's
   word, the guards around such a take, and one column written into a table. -/
module
public import proofs.«01_k».proof.Proof.Suppress
public import Idealize.ShloMosaic.Lib.Pointwise
public import Idealize.ShloMosaic.Lib.ReduceAll
public import Idealize.ShloMosaic.Lib.Routing.Words
public import Idealize.ShloMosaic.Lib.Routing.OpsPair
public import Idealize.ShloMosaic.Lib.Tactic.WordOmega
@[expose] public section
noncomputable section
namespace Cert.Fcos
open Idealize.ShloMosaic

/-- The shape of a matrix. -/
abbrev sh2 (a b : ℕ) : Shape := ⟨2, ![a, b]⟩
/-- The shape of a box. -/
abbrev sh3 (a b c : ℕ) : Shape := ⟨3, ![a, b, c]⟩

/-- The place of a row from which the `k`-th entry of the row's stable top-k comes. -/
def place {n : ℕ} (s : Fin n → EReal) (k : Fin n) : Fin n := sortedFrom (fun a b => decide (s b < s a)) k

/-- The `k`-th value of a row's top-k and its place's word. -/
theorem topK_at {N K : ℕ} (x : (sh2 2 N).Idx → Ideal .f32) (h : (sh2 2 N).Slices (fun _ => 0) (sh2 2 K)) (b : Fin 2) (k : Fin K) (hk : k.val < N) :
    (Host.topK (sh2 2 K) 1 (FloatOps.cmpfTotal .gt) x h).1 (ix2 b k) = x (ix2 b (place (fun p => x (ix2 b p)) ⟨k.val, hk⟩)) ∧
    (Host.topK (sh2 2 K) 1 (FloatOps.cmpfTotal .gt) x h).2 (ix2 b k) = BitVec.ofNat 32 (place (fun p => x (ix2 b p)) ⟨k.val, hk⟩).val := by
  have hcut : ∀ {α : Type} (y : (sh2 2 N).Idx → α), extractStridedSlice (sh2 2 K) (fun _ => 0) y h (ix2 b k) = y (ix2 b ⟨k.val, hk⟩) := by
    intro α y
    refine congrArg y (funext fun a => Fin.ext ?_)
    match a with
    | ⟨0, _⟩ => exact Nat.zero_add _
    | ⟨1, _⟩ => exact Nat.zero_add _
  have hal : ∀ (p q : Fin N), Shape.Idx.along (s := sh2 2 N) (ix2 b p) 1 q = ix2 b q := by
    intro p q
    funext a
    match a with
    | ⟨0, _⟩ => rfl
    | ⟨1, _⟩ => rfl
  have hd : 1 < (sh2 2 N).rank := Nat.one_lt_two
  unfold Host.topK
  dsimp only
  rw [hcut, hcut]
  unfold Host.sort2
  rw [dif_pos hd]
  have hpi : (sortedFrom (fun k₁ k₂ : Fin N => (FloatOps.cmpfTotal .gt (x (Shape.Idx.along (s := sh2 2 N) (ix2 b ⟨k.val, hk⟩) 1 k₁)) (x (Shape.Idx.along (s := sh2 2 N) (ix2 b ⟨k.val, hk⟩) 1 k₂)) : BitVec 1) == 1#1) ⟨k.val, hk⟩)
      = place (fun p => x (ix2 b p)) ⟨k.val, hk⟩ := by
    unfold place
    congr 1
    funext k₁ k₂
    rw [hal, hal, cmpfTotal_gt_beq]
  constructor
  · exact (congrArg (fun q => x (Shape.Idx.along (s := sh2 2 N) (ix2 b ⟨k.val, hk⟩) 1 q)) hpi).trans (congrArg x (hal _ _))
  · exact congrArg (fun q : Fin N => BitVec.ofNat 32 q.val) hpi

/-- The first place is the row's pick. -/
theorem place_zero (s : Fin 5000 → EReal) (k : Fin 5000) (hk : k.val = 0) : place s k = pick s := eq_pick (isPick_sortedFrom s k hk)

/-- An entry of a batch of tables taken along the rows by a place's word. -/
theorem gather3_at {α : Type} {N K R : ℕ} (d : GatherDims (sh3 2 N R) (sh3 2 K 1) (sh3 2 K R)) (wf) (hd : d = ⟨[2], [1], [0], [0], [1], 2, ![1, 1, R], wf⟩)
    (x : (sh3 2 N R).Idx → α) (idx : IVec (sh3 2 K 1) 32) (b : Fin 2) (k : Fin K) (r : Fin R) (p : Fin N) (hN : N < 2 ^ 31)
    (hp : idx (ix3 b k 0) = BitVec.ofNat 32 p.val) : Host.gather d x idx (ix3 b k r) = x (ix3 b p r) := by
  have hsi : ∀ c, d.siIdx (ix3 b k r) c = (ix3 b k 0 : (sh3 2 K 1).Idx) := by
    subst hd
    intro c
    have hc : c.val < 1 := c.isLt
    funext a
    match a with
    | ⟨0, _⟩ => rfl
    | ⟨1, _⟩ => rfl
    | ⟨2, _⟩ => exact Fin.ext (by show c.val = 0; omega)
  have hpl := p.isLt
  have hm : min (idx (ix3 b k 0)).toInt.toNat (N - 1) = p.val := by
    rw [hp, StableHlo.Predicate.toInt_ofNat_small _ (by omega)]
    omega
  unfold Host.gather
  refine congrArg x (funext fun a => Fin.ext ?_)
  match a with
  | ⟨0, _⟩ => subst hd; exact Nat.zero_add b.val
  | ⟨1, _⟩ =>
    refine Eq.trans ?_ hm
    rw [← hsi ⟨0, by subst hd; exact Nat.one_pos⟩]
    subst hd
    rfl
  | ⟨2, _⟩ => subst hd; exact Nat.zero_add r.val

/-- An entry of a batch of rows taken by a place's word. -/
theorem gather2_at {α : Type} {N K : ℕ} (d : GatherDims (sh2 2 N) (sh3 2 K 1) (sh2 2 K)) (wf) (hd : d = ⟨[], [1], [0], [0], [1], 2, ![1, 1], wf⟩)
    (x : (sh2 2 N).Idx → α) (idx : IVec (sh3 2 K 1) 32) (b : Fin 2) (k : Fin K) (p : Fin N) (hN : N < 2 ^ 31)
    (hp : idx (ix3 b k 0) = BitVec.ofNat 32 p.val) : Host.gather d x idx (ix2 b k) = x (ix2 b p) := by
  have hsi : ∀ c, d.siIdx (ix2 b k) c = (ix3 b k 0 : (sh3 2 K 1).Idx) := by
    subst hd
    intro c
    have hc : c.val < 1 := c.isLt
    funext a
    match a with
    | ⟨0, _⟩ => rfl
    | ⟨1, _⟩ => rfl
    | ⟨2, _⟩ => exact Fin.ext (by show c.val = 0; omega)
  have hpl := p.isLt
  have hm : min (idx (ix3 b k 0)).toInt.toNat (N - 1) = p.val := by
    rw [hp, StableHlo.Predicate.toInt_ofNat_small _ (by omega)]
    omega
  unfold Host.gather
  refine congrArg x (funext fun a => Fin.ext ?_)
  match a with
  | ⟨0, _⟩ => subst hd; exact Nat.zero_add b.val
  | ⟨1, _⟩ =>
    refine Eq.trans ?_ hm
    rw [← hsi ⟨0, by subst hd; exact Nat.one_pos⟩]
    subst hd
    rfl

/-- An entry of one row taken by a place's word. -/
theorem gather1_at {α : Type} {N K : ℕ} (d : GatherDims ⟨1, ![N]⟩ (sh3 2 K 1) (sh2 2 K)) (wf) (hd : d = ⟨[], [0], [], [], [0], 2, ![1], wf⟩)
    (x : Shape.Idx ⟨1, ![N]⟩ → α) (idx : IVec (sh3 2 K 1) 32) (b : Fin 2) (k : Fin K) (p : Fin N) (hN : N < 2 ^ 31)
    (hp : idx (ix3 b k 0) = BitVec.ofNat 32 p.val) : Host.gather d x idx (ix2 b k) = x (ix1 p) := by
  have hsi : ∀ c, d.siIdx (ix2 b k) c = (ix3 b k 0 : (sh3 2 K 1).Idx) := by
    subst hd
    intro c
    have hc : c.val < 1 := c.isLt
    funext a
    match a with
    | ⟨0, _⟩ => rfl
    | ⟨1, _⟩ => rfl
    | ⟨2, _⟩ => exact Fin.ext (by show c.val = 0; omega)
  have hpl := p.isLt
  have hm : min (idx (ix3 b k 0)).toInt.toNat (N - 1) = p.val := by
    rw [hp, StableHlo.Predicate.toInt_ofNat_small _ (by omega)]
    omega
  unfold Host.gather
  refine congrArg x (funext fun a => Fin.ext ?_)
  match a with
  | ⟨0, _⟩ =>
    refine Eq.trans ?_ hm
    rw [← hsi ⟨0, by subst hd; exact Nat.one_pos⟩]
    subst hd
    rfl

/-- A place's word is no less than nought. -/
theorem sge_word {k : ℕ} (h : k < 2 ^ 31) : IntOp.cmpi .sge (BitVec.ofNat 32 k) 0#32 = 1#1 := by
  show BitVec.ofBool (BitVec.sle 0#32 (BitVec.ofNat 32 k)) = 1#1
  rw [BitVec.sle, StableHlo.Predicate.toInt_ofNat_small _ h]
  simp

/-- A place's word is no more than the last place's. -/
theorem sle_word {k n : ℕ} (h : k ≤ n) (hn : n < 2 ^ 31) : IntOp.cmpi .sle (BitVec.ofNat 32 k) (BitVec.ofNat 32 n) = 1#1 := by
  show BitVec.ofBool (BitVec.sle (BitVec.ofNat 32 k) (BitVec.ofNat 32 n)) = 1#1
  rw [BitVec.sle, StableHlo.Predicate.toInt_ofNat_small _ (by omega), StableHlo.Predicate.toInt_ofNat_small _ hn]
  simp [h]

/-- Counting a place from the end leaves a place counted from the start. -/
theorem wrap_word {k : ℕ} (h : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

/-- The bit of two small words' equality. -/
theorem eq_word (a b : ℕ) (ha : a < 2 ^ 31) (hb : b < 2 ^ 31) :
    IntOp.cmpi .eq (BitVec.ofNat 32 a) (BitVec.ofNat 32 b) = if a = b then 1#1 else 0#1 := by
  by_cases h : a = b
  · subst h; rw [if_pos rfl]; simp [IntOp.cmpi]
  · rw [if_neg h]
    have : BitVec.ofNat 32 a ≠ BitVec.ofNat 32 b := by
      intro he
      have := congrArg BitVec.toNat he
      simp only [BitVec.toNat_ofNat] at this
      rw [Nat.mod_eq_of_lt (by omega), Nat.mod_eq_of_lt (by omega)] at this
      exact h this
    show BitVec.ofBool (BitVec.ofNat 32 a == BitVec.ofNat 32 b) = 0#1
    rw [beq_false_of_ne this]
    rfl

/-- The bit of two small words' order. -/
theorem lt_word (a b : ℕ) (ha : a < 2 ^ 31) (hb : b < 2 ^ 31) :
    IntOp.cmpi .slt (BitVec.ofNat 32 a) (BitVec.ofNat 32 b) = if a < b then 1#1 else 0#1 := by
  show BitVec.ofBool (BitVec.slt (BitVec.ofNat 32 a) (BitVec.ofNat 32 b)) = _
  have : BitVec.slt (BitVec.ofNat 32 a) (BitVec.ofNat 32 b) = decide (a < b) := by
    rw [BitVec.slt, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    simp
  rw [this]
  by_cases h : a < b <;> simp [h]

/-- A select on a decided bit. -/
theorem select_ite {α : Type} (c : Prop) [Decidable c] (x y : α) : Scalar.select (if c then 1#1 else 0#1) x y = if c then x else y := by
  by_cases h : c <;> simp [h, Scalar.select]

/-- The guard of a take along an axis lets a place's word through. -/
theorem guard_word {α : Type} {k n : ℕ} (h : k ≤ n) (hn : n < 2 ^ 31) (f : Fin 1 → BitVec 32) (hf : f 0 = BitVec.ofNat 32 k) (a b : α) :
    Scalar.select (Finset.fold IntOp.andi (1#1) (fun x => IntOp.andi (IntOp.cmpi .sge (f x) 0#32) (IntOp.cmpi .sle (f x) (BitVec.ofNat 32 n))) Finset.univ) a b = a := by
  rw [Finset.univ_unique, Finset.fold_singleton]
  show Scalar.select (IntOp.andi (IntOp.andi (IntOp.cmpi .sge (f 0) 0#32) (IntOp.cmpi .sle (f 0) (BitVec.ofNat 32 n))) 1#1) a b = a
  rw [hf, sge_word (by omega), sle_word h hn]
  rfl

/-- A column of a matrix with two rows, written over. -/
theorem column_at {α : Type} {N : ℕ} (x : (sh2 2 N).Idx → α) (u : (sh2 2 1).Idx → α) (start : Fin 2 → ℤ) (h : (sh2 2 N).Slices (fun _ => 0) (sh2 2 1))
    (k : ℕ) (hk : k < N) (h0 : start 0 = 0) (h1 : start 1 = k) (b : Fin 2) (o : Fin N) :
    Host.dynamicUpdateSlice x u start h (ix2 b o) = if o.val = k then u (ix2 b 0) else x (ix2 b o) := by
  unfold Host.dynamicUpdateSlice updateSlice
  dsimp only
  have e0 : (min (max (start 0) 0) ((2 - 2 : ℕ) : ℤ)).toNat = 0 := by rw [h0]; rfl
  have e1 : (min (max (start 1) 0) ((N - 1 : ℕ) : ℤ)).toNat = k := by rw [h1]; omega
  have hb := b.isLt
  split
  · rename_i hin
    have hin1 : (min (max (start 1) 0) ((N - 1 : ℕ) : ℤ)).toNat ≤ o.val ∧ o.val < (min (max (start 1) 0) ((N - 1 : ℕ) : ℤ)).toNat + 1 := hin 1
    rw [e1] at hin1
    rw [if_pos (by omega)]
    refine congrArg u (funext fun a => Fin.ext ?_)
    match a with
    | ⟨0, _⟩ =>
      show b.val - (min (max (start 0) 0) ((2 - 2 : ℕ) : ℤ)).toNat = b.val
      rw [e0]; rfl
    | ⟨1, _⟩ =>
      show o.val - (min (max (start 1) 0) ((N - 1 : ℕ) : ℤ)).toNat = 0
      rw [e1]; omega
  · rename_i hin
    rw [if_neg]
    intro ho
    apply hin
    intro a
    match a with
    | ⟨0, _⟩ =>
      show (min (max (start 0) 0) ((2 - 2 : ℕ) : ℤ)).toNat ≤ b.val ∧ b.val < (min (max (start 0) 0) ((2 - 2 : ℕ) : ℤ)).toNat + 2
      rw [e0]; omega
    | ⟨1, _⟩ =>
      show (min (max (start 1) 0) ((N - 1 : ℕ) : ℤ)).toNat ≤ o.val ∧ o.val < (min (max (start 1) 0) ((N - 1 : ℕ) : ℤ)).toNat + 1
      rw [e1]; omega

end Cert.Fcos
end
-- ==== Proof.RefNms.lean ====
/- The reference's suppression loop, read at an index. -/
module
public import proofs.«01_k».proof.Proof.RefRun
public import proofs.«01_k».proof.Proof.Reads
public import Idealize.ShloMosaic.Lib.StableHlo.ReadAt
@[expose] public section
set_option maxRecDepth 16384
noncomputable section
namespace Cert.ReferenceIdeal.Fcos
open Idealize.ShloMosaic Cert.ReferenceIdeal.Gen Cert.ReferenceIdeal.Value Cert.Fcos

variable (V : Valuation τ sig (Elt Ideal))

/-- The moved boxes' sides that the loop carries for image `b`. -/
def carriedSides (b : Fin 2) : Sides where
  x1 := fun p => (V (Proc.devRef .tc main_v467_0) : S2x5000x4.Idx → Ideal .f32) (ix3 b p 0)
  y1 := fun p => (V (Proc.devRef .tc main_v467_0) : S2x5000x4.Idx → Ideal .f32) (ix3 b p 1)
  x2 := fun p => (V (Proc.devRef .tc main_v467_0) : S2x5000x4.Idx → Ideal .f32) (ix3 b p 2)
  y2 := fun p => (V (Proc.devRef .tc main_v467_0) : S2x5000x4.Idx → Ideal .f32) (ix3 b p 3)

/-- The scores that the loop carries for image `b`. -/
def carriedScores (b : Fin 2) (p : Fin 5000) : EReal := (V (Proc.devRef .tc main_v467_4) : S2x5000.Idx → Ideal .f32) (ix2 b p)

/-- A round of the reference picks the first candidate of largest score. -/
theorem pick_at (b : Fin 2) : (res_main_while0b_indices_147 V : S2x1.Idx → BitVec 32) (ix2 b 0) = BitVec.ofNat 32 (pick (carriedScores V b)).val := by
  refine (topK_at (N := 5000) (K := 1) (V (Proc.devRef .tc main_v467_4)) sliceFits_S2x5000_S2x1 b 0 (by decide)).2.trans ?_
  rw [place_zero _ _ rfl]
  rfl

/-- The picked place is not negative, so the wrap of negative places leaves it. -/
theorem wrap_at (b : Fin 2) : (res_main_while0b_call40_v4 V : S2x1x1.Idx → BitVec 32) (ix3 b 0 0) = BitVec.ofNat 32 (pick (carriedScores V b)).val := by
  have h1 : (res_main_while0b_v481 V : S2x1x1.Idx → BitVec 32) (ix3 b 0 0) = BitVec.ofNat 32 (pick (carriedScores V b)).val := by
    refine Eq.trans ?_ (pick_at V b)
    unfold res_main_while0b_v481
    clean_types
    pointwise
  unfold res_main_while0b_call40_v4
  clean_types
  pointwise
  rw [h1]
  exact wrap_word (by have := (pick (carriedScores V b)).isLt; omega) _

/-- The box it reads is the picked candidate's. -/
theorem box_at (b : Fin 2) (r : Fin 4) : (res_main_while0b_v482 V : S2x1x4.Idx → Ideal .f32) (ix3 b 0 r)
    = (V (Proc.devRef .tc main_v467_0) : S2x5000x4.Idx → Ideal .f32) (ix3 b (pick (carriedScores V b)) r) := by
  have hw := wrap_at V b
  unfold res_main_while0b_v482
  clean_types
  pointwise
  rw [guard_word (k := (pick (carriedScores V b)).val) (n := 4999) (by have := (pick (carriedScores V b)).isLt; omega) (by decide) (fun x => (res_main_while0b_call40_v4 V : S2x1x1.Idx → BitVec 32) (ix3 b 0 x)) hw]
  exact gather3_at (N := 5000) (K := 1) (R := 4) _ _ rfl _ _ b 0 r _ (by decide) hw

/-- The overlap of the picked box with each candidate's. -/
theorem inter_at (b : Fin 2) (q : Fin 5000) : (res_main_while0b_v511 V : S2x5000.Idx → Ideal .f32) (ix2 b q) = (carriedSides V b).inter (pick (carriedScores V b)) q := by
  have hb := box_at V b
  unfold res_main_while0b_v511
  clean_types
  simp only [id_eq]
  pointwise
  rw [hb, hb, hb, hb]
  rw [max_comm (0 : EReal), max_comm (0 : EReal)]
  rfl

/-- The scores after a round are those of one round of greedy suppression. -/
theorem scores_at (hidx : ∀ p : Fin 5000, (V (Proc.devRef .tc main_v467_1) : S1x5000.Idx → BitVec 32) (ix2 0 p) = BitVec.ofNat 32 p.val) (b : Fin 2) (q : Fin 5000) :
    (step_main_v467_4 V : S2x5000.Idx → Ideal .f32) (ix2 b q) = (carriedSides V b).next (carriedScores V b) q := by
  have hb := box_at V b
  have hi := inter_at V b
  have hp := pick_at V b
  unfold step_main_v467_4
  clean_types
  simp only [id_eq]
  pointwise
  rw [hb, hb, hb, hb, hi, hp, hidx]
  rw [Cert.Fcos.eq_word _ _ (by have := q.isLt; omega) (by have := (pick (carriedScores V b)).isLt; omega), select_ite]
  unfold Sides.next
  simp only [Fin.ext_iff]
  rfl

/-- Round `k` writes its pick at place `k` of the kept ones and leaves the others. -/
theorem keep_at (k : ℕ) (hk : k < 50) (hi : (V (Proc.devRef .tc main_v467_3) : S_.Idx → BitVec 32) ix0 = BitVec.ofNat 32 k) (b : Fin 2) (o : Fin 50) :
    (step_main_v467_5 V : S2x50.Idx → BitVec 32) (ix2 b o) = if o.val = k then BitVec.ofNat 32 (pick (carriedScores V b)).val
      else (V (Proc.devRef .tc main_v467_5) : S2x50.Idx → BitVec 32) (ix2 b o) := by
  have hp := pick_at V b
  unfold step_main_v467_5
  clean_types
  rw [← hp]
  refine column_at (N := 50) _ _ _ _ k hk ?_ ?_ b o
  · rfl
  · show BitVec.toInt (Scalar.select (IntOp.cmpi .slt ((V (Proc.devRef .tc main_v467_3) : S_.Idx → BitVec 32) (Shape.Idx.first h_S_)) 0#32) _ ((V (Proc.devRef .tc main_v467_3) : S_.Idx → BitVec 32) (Shape.Idx.first h_S_))) = (k : ℤ)
    rw [show (Shape.Idx.first h_S_ : S_.Idx) = ix0 from funext fun a => a.elim0, hi, wrap_word (by omega), StableHlo.Predicate.toInt_ofNat_small _ (by omega)]

/-- A round counts itself. -/
theorem STEP_3 (k : ℕ) (hi : (V (Proc.devRef .tc main_v467_3) : S_.Idx → BitVec 32) ix0 = BitVec.ofNat 32 k) :
    (STEP V (Proc.devRef .tc main_v467_3) : S_.Idx → BitVec 32) ix0 = BitVec.ofNat 32 (k + 1) := by
  rw [STEP_main_v467_3]
  show IntOp.addi ((V (Proc.devRef .tc main_v467_3) : S_.Idx → BitVec 32) ix0) 1#32 = _
  rw [hi, BitVec.ofNat_add]
  rfl

/-- What the carried buffers hold after `k` rounds from `V`. -/
structure After (V W : Valuation τ sig (Elt Ideal)) (k : ℕ) : Prop where
  boxes : W (Proc.devRef .tc main_v467_0) = V (Proc.devRef .tc main_v467_0)
  index : W (Proc.devRef .tc main_v467_1) = V (Proc.devRef .tc main_v467_1)
  count : (W (Proc.devRef .tc main_v467_3) : S_.Idx → BitVec 32) ix0 = BitVec.ofNat 32 k
  scores : ∀ b, carriedScores W b = (carriedSides V b).after (carriedScores V b) k
  keep : ∀ (b : Fin 2) (o : Fin 50), o.val < k →
    (W (Proc.devRef .tc main_v467_5) : S2x50.Idx → BitVec 32) (ix2 b o) = BitVec.ofNat 32 ((carriedSides V b).keep (carriedScores V b) o.val).val

/-- The sides depend on the carried boxes alone. -/
theorem carriedSides_congr {V W : Valuation τ sig (Elt Ideal)} (h : W (Proc.devRef .tc main_v467_0) = V (Proc.devRef .tc main_v467_0)) (b : Fin 2) :
    carriedSides W b = carriedSides V b := by
  unfold carriedSides
  rw [h]

/-- After `k` rounds the scores are those of `k` rounds of greedy suppression, and the first `k` kept places are its picks. -/
theorem after_rounds (hidx : ∀ p : Fin 5000, (V (Proc.devRef .tc main_v467_1) : S1x5000.Idx → BitVec 32) (ix2 0 p) = BitVec.ofNat 32 p.val)
    (h0 : (V (Proc.devRef .tc main_v467_3) : S_.Idx → BitVec 32) ix0 = 0#32) : ∀ k, k ≤ 50 → After V (STEP^[k] V) k := by
  intro k
  induction k with
  | zero => exact fun _ => ⟨rfl, rfl, h0, fun _ => rfl, fun _ _ h => absurd h (Nat.not_lt_zero _)⟩
  | succ k ih =>
    intro hk
    obtain ⟨i0, i1, i3, i4, i5⟩ := ih (by omega)
    rw [Function.iterate_succ_apply']
    refine ⟨(STEP_main_v467_0 _).trans i0, (STEP_main_v467_1 _).trans i1, STEP_3 _ k i3, fun b => ?_, fun b o ho => ?_⟩
    · rw [Sides.after_succ, ← i4, ← carriedSides_congr i0 b]
      funext q
      unfold carriedScores
      rw [STEP_main_v467_4]
      exact scores_at _ (fun p => by rw [i1]; exact hidx p) b q
    · rw [STEP_main_v467_5, keep_at _ k (by omega) i3 b o]
      split
      · rename_i e
        rw [e, Sides.keep, ← i4]
      · exact i5 b o (by omega)

end Cert.ReferenceIdeal.Fcos
end
-- ==== Proof.RefPost.lean ====
/- What the reference's operations after the loop hold: the kept candidates' boxes, scores and classes. -/
module
public import proofs.«01_k».proof.Proof.RefNms
@[expose] public section
set_option maxRecDepth 16384
noncomputable section
namespace Cert.ReferenceIdeal.Fcos
open Idealize.ShloMosaic Idealize.ShloMosaic.StableHlo Cert.ReferenceIdeal.Gen Cert.ReferenceIdeal.Value Cert.Fcos

section Stretches
variable (W : Valuation τ sig (Elt Ideal))

/-- The kept boxes: row `o` is the box at the place that the keep table names. -/
theorem boxes_taken (b : Fin 2) (o : Fin 50) (r : Fin 4) (p : Fin 5000)
    (hp : (W (Proc.devRef .tc main_v468) : S2x50x1.Idx → BitVec 32) (ix3 b o 0) = BitVec.ofNat 32 p.val) :
    (after hostOps0_82 W (Proc.devRef .tc main_v469) : S2x50x4.Idx → Ideal .f32) (ix3 b o r) = (W (Proc.devRef .tc main_v455) : S2x5000x4.Idx → Ideal .f32) (ix3 b p r) := by
  have hpl := p.isLt
  after_reads_at
  refine (guard_word (k := p.val) (n := 4999) (by omega) (by decide) (fun x => Scalar.select
    (IntOp.cmpi .slt ((W (Proc.devRef .tc main_v468) : S2x50x1.Idx → BitVec 32) (ix3 b o x)) 0#32)
    (IntOp.addi ((W (Proc.devRef .tc main_v468) : S2x50x1.Idx → BitVec 32) (ix3 b o x)) 5000#32)
    ((W (Proc.devRef .tc main_v468) : S2x50x1.Idx → BitVec 32) (ix3 b o x))) ?_ _ _).trans ?_
  · show Scalar.select (IntOp.cmpi .slt _ 0#32) _ _ = _
    rw [hp, wrap_word (by omega)]
  · refine gather3_at (N := 5000) (K := 50) (R := 4) _ _ rfl _ _ b o r p (by decide) ?_
    pointwise
    rw [hp, wrap_word (by omega)]

/-- The kept scores. -/
theorem scores_taken (b : Fin 2) (o : Fin 50) (p : Fin 5000)
    (hp : (W (Proc.devRef .tc main_v467_5) : S2x50.Idx → BitVec 32) (ix2 b o) = BitVec.ofNat 32 p.val) :
    (after hostOps0_83 W (Proc.devRef .tc main_v470) : S2x50.Idx → Ideal .f32) (ix2 b o) = (W (Proc.devRef .tc main_v456) : S2x5000.Idx → Ideal .f32) (ix2 b p) := by
  have hpl := p.isLt
  after_reads_at
  rw [hp, wrap_word (by omega)]
  refine (guard_word (k := p.val) (n := 4999) (by omega) (by decide) (fun _ => BitVec.ofNat 32 p.val) rfl _ _).trans ?_
  refine gather2_at (N := 5000) (K := 50) _ _ rfl _ _ b o p (by decide) ?_
  show Scalar.select (IntOp.cmpi .slt ((W (Proc.devRef .tc main_v467_5) : S2x50.Idx → BitVec 32) (ix2 b o)) 0#32) _ ((W (Proc.devRef .tc main_v467_5) : S2x50.Idx → BitVec 32) (ix2 b o)) = _
  rw [hp, wrap_word (by omega)]

/-- The kept classes. -/
theorem classes_taken (b : Fin 2) (o : Fin 50) (p : Fin 5000)
    (hp : (W (Proc.devRef .tc main_v467_5) : S2x50.Idx → BitVec 32) (ix2 b o) = BitVec.ofNat 32 p.val) :
    (after hostOps0_84 W (Proc.devRef .tc main_v471) : S2x50.Idx → BitVec 32) (ix2 b o) = (W (Proc.devRef .tc main_v457) : S2x5000.Idx → BitVec 32) (ix2 b p) := by
  have hpl := p.isLt
  after_reads_at
  rw [hp, wrap_word (by omega)]
  refine (guard_word (k := p.val) (n := 4999) (by omega) (by decide) (fun _ => BitVec.ofNat 32 p.val) rfl _ _).trans ?_
  refine gather2_at (N := 5000) (K := 50) _ _ rfl _ _ b o p (by decide) ?_
  show Scalar.select (IntOp.cmpi .slt ((W (Proc.devRef .tc main_v467_5) : S2x50.Idx → BitVec 32) (ix2 b o)) 0#32) _ ((W (Proc.devRef .tc main_v467_5) : S2x50.Idx → BitVec 32) (ix2 b o)) = _
  rw [hp, wrap_word (by omega)]

/-- The keep table as a column. -/
theorem keep_column (b : Fin 2) (o : Fin 50) : (after hostOps0_81 W (Proc.devRef .tc main_v468) : S2x50x1.Idx → BitVec 32) (ix3 b o 0)
    = (W (Proc.devRef .tc main_v467_5) : S2x50.Idx → BitVec 32) (ix2 b o) := by
  after_reads_at

end Stretches

/-- What the column of kept places writes. -/
theorem writes_81 : (hostOps0_81 (F := Ideal)).Forall fun op => op.writes ⊆ (([main_v468] : List (Ref sig .tc)).map (Proc.devRef (τ := τ) .tc)).toFinset := forall_writes_sub_of_map (W := [main_v468]) rfl
/-- What the reading of the boxes writes. -/
theorem writes_82 : (hostOps0_82 (F := Ideal)).Forall fun op => op.writes ⊆ (([main_call45_c, main_call45_v0, main_call45_v1, main_call45_c_0, main_call45_v2, main_call45_v3, main_call45_v4, main_call45_c_1, main_call45_c_2, main_call45_v5, main_call45_v6, main_call45_v7, main_call45_v8, main_call45_v9, main_call45_v10, main_call45_c_3, main_call45_v11, main_call45_v12, main_call45_v13, main_call45_cst, main_call45_v14, main_v469] : List (Ref sig .tc)).map (Proc.devRef (τ := τ) .tc)).toFinset := forall_writes_sub_of_map rfl
/-- What the reading of the scores writes. -/
theorem writes_83 : (hostOps0_83 (F := Ideal)).Forall fun op => op.writes ⊆ (([main_call46_c, main_call46_v0, main_call46_v1, main_call46_c_0, main_call46_v2, main_call46_v3, main_call46_v4, main_call46_v5, main_call46_c_1, main_call46_c_2, main_call46_v6, main_call46_v7, main_call46_v8, main_call46_v9, main_call46_v10, main_call46_v11, main_call46_c_3, main_call46_v12, main_call46_v13, main_call46_cst, main_call46_v14, main_v470] : List (Ref sig .tc)).map (Proc.devRef (τ := τ) .tc)).toFinset := forall_writes_sub_of_map rfl
/-- What the reading of the classes writes. -/
theorem writes_84 : (hostOps0_84 (F := Ideal)).Forall fun op => op.writes ⊆ (([main_call47_c, main_call47_v0, main_call47_v1, main_call47_c_0, main_call47_v2, main_call47_v3, main_call47_v4, main_call47_v5, main_call47_c_1, main_call47_c_2, main_call47_v6, main_call47_v7, main_call47_v8, main_call47_v9, main_call47_v10, main_call47_v11, main_call47_c_3, main_call47_v12, main_call47_v13, main_call47_c_4, main_call47_v14, main_v471] : List (Ref sig .tc)).map (Proc.devRef (τ := τ) .tc)).toFinset := forall_writes_sub_of_map rfl

section Final
variable (m : (ℓ : Loc nD τ sig) → Buf (Elt Ideal) ℓ) (c : Dev nD)

/-- The buffers at the loop's entry. -/
abbrev atEntry : Valuation τ sig (Elt Ideal) := entryContents preI m c
/-- The buffers at the loop's exit. -/
abbrev atExit : Valuation τ sig (Elt Ideal) := after condOps (atK m 50 c)

/-- The loop writes none of the three tables that are read after it. -/
theorem kept_trips (r : Ref sig .tc) (hr : r = main_v455 ∨ r = main_v456 ∨ r = main_v457) : ∀ n, atTrip condOps bodyI (entryContents preI m) n c (Proc.devRef .tc r) = atEntry m c (Proc.devRef .tc r)
  | 0 => rfl
  | n + 1 => by
    rw [atTrip_succ, ← kept_trips r hr n]
    generalize atTrip condOps bodyI (entryContents preI m) n c = X
    unfold bodyI
    simp only [afterL_cons, afterL_nil]
    rcases hr with rfl | rfl | rfl <;>
    · rw [after_of_writes_sub _ _ while0Ops0_10_writes (by decide), after_of_writes_sub _ _ while0Ops0_9_writes (by decide), after_of_writes_sub _ _ while0Ops0_8_writes (by decide),
        after_of_writes_sub _ _ while0Ops0_7_writes (by decide), after_of_writes_sub _ _ while0Ops0_6_writes (by decide), after_of_writes_sub _ _ while0Ops0_5_writes (by decide),
        after_of_writes_sub _ _ while0Ops0_4_writes (by decide), after_of_writes_sub _ _ while0Ops0_3_writes (by decide), after_of_writes_sub _ _ while0Ops0_2_writes (by decide),
        after_of_writes_sub _ _ while0Ops0_1_writes (by decide), after_of_writes_sub _ _ while0Ops0_writes (by decide), after_of_writes_sub _ _ condOps_writes (by decide)]

end Final
end Cert.ReferenceIdeal.Fcos
end
-- ==== Proof.Consts.lean ====
/- The extended reals that the programs' bit patterns stand for. -/
module
public import Idealize.ShloMosaic.PureOps.Ideal
public import Idealize.ShloMosaic.PureOps.Ideal.Laws
@[expose] public section
noncomputable section
namespace Cert.Fcos
open Idealize.ShloMosaic
/-! Each theorem states the value of one printed pattern; `ctiny` states that the floor under the square root is not
    negative. -/

/-- The word that stands for 8. -/
theorem c8 : Ideal.ofBits .f32 0x41000000#32 = ((8 : ℝ) : EReal) := by
  simp [Ideal.ofBits, Ideal.ieee]; norm_num; rw [← EReal.coe_mul]; norm_num
/-- The word that stands for 16. -/
theorem c16 : Ideal.ofBits .f32 0x41800000#32 = ((16 : ℝ) : EReal) := by
  simp [Ideal.ofBits, Ideal.ieee]; norm_num; rw [← EReal.coe_mul]; norm_num
/-- The word that stands for 32. -/
theorem c32 : Ideal.ofBits .f32 0x42000000#32 = ((32 : ℝ) : EReal) := by
  simp [Ideal.ofBits, Ideal.ieee]; norm_num; rw [← EReal.coe_mul]; norm_num
/-- The word that stands for 64. -/
theorem c64 : Ideal.ofBits .f32 0x42800000#32 = ((64 : ℝ) : EReal) := by
  simp [Ideal.ofBits, Ideal.ieee]; norm_num; rw [← EReal.coe_mul]; norm_num
/-- The word that stands for 128. -/
theorem c128 : Ideal.ofBits .f32 0x43000000#32 = ((128 : ℝ) : EReal) := by
  simp [Ideal.ofBits, Ideal.ieee]; norm_num; rw [← EReal.coe_mul]; norm_num
/-- The word that stands for 4. -/
theorem c4 : Ideal.ofBits .f32 0x40800000#32 = ((4 : ℝ) : EReal) := by
  simp [Ideal.ofBits, Ideal.ieee]; norm_num; rw [← EReal.coe_mul]; norm_num
/-- The word that stands for 512. -/
theorem c512 : Ideal.ofBits .f32 0x44000000#32 = ((512 : ℝ) : EReal) := by
  simp [Ideal.ofBits, Ideal.ieee]; norm_num; rw [← EReal.coe_mul]; norm_num
/-- The word that stands for 1024. -/
theorem c1024 : Ideal.ofBits .f32 0x44800000#32 = ((1024 : ℝ) : EReal) := by
  simp [Ideal.ofBits, Ideal.ieee]; norm_num; rw [← EReal.coe_mul]; norm_num
/-- The word that stands for 511. -/
theorem c511 : Ideal.ofBits .f32 0x43FF8000#32 = ((511 : ℝ) : EReal) := by
  simp [Ideal.ofBits, Ideal.ieee]; norm_num; rw [← EReal.coe_mul]; norm_num
/-- The word that stands for one half. -/
theorem chalf : Ideal.ofBits .f32 0x3F000000#32 = ((1 / 2 : ℝ) : EReal) := by
  simp [Ideal.ofBits, Ideal.ieee]; norm_num; rw [← EReal.coe_mul]; norm_num
/-- The word that stands for minus one. -/
theorem cneg : Ideal.ofBits .f32 0xBF800000#32 = ((-1 : ℝ) : EReal) := by
  simp [Ideal.ofBits, Ideal.ieee]; norm_num; rw [← EReal.coe_mul]; norm_num
/-- The floor under a score is not negative. -/
theorem ctiny : 0 ≤ Ideal.ofBits .f32 0x2B8CBCCC#32 := by
  simp [Ideal.ofBits, Ideal.ieee]
  exact_mod_cast (by positivity)
end Cert.Fcos
end
-- ==== Proof.NmsValue.lean ====
/- The suppression loop of the kernel, read at an index: what a round picks, how the scores change, and what the six
   output rows hold after fifty rounds. -/
module
public import proofs.«01_k».proof.Proof.BodyKernelIdeal
public import proofs.«01_k».proof.Proof.Suppress
public import proofs.«01_k».proof.Proof.Reads
public import proofs.«01_k».proof.Proof.Consts
public import Idealize.ShloMosaic.Lib.Pointwise
public import Idealize.ShloMosaic.Lib.Tactic.WordOmega
@[expose] public section
set_option maxRecDepth 16384
noncomputable section
namespace Cert.KernelIdeal.Fcos
open Idealize.ShloMosaic Cert.KernelIdeal.Gen Cert.Fcos

/-- The array `X` holds the candidates' values `x`, candidate `640 i + j` at row `i` and column `j`. -/
def Lift {α : Type} (X : S8x640.Idx → α) (x : Fin 5000 → α) : Prop :=
  ∀ (i : Fin 8) (j : Fin 640) (h : i.val * 640 + j.val < 5000), X (ix2 i j) = x ⟨i.val * 640 + j.val, h⟩

/-- The lanes past the last candidate hold `c`. -/
def Pad {α : Type} (X : S8x640.Idx → α) (c : α) : Prop :=
  ∀ (i : Fin 8) (j : Fin 640), ¬ i.val * 640 + j.val < 5000 → X (ix2 i j) = c

/-- The lane number of a place of the 8 by 640 layout, row by row. -/
theorem lane_at (i : Fin 8) (j : Fin 640) : k5_pay33 (ix2 i j) = BitVec.ofNat 32 (i.val * 640 + j.val) := by
  pointwise [k5_pay33]
  show BitVec.ofNat 32 i.val * 640#32 + BitVec.ofNat 32 j.val = _
  rw [BitVec.ofNat_add, BitVec.ofNat_mul]

/-- The least of words that hold small naturals is the word of the least natural. -/
theorem fold_minsi {ι : Type} (S : Finset ι) (m : ℕ) (g : ι → ℕ) (f : ι → BitVec 32) (hf : ∀ x, f x = BitVec.ofNat 32 (g x)) (hm : m < 2 ^ 31) (hg : ∀ x, g x < 2 ^ 31) :
    S.fold IntOp.minsi (BitVec.ofNat 32 m) f = BitVec.ofNat 32 (S.fold min m g) := by
  classical
  have hlt : ∀ T : Finset ι, T.fold min m g < 2 ^ 31 := fun T => lt_of_le_of_lt ((Finset.fold_min_le (s := T) (f := g) (b := m) m).mpr (Or.inl le_rfl)) hm
  induction S using Finset.induction_on with
  | empty => rfl
  | insert a S ha ih =>
    rw [Finset.fold_insert ha, Finset.fold_insert ha, ih, hf]
    have h1 := hlt S
    have h2 := hg a
    generalize S.fold min m g = r at *
    generalize g a = q at *
    unfold IntOp.minsi
    rcases le_total q r with h | h
    · rw [min_eq_left h]
      split
      · rfl
      · rename_i hh
        simp only [BitVec.slt, BitVec.sle, BitVec.toInt_eq_toNat_cond, BitVec.toNat_ofNat] at hh
        rw [Nat.mod_eq_of_lt (by omega), Nat.mod_eq_of_lt (by omega)] at hh
        congr 1
        simp at hh
        omega
    · rw [min_eq_right h]
      split
      · rename_i hh
        simp only [BitVec.slt, BitVec.sle, BitVec.toInt_eq_toNat_cond, BitVec.toNat_ofNat] at hh
        rw [Nat.mod_eq_of_lt (by omega), Nat.mod_eq_of_lt (by omega)] at hh
        congr 1
        simp at hh
        omega
      · rfl

/-- What holds at the start of a loop and is kept by every round holds at its end. -/
theorem fold_inv {σ : Type} {n : ℕ} (g : Fin n → σ → σ) (init : σ) (I : ℕ → σ → Prop) (h0 : I 0 init)
    (hs : ∀ (k : Fin n) (a : σ), I k.val a → I (k.val + 1) (g k a)) : I n (Scf.fold g init) := by
  rw [Scf.fold_eq]
  induction n with
  | zero => simpa using h0
  | succ n ih =>
    rw [List.finRange_succ_last, List.foldl_append, List.foldl_map]
    exact hs (Fin.last n) _ (ih (fun k => g k.castSucc) (fun k a h => hs k.castSucc a h))

/-- The word that stands for minus infinity. -/
theorem negInf : Ideal.ofBits .f32 0xFF800000#32 = ⊥ := by simp [Ideal.ofBits, Ideal.ieee]

/-- The row and the column of a candidate. -/
theorem row_col (p : Fin 5000) : ∃ (i : Fin 8) (j : Fin 640), i.val * 640 + j.val = p.val :=
  ⟨⟨p.val / 640, by omega⟩, ⟨p.val % 640, by omega⟩, by show p.val / 640 * 640 + p.val % 640 = p.val; omega⟩

/-- The pick's mask: one at the lane of the first greatest score and nowhere else. -/
theorem mask_at {S : FVec Ideal S8x640 .f32} {s : Fin 5000 → EReal} (hS : Lift S s) (hP : Pad S (Ideal.ofBits .f32 0xBF800000#32))
    (hs : ∀ q, Ideal.ofBits .f32 0xBF800000#32 ≤ s q) (i : Fin 8) (j : Fin 640) :
    k5_pay13 k5_pay33 S (ix2 i j) = if i.val * 640 + j.val = (pick s).val then 1#1 else 0#1 := by
  obtain ⟨hle, hlt⟩ := isPick_pick s
  obtain ⟨i0, j0, h0⟩ := row_col (pick s)
  have hall : ∀ (i : Fin 8) (j : Fin 640), S (ix2 i j) ≤ s (pick s) := by
    intro i j
    by_cases h : i.val * 640 + j.val < 5000
    · rw [hS i j h]; exact hle _
    · rw [hP i j h]; exact hs _
  have hmax : Finset.fold max (Ideal.ofBits .f32 0xFF800000#32) (fun x : Fin 8 × Fin 640 => S (ix2 x.1 x.2)) Finset.univ = s (pick s) := by
    refine le_antisymm ((Finset.fold_max_le _).mpr ⟨?_, fun x _ => hall _ _⟩) ((Finset.le_fold_max _).mpr (Or.inr ⟨(i0, j0), Finset.mem_univ _, ?_⟩))
    · rw [negInf]; exact bot_le
    · rw [hS i0 j0 (by omega)]
      exact le_of_eq (congrArg s (Fin.ext h0.symm))
  have hmin : Finset.fold min 2147483647 (fun x : Fin 8 × Fin 640 => if S (ix2 x.1 x.2) = s (pick s) then x.1.val * 640 + x.2.val else 5120) Finset.univ = (pick s).val := by
    refine le_antisymm ((Finset.fold_min_le _).mpr (Or.inr ⟨(i0, j0), Finset.mem_univ _, ?_⟩)) ((Finset.le_fold_min _).mpr ⟨?_, fun x _ => ?_⟩)
    · dsimp only
      rw [if_pos, h0]
      rw [hS i0 j0 (by omega)]
      exact congrArg s (Fin.ext h0)
    · have := (pick s).isLt; omega
    · split
      · rename_i he
        by_contra hc
        have hc : x.1.val * 640 + x.2.val < (pick s).val := not_le.mp hc
        have h5 : x.1.val * 640 + x.2.val < 5000 := hc.trans (pick s).isLt
        rw [hS x.1 x.2 h5] at he
        exact absurd he (ne_of_lt (hlt ⟨_, h5⟩ hc))
      · have := (pick s).isLt; omega
  pointwise [k5_pay13]
  rw [hmax]
  have hf := fold_minsi (Finset.univ : Finset (Fin 8 × Fin 640)) 2147483647 (fun x => if S (ix2 x.1 x.2) = s (pick s) then x.1.val * 640 + x.2.val else 5120)
    (fun x => if S (ix2 x.1 x.2) = s (pick s) then k5_pay33 (ix2 x.1 x.2) else 5120#32)
    (fun x => by split <;> simp [lane_at]) (by decide) (fun x => by split <;> omega)
  rw [hmin] at hf
  refine (congrArg (IntOp.cmpi CmpIPredicate.eq _) hf).trans ?_
  rw [lane_at]
  exact eq_word _ _ (by omega) (by omega)

/-- The sum over the mask of the pick is the pick's value. -/
theorem msum {m : IVec S8x640 1} {p : Fin 5000} (hm : ∀ (i : Fin 8) (j : Fin 640), m (ix2 i j) = if i.val * 640 + j.val = p.val then 1#1 else 0#1)
    {X : FVec Ideal S8x640 .f32} {x : Fin 5000 → EReal} (hX : Lift X x) :
    (∑ i : Fin 8, ∑ j : Fin 640, Scalar.select (m (ix2 i j)) (X (ix2 i j)) (0 : EReal)) = x p := by
  obtain ⟨i0, j0, h0⟩ := row_col p
  have hz : ∀ (i : Fin 8) (j : Fin 640), i.val * 640 + j.val ≠ p.val → Scalar.select (m (ix2 i j)) (X (ix2 i j)) (0 : EReal) = 0 := by
    intro i j h
    rw [hm, if_neg h]; rfl
  rw [Finset.sum_eq_single i0, Finset.sum_eq_single j0]
  · rw [hm, if_pos h0]
    show X (ix2 i0 j0) = _
    rw [hX i0 j0 (by omega)]
    exact congrArg x (Fin.ext h0)
  · intro j _ hj
    exact hz _ _ fun h => hj (Fin.ext (by omega))
  · intro h; exact absurd (Finset.mem_univ _) h
  · intro i _ hi
    exact Finset.sum_eq_zero fun j _ => hz _ _ fun h => hi (Fin.ext (by omega))
  · intro h; exact absurd (Finset.mem_univ _) h

/-- The scores' block after a round, and what the round reads at its pick. -/
theorem score_step {S X1 Y1 X2 Y2 A : FVec Ideal S8x640 .f32} {B : Sides} {s : Fin 5000 → EReal} (hS : Lift S s)
    (hP : Pad S (Ideal.ofBits .f32 0xBF800000#32)) (h1 : Lift X1 B.x1) (h2 : Lift Y1 B.y1) (h3 : Lift X2 B.x2) (h4 : Lift Y2 B.y2) (hA : Lift A B.area)
    (m : IVec S8x640 1) (hm : ∀ (i : Fin 8) (j : Fin 640), m (ix2 i j) = if i.val * 640 + j.val = (pick s).val then 1#1 else 0#1)
    (z : FVec Ideal S8x640 .f32) (b3 : k5_pay20 Y2 m z = B.y2 (pick s)) :
    Lift (k5_pay21 X1 Y1 X2 Y2 A S m (B.x1 (pick s)) (B.y1 (pick s)) (B.x2 (pick s)) z) (B.next s)
    ∧ Pad (k5_pay21 X1 Y1 X2 Y2 A S m (B.x1 (pick s)) (B.y1 (pick s)) (B.x2 (pick s)) z) (Ideal.ofBits .f32 0xBF800000#32) := by
  refine ⟨fun i j h => ?_, fun i j h => ?_⟩
  · pointwise [k5_pay21]
    rw [hm, b3, h1 i j h, h2 i j h, h3 i j h, h4 i j h, hA i j h, hS i j h]
    unfold Sides.next Sides.iou Sides.inter Sides.area
    by_cases hp : i.val * 640 + j.val = (pick s).val
    · rw [if_pos hp, if_pos (Fin.ext hp)]; rfl
    · rw [if_neg hp, if_neg (fun e => hp (congrArg Fin.val e))]; rfl
  · pointwise [k5_pay21]
    rw [hm, hP i j h, if_neg (fun e => h (by have := (pick s).isLt; omega)), ite_self]
    rfl

/-- One of the six output rows after a round: the round's lane gets the new value. -/
theorem row_step (k : ℕ) (hk : k < 50) {v : FVec Ideal S1x64 .f32} {new : EReal} {f : ℕ → EReal} (h : ∀ o : Fin 64, o.val < k → v (ix2 0 o) = f o.val)
    (hn : new = f k) (o : Fin 64) (ho : o.val < k + 1) :
    (select (k5_pay22 lanes (Scf.iv 0#32 1#32 k)) (broadcast S1x64 new) v : FVec Ideal S1x64 .f32) (ix2 0 o) = f o.val := by
  have hc : k5_pay22 lanes (Scf.iv 0#32 1#32 k) (ix2 0 o) = if o.val = k then 1#1 else 0#1 := by
    have hi : Scf.iv 0#32 1#32 k = BitVec.ofNat 32 k := by simp [Scf.iv]
    rw [hi]
    pointwise [k5_pay22, lanes]
    exact eq_word _ _ (by omega) (by omega)
  show Scalar.select (k5_pay22 lanes (Scf.iv 0#32 1#32 k) (ix2 0 o)) new (v (ix2 0 o)) = _
  rw [hc]
  by_cases hok : o.val = k
  · rw [if_pos hok, hok]; exact hn
  · rw [if_neg hok]; exact h o (by omega)

/-- The class the round reads out is a sum over all places of which only the picked one counts. -/
theorem sum14 {m : FVec Ideal S8x640 .f32} (X : FVec Ideal S8x640 .f32) : k5_pay14 X k5_pay33 m = ∑ i : Fin 8, ∑ j : Fin 640, Scalar.select (k5_pay13 k5_pay33 m (ix2 i j)) (X (ix2 i j)) (0 : EReal) := by
  pointwise [k5_pay14]
/-- The same of the other values it reads out. -/
theorem sum20 {m : IVec S8x640 1} (X : FVec Ideal S8x640 .f32) : k5_pay20 X m k5_pay19 = ∑ i : Fin 8, ∑ j : Fin 640, Scalar.select (m (ix2 i j)) (X (ix2 i j)) (0 : EReal) := by
  pointwise [k5_pay20, k5_pay19]

/-- What the loop carries after `k` rounds over candidates with sides `B`, scores `s` and classes `cf`. -/
structure Inv (B : Sides) (s cf : Fin 5000 → EReal) (k : ℕ) (a : Carry Ideal) : Prop where
  score : Lift a.1 (B.after s k)
  pad : Pad a.1 (Ideal.ofBits .f32 0xBF800000#32)
  x1 : ∀ o : Fin 64, o.val < k → a.2.1 (ix2 0 o) = B.x1 (B.keep s o) - cf (B.keep s o) * Ideal.ofBits .f32 0x44800000#32
  y1 : ∀ o : Fin 64, o.val < k → a.2.2.1 (ix2 0 o) = B.y1 (B.keep s o) - cf (B.keep s o) * Ideal.ofBits .f32 0x44800000#32
  x2 : ∀ o : Fin 64, o.val < k → a.2.2.2.1 (ix2 0 o) = B.x2 (B.keep s o) - cf (B.keep s o) * Ideal.ofBits .f32 0x44800000#32
  y2 : ∀ o : Fin 64, o.val < k → a.2.2.2.2.1 (ix2 0 o) = B.y2 (B.keep s o) - cf (B.keep s o) * Ideal.ofBits .f32 0x44800000#32
  sc : ∀ o : Fin 64, o.val < k → a.2.2.2.2.2.1 (ix2 0 o) = s (B.keep s o)
  cls : ∀ o : Fin 64, o.val < k → a.2.2.2.2.2.2 (ix2 0 o) = cf (B.keep s o)

/-- The candidates' sides moved apart by `1024` times their classes. -/
def offset (x1 y1 x2 y2 cf : Fin 5000 → EReal) : Sides where
  x1 p := x1 p + cf p * Ideal.ofBits .f32 0x44800000#32
  y1 p := y1 p + cf p * Ideal.ofBits .f32 0x44800000#32
  x2 p := x2 p + cf p * Ideal.ofBits .f32 0x44800000#32
  y2 p := y2 p + cf p * Ideal.ofBits .f32 0x44800000#32

/-- The invariant of a tuple, part by part. -/
theorem inv_mk {B : Sides} {s cf : Fin 5000 → EReal} {k : ℕ} {S : FVec Ideal S8x640 .f32} {r1 r2 r3 r4 r5 r6 : FVec Ideal S1x64 .f32}
    (h0 : Lift S (B.after s k) ∧ Pad S (Ideal.ofBits .f32 0xBF800000#32))
    (h1 : ∀ o : Fin 64, o.val < k → r1 (ix2 0 o) = B.x1 (B.keep s o) - cf (B.keep s o) * Ideal.ofBits .f32 0x44800000#32)
    (h2 : ∀ o : Fin 64, o.val < k → r2 (ix2 0 o) = B.y1 (B.keep s o) - cf (B.keep s o) * Ideal.ofBits .f32 0x44800000#32)
    (h3 : ∀ o : Fin 64, o.val < k → r3 (ix2 0 o) = B.x2 (B.keep s o) - cf (B.keep s o) * Ideal.ofBits .f32 0x44800000#32)
    (h4 : ∀ o : Fin 64, o.val < k → r4 (ix2 0 o) = B.y2 (B.keep s o) - cf (B.keep s o) * Ideal.ofBits .f32 0x44800000#32)
    (h5 : ∀ o : Fin 64, o.val < k → r5 (ix2 0 o) = s (B.keep s o)) (h6 : ∀ o : Fin 64, o.val < k → r6 (ix2 0 o) = cf (B.keep s o)) :
    Inv B s cf k (S, r1, r2, r3, r4, r5, r6) := ⟨h0.1, h0.2, h1, h2, h3, h4, h5, h6⟩

/-- A round keeps the invariant. -/
theorem inv_step {v7 v54 v61 v68 v75 v82 : FVec Ideal S8x640 .f32} {x1 y1 x2 y2 s cf : Fin 5000 → EReal} (h7 : Lift v7 cf) (h54 : Lift v54 x1)
    (h61 : Lift v61 y1) (h68 : Lift v68 x2) (h75 : Lift v75 y2) (h82 : Lift v82 s) (hs : ∀ q, Ideal.ofBits .f32 0xBF800000#32 ≤ s q)
    (k : Fin k5_t1_loop.trips) (a : Carry Ideal) (ha : Inv (offset x1 y1 x2 y2 cf) s cf k.val a) :
    Inv (offset x1 y1 x2 y2 cf) s cf (k.val + 1) (nmsTrip v7 k5_pay33 v54 v61 v68 v75 v82 lanes k a) := by
  have hk : k.val < 50 := lt_of_lt_of_eq k.isLt (by decide)
  obtain ⟨aS, aP, r1, r2, r3, r4, r5, r6⟩ := ha
  set B := offset x1 y1 x2 y2 cf with hB
  have hm := mask_at aS aP (B.le_after hs k.val)
  have H1 : Lift (k5_pay3 v7 v54) B.x1 := fun i j h => by
    pointwise [k5_pay3, k5_pay2]; rw [h7 i j h, h54 i j h]; rfl
  have H2 : Lift (k5_pay4 v7 v61) B.y1 := fun i j h => by
    pointwise [k5_pay4, k5_pay2]; rw [h7 i j h, h61 i j h]; rfl
  have H3 : Lift (k5_pay5 v7 v68) B.x2 := fun i j h => by
    pointwise [k5_pay5, k5_pay2]; rw [h7 i j h, h68 i j h]; rfl
  have H4 : Lift (k5_pay6 v7 v75) B.y2 := fun i j h => by
    pointwise [k5_pay6, k5_pay2]; rw [h7 i j h, h75 i j h]; rfl
  have HA : Lift (k5_pay7 v7 v54 v61 v68 v75) B.area := fun i j h => by
    show (k5_pay5 v7 v68 (ix2 i j) - k5_pay3 v7 v54 (ix2 i j)) * (k5_pay6 v7 v75 (ix2 i j) - k5_pay4 v7 v61 (ix2 i j)) = _
    rw [H1 i j h, H2 i j h, H3 i j h, H4 i j h]; rfl
  have e14 : k5_pay14 v7 k5_pay33 a.1 = cf (B.keep s k.val) := (sum14 v7).trans (msum hm h7)
  have e15 : k5_pay15 k5_pay33 v82 a.1 = s (B.keep s k.val) := (sum14 v82).trans (msum hm h82)
  have e16 : k5_pay16 k5_pay33 (k5_pay3 v7 v54) a.1 = B.x1 (B.keep s k.val) := (sum14 _).trans (msum hm H1)
  have e17 : k5_pay17 k5_pay33 (k5_pay4 v7 v61) a.1 = B.y1 (B.keep s k.val) := (sum14 _).trans (msum hm H2)
  have e18 : k5_pay18 k5_pay33 (k5_pay5 v7 v68) a.1 = B.x2 (B.keep s k.val) := (sum14 _).trans (msum hm H3)
  have e20 : k5_pay20 (k5_pay6 v7 v75) (k5_pay13 k5_pay33 a.1) (k5_pay19 (F := Ideal)) = B.y2 (B.keep s k.val) := (sum20 _).trans (msum hm H4)
  have hst := score_step aS aP H1 H2 H3 H4 HA _ hm (k5_pay19 (F := Ideal)) e20
  have E (o : ℕ → EReal) (v : FVec Ideal S1x64 .f32) (new : EReal) (h : ∀ q : Fin 64, q.val < k.val → v (ix2 0 q) = o q.val) (hn : new = o k.val) :=
    row_step k.val hk (v := v) (new := new) (f := o) h hn
  have c1 : ∀ o : Fin 64, o.val < k.val + 1 → k5_pay24 lanes a.2.1 (Scf.iv 0#32 1#32 k) (k5_pay14 v7 k5_pay33 a.1) (k5_pay16 k5_pay33 (k5_pay3 v7 v54) a.1) (ix2 0 o) = B.x1 (B.keep s o) - cf (B.keep s o) * Ideal.ofBits .f32 0x44800000#32 :=
    E (fun o => B.x1 (B.keep s o) - cf (B.keep s o) * Ideal.ofBits .f32 0x44800000#32) _ _ r1 (by rw [e14, e16]; rfl)
  have c2 : ∀ o : Fin 64, o.val < k.val + 1 → k5_pay25 lanes a.2.2.1 (Scf.iv 0#32 1#32 k) (k5_pay14 v7 k5_pay33 a.1) (k5_pay17 k5_pay33 (k5_pay4 v7 v61) a.1) (ix2 0 o) = B.y1 (B.keep s o) - cf (B.keep s o) * Ideal.ofBits .f32 0x44800000#32 :=
    E (fun o => B.y1 (B.keep s o) - cf (B.keep s o) * Ideal.ofBits .f32 0x44800000#32) _ _ r2 (by rw [e14, e17]; rfl)
  have c3 : ∀ o : Fin 64, o.val < k.val + 1 → k5_pay26 lanes a.2.2.2.1 (Scf.iv 0#32 1#32 k) (k5_pay14 v7 k5_pay33 a.1) (k5_pay18 k5_pay33 (k5_pay5 v7 v68) a.1) (ix2 0 o) = B.x2 (B.keep s o) - cf (B.keep s o) * Ideal.ofBits .f32 0x44800000#32 :=
    E (fun o => B.x2 (B.keep s o) - cf (B.keep s o) * Ideal.ofBits .f32 0x44800000#32) _ _ r3 (by rw [e14, e18]; rfl)
  have c4 : ∀ o : Fin 64, o.val < k.val + 1 → k5_pay27 (k5_pay6 v7 v75) lanes a.2.2.2.2.1 (Scf.iv 0#32 1#32 k) (k5_pay13 k5_pay33 a.1) (k5_pay14 v7 k5_pay33 a.1) (k5_pay19 (F := Ideal)) (ix2 0 o) = B.y2 (B.keep s o) - cf (B.keep s o) * Ideal.ofBits .f32 0x44800000#32 :=
    E (fun o => B.y2 (B.keep s o) - cf (B.keep s o) * Ideal.ofBits .f32 0x44800000#32) _ _ r4 (by rw [e14, e20]; rfl)
  have c5 : ∀ o : Fin 64, o.val < k.val + 1 → k5_pay28 lanes a.2.2.2.2.2.1 (Scf.iv 0#32 1#32 k) (k5_pay15 k5_pay33 v82 a.1) (ix2 0 o) = s (B.keep s o) :=
    E (fun o => s (B.keep s o)) _ _ r5 e15
  have c6 : ∀ o : Fin 64, o.val < k.val + 1 → k5_pay9 a.2.2.2.2.2.2 (k5_pay14 v7 k5_pay33 a.1) (k5_pay22 lanes (Scf.iv 0#32 1#32 k)) (ix2 0 o) = cf (B.keep s o) :=
    E (fun o => cf (B.keep s o)) _ _ r6 e14
  have hB' : B.after s (k.val + 1) = B.next (B.after s k.val) := B.after_succ s k.val
  have hst' : Lift (k5_pay21 (k5_pay3 v7 v54) (k5_pay4 v7 v61) (k5_pay5 v7 v68) (k5_pay6 v7 v75) (k5_pay7 v7 v54 v61 v68 v75) a.1 (k5_pay13 k5_pay33 a.1)
      (k5_pay16 k5_pay33 (k5_pay3 v7 v54) a.1) (k5_pay17 k5_pay33 (k5_pay4 v7 v61) a.1) (k5_pay18 k5_pay33 (k5_pay5 v7 v68) a.1) (k5_pay19 (F := Ideal))) (B.after s (k.val + 1))
      ∧ Pad (k5_pay21 (k5_pay3 v7 v54) (k5_pay4 v7 v61) (k5_pay5 v7 v68) (k5_pay6 v7 v75) (k5_pay7 v7 v54 v61 v68 v75) a.1 (k5_pay13 k5_pay33 a.1)
      (k5_pay16 k5_pay33 (k5_pay3 v7 v54) a.1) (k5_pay17 k5_pay33 (k5_pay4 v7 v61) a.1) (k5_pay18 k5_pay33 (k5_pay5 v7 v68) a.1) (k5_pay19 (F := Ideal))) (Ideal.ofBits .f32 0xBF800000#32) := by
    rw [e16, e17, e18, hB']; exact hst
  have hT : nmsTrip v7 k5_pay33 v54 v61 v68 v75 v82 lanes k a = ((k5_pay21 (k5_pay3 v7 v54) (k5_pay4 v7 v61) (k5_pay5 v7 v68) (k5_pay6 v7 v75) (k5_pay7 v7 v54 v61 v68 v75) a.1 (k5_pay13 k5_pay33 a.1)
      (k5_pay16 k5_pay33 (k5_pay3 v7 v54) a.1) (k5_pay17 k5_pay33 (k5_pay4 v7 v61) a.1) (k5_pay18 k5_pay33 (k5_pay5 v7 v68) a.1) (k5_pay19 (F := Ideal))), k5_pay24 lanes a.2.1 (Scf.iv 0#32 1#32 k) (k5_pay14 v7 k5_pay33 a.1) (k5_pay16 k5_pay33 (k5_pay3 v7 v54) a.1), k5_pay25 lanes a.2.2.1 (Scf.iv 0#32 1#32 k) (k5_pay14 v7 k5_pay33 a.1) (k5_pay17 k5_pay33 (k5_pay4 v7 v61) a.1), k5_pay26 lanes a.2.2.2.1 (Scf.iv 0#32 1#32 k) (k5_pay14 v7 k5_pay33 a.1) (k5_pay18 k5_pay33 (k5_pay5 v7 v68) a.1), k5_pay27 (k5_pay6 v7 v75) lanes a.2.2.2.2.1 (Scf.iv 0#32 1#32 k) (k5_pay13 k5_pay33 a.1) (k5_pay14 v7 k5_pay33 a.1) (k5_pay19 (F := Ideal)), k5_pay28 lanes a.2.2.2.2.2.1 (Scf.iv 0#32 1#32 k) (k5_pay15 k5_pay33 v82 a.1), k5_pay9 a.2.2.2.2.2.2 (k5_pay14 v7 k5_pay33 a.1) (k5_pay22 lanes (Scf.iv 0#32 1#32 k))) := rfl
  rw [hT]
  exact inv_mk hst' c1 c2 c3 c4 c5 c6

/-- The stride of the level that candidate `p` comes from. -/
def strideOf (p : ℕ) : EReal :=
  if p < 1000 then Ideal.ofBits .f32 0x41000000#32 else if p < 2000 then Ideal.ofBits .f32 0x41800000#32
  else if p < 3000 then Ideal.ofBits .f32 0x42000000#32 else if p < 4000 then Ideal.ofBits .f32 0x42800000#32 else Ideal.ofBits .f32 0x43000000#32

/-- The kernel's column of a location, in cells of the level. -/
def kcol (st loc : EReal) : EReal := Ideal.liftRound Int.floor (Ideal.div loc (Ideal.div (Ideal.ofBits .f32 0x44000000#32) st))
/-- The kernel's abscissa of a location. -/
def kxs (st loc : EReal) : EReal := Ideal.ofBits .f32 0x3F000000#32 * st + kcol st loc * st
/-- The kernel's ordinate of a location. -/
def kys (st loc : EReal) : EReal :=
  Ideal.ofBits .f32 0x3F000000#32 * st + (loc - kcol st loc * Ideal.div (Ideal.ofBits .f32 0x44000000#32) st) * st
/-- A side before the center, clipped to the image. -/
def sideLo (ctr r st : EReal) : EReal := min (Ideal.ofBits .f32 0x43FF8000#32) (max 0 (ctr - Ideal.exp r * st))
/-- A side after the center, clipped to the image. -/
def sideHi (ctr r st : EReal) : EReal := min (Ideal.ofBits .f32 0x43FF8000#32) (max 0 (ctr + Ideal.exp r * st))

/-- The stride a place's candidate belongs to. -/
theorem stride_at (i : Fin 8) (j : Fin 640) : k5_pay34 (F := Ideal) (ix2 i j) = strideOf (i.val * 640 + j.val) := by
  pointwise [k5_pay34]
  rw [lane_at, lt_word _ 1000 (by omega) (by omega), lt_word _ 2000 (by omega) (by omega), lt_word _ 3000 (by omega) (by omega), lt_word _ 4000 (by omega) (by omega)]
  simp only [select_ite]
  rfl

/-- A candidate's left side. -/
theorem side1_at (x0 : Vec Ideal S1x4x8x640 .f32) (x1 : Vec Ideal S1x8x640 .f32) (i : Fin 8) (j : Fin 640) :
    k5_pay41 (k5_pay29 x0) k5_pay34 (k5_pay36 x1) (ix2 i j)
      = sideLo (kxs (strideOf (i.val * 640 + j.val)) (x1 (ix3 0 i j))) (x0 (ix4 0 0 i j)) (strideOf (i.val * 640 + j.val)) := by
  rw [← stride_at]
  pointwise [k5_pay41, k5_pay39, k5_pay40, k5_pay36, k5_pay37, k5_pay35, k5_pay29, k5_pay30]
  rfl
/-- A candidate's upper side. -/
theorem side2_at (x0 : Vec Ideal S1x4x8x640 .f32) (x1 : Vec Ideal S1x8x640 .f32) (i : Fin 8) (j : Fin 640) :
    k5_pay42 (k5_pay29 x0) (k5_pay30 x1) k5_pay34 (k5_pay37 x1) (ix2 i j)
      = sideLo (kys (strideOf (i.val * 640 + j.val)) (x1 (ix3 0 i j))) (x0 (ix4 0 1 i j)) (strideOf (i.val * 640 + j.val)) := by
  rw [← stride_at]
  pointwise [k5_pay42, k5_pay38, k5_pay40, k5_pay36, k5_pay37, k5_pay35, k5_pay29, k5_pay30]
  rfl
/-- A candidate's right side. -/
theorem side3_at (x0 : Vec Ideal S1x4x8x640 .f32) (x1 : Vec Ideal S1x8x640 .f32) (i : Fin 8) (j : Fin 640) :
    k5_pay43 (k5_pay29 x0) k5_pay34 (k5_pay36 x1) (ix2 i j)
      = sideHi (kxs (strideOf (i.val * 640 + j.val)) (x1 (ix3 0 i j))) (x0 (ix4 0 2 i j)) (strideOf (i.val * 640 + j.val)) := by
  rw [← stride_at]
  pointwise [k5_pay43, k5_pay39, k5_pay40, k5_pay36, k5_pay37, k5_pay35, k5_pay29, k5_pay30]
  rfl
/-- A candidate's lower side. -/
theorem side4_at (x0 : Vec Ideal S1x4x8x640 .f32) (x1 : Vec Ideal S1x8x640 .f32) (i : Fin 8) (j : Fin 640) :
    k5_pay44 (k5_pay29 x0) (k5_pay30 x1) k5_pay34 (k5_pay37 x1) (ix2 i j)
      = sideHi (kys (strideOf (i.val * 640 + j.val)) (x1 (ix3 0 i j))) (x0 (ix4 0 3 i j)) (strideOf (i.val * 640 + j.val)) := by
  rw [← stride_at]
  pointwise [k5_pay44, k5_pay38, k5_pay40, k5_pay36, k5_pay37, k5_pay35, k5_pay29, k5_pay30]
  rfl

/-- The score a candidate enters the suppression with. -/
def kscore (v : EReal) : EReal := Ideal.sqrt (max v (Ideal.ofBits .f32 0x2B8CBCCC#32))

/-- The scores that enter the suppression: a candidate's own, and minus one at the places past the last candidate. -/
theorem score_at (x2 : Vec Ideal S1x8x640 .f32) (i : Fin 8) (j : Fin 640) :
    k5_pay1 (k5_pay45 k5_pay33) (k5_pay46 (k5_pay31 x2)) (k5_pay47 (F := Ideal)) (ix2 i j)
      = if i.val * 640 + j.val < 5000 then kscore (x2 (ix3 0 i j)) else Ideal.ofBits .f32 0xBF800000#32 := by
  pointwise [k5_pay1, k5_pay45, k5_pay46, k5_pay47, k5_pay31]
  rw [lane_at, lt_word _ 5000 (by omega) (by omega), select_ite]
  rfl

/-- A square root is not negative. -/
theorem sqrt_nonneg' (x : EReal) (h : 0 ≤ x) : 0 ≤ Ideal.sqrt x := by
  induction x with
  | bot => simp at h
  | top => exact le_top
  | coe r =>
    have hr : 0 ≤ r := by exact_mod_cast h
    show (0 : EReal) ≤ (if r < 0 then ⊥ else (Real.sqrt r : EReal))
    rw [if_neg (not_lt.mpr hr)]
    exact_mod_cast Real.sqrt_nonneg r

/-- No candidate's score is below minus one. -/
theorem neg_one_le_kscore (v : EReal) : Ideal.ofBits .f32 0xBF800000#32 ≤ kscore v := by
  refine le_trans (b := 0) ?_ (sqrt_nonneg' _ (le_max_of_le_right ?_))
  · rw [cneg]; exact_mod_cast (by norm_num : (-1 : ℝ) ≤ 0)
  · exact ctiny

/-- The candidates that the loop runs over, off what the four blocks hold: regressed distances `r`, locations `loc`, classes `cf`. -/
def ksides (r : Fin 4 → Fin 5000 → EReal) (loc cf : Fin 5000 → EReal) : Sides :=
  offset (fun p => sideLo (kxs (strideOf p) (loc p)) (r 0 p) (strideOf p)) (fun p => sideLo (kys (strideOf p) (loc p)) (r 1 p) (strideOf p))
    (fun p => sideHi (kxs (strideOf p) (loc p)) (r 2 p) (strideOf p)) (fun p => sideHi (kys (strideOf p) (loc p)) (r 3 p) (strideOf p)) cf

/-- After fifty rounds over the blocks' candidates the loop carries what `Inv` says. -/
theorem nmsFold_inv (x0 : Vec Ideal S1x4x8x640 .f32) (x1 x2 x3 : Vec Ideal S1x8x640 .f32) (r : Fin 4 → Fin 5000 → EReal) (loc v cf : Fin 5000 → EReal)
    (h0 : ∀ (a : Fin 4) (i : Fin 8) (j : Fin 640) (h : i.val * 640 + j.val < 5000), x0 (ix4 0 a i j) = r a ⟨i.val * 640 + j.val, h⟩)
    (h1 : ∀ (i : Fin 8) (j : Fin 640) (h : i.val * 640 + j.val < 5000), x1 (ix3 0 i j) = loc ⟨i.val * 640 + j.val, h⟩)
    (h2 : ∀ (i : Fin 8) (j : Fin 640) (h : i.val * 640 + j.val < 5000), x2 (ix3 0 i j) = v ⟨i.val * 640 + j.val, h⟩)
    (h3 : ∀ (i : Fin 8) (j : Fin 640) (h : i.val * 640 + j.val < 5000), x3 (ix3 0 i j) = cf ⟨i.val * 640 + j.val, h⟩) :
    Inv (ksides r loc cf) (fun p => kscore (v p)) cf 50 (nmsFold x0 x1 x2 x3) := by
  have h82 : Lift (k5_pay1 (k5_pay45 k5_pay33) (k5_pay46 (k5_pay31 x2)) (k5_pay47 (F := Ideal))) (fun p => kscore (v p)) := fun i j h => by
    rw [score_at, if_pos h, h2 i j h]
  have h7 : Lift (k5_pay32 x3) cf := fun i j h => by
    pointwise [k5_pay32]
    exact h3 i j h
  refine fold_inv (n := k5_t1_loop.trips) _ _ (fun k a => Inv (ksides r loc cf) (fun p => kscore (v p)) cf k a) ?_
    (inv_step h7 ?_ ?_ ?_ ?_ h82 (fun q => neg_one_le_kscore _))
  · exact inv_mk ⟨h82, fun i j h => by rw [score_at, if_neg h]⟩ (fun o h => absurd h (Nat.not_lt_zero _)) (fun o h => absurd h (Nat.not_lt_zero _))
      (fun o h => absurd h (Nat.not_lt_zero _)) (fun o h => absurd h (Nat.not_lt_zero _)) (fun o h => absurd h (Nat.not_lt_zero _)) (fun o h => absurd h (Nat.not_lt_zero _))
  · intro i j h; rw [side1_at, h1 i j h, h0 0 i j h]
  · intro i j h; rw [side2_at, h1 i j h, h0 1 i j h]
  · intro i j h; rw [side3_at, h1 i j h, h0 2 i j h]
  · intro i j h; rw [side4_at, h1 i j h, h0 3 i j h]

end Cert.KernelIdeal.Fcos
end
-- ==== Proof.Levels.lean ====
/- One level's thousand candidates: the score table, the places of its greatest entries, and what is read at each place. The
   statements are over either program's arrays. -/
module
public import proofs.«01_k».proof.Proof.NmsValue
public import proofs.«01_k».proof.Proof.Consts
public import Idealize.ShloMosaic.Lib.Routing.Words
@[expose] public section
set_option maxRecDepth 16384
noncomputable section
namespace Cert.Fcos
open Idealize.ShloMosaic Idealize.ShloMosaic.StableHlo
open Cert.KernelIdeal.Fcos (kxs kys kcol sideLo sideHi kscore)

/-- The logistic function on the extended reals. -/
def sigma (x : EReal) : EReal := Ideal.div (Ideal.ofBits .f32 0x3F800000#32) (Ideal.ofBits .f32 0x3F800000#32 + Ideal.exp (-x))

/-- The score of a class at a location: the class's confidence times the location's centredness where the first passes the
    threshold, zero elsewhere. -/
def scoreOf (x t : EReal) : EReal :=
  Scalar.select (Ideal.cmp .ogt (sigma x) (Ideal.ofBits .f32 0x3E99999A#32)) (sigma x * sigma t) (Ideal.ofBits .f32 0x00000000#32)

/-- The dimensions of a square level: `h` rows and columns, `n` locations, `N` scores, of which a thousand are taken. -/
structure Dims (h n N : ℕ) : Prop where
  hn : n = h * h
  hN : N = n * 80
  hK : 1000 ≤ N
  hh : 0 < h

/-- A shape of four dimensions. -/
abbrev sh4 (a b c d : ℕ) : Shape := ⟨4, ![a, b, c, d]⟩

/-- A candidate: its location in the level, its class, its score and its four regressed distances' logarithms. -/
structure Cand where
  loc : ℕ
  cls : ℕ
  v : EReal
  r : Fin 4 → EReal

section Level
variable {h n N : ℕ} (D : Dims h n N)
include D

/-- A location's column of the map is inside it. -/
theorem Dims.row_lt {l : ℕ} (hl : l < n) : l / h < h := Nat.div_lt_of_lt_mul (D.hn ▸ hl)
/-- A location's row of the map is inside it. -/
theorem Dims.col_lt (l : ℕ) : l % h < h := Nat.mod_lt _ D.hh
/-- A score's location is one of the level's. -/
theorem Dims.loc_lt (q : Fin N) : q.val / 80 < n := by have := D.hN; have := q.isLt; omega

/-- A map's value in a channel at a location: locations run over the columns, and over the rows within a column. -/
def mapAt {ch : ℕ} (x : (sh4 2 ch h h).Idx → EReal) (b : Fin 2) (a : Fin ch) (l : ℕ) (hl : l < n) : EReal :=
  x (ix4 b a ⟨l % h, D.col_lt l⟩ ⟨l / h, D.row_lt hl⟩)

variable (C : (sh4 2 80 h h).Idx → EReal) (T : (sh4 2 1 h h).Idx → EReal) (G : (sh4 2 4 h h).Idx → EReal)

/-- The score at a place of the flat table, whose entry `q` is the class `q % 80` at the location `q / 80`. -/
def score (b : Fin 2) (q : Fin N) : EReal :=
  scoreOf (mapAt D C b ⟨q.val % 80, Nat.mod_lt _ (by decide)⟩ (q.val / 80) (D.loc_lt q)) (mapAt D T b 0 (q.val / 80) (D.loc_lt q))

/-- The place of the `k`-th greatest score of image `b`. -/
def topPlace (b : Fin 2) (k : Fin 1000) : Fin N := place (score D C T b) ⟨k.val, lt_of_lt_of_le k.isLt D.hK⟩

/-- The location of that place. -/
def topLoc (b : Fin 2) (k : Fin 1000) : Fin n := ⟨(topPlace D C T b k).val / 80, D.loc_lt _⟩

/-- The `k`-th candidate of image `b`. -/
def cand (b : Fin 2) (k : Fin 1000) : Cand where
  loc := (topPlace D C T b k).val / 80
  cls := (topPlace D C T b k).val % 80
  v := score D C T b (topPlace D C T b k)
  r := fun a => mapAt D G b a ((topPlace D C T b k).val / 80) (D.loc_lt _)
end Level

/-- The candidate's four sides in a level of stride `st`. -/
def Cand.side (c : Cand) (st : EReal) : Fin 4 → EReal :=
  ![sideLo (kxs st ((c.loc : ℝ) : EReal)) (c.r 0) st, sideLo (kys st ((c.loc : ℝ) : EReal)) (c.r 1) st,
    sideHi (kxs st ((c.loc : ℝ) : EReal)) (c.r 2) st, sideHi (kys st ((c.loc : ℝ) : EReal)) (c.r 3) st]

/-- Division of reals is the reals'. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The width of a level of stride `s` in cells. -/
theorem width_eq (s h : ℕ) (hs : s * h = 512) : Ideal.div (Ideal.ofBits .f32 0x44000000#32) ((s : ℝ) : EReal) = ((h : ℝ) : EReal) ∧ (h : ℝ) ≠ 0 := by
  have hs0 : (s : ℝ) ≠ 0 := by intro e; norm_cast at e; subst e; omega
  have hh : (h : ℝ) ≠ 0 := by intro e; norm_cast at e; subst e; omega
  refine ⟨?_, hh⟩
  rw [c512, div_real _ _ hs0]
  congr 1
  rw [div_eq_iff hs0, mul_comm]
  exact_mod_cast hs.symm

/-- The column of a location, as the quotient's integer part. -/
theorem kcol_eq (s h l : ℕ) (hs : s * h = 512) : kcol ((s : ℝ) : EReal) ((l : ℝ) : EReal) = (((l / h : ℕ) : ℝ) : EReal) := by
  obtain ⟨hw, hh⟩ := width_eq s h hs
  unfold kcol
  rw [hw, div_real _ _ hh, Ideal.liftRound_coe]
  congr 1
  have e : ⌊(l : ℝ) / h⌋ = ((l / h : ℕ) : ℤ) := by
    rw [Int.floor_eq_iff]
    have hp : (0 : ℝ) < h := lt_of_le_of_ne (Nat.cast_nonneg h) (Ne.symm hh)
    have h1 : h * (l / h) ≤ l := Nat.mul_div_le l h
    have h2 : l < h * (l / h + 1) := Nat.lt_mul_div_succ l (Nat.pos_of_ne_zero fun z => hh (by rw [z]; norm_num))
    rw [le_div_iff₀ hp, div_lt_iff₀ hp, mul_comm _ (h : ℝ), mul_comm _ (h : ℝ)]
    exact ⟨by exact_mod_cast h1, by exact_mod_cast h2⟩
  rw [e, Int.cast_natCast]

/-- The abscissa of a location: half a stride and its column's strides. -/
theorem kxs_eq (s h l : ℕ) (hs : s * h = 512) : kxs ((s : ℝ) : EReal) ((l : ℝ) : EReal) = (((s : ℝ) / 2 + ((l / h : ℕ) : ℝ) * s : ℝ) : EReal) := by
  unfold kxs
  rw [kcol_eq s h l hs, chalf, ← EReal.coe_mul, ← EReal.coe_mul, ← EReal.coe_add]
  congr 1
  ring

/-- The ordinate of a location: half a stride and its row's strides. -/
theorem kys_eq (s h l : ℕ) (hs : s * h = 512) : kys ((s : ℝ) : EReal) ((l : ℝ) : EReal) = (((s : ℝ) / 2 + ((l % h : ℕ) : ℝ) * s : ℝ) : EReal) := by
  unfold kys
  rw [kcol_eq s h l hs, (width_eq s h hs).1, chalf, ← EReal.coe_mul, ← EReal.coe_mul, ← EReal.coe_sub, ← EReal.coe_mul, ← EReal.coe_add]
  congr 1
  have e : (l : ℝ) = (l / h : ℕ) * h + (l % h : ℕ) := by exact_mod_cast (Nat.div_add_mod' l h).symm
  rw [show (l : ℝ) - (l / h : ℕ) * h = (l % h : ℕ) by linarith]
  ring

/-- A small natural's word as a real. -/
theorem real_word (j : ℕ) (h : j < 2 ^ 31) : (FloatOps.sitofp (F := Ideal) .f32 (BitVec.ofNat 32 j) : EReal) = ((j : ℝ) : EReal) := by
  show (((BitVec.ofNat 32 j).toInt : ℝ) : EReal) = _
  rw [StableHlo.Predicate.toInt_ofNat_small _ h]
  norm_num

/-- A coordinate clipped to the image. -/
def clip (x : EReal) : EReal := min (Ideal.ofBits .f32 0x43FF8000#32) (max 0 x)

section Out
variable {h n N K : ℕ} (D : Dims h n N) (C : (sh4 2 80 h h).Idx → EReal) (T : (sh4 2 1 h h).Idx → EReal) (G : (sh4 2 4 h h).Idx → EReal)

/-- What a level's three arrays hold: the candidates' clipped boxes, their scores' roots and their classes. -/
structure LevelOut (st : EReal) (X : (sh3 2 1000 4).Idx → EReal) (Y : (sh2 2 1000).Idx → EReal) (Z : (sh2 2 1000).Idx → BitVec 32) : Prop where
  box : ∀ (b : Fin 2) (k : Fin 1000) (a : Fin 4), X (ix3 b k a) = (cand D C T G b k).side st a
  score : ∀ (b : Fin 2) (k : Fin 1000), Y (ix2 b k) = kscore (cand D C T G b k).v
  cls : ∀ (b : Fin 2) (k : Fin 1000), Z (ix2 b k) = BitVec.ofNat 32 (cand D C T G b k).cls

/-- A flat table that holds the scores has its thousand greatest entries at the candidates' places. -/
theorem top_at (x : (sh2 2 N).Idx → EReal) (hx : ∀ b q, x (ix2 b q) = score D C T b q) (hf) (b : Fin 2) (k : Fin 1000) :
    (Host.topK (sh2 2 1000) 1 (FloatOps.cmpfTotal (F := Ideal) (φ := .f32) .gt) x hf).1 (ix2 b k) = (cand D C T G b k).v
    ∧ (Host.topK (sh2 2 1000) 1 (FloatOps.cmpfTotal (F := Ideal) (φ := .f32) .gt) x hf).2 (ix2 b k) = BitVec.ofNat 32 (topPlace D C T b k).val := by
  have e := topK_at (N := N) (K := 1000) x hf b k (lt_of_lt_of_le k.isLt D.hK)
  have er : (fun p => x (ix2 b p)) = score D C T b := funext fun q => hx b q
  rw [er] at e
  exact ⟨e.1.trans (hx b _), e.2⟩

/-- A level's arrays from what each of its stages computes: the flat score table and its thousand greatest entries, the place's
    quotient and remainder by eighty, the grid's table of centers, the distances taken at a location, the four clipped sides, and
    the scores' roots. -/
theorem level_of (s : ℕ) (hs : s * h = 512) {st half : EReal} (hst : st = ((s : ℝ) : EReal)) (hhalf : half = (((s : ℝ) / 2 : ℝ) : EReal))
    {x : (sh2 2 N).Idx → EReal} {V : (sh2 2 1000).Idx → EReal} {I L Z : (sh2 2 1000).Idx → BitVec 32} {tab : (sh2 n 2).Idx → EReal} {R : (sh3 2 n 4).Idx → EReal}
    {P X : (sh3 2 1000 4).Idx → EReal} {Y : (sh2 2 1000).Idx → EReal}
    (hN : N < 2 ^ 31) (hx : ∀ b q, x (ix2 b q) = score D C T b q)
    (hf) (hV : V = (Host.topK (sh2 2 1000) 1 (FloatOps.cmpfTotal (F := Ideal) (φ := .f32) .gt) x hf).1)
    (hI : I = (Host.topK (sh2 2 1000) 1 (FloatOps.cmpfTotal (F := Ideal) (φ := .f32) .gt) x hf).2)
    (hL : ∀ b k p, p < 2 ^ 31 → I (ix2 b k) = BitVec.ofNat 32 p → L (ix2 b k) = BitVec.ofNat 32 (p / 80))
    (hZ : ∀ b k p, p < 2 ^ 31 → I (ix2 b k) = BitVec.ofNat 32 p → Z (ix2 b k) = BitVec.ofNat 32 (p % 80))
    (h0 : ∀ i, tab (ix2 i 0) = half + FloatOps.sitofp (F := Ideal) .f32 (BitVec.ofNat 32 (i.val % h)) * st)
    (h1 : ∀ i, tab (ix2 i 1) = half + FloatOps.sitofp (F := Ideal) .f32 (BitVec.ofNat 32 (i.val / h)) * st)
    (hR : ∀ b i r, R (ix3 b i r) = mapAt D G b r i.val i.isLt)
    (hP : ∀ b k r l (hl : l < n), L (ix2 b k) = BitVec.ofNat 32 l → P (ix3 b k r) = Ideal.exp (R (ix3 b ⟨l, hl⟩ r)) * st)
    (hX : ∀ b k l (hl : l < n), L (ix2 b k) = BitVec.ofNat 32 l → ∀ a, X (ix3 b k a)
      = (![clip (tab (ix2 ⟨l, hl⟩ 1) - P (ix3 b k 0)), clip (tab (ix2 ⟨l, hl⟩ 0) - P (ix3 b k 1)),
          clip (tab (ix2 ⟨l, hl⟩ 1) + P (ix3 b k 2)), clip (tab (ix2 ⟨l, hl⟩ 0) + P (ix3 b k 3))] : Fin 4 → EReal) a)
    (hY : ∀ b k, Y (ix2 b k) = kscore (V (ix2 b k))) : LevelOut D C T G st X Y Z := by
  subst hst hhalf
  have hi : ∀ b k, I (ix2 b k) = BitVec.ofNat 32 (topPlace D C T b k).val := fun b k => by rw [hI]; exact (top_at D C T G x hx hf b k).2
  have hp : ∀ b k, (topPlace D C T b k).val < 2 ^ 31 := fun b k => lt_trans (topPlace D C T b k).isLt hN
  have hn31 : ∀ j, j < n → j < 2 ^ 31 := fun j hj => by have := D.hN; omega
  refine ⟨fun b k a => ?_, fun b k => ?_, fun b k => hZ b k _ (hp b k) (hi b k)⟩
  · have hl := D.loc_lt (topPlace D C T b k)
    have eL := hL b k _ (hp b k) (hi b k)
    have ex : tab (ix2 ⟨_, hl⟩ 1) = kxs ((s : ℝ) : EReal) (((cand D C T G b k).loc : ℝ) : EReal) := by
      rw [h1, kxs_eq s h _ hs]
      dsimp only
      rw [real_word _ (hn31 _ (lt_of_le_of_lt (Nat.div_le_self _ _) hl)), ← EReal.coe_mul, ← EReal.coe_add]
      rfl
    have ey : tab (ix2 ⟨_, hl⟩ 0) = kys ((s : ℝ) : EReal) (((cand D C T G b k).loc : ℝ) : EReal) := by
      rw [h0, kys_eq s h _ hs]
      dsimp only
      rw [real_word _ (hn31 _ (lt_of_le_of_lt (Nat.mod_le _ _) hl)), ← EReal.coe_mul, ← EReal.coe_add]
      rfl
    have ep : ∀ r, P (ix3 b k r) = Ideal.exp ((cand D C T G b k).r r) * ((s : ℝ) : EReal) := fun r => by rw [hP b k r _ hl eL, hR]; rfl
    rw [hX b k _ hl eL a, ex, ey, ep, ep, ep, ep]
    rfl
  · rw [hY, hV]
    exact congrArg kscore (top_at D C T G x hx hf b k).1

/-- A column's entry less a distance, clipped. -/
theorem clip_less {M : ℕ} (d : GatherDims ⟨1, ![M]⟩ (sh3 2 1000 1) (sh2 2 1000)) (wf) (hd : d = ⟨[], [0], [], [], [0], 2, ![1], wf⟩)
    (x : Shape.Idx ⟨1, ![M]⟩ → EReal) (idx : IVec (sh3 2 1000 1) 32) (b : Fin 2) (k : Fin 1000) (p : Fin M) (hM : M < 2 ^ 31)
    (hp : idx (ix3 b k 0) = BitVec.ofNat 32 p.val) (y : EReal) :
    min (Ideal.ofBits .f32 0x43FF8000#32) (max 0 (Host.gather d x idx (ix2 b k) - y)) = clip (x (ix1 p) - y) := by
  rw [gather1_at d wf hd x idx b k p hM hp]; rfl

/-- A column's entry and a distance, clipped. -/
theorem clip_more {M : ℕ} (d : GatherDims ⟨1, ![M]⟩ (sh3 2 1000 1) (sh2 2 1000)) (wf) (hd : d = ⟨[], [0], [], [], [0], 2, ![1], wf⟩)
    (x : Shape.Idx ⟨1, ![M]⟩ → EReal) (idx : IVec (sh3 2 1000 1) 32) (b : Fin 2) (k : Fin 1000) (p : Fin M) (hM : M < 2 ^ 31)
    (hp : idx (ix3 b k 0) = BitVec.ofNat 32 p.val) (y : EReal) :
    min (Ideal.ofBits .f32 0x43FF8000#32) (max 0 (Host.gather d x idx (ix2 b k) + y)) = clip (x (ix1 p) + y) := by
  rw [gather1_at d wf hd x idx b k p hM hp]; rfl

end Out

/-! ## The five levels together -/

/-- Level 0: a 64 by 64 map. -/
theorem D0 : Dims 64 4096 327680 := ⟨rfl, rfl, by decide, by decide⟩
/-- Level 1: a 32 by 32 map. -/
theorem D1 : Dims 32 1024 81920 := ⟨rfl, rfl, by decide, by decide⟩
/-- Level 2: a 16 by 16 map. -/
theorem D2 : Dims 16 256 20480 := ⟨rfl, rfl, by decide, by decide⟩
/-- Level 3: a 8 by 8 map. -/
theorem D3 : Dims 8 64 5120 := ⟨rfl, rfl, by decide, by decide⟩
/-- Level 4: a 4 by 4 map. -/
theorem D4 : Dims 4 16 1280 := ⟨rfl, rfl, by decide, by decide⟩

/-- Five lists of a thousand, one after the other. -/
def five {α : Type} (f0 f1 f2 f3 f4 : Fin 1000 → α) (p : Fin 5000) : α :=
  if h0 : p.val < 1000 then f0 ⟨p.val, h0⟩ else if h1 : p.val < 2000 then f1 ⟨p.val - 1000, by omega⟩
  else if h2 : p.val < 3000 then f2 ⟨p.val - 2000, by omega⟩ else if h3 : p.val < 4000 then f3 ⟨p.val - 3000, by omega⟩
  else f4 ⟨p.val - 4000, by have := p.isLt; omega⟩

/-- The same, each list's place counted down from the one before. -/
theorem five_down {α : Type} (f0 f1 f2 f3 f4 : Fin 1000 → α) (p : Fin 5000) :
    (if h0 : p.val < 1000 then f0 ⟨p.val, h0⟩ else if h1 : p.val - 1000 < 1000 then f1 ⟨p.val - 1000, h1⟩
      else if h2 : p.val - 1000 - 1000 < 1000 then f2 ⟨p.val - 1000 - 1000, h2⟩
      else if h3 : p.val - 1000 - 1000 - 1000 < 1000 then f3 ⟨p.val - 1000 - 1000 - 1000, h3⟩
      else f4 ⟨p.val - 1000 - 1000 - 1000 - 1000, by have := p.isLt; omega⟩) = five f0 f1 f2 f3 f4 p := by
  have := p.isLt
  unfold five
  split_ifs <;> first | rfl | (exfalso; omega) | (congr 2; omega)

/-- The fifteen maps: each level's classes, centredness and distances. -/
structure Maps where
  C0 : (sh4 2 80 64 64).Idx → EReal
  C1 : (sh4 2 80 32 32).Idx → EReal
  C2 : (sh4 2 80 16 16).Idx → EReal
  C3 : (sh4 2 80 8 8).Idx → EReal
  C4 : (sh4 2 80 4 4).Idx → EReal
  G0 : (sh4 2 4 64 64).Idx → EReal
  G1 : (sh4 2 4 32 32).Idx → EReal
  G2 : (sh4 2 4 16 16).Idx → EReal
  G3 : (sh4 2 4 8 8).Idx → EReal
  G4 : (sh4 2 4 4 4).Idx → EReal
  T0 : (sh4 2 1 64 64).Idx → EReal
  T1 : (sh4 2 1 32 32).Idx → EReal
  T2 : (sh4 2 1 16 16).Idx → EReal
  T3 : (sh4 2 1 8 8).Idx → EReal
  T4 : (sh4 2 1 4 4).Idx → EReal

namespace Maps
variable (M : Maps) (b : Fin 2)
open Cert.KernelIdeal.Fcos (strideOf offset)

/-- Image `b`'s five thousand candidates, a thousand of each level. -/
def cand (p : Fin 5000) : Cand :=
  five (Cert.Fcos.cand D0 M.C0 M.T0 M.G0 b) (Cert.Fcos.cand D1 M.C1 M.T1 M.G1 b) (Cert.Fcos.cand D2 M.C2 M.T2 M.G2 b)
    (Cert.Fcos.cand D3 M.C3 M.T3 M.G3 b) (Cert.Fcos.cand D4 M.C4 M.T4 M.G4 b) p

/-- A candidate's clipped side. -/
def side (a : Fin 4) (p : Fin 5000) : EReal := (M.cand b p).side (strideOf p) a

/-- A candidate's class as a number. -/
def clsf (p : Fin 5000) : EReal := (((M.cand b p).cls : ℝ) : EReal)

/-- The candidates' sides, moved apart by their classes. -/
def sides : Sides := offset (M.side b 0) (M.side b 1) (M.side b 2) (M.side b 3) (M.clsf b)

/-- The candidates' scores at the start. -/
def scores (p : Fin 5000) : EReal := kscore (M.cand b p).v

/-- The candidate that round `o` keeps. -/
def kept (o : Fin 50) : Fin 5000 := (M.sides b).keep (M.scores b) o.val

/-- A candidate's class is one of eighty. -/
theorem cls_lt (p : Fin 5000) : (M.cand b p).cls < 80 := by
  unfold cand five
  split_ifs <;> exact Nat.mod_lt _ (by decide)

/-- A candidate's location is one of the first level's at most. -/
theorem loc_lt (p : Fin 5000) : (M.cand b p).loc < 4096 := by
  unfold cand five
  split_ifs
  · exact D0.loc_lt _
  · exact lt_trans (D1.loc_lt _) (by decide)
  · exact lt_trans (D2.loc_lt _) (by decide)
  · exact lt_trans (D3.loc_lt _) (by decide)
  · exact lt_trans (D4.loc_lt _) (by decide)
end Maps

/-- A table of five arrays of boxes, when each is a level's, holds the candidates' sides. -/
theorem five_sides (M : Maps) (b : Fin 2) (p : Fin 5000) (a : Fin 4) :
    five (fun k => (cand D0 M.C0 M.T0 M.G0 b k).side (Ideal.ofBits .f32 0x41000000#32) a) (fun k => (cand D1 M.C1 M.T1 M.G1 b k).side (Ideal.ofBits .f32 0x41800000#32) a)
      (fun k => (cand D2 M.C2 M.T2 M.G2 b k).side (Ideal.ofBits .f32 0x42000000#32) a) (fun k => (cand D3 M.C3 M.T3 M.G3 b k).side (Ideal.ofBits .f32 0x42800000#32) a)
      (fun k => (cand D4 M.C4 M.T4 M.G4 b k).side (Ideal.ofBits .f32 0x43000000#32) a) p = M.side b a p := by
  unfold Maps.side Maps.cand five Cert.KernelIdeal.Fcos.strideOf
  split_ifs <;> rfl

/-- A function of each of five lists is the function of the whole. -/
theorem five_map {α β : Type} (g : α → β) (f0 f1 f2 f3 f4 : Fin 1000 → α) (p : Fin 5000) :
    five (fun k => g (f0 k)) (fun k => g (f1 k)) (fun k => g (f2 k)) (fun k => g (f3 k)) (fun k => g (f4 k)) p = g (five f0 f1 f2 f3 f4 p) := by
  unfold five
  split_ifs <;> rfl

end Cert.Fcos
end
-- ==== Proof.RefLevel0.lean ====
/- The reference's first level: from the buffers before its lines, its arrays of boxes, scores and classes. -/
module
public import proofs.«01_k».proof.Proof.RefNms
public import proofs.«01_k».proof.Proof.Levels
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (W : Valuation τ sig (Elt Ideal))

/-- The first level. -/
theorem level_0 (Wa Wb Wc Wd : Valuation τ sig (Elt Ideal)) (ha : Wa = after hostOps0_2 (after hostOps0_1 (after hostOps0 W)))
    (hb : Wb = after hostOps0_5 (after hostOps0_4 (after hostOps0_3 Wa))) (hc : Wc = after hostOps0_7 (after hostOps0_6 Wb))
    (hd : Wd = after hostOps0_15 (after hostOps0_14 (after hostOps0_13 (after hostOps0_12 (after hostOps0_11 (after hostOps0_10 (after hostOps0_9 (after hostOps0_8 Wc)))))))) :
    LevelOut D0 (W (Proc.devRef .tc main_arg1)) (W (Proc.devRef .tc main_arg11)) (W (Proc.devRef .tc main_arg6)) (Ideal.ofBits .f32 0x41000000#32)
      (after hostOps0_16 Wd (Proc.devRef .tc main_v87)) (after hostOps0_16 Wd (Proc.devRef .tc main_v90)) (after hostOps0_16 Wd (Proc.devRef .tc main_v43)) := by
  have e17 : Wc (Proc.devRef .tc main_v17) = Wa (Proc.devRef .tc main_v17) := by rw [hc, hb]; after_reads_simp
  have e21 : Wb (Proc.devRef .tc main_v21) = Wa (Proc.devRef .tc main_v21) := by rw [hb]; after_reads_simp
  have e42 : Wc (Proc.devRef .tc main_v42) = Wb (Proc.devRef .tc main_v42) := by rw [hc]; after_reads_simp
  have ev : Wd (Proc.devRef .tc main_values) = Wa (Proc.devRef .tc main_values) := by rw [hd, hc, hb]; after_reads_simp
  have e43 : after hostOps0_16 Wd (Proc.devRef .tc main_v43) = Wb (Proc.devRef .tc main_v43) := by rw [hd, hc]; after_reads_simp
  refine level_of D0 _ _ _ 8 rfl (half := Ideal.ofBits .f32 0x40800000#32) (c8.trans (by norm_num)) (c4.trans (by norm_num)) (x := Wa (Proc.devRef .tc main_v41)) (V := Wa (Proc.devRef .tc main_values))
    (I := Wa (Proc.devRef .tc main_indices)) (L := Wb (Proc.devRef .tc main_v42)) (tab := Wa (Proc.devRef .tc main_v17)) (R := Wa (Proc.devRef .tc main_v21))
    (P := Wc (Proc.devRef .tc main_v48)) (by decide) ?_ sliceFits_S2x327680_S2x1000 ?_ ?_ ?_ ?_ ?_ ?_ ?_ ?_ ?_ ?_
  · intro b q
    rw [ha]
    after_reads_at
    simp only [id_eq]
    pointwise
    unfold score mapAt scoreOf sigma
    pointwise
  · rw [ha]; after_reads_simp
  · rw [ha]; after_reads_simp
  · intro b k p hp hi
    have hc : (Wa (Proc.devRef .tc main_c) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [e43, hb]
    after_reads_simp
    exact Routing.pyRem_ap bcast_S_S2x1000 _ (constantI S_ 32 80#32) _ hi rfl hp (by decide) (by decide)
  · intro i; rw [ha]; after_reads_at
  · intro i; rw [ha]; after_reads_at
  · intro b i r
    rw [ha]
    after_reads_at
    unfold mapAt
    pointwise
  · intro b k r l hl h
    rw [← e21, hc]
    after_reads_at
    rw [h, wrap_word (by omega)]
    refine (guard_word (k := l) (n := 4095) (by omega) (by decide) (fun _ => BitVec.ofNat 32 l) rfl _ _).trans ?_
    refine (gather3_at (N := 4096) (K := 1000) (R := 4) _ _ rfl _ _ b k r ⟨l, hl⟩ (by decide) ?_).trans ?_
    · pointwise
      rw [h, wrap_word (by omega)]
    · pointwise
  · intro b k l hl h a
    rw [← e17]
    rw [← e42] at h
    fin_cases a
    · refine Eq.trans (b := (Wd (Proc.devRef .tc main_v70) : S2x1000.Idx → Ideal .f32) (ix2 b k)) (by after_reads_at; after_reads_simp; pointwise) ?_
      rw [hd]; after_reads_at; simp only [id_eq]; pointwise
      refine clip_less (M := 4096) _ _ rfl _ _ b k ⟨l, hl⟩ (by decide) ?_ _
      pointwise; rw [h, wrap_word (by omega)]
    · refine Eq.trans (b := (Wd (Proc.devRef .tc main_v74) : S2x1000.Idx → Ideal .f32) (ix2 b k)) (by after_reads_at; after_reads_simp; pointwise) ?_
      rw [hd]; after_reads_at; simp only [id_eq]; pointwise
      refine clip_less (M := 4096) _ _ rfl _ _ b k ⟨l, hl⟩ (by decide) ?_ _
      pointwise; rw [h, wrap_word (by omega)]
    · refine Eq.trans (b := (Wd (Proc.devRef .tc main_v78) : S2x1000.Idx → Ideal .f32) (ix2 b k)) (by after_reads_at; after_reads_simp; pointwise) ?_
      rw [hd]; after_reads_at; simp only [id_eq]; pointwise
      refine clip_more (M := 4096) _ _ rfl _ _ b k ⟨l, hl⟩ (by decide) ?_ _
      pointwise; rw [h, wrap_word (by omega)]
    · refine Eq.trans (b := (Wd (Proc.devRef .tc main_v82) : S2x1000.Idx → Ideal .f32) (ix2 b k)) (by after_reads_at; after_reads_simp; pointwise) ?_
      rw [hd]; after_reads_at; simp only [id_eq]; pointwise
      refine clip_more (M := 4096) _ _ rfl _ _ b k ⟨l, hl⟩ (by decide) ?_ _
      pointwise; rw [h, wrap_word (by omega)]
  · intro b k
    rw [← ev]
    after_reads_at
    rfl

end Cert.ReferenceIdeal.Fcos
end
-- ==== Proof.RefLevel1.lean ====
/- The reference's second level: from the buffers before its lines, its arrays of boxes, scores and classes. -/
module
public import proofs.«01_k».proof.Proof.RefNms
public import proofs.«01_k».proof.Proof.Levels
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (W : Valuation τ sig (Elt Ideal))

/-- The second level. -/
theorem level_1 (Wa Wb Wc Wd : Valuation τ sig (Elt Ideal)) (ha : Wa = after hostOps0_18 (after hostOps0_17 (after hostOps0_16 W)))
    (hb : Wb = after hostOps0_21 (after hostOps0_20 (after hostOps0_19 Wa))) (hc : Wc = after hostOps0_23 (after hostOps0_22 Wb))
    (hd : Wd = after hostOps0_31 (after hostOps0_30 (after hostOps0_29 (after hostOps0_28 (after hostOps0_27 (after hostOps0_26 (after hostOps0_25 (after hostOps0_24 Wc)))))))) :
    LevelOut D1 (W (Proc.devRef .tc main_arg2)) (W (Proc.devRef .tc main_arg12)) (W (Proc.devRef .tc main_arg7)) (Ideal.ofBits .f32 0x41800000#32)
      (after hostOps0_32 Wd (Proc.devRef .tc main_v178)) (after hostOps0_32 Wd (Proc.devRef .tc main_v181)) (after hostOps0_32 Wd (Proc.devRef .tc main_v134)) := by
  have e17 : Wc (Proc.devRef .tc main_v108) = Wa (Proc.devRef .tc main_v108) := by rw [hc, hb]; after_reads_simp
  have e21 : Wb (Proc.devRef .tc main_v112) = Wa (Proc.devRef .tc main_v112) := by rw [hb]; after_reads_simp
  have e42 : Wc (Proc.devRef .tc main_v133) = Wb (Proc.devRef .tc main_v133) := by rw [hc]; after_reads_simp
  have ev : Wd (Proc.devRef .tc main_values_34) = Wa (Proc.devRef .tc main_values_34) := by rw [hd, hc, hb]; after_reads_simp
  have e43 : after hostOps0_32 Wd (Proc.devRef .tc main_v134) = Wb (Proc.devRef .tc main_v134) := by rw [hd, hc]; after_reads_simp
  refine level_of D1 _ _ _ 16 rfl (half := Ideal.ofBits .f32 0x41000000#32) (c16.trans (by norm_num)) (c8.trans (by norm_num)) (x := Wa (Proc.devRef .tc main_v132)) (V := Wa (Proc.devRef .tc main_values_34))
    (I := Wa (Proc.devRef .tc main_indices_35)) (L := Wb (Proc.devRef .tc main_v133)) (tab := Wa (Proc.devRef .tc main_v108)) (R := Wa (Proc.devRef .tc main_v112))
    (P := Wc (Proc.devRef .tc main_v139)) (by decide) ?_ sliceFits_S2x81920_S2x1000 ?_ ?_ ?_ ?_ ?_ ?_ ?_ ?_ ?_ ?_
  · intro b q
    rw [ha]
    after_reads_at
    simp only [id_eq]
    pointwise
    unfold score mapAt scoreOf sigma
    pointwise
  · rw [ha]; after_reads_simp
  · rw [ha]; after_reads_simp
  · intro b k p hp hi
    have hc : (Wa (Proc.devRef .tc main_c_36) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [e43, hb]
    after_reads_simp
    exact Routing.pyRem_ap bcast_S_S2x1000 _ (constantI S_ 32 80#32) _ hi rfl hp (by decide) (by decide)
  · intro i; rw [ha]; after_reads_at
  · intro i; rw [ha]; after_reads_at
  · intro b i r
    rw [ha]
    after_reads_at
    unfold mapAt
    pointwise
  · intro b k r l hl h
    rw [← e21, hc]
    after_reads_at
    rw [h, wrap_word (by omega)]
    refine (guard_word (k := l) (n := 1023) (by omega) (by decide) (fun _ => BitVec.ofNat 32 l) rfl _ _).trans ?_
    refine (gather3_at (N := 1024) (K := 1000) (R := 4) _ _ rfl _ _ b k r ⟨l, hl⟩ (by decide) ?_).trans ?_
    · pointwise
      rw [h, wrap_word (by omega)]
    · pointwise
  · intro b k l hl h a
    rw [← e17]
    rw [← e42] at h
    fin_cases a
    · refine Eq.trans (b := (Wd (Proc.devRef .tc main_v161) : S2x1000.Idx → Ideal .f32) (ix2 b k)) (by after_reads_at; after_reads_simp; pointwise) ?_
      rw [hd]; after_reads_at; simp only [id_eq]; pointwise
      refine clip_less (M := 1024) _ _ rfl _ _ b k ⟨l, hl⟩ (by decide) ?_ _
      pointwise; rw [h, wrap_word (by omega)]
    · refine Eq.trans (b := (Wd (Proc.devRef .tc main_v165) : S2x1000.Idx → Ideal .f32) (ix2 b k)) (by after_reads_at; after_reads_simp; pointwise) ?_
      rw [hd]; after_reads_at; simp only [id_eq]; pointwise
      refine clip_less (M := 1024) _ _ rfl _ _ b k ⟨l, hl⟩ (by decide) ?_ _
      pointwise; rw [h, wrap_word (by omega)]
    · refine Eq.trans (b := (Wd (Proc.devRef .tc main_v169) : S2x1000.Idx → Ideal .f32) (ix2 b k)) (by after_reads_at; after_reads_simp; pointwise) ?_
      rw [hd]; after_reads_at; simp only [id_eq]; pointwise
      refine clip_more (M := 1024) _ _ rfl _ _ b k ⟨l, hl⟩ (by decide) ?_ _
      pointwise; rw [h, wrap_word (by omega)]
    · refine Eq.trans (b := (Wd (Proc.devRef .tc main_v173) : S2x1000.Idx → Ideal .f32) (ix2 b k)) (by after_reads_at; after_reads_simp; pointwise) ?_
      rw [hd]; after_reads_at; simp only [id_eq]; pointwise
      refine clip_more (M := 1024) _ _ rfl _ _ b k ⟨l, hl⟩ (by decide) ?_ _
      pointwise; rw [h, wrap_word (by omega)]
  · intro b k
    rw [← ev]
    after_reads_at
    rfl

end Cert.ReferenceIdeal.Fcos
end
-- ==== Proof.RefLevel2.lean ====
/- The reference's third level: from the buffers before its lines, its arrays of boxes, scores and classes. -/
module
public import proofs.«01_k».proof.Proof.RefNms
public import proofs.«01_k».proof.Proof.Levels
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (W : Valuation τ sig (Elt Ideal))

/-- The third level. -/
theorem level_2 (Wa Wb Wc Wd : Valuation τ sig (Elt Ideal)) (ha : Wa = after hostOps0_34 (after hostOps0_33 (after hostOps0_32 W)))
    (hb : Wb = after hostOps0_37 (after hostOps0_36 (after hostOps0_35 Wa))) (hc : Wc = after hostOps0_39 (after hostOps0_38 Wb))
    (hd : Wd = after hostOps0_47 (after hostOps0_46 (after hostOps0_45 (after hostOps0_44 (after hostOps0_43 (after hostOps0_42 (after hostOps0_41 (after hostOps0_40 Wc)))))))) :
    LevelOut D2 (W (Proc.devRef .tc main_arg3)) (W (Proc.devRef .tc main_arg13)) (W (Proc.devRef .tc main_arg8)) (Ideal.ofBits .f32 0x42000000#32)
      (after hostOps0_48 Wd (Proc.devRef .tc main_v269)) (after hostOps0_48 Wd (Proc.devRef .tc main_v272)) (after hostOps0_48 Wd (Proc.devRef .tc main_v225)) := by
  have e17 : Wc (Proc.devRef .tc main_v199) = Wa (Proc.devRef .tc main_v199) := by rw [hc, hb]; after_reads_simp
  have e21 : Wb (Proc.devRef .tc main_v203) = Wa (Proc.devRef .tc main_v203) := by rw [hb]; after_reads_simp
  have e42 : Wc (Proc.devRef .tc main_v224) = Wb (Proc.devRef .tc main_v224) := by rw [hc]; after_reads_simp
  have ev : Wd (Proc.devRef .tc main_values_62) = Wa (Proc.devRef .tc main_values_62) := by rw [hd, hc, hb]; after_reads_simp
  have e43 : after hostOps0_48 Wd (Proc.devRef .tc main_v225) = Wb (Proc.devRef .tc main_v225) := by rw [hd, hc]; after_reads_simp
  refine level_of D2 _ _ _ 32 rfl (half := Ideal.ofBits .f32 0x41800000#32) (c32.trans (by norm_num)) (c16.trans (by norm_num)) (x := Wa (Proc.devRef .tc main_v223)) (V := Wa (Proc.devRef .tc main_values_62))
    (I := Wa (Proc.devRef .tc main_indices_63)) (L := Wb (Proc.devRef .tc main_v224)) (tab := Wa (Proc.devRef .tc main_v199)) (R := Wa (Proc.devRef .tc main_v203))
    (P := Wc (Proc.devRef .tc main_v230)) (by decide) ?_ sliceFits_S2x20480_S2x1000 ?_ ?_ ?_ ?_ ?_ ?_ ?_ ?_ ?_ ?_
  · intro b q
    rw [ha]
    after_reads_at
    simp only [id_eq]
    pointwise
    unfold score mapAt scoreOf sigma
    pointwise
  · rw [ha]; after_reads_simp
  · rw [ha]; after_reads_simp
  · intro b k p hp hi
    have hc : (Wa (Proc.devRef .tc main_c_64) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [e43, hb]
    after_reads_simp
    exact Routing.pyRem_ap bcast_S_S2x1000 _ (constantI S_ 32 80#32) _ hi rfl hp (by decide) (by decide)
  · intro i; rw [ha]; after_reads_at
  · intro i; rw [ha]; after_reads_at
  · intro b i r
    rw [ha]
    after_reads_at
    unfold mapAt
    pointwise
  · intro b k r l hl h
    rw [← e21, hc]
    after_reads_at
    rw [h, wrap_word (by omega)]
    refine (guard_word (k := l) (n := 255) (by omega) (by decide) (fun _ => BitVec.ofNat 32 l) rfl _ _).trans ?_
    refine (gather3_at (N := 256) (K := 1000) (R := 4) _ _ rfl _ _ b k r ⟨l, hl⟩ (by decide) ?_).trans ?_
    · pointwise
      rw [h, wrap_word (by omega)]
    · pointwise
  · intro b k l hl h a
    rw [← e17]
    rw [← e42] at h
    fin_cases a
    · refine Eq.trans (b := (Wd (Proc.devRef .tc main_v252) : S2x1000.Idx → Ideal .f32) (ix2 b k)) (by after_reads_at; after_reads_simp; pointwise) ?_
      rw [hd]; after_reads_at; simp only [id_eq]; pointwise
      refine clip_less (M := 256) _ _ rfl _ _ b k ⟨l, hl⟩ (by decide) ?_ _
      pointwise; rw [h, wrap_word (by omega)]
    · refine Eq.trans (b := (Wd (Proc.devRef .tc main_v256) : S2x1000.Idx → Ideal .f32) (ix2 b k)) (by after_reads_at; after_reads_simp; pointwise) ?_
      rw [hd]; after_reads_at; simp only [id_eq]; pointwise
      refine clip_less (M := 256) _ _ rfl _ _ b k ⟨l, hl⟩ (by decide) ?_ _
      pointwise; rw [h, wrap_word (by omega)]
    · refine Eq.trans (b := (Wd (Proc.devRef .tc main_v260) : S2x1000.Idx → Ideal .f32) (ix2 b k)) (by after_reads_at; after_reads_simp; pointwise) ?_
      rw [hd]; after_reads_at; simp only [id_eq]; pointwise
      refine clip_more (M := 256) _ _ rfl _ _ b k ⟨l, hl⟩ (by decide) ?_ _
      pointwise; rw [h, wrap_word (by omega)]
    · refine Eq.trans (b := (Wd (Proc.devRef .tc main_v264) : S2x1000.Idx → Ideal .f32) (ix2 b k)) (by after_reads_at; after_reads_simp; pointwise) ?_
      rw [hd]; after_reads_at; simp only [id_eq]; pointwise
      refine clip_more (M := 256) _ _ rfl _ _ b k ⟨l, hl⟩ (by decide) ?_ _
      pointwise; rw [h, wrap_word (by omega)]
  · intro b k
    rw [← ev]
    after_reads_at
    rfl

end Cert.ReferenceIdeal.Fcos
end
-- ==== Proof.RefLevel3.lean ====
/- The reference's fourth level: from the buffers before its lines, its arrays of boxes, scores and classes. -/
module
public import proofs.«01_k».proof.Proof.RefNms
public import proofs.«01_k».proof.Proof.Levels
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (W : Valuation τ sig (Elt Ideal))

/-- The fourth level. -/
theorem level_3 (Wa Wb Wc Wd : Valuation τ sig (Elt Ideal)) (ha : Wa = after hostOps0_50 (after hostOps0_49 (after hostOps0_48 W)))
    (hb : Wb = after hostOps0_53 (after hostOps0_52 (after hostOps0_51 Wa))) (hc : Wc = after hostOps0_55 (after hostOps0_54 Wb))
    (hd : Wd = after hostOps0_63 (after hostOps0_62 (after hostOps0_61 (after hostOps0_60 (after hostOps0_59 (after hostOps0_58 (after hostOps0_57 (after hostOps0_56 Wc)))))))) :
    LevelOut D3 (W (Proc.devRef .tc main_arg4)) (W (Proc.devRef .tc main_arg14)) (W (Proc.devRef .tc main_arg9)) (Ideal.ofBits .f32 0x42800000#32)
      (after hostOps0_64 Wd (Proc.devRef .tc main_v360)) (after hostOps0_64 Wd (Proc.devRef .tc main_v363)) (after hostOps0_64 Wd (Proc.devRef .tc main_v316)) := by
  have e17 : Wc (Proc.devRef .tc main_v290) = Wa (Proc.devRef .tc main_v290) := by rw [hc, hb]; after_reads_simp
  have e21 : Wb (Proc.devRef .tc main_v294) = Wa (Proc.devRef .tc main_v294) := by rw [hb]; after_reads_simp
  have e42 : Wc (Proc.devRef .tc main_v315) = Wb (Proc.devRef .tc main_v315) := by rw [hc]; after_reads_simp
  have ev : Wd (Proc.devRef .tc main_values_90) = Wa (Proc.devRef .tc main_values_90) := by rw [hd, hc, hb]; after_reads_simp
  have e43 : after hostOps0_64 Wd (Proc.devRef .tc main_v316) = Wb (Proc.devRef .tc main_v316) := by rw [hd, hc]; after_reads_simp
  refine level_of D3 _ _ _ 64 rfl (half := Ideal.ofBits .f32 0x42000000#32) (c64.trans (by norm_num)) (c32.trans (by norm_num)) (x := Wa (Proc.devRef .tc main_v314)) (V := Wa (Proc.devRef .tc main_values_90))
    (I := Wa (Proc.devRef .tc main_indices_91)) (L := Wb (Proc.devRef .tc main_v315)) (tab := Wa (Proc.devRef .tc main_v290)) (R := Wa (Proc.devRef .tc main_v294))
    (P := Wc (Proc.devRef .tc main_v321)) (by decide) ?_ sliceFits_S2x5120_S2x1000 ?_ ?_ ?_ ?_ ?_ ?_ ?_ ?_ ?_ ?_
  · intro b q
    rw [ha]
    after_reads_at
    simp only [id_eq]
    pointwise
    unfold score mapAt scoreOf sigma
    pointwise
  · rw [ha]; after_reads_simp
  · rw [ha]; after_reads_simp
  · intro b k p hp hi
    have hc : (Wa (Proc.devRef .tc main_c_92) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [e43, hb]
    after_reads_simp
    exact Routing.pyRem_ap bcast_S_S2x1000 _ (constantI S_ 32 80#32) _ hi rfl hp (by decide) (by decide)
  · intro i; rw [ha]; after_reads_at
  · intro i; rw [ha]; after_reads_at
  · intro b i r
    rw [ha]
    after_reads_at
    unfold mapAt
    pointwise
  · intro b k r l hl h
    rw [← e21, hc]
    after_reads_at
    rw [h, wrap_word (by omega)]
    refine (guard_word (k := l) (n := 63) (by omega) (by decide) (fun _ => BitVec.ofNat 32 l) rfl _ _).trans ?_
    refine (gather3_at (N := 64) (K := 1000) (R := 4) _ _ rfl _ _ b k r ⟨l, hl⟩ (by decide) ?_).trans ?_
    · pointwise
      rw [h, wrap_word (by omega)]
    · pointwise
  · intro b k l hl h a
    rw [← e17]
    rw [← e42] at h
    fin_cases a
    · refine Eq.trans (b := (Wd (Proc.devRef .tc main_v343) : S2x1000.Idx → Ideal .f32) (ix2 b k)) (by after_reads_at; after_reads_simp; pointwise) ?_
      rw [hd]; after_reads_at; simp only [id_eq]; pointwise
      refine clip_less (M := 64) _ _ rfl _ _ b k ⟨l, hl⟩ (by decide) ?_ _
      pointwise; rw [h, wrap_word (by omega)]
    · refine Eq.trans (b := (Wd (Proc.devRef .tc main_v347) : S2x1000.Idx → Ideal .f32) (ix2 b k)) (by after_reads_at; after_reads_simp; pointwise) ?_
      rw [hd]; after_reads_at; simp only [id_eq]; pointwise
      refine clip_less (M := 64) _ _ rfl _ _ b k ⟨l, hl⟩ (by decide) ?_ _
      pointwise; rw [h, wrap_word (by omega)]
    · refine Eq.trans (b := (Wd (Proc.devRef .tc main_v351) : S2x1000.Idx → Ideal .f32) (ix2 b k)) (by after_reads_at; after_reads_simp; pointwise) ?_
      rw [hd]; after_reads_at; simp only [id_eq]; pointwise
      refine clip_more (M := 64) _ _ rfl _ _ b k ⟨l, hl⟩ (by decide) ?_ _
      pointwise; rw [h, wrap_word (by omega)]
    · refine Eq.trans (b := (Wd (Proc.devRef .tc main_v355) : S2x1000.Idx → Ideal .f32) (ix2 b k)) (by after_reads_at; after_reads_simp; pointwise) ?_
      rw [hd]; after_reads_at; simp only [id_eq]; pointwise
      refine clip_more (M := 64) _ _ rfl _ _ b k ⟨l, hl⟩ (by decide) ?_ _
      pointwise; rw [h, wrap_word (by omega)]
  · intro b k
    rw [← ev]
    after_reads_at
    rfl

end Cert.ReferenceIdeal.Fcos
end
-- ==== Proof.RefLevel4.lean ====
/- The reference's fifth level: from the buffers before its lines, its arrays of boxes, scores and classes. -/
module
public import proofs.«01_k».proof.Proof.RefNms
public import proofs.«01_k».proof.Proof.Levels
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (W : Valuation τ sig (Elt Ideal))

/-- The fifth level. -/
theorem level_4 (Wa Wb Wc Wd : Valuation τ sig (Elt Ideal)) (ha : Wa = after hostOps0_66 (after hostOps0_65 (after hostOps0_64 W)))
    (hb : Wb = after hostOps0_69 (after hostOps0_68 (after hostOps0_67 Wa))) (hc : Wc = after hostOps0_71 (after hostOps0_70 Wb))
    (hd : Wd = after hostOps0_79 (after hostOps0_78 (after hostOps0_77 (after hostOps0_76 (after hostOps0_75 (after hostOps0_74 (after hostOps0_73 (after hostOps0_72 Wc)))))))) :
    LevelOut D4 (W (Proc.devRef .tc main_arg5)) (W (Proc.devRef .tc main_arg15)) (W (Proc.devRef .tc main_arg10)) (Ideal.ofBits .f32 0x43000000#32)
      (after hostOps0_80 Wd (Proc.devRef .tc main_v451)) (after hostOps0_80 Wd (Proc.devRef .tc main_v454)) (after hostOps0_80 Wd (Proc.devRef .tc main_v407)) := by
  have e17 : Wc (Proc.devRef .tc main_v381) = Wa (Proc.devRef .tc main_v381) := by rw [hc, hb]; after_reads_simp
  have e21 : Wb (Proc.devRef .tc main_v385) = Wa (Proc.devRef .tc main_v385) := by rw [hb]; after_reads_simp
  have e42 : Wc (Proc.devRef .tc main_v406) = Wb (Proc.devRef .tc main_v406) := by rw [hc]; after_reads_simp
  have ev : Wd (Proc.devRef .tc main_values_118) = Wa (Proc.devRef .tc main_values_118) := by rw [hd, hc, hb]; after_reads_simp
  have e43 : after hostOps0_80 Wd (Proc.devRef .tc main_v407) = Wb (Proc.devRef .tc main_v407) := by rw [hd, hc]; after_reads_simp
  refine level_of D4 _ _ _ 128 rfl (half := Ideal.ofBits .f32 0x42800000#32) (c128.trans (by norm_num)) (c64.trans (by norm_num)) (x := Wa (Proc.devRef .tc main_v405)) (V := Wa (Proc.devRef .tc main_values_118))
    (I := Wa (Proc.devRef .tc main_indices_119)) (L := Wb (Proc.devRef .tc main_v406)) (tab := Wa (Proc.devRef .tc main_v381)) (R := Wa (Proc.devRef .tc main_v385))
    (P := Wc (Proc.devRef .tc main_v412)) (by decide) ?_ sliceFits_S2x1280_S2x1000 ?_ ?_ ?_ ?_ ?_ ?_ ?_ ?_ ?_ ?_
  · intro b q
    rw [ha]
    after_reads_at
    simp only [id_eq]
    pointwise
    unfold score mapAt scoreOf sigma
    pointwise
  · rw [ha]; after_reads_simp
  · rw [ha]; after_reads_simp
  · intro b k p hp hi
    have hc : (Wa (Proc.devRef .tc main_c_120) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [e43, hb]
    after_reads_simp
    exact Routing.pyRem_ap bcast_S_S2x1000 _ (constantI S_ 32 80#32) _ hi rfl hp (by decide) (by decide)
  · intro i; rw [ha]; after_reads_at
  · intro i; rw [ha]; after_reads_at
  · intro b i r
    rw [ha]
    after_reads_at
    unfold mapAt
    pointwise
  · intro b k r l hl h
    rw [← e21, hc]
    after_reads_at
    rw [h, wrap_word (by omega)]
    refine (guard_word (k := l) (n := 15) (by omega) (by decide) (fun _ => BitVec.ofNat 32 l) rfl _ _).trans ?_
    refine (gather3_at (N := 16) (K := 1000) (R := 4) _ _ rfl _ _ b k r ⟨l, hl⟩ (by decide) ?_).trans ?_
    · pointwise
      rw [h, wrap_word (by omega)]
    · pointwise
  · intro b k l hl h a
    rw [← e17]
    rw [← e42] at h
    fin_cases a
    · refine Eq.trans (b := (Wd (Proc.devRef .tc main_v434) : S2x1000.Idx → Ideal .f32) (ix2 b k)) (by after_reads_at; after_reads_simp; pointwise) ?_
      rw [hd]; after_reads_at; simp only [id_eq]; pointwise
      refine clip_less (M := 16) _ _ rfl _ _ b k ⟨l, hl⟩ (by decide) ?_ _
      pointwise; rw [h, wrap_word (by omega)]
    · refine Eq.trans (b := (Wd (Proc.devRef .tc main_v438) : S2x1000.Idx → Ideal .f32) (ix2 b k)) (by after_reads_at; after_reads_simp; pointwise) ?_
      rw [hd]; after_reads_at; simp only [id_eq]; pointwise
      refine clip_less (M := 16) _ _ rfl _ _ b k ⟨l, hl⟩ (by decide) ?_ _
      pointwise; rw [h, wrap_word (by omega)]
    · refine Eq.trans (b := (Wd (Proc.devRef .tc main_v442) : S2x1000.Idx → Ideal .f32) (ix2 b k)) (by after_reads_at; after_reads_simp; pointwise) ?_
      rw [hd]; after_reads_at; simp only [id_eq]; pointwise
      refine clip_more (M := 16) _ _ rfl _ _ b k ⟨l, hl⟩ (by decide) ?_ _
      pointwise; rw [h, wrap_word (by omega)]
    · refine Eq.trans (b := (Wd (Proc.devRef .tc main_v446) : S2x1000.Idx → Ideal .f32) (ix2 b k)) (by after_reads_at; after_reads_simp; pointwise) ?_
      rw [hd]; after_reads_at; simp only [id_eq]; pointwise
      refine clip_more (M := 16) _ _ rfl _ _ b k ⟨l, hl⟩ (by decide) ?_ _
      pointwise; rw [h, wrap_word (by omega)]
  · intro b k
    rw [← ev]
    after_reads_at
    rfl

end Cert.ReferenceIdeal.Fcos
end
-- ==== Proof.RefEntry.lean ====
/- The buffers at the entry of the reference's suppression loop: the five levels' arrays put together. -/
module
public import proofs.«01_k».proof.Proof.RefNms
public import proofs.«01_k».proof.Proof.RefLevel0
public import proofs.«01_k».proof.Proof.RefLevel1
public import proofs.«01_k».proof.Proof.RefLevel2
public import proofs.«01_k».proof.Proof.RefLevel3
public import proofs.«01_k».proof.Proof.RefLevel4
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos

section Stretch
variable (W : Valuation τ sig (Elt Ideal))

/-- The loop's table of boxes is the five levels' boxes in order. -/
theorem cat455 (b : Fin 2) (p : Fin 5000) (a : Fin 4) : (after hostOps0_80 W (Proc.devRef .tc main_v455) : S2x5000x4.Idx → Ideal .f32) (ix3 b p a) =
  five (fun k => (after hostOps0_80 W (Proc.devRef .tc main_v87) : S2x1000x4.Idx → Ideal .f32) (ix3 b k a)) (fun k => (after hostOps0_80 W (Proc.devRef .tc main_v178) : S2x1000x4.Idx → Ideal .f32) (ix3 b k a)) (fun k => (after hostOps0_80 W (Proc.devRef .tc main_v269) : S2x1000x4.Idx → Ideal .f32) (ix3 b k a))
    (fun k => (after hostOps0_80 W (Proc.devRef .tc main_v360) : S2x1000x4.Idx → Ideal .f32) (ix3 b k a)) (fun k => (after hostOps0_80 W (Proc.devRef .tc main_v451) : S2x1000x4.Idx → Ideal .f32) (ix3 b k a)) p := by
  refine Eq.trans ?_ (five_down _ _ _ _ _ p)
  fin_cases a <;>
  · after_reads_at
    after_reads_simp
    pointwise
    after_reads_simp
    pointwise
/-- The table of scores likewise. -/
theorem cat456 (b : Fin 2) (p : Fin 5000) : (after hostOps0_80 W (Proc.devRef .tc main_v456) : S2x5000.Idx → Ideal .f32) (ix2 b p) =
  five (fun k => (after hostOps0_80 W (Proc.devRef .tc main_v90) : S2x1000.Idx → Ideal .f32) (ix2 b k)) (fun k => (after hostOps0_80 W (Proc.devRef .tc main_v181) : S2x1000.Idx → Ideal .f32) (ix2 b k)) (fun k => (after hostOps0_80 W (Proc.devRef .tc main_v272) : S2x1000.Idx → Ideal .f32) (ix2 b k))
    (fun k => (after hostOps0_80 W (Proc.devRef .tc main_v363) : S2x1000.Idx → Ideal .f32) (ix2 b k)) (fun k => (after hostOps0_80 W (Proc.devRef .tc main_v454) : S2x1000.Idx → Ideal .f32) (ix2 b k)) p := by
  refine Eq.trans ?_ (five_down _ _ _ _ _ p)
  after_reads_at
  after_reads_simp
  pointwise
/-- The table of classes likewise. -/
theorem cat457 (b : Fin 2) (p : Fin 5000) : (after hostOps0_80 W (Proc.devRef .tc main_v457) : S2x5000.Idx → BitVec 32) (ix2 b p) =
  five (fun k => (after hostOps0_80 W (Proc.devRef .tc main_v43) : S2x1000.Idx → BitVec 32) (ix2 b k)) (fun k => (after hostOps0_80 W (Proc.devRef .tc main_v134) : S2x1000.Idx → BitVec 32) (ix2 b k)) (fun k => (after hostOps0_80 W (Proc.devRef .tc main_v225) : S2x1000.Idx → BitVec 32) (ix2 b k))
    (fun k => (after hostOps0_80 W (Proc.devRef .tc main_v316) : S2x1000.Idx → BitVec 32) (ix2 b k)) (fun k => (after hostOps0_80 W (Proc.devRef .tc main_v407) : S2x1000.Idx → BitVec 32) (ix2 b k)) p := by
  refine Eq.trans ?_ (five_down _ _ _ _ _ p)
  after_reads_at
/-- The boxes moved apart: each class times a constant is added to the class's boxes. -/
theorem moved_eq : after hostOps0_80 W (Proc.devRef .tc main_v467_0)
    = addf (F := Ideal) (s := S2x5000x4) (φ := .f32) (after hostOps0_80 W (Proc.devRef .tc main_v455)) (broadcastInDim S2x5000x4 ![0, 1, 2] bcast_S2x5000x1_S2x5000x4_0_1_2
        (mulf (broadcastInDim S2x5000x1 ![0, 1] bcast_S2x5000_S2x5000x1_0_1 (sitofp (F := Ideal) (s := S2x5000) .f32 (after hostOps0_80 W (Proc.devRef .tc main_v457))))
          (broadcastInDim S2x5000x1 ![] bcast_S_S2x5000x1 (constant S_ .f32 0x44800000#32)))) := by
  after_reads_simp
  simp only [id_eq]
/-- The same at an index. -/
theorem moved (b : Fin 2) (p : Fin 5000) (a : Fin 4) (x : EReal) (y : BitVec 32) (hx : (after hostOps0_80 W (Proc.devRef .tc main_v455) : S2x5000x4.Idx → Ideal .f32) (ix3 b p a) = x)
    (hy : (after hostOps0_80 W (Proc.devRef .tc main_v457) : S2x5000.Idx → BitVec 32) (ix2 b p) = y) :
    (after hostOps0_80 W (Proc.devRef .tc main_v467_0) : S2x5000x4.Idx → Ideal .f32) (ix3 b p a) = x + FloatOps.sitofp (F := Ideal) .f32 y * Ideal.ofBits .f32 0x44800000#32 := by
  rw [moved_eq, ← hx, ← hy]
  pointwise
/-- The carried indices count up. -/
theorem index (p : Fin 5000) : (after hostOps0_80 W (Proc.devRef .tc main_v467_1) : S1x5000.Idx → BitVec 32) (ix2 0 p) = BitVec.ofNat 32 p.val := by
  after_reads_at
  simp only [id_eq]
  pointwise
/-- The carried counter starts at zero. -/
theorem count : (after hostOps0_80 W (Proc.devRef .tc main_v467_3) : S_.Idx → BitVec 32) ix0 = 0#32 := by
  after_reads_at
  rfl
/-- The carried scores are the table's. -/
theorem carried_scores : after hostOps0_80 W (Proc.devRef .tc main_v467_4) = after hostOps0_80 W (Proc.devRef .tc main_v456) := by
  after_reads_simp
  rfl

end Stretch

/-! ## Lines that write later arrays only -/

/-- The line leaves the arrays below a bound as they are. -/
def Below (t : ℕ) (ops : List (HloOp τ sig (Elt Ideal))) : Prop :=
  ∀ (V : Valuation τ sig (Elt Ideal)) (r : Ref sig .tc), r.idx.val < t → after ops V (Proc.devRef .tc r) = V (Proc.devRef .tc r)

/-- It does when the arrays it writes all come after the bound. -/
theorem below {t : ℕ} {W : List (Ref sig .tc)} {ops : List (HloOp τ sig (Elt Ideal))}
    (hW : ops.Forall fun op => op.writes ⊆ (W.map (Proc.devRef (τ := τ) .tc)).toFinset)
    (h : (W.all fun w => decide (t ≤ w.idx.val)) = true) : Below t ops := fun V r hr =>
  after_of_writes_sub ops V hW fun hm => by
    have := of_decide_eq_true (List.all_eq_true.mp h r hm)
    omega

/-- Each of the lines does. -/
inductive AllBelow (t : ℕ) : List (List (HloOp τ sig (Elt Ideal))) → Prop
  | nil : AllBelow t []
  | cons {ops : List (HloOp τ sig (Elt Ideal))} {rest : List (List (HloOp τ sig (Elt Ideal)))} : Below t ops → AllBelow t rest → AllBelow t (ops :: rest)

/-- Such lines one after the other leave those arrays as they are. -/
theorem lines_below {t : ℕ} : ∀ {items : List (List (HloOp τ sig (Elt Ideal)))}, AllBelow t items →
    ∀ (V : Valuation τ sig (Elt Ideal)) (r : Ref sig .tc), r.idx.val < t → afterL items V (Proc.devRef .tc r) = V (Proc.devRef .tc r)
  | [], _, _, _, _ => rfl
  | _ :: _, .cons h hrest, V, r, hr => by rw [afterL_cons, lines_below hrest _ r hr, h V r hr]

/-- The first lines of such as keep the arguments keep them. -/
theorem AllKeep.take : ∀ {items : List (List (HloOp τ sig (Elt Ideal)))}, AllKeep items → ∀ k, AllKeep (items.take k)
  | _, _, 0 => by rw [List.take_zero]; exact .nil
  | [], _, k + 1 => by rw [List.take_nil]; exact .nil
  | _ :: _, .cons h hrest, k + 1 => by rw [List.take_succ_cons]; exact .cons h (hrest.take k)

/-- The lines after level 0's stacking, up to level 1's, write later arrays only. -/
theorem block_1 (V : Valuation τ sig (Elt Ideal)) (r : Ref sig .tc) (h : r.idx.val < main_v90.idx.val + 1) :
    afterL [hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] V (Proc.devRef .tc r) = V (Proc.devRef .tc r) :=
  lines_below (.cons (below hostOps0_17_writes rfl) (.cons (below hostOps0_18_writes rfl) (.cons (below hostOps0_19_writes rfl) (.cons (below hostOps0_20_writes rfl) (.cons (below hostOps0_21_writes rfl) (.cons (below hostOps0_22_writes rfl) (.cons (below hostOps0_23_writes rfl) (.cons (below hostOps0_24_writes rfl) (.cons (below hostOps0_25_writes rfl) (.cons (below hostOps0_26_writes rfl) (.cons (below hostOps0_27_writes rfl) (.cons (below hostOps0_28_writes rfl) (.cons (below hostOps0_29_writes rfl) (.cons (below hostOps0_30_writes rfl) (.cons (below hostOps0_31_writes rfl) (.cons (below hostOps0_32_writes rfl) .nil)))))))))))))))) V r h

/-- The lines after level 1's stacking, up to level 2's, write later arrays only. -/
theorem block_2 (V : Valuation τ sig (Elt Ideal)) (r : Ref sig .tc) (h : r.idx.val < main_v181.idx.val + 1) :
    afterL [hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48] V (Proc.devRef .tc r) = V (Proc.devRef .tc r) :=
  lines_below (.cons (below hostOps0_33_writes rfl) (.cons (below hostOps0_34_writes rfl) (.cons (below hostOps0_35_writes rfl) (.cons (below hostOps0_36_writes rfl) (.cons (below hostOps0_37_writes rfl) (.cons (below hostOps0_38_writes rfl) (.cons (below hostOps0_39_writes rfl) (.cons (below hostOps0_40_writes rfl) (.cons (below hostOps0_41_writes rfl) (.cons (below hostOps0_42_writes rfl) (.cons (below hostOps0_43_writes rfl) (.cons (below hostOps0_44_writes rfl) (.cons (below hostOps0_45_writes rfl) (.cons (below hostOps0_46_writes rfl) (.cons (below hostOps0_47_writes rfl) (.cons (below hostOps0_48_writes rfl) .nil)))))))))))))))) V r h

/-- The lines after level 2's stacking, up to level 3's, write later arrays only. -/
theorem block_3 (V : Valuation τ sig (Elt Ideal)) (r : Ref sig .tc) (h : r.idx.val < main_v272.idx.val + 1) :
    afterL [hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64] V (Proc.devRef .tc r) = V (Proc.devRef .tc r) :=
  lines_below (.cons (below hostOps0_49_writes rfl) (.cons (below hostOps0_50_writes rfl) (.cons (below hostOps0_51_writes rfl) (.cons (below hostOps0_52_writes rfl) (.cons (below hostOps0_53_writes rfl) (.cons (below hostOps0_54_writes rfl) (.cons (below hostOps0_55_writes rfl) (.cons (below hostOps0_56_writes rfl) (.cons (below hostOps0_57_writes rfl) (.cons (below hostOps0_58_writes rfl) (.cons (below hostOps0_59_writes rfl) (.cons (below hostOps0_60_writes rfl) (.cons (below hostOps0_61_writes rfl) (.cons (below hostOps0_62_writes rfl) (.cons (below hostOps0_63_writes rfl) (.cons (below hostOps0_64_writes rfl) .nil)))))))))))))))) V r h

/-- The lines after level 3's stacking, up to level 4's, write later arrays only. -/
theorem block_4 (V : Valuation τ sig (Elt Ideal)) (r : Ref sig .tc) (h : r.idx.val < main_v363.idx.val + 1) :
    afterL [hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80] V (Proc.devRef .tc r) = V (Proc.devRef .tc r) :=
  lines_below (.cons (below hostOps0_65_writes rfl) (.cons (below hostOps0_66_writes rfl) (.cons (below hostOps0_67_writes rfl) (.cons (below hostOps0_68_writes rfl) (.cons (below hostOps0_69_writes rfl) (.cons (below hostOps0_70_writes rfl) (.cons (below hostOps0_71_writes rfl) (.cons (below hostOps0_72_writes rfl) (.cons (below hostOps0_73_writes rfl) (.cons (below hostOps0_74_writes rfl) (.cons (below hostOps0_75_writes rfl) (.cons (below hostOps0_76_writes rfl) (.cons (below hostOps0_77_writes rfl) (.cons (below hostOps0_78_writes rfl) (.cons (below hostOps0_79_writes rfl) (.cons (below hostOps0_80_writes rfl) .nil)))))))))))))))) V r h

end Cert.ReferenceIdeal.Fcos
end
-- ==== Proof.RefTables.lean ====
/- The tables at the entry of the reference's suppression loop, as the candidates' sides, scores and classes. -/
module
public import proofs.«01_k».proof.Proof.RefEntry
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos

/-- Two lists of lines, one after the other. -/
theorem lines_append : ∀ (a b : List (List (HloOp τ sig (Elt Ideal)))) (V : Valuation τ sig (Elt Ideal)), afterL (a ++ b) V = afterL b (afterL a V)
  | [], _, _ => rfl
  | o :: a, b, V => by rw [List.cons_append, afterL_cons, afterL_cons, lines_append a b]

/-- The program's fifteen maps. -/
def mapsOf (L : Valuation τ sig (Elt Ideal)) : Maps where
  C0 := L (Proc.devRef .tc main_arg1)
  C1 := L (Proc.devRef .tc main_arg2)
  C2 := L (Proc.devRef .tc main_arg3)
  C3 := L (Proc.devRef .tc main_arg4)
  C4 := L (Proc.devRef .tc main_arg5)
  G0 := L (Proc.devRef .tc main_arg6)
  G1 := L (Proc.devRef .tc main_arg7)
  G2 := L (Proc.devRef .tc main_arg8)
  G3 := L (Proc.devRef .tc main_arg9)
  G4 := L (Proc.devRef .tc main_arg10)
  T0 := L (Proc.devRef .tc main_arg11)
  T1 := L (Proc.devRef .tc main_arg12)
  T2 := L (Proc.devRef .tc main_arg13)
  T3 := L (Proc.devRef .tc main_arg14)
  T4 := L (Proc.devRef .tc main_arg15)

variable (L : Valuation τ sig (Elt Ideal))

/-- The buffers before the `k`-th line. -/
def before (k : ℕ) : Valuation τ sig (Elt Ideal) := afterL (preI.take k) L

/-- One line more. -/
theorem step (k : ℕ) {ops : List (HloOp τ sig (Elt Ideal))} (h : (preI (F := Ideal))[k]? = some ops) : before L (k + 1) = after ops (before L k) := by
  unfold before
  rw [List.take_add_one, h, lines_append]
  rfl

/-- Sixteen lines more. -/
theorem span (k : ℕ) : before L (k + 16) = afterL ((preI.drop k).take 16) (before L k) := by
  unfold before
  rw [List.take_add, lines_append]

/-- The arguments are what they were. -/
theorem arg_kept (k : ℕ) (r : Ref sig .tc) (hr : r.idx.val < 16) (hs : r.space = .hbm) : before L k (Proc.devRef .tc r) = L (Proc.devRef .tc r) :=
  keeps_lines (keeps_pre.take k) L r hr hs

/-- A level's arrays stay to the end of the next one's lines. -/
theorem keep_1 (r : Ref sig .tc) (h : r.idx.val < main_v90.idx.val + 1) : before L 33 (Proc.devRef .tc r) = before L 17 (Proc.devRef .tc r) :=
  (congrFun (span L 17) _).trans (block_1 _ r h)
/-- The same of level 1's arrays and the lines of level 2. -/
theorem keep_2 (r : Ref sig .tc) (h : r.idx.val < main_v181.idx.val + 1) : before L 49 (Proc.devRef .tc r) = before L 33 (Proc.devRef .tc r) :=
  (congrFun (span L 33) _).trans (block_2 _ r h)
/-- The same of level 2's arrays and the lines of level 3. -/
theorem keep_3 (r : Ref sig .tc) (h : r.idx.val < main_v272.idx.val + 1) : before L 65 (Proc.devRef .tc r) = before L 49 (Proc.devRef .tc r) :=
  (congrFun (span L 49) _).trans (block_3 _ r h)
/-- The same of level 3's arrays and the lines of level 4. -/
theorem keep_4 (r : Ref sig .tc) (h : r.idx.val < main_v363.idx.val + 1) : before L 81 (Proc.devRef .tc r) = before L 65 (Proc.devRef .tc r) :=
  (congrFun (span L 65) _).trans (block_4 _ r h)

/-- The first level's arrays, where its lines end. -/
theorem level_out_0 : LevelOut D0 (mapsOf L).C0 (mapsOf L).T0 (mapsOf L).G0 (Ideal.ofBits .f32 0x41000000#32)
    (before L 17 (Proc.devRef .tc main_v87)) (before L 17 (Proc.devRef .tc main_v90)) (before L 17 (Proc.devRef .tc main_v43)) := by
  have h := level_0 (before L 0) (before L 3) (before L 6) (before L 8) (before L 16) (by rw [step L 2 rfl, step L 1 rfl, step L 0 rfl]) (by rw [step L 5 rfl, step L 4 rfl, step L 3 rfl]) (by rw [step L 7 rfl, step L 6 rfl])
    (by rw [step L 15 rfl, step L 14 rfl, step L 13 rfl, step L 12 rfl, step L 11 rfl, step L 10 rfl, step L 9 rfl, step L 8 rfl])
  rw [arg_kept L 0 main_arg1 (by decide) rfl, arg_kept L 0 main_arg11 (by decide) rfl, arg_kept L 0 main_arg6 (by decide) rfl, ← step L 16 rfl] at h
  exact h

/-- The second level's arrays, where its lines end. -/
theorem level_out_1 : LevelOut D1 (mapsOf L).C1 (mapsOf L).T1 (mapsOf L).G1 (Ideal.ofBits .f32 0x41800000#32)
    (before L 33 (Proc.devRef .tc main_v178)) (before L 33 (Proc.devRef .tc main_v181)) (before L 33 (Proc.devRef .tc main_v134)) := by
  have h := level_1 (before L 16) (before L 19) (before L 22) (before L 24) (before L 32) (by rw [step L 18 rfl, step L 17 rfl, step L 16 rfl]) (by rw [step L 21 rfl, step L 20 rfl, step L 19 rfl]) (by rw [step L 23 rfl, step L 22 rfl])
    (by rw [step L 31 rfl, step L 30 rfl, step L 29 rfl, step L 28 rfl, step L 27 rfl, step L 26 rfl, step L 25 rfl, step L 24 rfl])
  rw [arg_kept L 16 main_arg2 (by decide) rfl, arg_kept L 16 main_arg12 (by decide) rfl, arg_kept L 16 main_arg7 (by decide) rfl, ← step L 32 rfl] at h
  exact h

/-- The third level's arrays, where its lines end. -/
theorem level_out_2 : LevelOut D2 (mapsOf L).C2 (mapsOf L).T2 (mapsOf L).G2 (Ideal.ofBits .f32 0x42000000#32)
    (before L 49 (Proc.devRef .tc main_v269)) (before L 49 (Proc.devRef .tc main_v272)) (before L 49 (Proc.devRef .tc main_v225)) := by
  have h := level_2 (before L 32) (before L 35) (before L 38) (before L 40) (before L 48) (by rw [step L 34 rfl, step L 33 rfl, step L 32 rfl]) (by rw [step L 37 rfl, step L 36 rfl, step L 35 rfl]) (by rw [step L 39 rfl, step L 38 rfl])
    (by rw [step L 47 rfl, step L 46 rfl, step L 45 rfl, step L 44 rfl, step L 43 rfl, step L 42 rfl, step L 41 rfl, step L 40 rfl])
  rw [arg_kept L 32 main_arg3 (by decide) rfl, arg_kept L 32 main_arg13 (by decide) rfl, arg_kept L 32 main_arg8 (by decide) rfl, ← step L 48 rfl] at h
  exact h

/-- The fourth level's arrays, where its lines end. -/
theorem level_out_3 : LevelOut D3 (mapsOf L).C3 (mapsOf L).T3 (mapsOf L).G3 (Ideal.ofBits .f32 0x42800000#32)
    (before L 65 (Proc.devRef .tc main_v360)) (before L 65 (Proc.devRef .tc main_v363)) (before L 65 (Proc.devRef .tc main_v316)) := by
  have h := level_3 (before L 48) (before L 51) (before L 54) (before L 56) (before L 64) (by rw [step L 50 rfl, step L 49 rfl, step L 48 rfl]) (by rw [step L 53 rfl, step L 52 rfl, step L 51 rfl]) (by rw [step L 55 rfl, step L 54 rfl])
    (by rw [step L 63 rfl, step L 62 rfl, step L 61 rfl, step L 60 rfl, step L 59 rfl, step L 58 rfl, step L 57 rfl, step L 56 rfl])
  rw [arg_kept L 48 main_arg4 (by decide) rfl, arg_kept L 48 main_arg14 (by decide) rfl, arg_kept L 48 main_arg9 (by decide) rfl, ← step L 64 rfl] at h
  exact h

/-- The fifth level's arrays, where its lines end. -/
theorem level_out_4 : LevelOut D4 (mapsOf L).C4 (mapsOf L).T4 (mapsOf L).G4 (Ideal.ofBits .f32 0x43000000#32)
    (before L 81 (Proc.devRef .tc main_v451)) (before L 81 (Proc.devRef .tc main_v454)) (before L 81 (Proc.devRef .tc main_v407)) := by
  have h := level_4 (before L 64) (before L 67) (before L 70) (before L 72) (before L 80) (by rw [step L 66 rfl, step L 65 rfl, step L 64 rfl]) (by rw [step L 69 rfl, step L 68 rfl, step L 67 rfl]) (by rw [step L 71 rfl, step L 70 rfl])
    (by rw [step L 79 rfl, step L 78 rfl, step L 77 rfl, step L 76 rfl, step L 75 rfl, step L 74 rfl, step L 73 rfl, step L 72 rfl])
  rw [arg_kept L 64 main_arg5 (by decide) rfl, arg_kept L 64 main_arg15 (by decide) rfl, arg_kept L 64 main_arg10 (by decide) rfl, ← step L 80 rfl] at h
  exact h

/-- The table of boxes at the loop's entry. -/
theorem boxes_entry (b : Fin 2) (p : Fin 5000) (a : Fin 4) : (before L 81 (Proc.devRef .tc main_v455) : S2x5000x4.Idx → Ideal .f32) (ix3 b p a) = (mapsOf L).side b a p := by
  rw [← five_sides]
  simp only [← (level_out_0 L).box, ← (level_out_1 L).box, ← (level_out_2 L).box, ← (level_out_3 L).box, ← (level_out_4 L).box]
  rw [← keep_1 L main_v87 (by decide), ← keep_2 L main_v87 (by decide), ← keep_3 L main_v87 (by decide), ← keep_4 L main_v87 (by decide), ← keep_2 L main_v178 (by decide), ← keep_3 L main_v178 (by decide), ← keep_4 L main_v178 (by decide), ← keep_3 L main_v269 (by decide), ← keep_4 L main_v269 (by decide), ← keep_4 L main_v360 (by decide)]
  rw [step L 80 rfl]
  exact cat455 (before L 80) b p a

/-- The table of scores. -/
theorem scores_entry (b : Fin 2) (p : Fin 5000) : (before L 81 (Proc.devRef .tc main_v456) : S2x5000.Idx → Ideal .f32) (ix2 b p) = (mapsOf L).scores b p := by
  refine Eq.trans ?_ (five_map (fun q : Cand => Cert.KernelIdeal.Fcos.kscore q.v) _ _ _ _ _ p)
  simp only [← (level_out_0 L).score, ← (level_out_1 L).score, ← (level_out_2 L).score, ← (level_out_3 L).score, ← (level_out_4 L).score]
  rw [← keep_1 L main_v90 (by decide), ← keep_2 L main_v90 (by decide), ← keep_3 L main_v90 (by decide), ← keep_4 L main_v90 (by decide), ← keep_2 L main_v181 (by decide), ← keep_3 L main_v181 (by decide), ← keep_4 L main_v181 (by decide), ← keep_3 L main_v272 (by decide), ← keep_4 L main_v272 (by decide), ← keep_4 L main_v363 (by decide)]
  rw [step L 80 rfl]
  exact cat456 (before L 80) b p

/-- The table of classes. -/
theorem classes_entry (b : Fin 2) (p : Fin 5000) : (before L 81 (Proc.devRef .tc main_v457) : S2x5000.Idx → BitVec 32) (ix2 b p) = BitVec.ofNat 32 ((mapsOf L).cand b p).cls := by
  refine Eq.trans ?_ (five_map (fun q : Cand => BitVec.ofNat 32 q.cls) _ _ _ _ _ p)
  simp only [← (level_out_0 L).cls, ← (level_out_1 L).cls, ← (level_out_2 L).cls, ← (level_out_3 L).cls, ← (level_out_4 L).cls]
  rw [← keep_1 L main_v43 (by decide), ← keep_2 L main_v43 (by decide), ← keep_3 L main_v43 (by decide), ← keep_4 L main_v43 (by decide), ← keep_2 L main_v134 (by decide), ← keep_3 L main_v134 (by decide), ← keep_4 L main_v134 (by decide), ← keep_3 L main_v225 (by decide), ← keep_4 L main_v225 (by decide), ← keep_4 L main_v316 (by decide)]
  rw [step L 80 rfl]
  exact cat457 (before L 80) b p

/-- The boxes the loop carries are the candidates', moved apart by their classes. -/
theorem sides_entry (b : Fin 2) : carriedSides (before L 81) b = (mapsOf L).sides b := by
  have hm : ∀ p a, (before L 81 (Proc.devRef .tc main_v467_0) : S2x5000x4.Idx → Ideal .f32) (ix3 b p a) = (mapsOf L).side b a p + (mapsOf L).clsf b p * Ideal.ofBits .f32 0x44800000#32 := by
    intro p a
    have hx := boxes_entry L b p a
    have hy := classes_entry L b p
    rw [step L 80 rfl] at hx hy ⊢
    rw [moved (before L 80) b p a _ _ hx hy, real_word _ (lt_trans ((mapsOf L).cls_lt b p) (by decide))]
    rfl
  unfold carriedSides Maps.sides Cert.KernelIdeal.Fcos.offset
  simp only [hm]

/-- The scores it carries are the candidates'. -/
theorem scores_carried (b : Fin 2) : carriedScores (before L 81) b = (mapsOf L).scores b := by
  funext p
  refine Eq.trans ?_ (scores_entry L b p)
  unfold carriedScores
  rw [step L 80 rfl, carried_scores]

end Cert.ReferenceIdeal.Fcos
end
-- ==== Proof.RefFinal.lean ====
/- The reference's results: at each round's kept candidate, its clipped box, its score and its class. -/
module
public import proofs.«01_k».proof.Proof.RefPost
public import proofs.«01_k».proof.Proof.RefTables
@[expose] public section
set_option maxRecDepth 16384
set_option maxHeartbeats 2000000
noncomputable section
namespace Cert.ReferenceIdeal.Fcos
open Idealize.ShloMosaic Idealize.ShloMosaic.StableHlo Cert.ReferenceIdeal.Gen Cert.ReferenceIdeal.Value Cert.Fcos
variable (m : (ℓ : Loc nD τ sig) → Buf (Elt Ideal) ℓ) (c : Dev nD)

/-- The loop's entry follows the last of the lines before it. -/
theorem entry_eq : atEntry m c = before (launchContents m c) 81 := rfl

/-- The candidates the loop keeps. -/
theorem keep_exit (b : Fin 2) (o : Fin 50) :
    (atExit m c (Proc.devRef .tc main_v467_5) : S2x50.Idx → BitVec 32) (ix2 b o) = BitVec.ofNat 32 ((mapsOf (launchContents m c)).kept b o).val := by
  have e1 : atExit m c (Proc.devRef .tc main_v467_5) = STEP^[50] (atEntry m c) (Proc.devRef .tc main_v467_5) :=
    ((cond_keeps (atK m 50 c)) main_v467_5 (by decide)).trans ((atK_agree m c 50) main_v467_5 (by decide))
  have hidx : ∀ p : Fin 5000, (atEntry m c (Proc.devRef .tc main_v467_1) : S1x5000.Idx → BitVec 32) (ix2 0 p) = BitVec.ofNat 32 p.val := fun p => by
    rw [entry_eq, step _ 80 rfl]; exact index _ p
  have h0 : (atEntry m c (Proc.devRef .tc main_v467_3) : S_.Idx → BitVec 32) ix0 = 0#32 := by
    rw [entry_eq, step _ 80 rfl]; exact count _
  have h := (after_rounds (atEntry m c) hidx h0 50 le_rfl).keep b o o.isLt
  rw [e1, h, entry_eq, sides_entry, scores_carried]
  rfl

/-- The tables at the loop's exit are those at its entry. -/
theorem table_exit (r : Ref sig .tc) (hr : r = main_v455 ∨ r = main_v456 ∨ r = main_v457) :
    atExit m c (Proc.devRef .tc r) = before (launchContents m c) 81 (Proc.devRef .tc r) := by
  refine Eq.trans ?_ (kept_trips m c r hr 50)
  rcases hr with rfl | rfl | rfl <;> exact after_of_writes_sub _ _ condOps_writes (by decide)

/-- The final contents are the last four lines' after the exit. -/
theorem final_eq : finalContents condOps preI bodyI postI 50 m c = after hostOps0_84 (after hostOps0_83 (after hostOps0_82 (after hostOps0_81 (atExit m c)))) := rfl

/-- The first result: the kept candidates' boxes. -/
theorem final_boxes (b : Fin 2) (o : Fin 50) (r : Fin 4) : (finalContents condOps preI bodyI postI 50 m c (Proc.devRef .tc main_v469) : S2x50x4.Idx → Ideal .f32) (ix3 b o r)
    = (mapsOf (launchContents m c)).side b r ((mapsOf (launchContents m c)).kept b o) := by
  rw [final_eq, after_of_writes_sub _ _ writes_84 (by decide), after_of_writes_sub _ _ writes_83 (by decide)]
  rw [boxes_taken _ b o r _ ((keep_column _ b o).trans (keep_exit m c b o)), after_of_writes_sub _ _ writes_81 (by decide), table_exit m c _ (.inl rfl)]
  exact boxes_entry _ b _ r

/-- The second result: their scores. -/
theorem final_scores (b : Fin 2) (o : Fin 50) : (finalContents condOps preI bodyI postI 50 m c (Proc.devRef .tc main_v470) : S2x50.Idx → Ideal .f32) (ix2 b o)
    = (mapsOf (launchContents m c)).scores b ((mapsOf (launchContents m c)).kept b o) := by
  have hk : (after hostOps0_82 (after hostOps0_81 (atExit m c)) (Proc.devRef .tc main_v467_5) : S2x50.Idx → BitVec 32) (ix2 b o) = BitVec.ofNat 32 ((mapsOf (launchContents m c)).kept b o).val := by
    rw [after_of_writes_sub _ _ writes_82 (by decide), after_of_writes_sub _ _ writes_81 (by decide)]
    exact keep_exit m c b o
  rw [final_eq, after_of_writes_sub _ _ writes_84 (by decide), scores_taken _ b o _ hk, after_of_writes_sub _ _ writes_82 (by decide), after_of_writes_sub _ _ writes_81 (by decide),
    table_exit m c _ (.inr (.inl rfl))]
  exact scores_entry _ b _

/-- The third result: their classes. -/
theorem final_classes (b : Fin 2) (o : Fin 50) : (finalContents condOps preI bodyI postI 50 m c (Proc.devRef .tc main_v471) : S2x50.Idx → BitVec 32) (ix2 b o)
    = BitVec.ofNat 32 ((mapsOf (launchContents m c)).cand b ((mapsOf (launchContents m c)).kept b o)).cls := by
  have hk : (after hostOps0_83 (after hostOps0_82 (after hostOps0_81 (atExit m c))) (Proc.devRef .tc main_v467_5) : S2x50.Idx → BitVec 32) (ix2 b o) = BitVec.ofNat 32 ((mapsOf (launchContents m c)).kept b o).val := by
    rw [after_of_writes_sub _ _ writes_83 (by decide), after_of_writes_sub _ _ writes_82 (by decide), after_of_writes_sub _ _ writes_81 (by decide)]
    exact keep_exit m c b o
  rw [final_eq, classes_taken _ b o _ hk, after_of_writes_sub _ _ writes_83 (by decide), after_of_writes_sub _ _ writes_82 (by decide), after_of_writes_sub _ _ writes_81 (by decide),
    table_exit m c _ (.inr (.inr rfl))]
  exact classes_entry _ b _

end Cert.ReferenceIdeal.Fcos
end
-- ==== Proof.KernLevels.lean ====
/- The kernel's five levels: of each one's score table and rows of logarithms, the candidates it selects. -/
module
public import proofs.«01_k».proof.Proof.RunKernelIdeal
public import proofs.«01_k».proof.Proof.Levels
public import Idealize.ShloMosaic.Lib.StableHlo.ReadAt
@[expose] public section
set_option maxRecDepth 16384
set_option maxHeartbeats 2000000
noncomputable section
namespace Cert.Fcos
open Idealize.ShloMosaic Idealize.ShloMosaic.StableHlo

/-- What the kernel gathers of a level: the candidates' logarithms, locations, scores and classes. -/
structure Taken {h n N : ℕ} (D : Dims h n N) (C : (sh4 2 80 h h).Idx → EReal) (T : (sh4 2 1 h h).Idx → EReal) (G : (sh4 2 4 h h).Idx → EReal)
    (R : (sh3 2 1000 4).Idx → EReal) (L : (sh2 2 1000).Idx → BitVec 32) (V : (sh2 2 1000).Idx → EReal) (Z : (sh2 2 1000).Idx → BitVec 32) : Prop where
  logs : ∀ (b : Fin 2) (k : Fin 1000) (r : Fin 4), R (ix3 b k r) = (cand D C T G b k).r r
  loc : ∀ (b : Fin 2) (k : Fin 1000), L (ix2 b k) = BitVec.ofNat 32 (cand D C T G b k).loc
  val : ∀ (b : Fin 2) (k : Fin 1000), V (ix2 b k) = (cand D C T G b k).v
  cls : ∀ (b : Fin 2) (k : Fin 1000), Z (ix2 b k) = BitVec.ofNat 32 (cand D C T G b k).cls

/-- The same from each stage: the flat score table and its thousand greatest entries, the places' quotients and remainders by
    eighty, and the rows taken at the locations. -/
theorem taken_of {h n N : ℕ} (D : Dims h n N) {C : (sh4 2 80 h h).Idx → EReal} {T : (sh4 2 1 h h).Idx → EReal} {G : (sh4 2 4 h h).Idx → EReal}
    {x : (sh2 2 N).Idx → EReal} {V : (sh2 2 1000).Idx → EReal} {I L Z : (sh2 2 1000).Idx → BitVec 32} {R : (sh3 2 1000 4).Idx → EReal}
    (hN : N < 2 ^ 31) (hx : ∀ b q, x (ix2 b q) = score D C T b q)
    (hf) (hV : V = (Host.topK (sh2 2 1000) 1 (FloatOps.cmpfTotal (F := Ideal) (φ := .f32) .gt) x hf).1)
    (hI : I = (Host.topK (sh2 2 1000) 1 (FloatOps.cmpfTotal (F := Ideal) (φ := .f32) .gt) x hf).2)
    (hL : ∀ b k p, p < 2 ^ 31 → I (ix2 b k) = BitVec.ofNat 32 p → L (ix2 b k) = BitVec.ofNat 32 (p / 80))
    (hZ : ∀ b k p, p < 2 ^ 31 → I (ix2 b k) = BitVec.ofNat 32 p → Z (ix2 b k) = BitVec.ofNat 32 (p % 80))
    (hR : ∀ b k r l (hl : l < n), L (ix2 b k) = BitVec.ofNat 32 l → R (ix3 b k r) = mapAt D G b r l hl) : Taken D C T G R L V Z := by
  have hi : ∀ b k, I (ix2 b k) = BitVec.ofNat 32 (topPlace D C T b k).val := fun b k => by rw [hI]; exact (top_at D C T G x hx hf b k).2
  have hp : ∀ b k, (topPlace D C T b k).val < 2 ^ 31 := fun b k => lt_trans (topPlace D C T b k).isLt hN
  exact ⟨fun b k r => hR b k r _ (D.loc_lt (topPlace D C T b k)) (hL b k _ (hp b k) (hi b k)), fun b k => hL b k _ (hp b k) (hi b k),
    fun b k => by rw [hV]; exact (top_at D C T G x hx hf b k).1, fun b k => hZ b k _ (hp b k) (hi b k)⟩
end Cert.Fcos

namespace Cert.KernelIdeal.Fcos
open Idealize.ShloMosaic Idealize.ShloMosaic.StableHlo Cert.KernelIdeal.Gen Cert.Fcos

/-- The first level's selection from its score table and its rows of logarithms. -/
theorem taken_0 {C : (sh4 2 80 64 64).Idx → EReal} {T : (sh4 2 1 64 64).Idx → EReal} {G : (sh4 2 4 64 64).Idx → EReal} (W Wa Wb : Valuation τ sig (Elt Ideal))
    (hs : ∀ b l k, (W (Proc.devRef .tc main_v6) : S2x4096x80.Idx → Ideal .f32) (ix3 b l k) = scoreOf (mapAt D0 C b k l.val l.isLt) (mapAt D0 T b 0 l.val l.isLt))
    (hg : ∀ b l r, (W (Proc.devRef .tc main_v5) : S2x4096x4.Idx → Ideal .f32) (ix3 b l r) = mapAt D0 G b r l.val l.isLt)
    (ha : Wa = after hostOps1 W) (hb : Wb = after hostOps1_3 (after hostOps1_2 (after hostOps1_1 Wa))) :
    Taken D0 C T G (after hostOps1_5 (after hostOps1_4 Wb) (Proc.devRef .tc main_v11)) (after hostOps1_5 (after hostOps1_4 Wb) (Proc.devRef .tc main_v8))
      (after hostOps1_5 (after hostOps1_4 Wb) (Proc.devRef .tc main_values)) (after hostOps1_5 (after hostOps1_4 Wb) (Proc.devRef .tc main_v9)) := by
  have e1 : after hostOps1_5 (after hostOps1_4 Wb) (Proc.devRef .tc main_v8) = Wb (Proc.devRef .tc main_v8) := by after_reads_simp
  have e2 : after hostOps1_5 (after hostOps1_4 Wb) (Proc.devRef .tc main_values) = Wa (Proc.devRef .tc main_values) := by rw [hb]; after_reads_simp
  have e3 : after hostOps1_5 (after hostOps1_4 Wb) (Proc.devRef .tc main_v9) = Wb (Proc.devRef .tc main_v9) := by after_reads_simp
  have e4 : Wb (Proc.devRef .tc main_v5) = W (Proc.devRef .tc main_v5) := by rw [hb, ha]; after_reads_simp
  rw [e1, e2, e3]
  refine taken_of D0 (x := Wa (Proc.devRef .tc main_v7)) (I := Wa (Proc.devRef .tc main_indices)) (by decide) ?_ sliceFits_S2x327680_S2x1000 ?_ ?_ ?_ ?_ ?_
  · intro b q
    rw [ha]
    after_reads_at
    pointwise
    rw [hs]
    rfl
  · rw [ha]; after_reads_simp
  · rw [ha]; after_reads_simp
  · intro b k p hp hi
    have hc : (Wa (Proc.devRef .tc main_c) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [hb]
    after_reads_simp
    exact Routing.pyRem_ap bcast_S_S2x1000 _ (constantI S_ 32 80#32) _ hi rfl hp (by decide) (by decide)
  · intro b k r l hl h
    rw [← hg b ⟨l, hl⟩ r, ← e4]
    after_reads_at
    rw [h, wrap_word (by omega)]
    refine (guard_word (k := l) (n := 4095) (by omega) (by decide) (fun _ => BitVec.ofNat 32 l) rfl _ _).trans ?_
    refine (gather3_at (N := 4096) (K := 1000) (R := 4) _ _ rfl _ _ b k r ⟨l, hl⟩ (by decide) ?_).trans ?_
    · pointwise
      rw [h, wrap_word (by omega)]
    · pointwise
/-- The second level's selection from its score table and its rows of logarithms. -/
theorem taken_1 {C : (sh4 2 80 32 32).Idx → EReal} {T : (sh4 2 1 32 32).Idx → EReal} {G : (sh4 2 4 32 32).Idx → EReal} (W Wa Wb : Valuation τ sig (Elt Ideal))
    (hs : ∀ b l k, (W (Proc.devRef .tc main_v18) : S2x1024x80.Idx → Ideal .f32) (ix3 b l k) = scoreOf (mapAt D1 C b k l.val l.isLt) (mapAt D1 T b 0 l.val l.isLt))
    (hg : ∀ b l r, (W (Proc.devRef .tc main_v17) : S2x1024x4.Idx → Ideal .f32) (ix3 b l r) = mapAt D1 G b r l.val l.isLt)
    (ha : Wa = after hostOps2 W) (hb : Wb = after hostOps2_3 (after hostOps2_2 (after hostOps2_1 Wa))) :
    Taken D1 C T G (after hostOps2_5 (after hostOps2_4 Wb) (Proc.devRef .tc main_v23)) (after hostOps2_5 (after hostOps2_4 Wb) (Proc.devRef .tc main_v20))
      (after hostOps2_5 (after hostOps2_4 Wb) (Proc.devRef .tc main_values_1)) (after hostOps2_5 (after hostOps2_4 Wb) (Proc.devRef .tc main_v21)) := by
  have e1 : after hostOps2_5 (after hostOps2_4 Wb) (Proc.devRef .tc main_v20) = Wb (Proc.devRef .tc main_v20) := by after_reads_simp
  have e2 : after hostOps2_5 (after hostOps2_4 Wb) (Proc.devRef .tc main_values_1) = Wa (Proc.devRef .tc main_values_1) := by rw [hb]; after_reads_simp
  have e3 : after hostOps2_5 (after hostOps2_4 Wb) (Proc.devRef .tc main_v21) = Wb (Proc.devRef .tc main_v21) := by after_reads_simp
  have e4 : Wb (Proc.devRef .tc main_v17) = W (Proc.devRef .tc main_v17) := by rw [hb, ha]; after_reads_simp
  rw [e1, e2, e3]
  refine taken_of D1 (x := Wa (Proc.devRef .tc main_v19)) (I := Wa (Proc.devRef .tc main_indices_2)) (by decide) ?_ sliceFits_S2x81920_S2x1000 ?_ ?_ ?_ ?_ ?_
  · intro b q
    rw [ha]
    after_reads_at
    pointwise
    rw [hs]
    rfl
  · rw [ha]; after_reads_simp
  · rw [ha]; after_reads_simp
  · intro b k p hp hi
    have hc : (Wa (Proc.devRef .tc main_c_3) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [hb]
    after_reads_simp
    exact Routing.pyRem_ap bcast_S_S2x1000 _ (constantI S_ 32 80#32) _ hi rfl hp (by decide) (by decide)
  · intro b k r l hl h
    rw [← hg b ⟨l, hl⟩ r, ← e4]
    after_reads_at
    rw [h, wrap_word (by omega)]
    refine (guard_word (k := l) (n := 1023) (by omega) (by decide) (fun _ => BitVec.ofNat 32 l) rfl _ _).trans ?_
    refine (gather3_at (N := 1024) (K := 1000) (R := 4) _ _ rfl _ _ b k r ⟨l, hl⟩ (by decide) ?_).trans ?_
    · pointwise
      rw [h, wrap_word (by omega)]
    · pointwise
/-- The third level's selection from its score table and its rows of logarithms. -/
theorem taken_2 {C : (sh4 2 80 16 16).Idx → EReal} {T : (sh4 2 1 16 16).Idx → EReal} {G : (sh4 2 4 16 16).Idx → EReal} (W Wa Wb : Valuation τ sig (Elt Ideal))
    (hs : ∀ b l k, (W (Proc.devRef .tc main_v30) : S2x256x80.Idx → Ideal .f32) (ix3 b l k) = scoreOf (mapAt D2 C b k l.val l.isLt) (mapAt D2 T b 0 l.val l.isLt))
    (hg : ∀ b l r, (W (Proc.devRef .tc main_v29) : S2x256x4.Idx → Ideal .f32) (ix3 b l r) = mapAt D2 G b r l.val l.isLt)
    (ha : Wa = after hostOps3 W) (hb : Wb = after hostOps3_3 (after hostOps3_2 (after hostOps3_1 Wa))) :
    Taken D2 C T G (after hostOps3_5 (after hostOps3_4 Wb) (Proc.devRef .tc main_v35)) (after hostOps3_5 (after hostOps3_4 Wb) (Proc.devRef .tc main_v32))
      (after hostOps3_5 (after hostOps3_4 Wb) (Proc.devRef .tc main_values_5)) (after hostOps3_5 (after hostOps3_4 Wb) (Proc.devRef .tc main_v33)) := by
  have e1 : after hostOps3_5 (after hostOps3_4 Wb) (Proc.devRef .tc main_v32) = Wb (Proc.devRef .tc main_v32) := by after_reads_simp
  have e2 : after hostOps3_5 (after hostOps3_4 Wb) (Proc.devRef .tc main_values_5) = Wa (Proc.devRef .tc main_values_5) := by rw [hb]; after_reads_simp
  have e3 : after hostOps3_5 (after hostOps3_4 Wb) (Proc.devRef .tc main_v33) = Wb (Proc.devRef .tc main_v33) := by after_reads_simp
  have e4 : Wb (Proc.devRef .tc main_v29) = W (Proc.devRef .tc main_v29) := by rw [hb, ha]; after_reads_simp
  rw [e1, e2, e3]
  refine taken_of D2 (x := Wa (Proc.devRef .tc main_v31)) (I := Wa (Proc.devRef .tc main_indices_6)) (by decide) ?_ sliceFits_S2x20480_S2x1000 ?_ ?_ ?_ ?_ ?_
  · intro b q
    rw [ha]
    after_reads_at
    pointwise
    rw [hs]
    rfl
  · rw [ha]; after_reads_simp
  · rw [ha]; after_reads_simp
  · intro b k p hp hi
    have hc : (Wa (Proc.devRef .tc main_c_7) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [hb]
    after_reads_simp
    exact Routing.pyRem_ap bcast_S_S2x1000 _ (constantI S_ 32 80#32) _ hi rfl hp (by decide) (by decide)
  · intro b k r l hl h
    rw [← hg b ⟨l, hl⟩ r, ← e4]
    after_reads_at
    rw [h, wrap_word (by omega)]
    refine (guard_word (k := l) (n := 255) (by omega) (by decide) (fun _ => BitVec.ofNat 32 l) rfl _ _).trans ?_
    refine (gather3_at (N := 256) (K := 1000) (R := 4) _ _ rfl _ _ b k r ⟨l, hl⟩ (by decide) ?_).trans ?_
    · pointwise
      rw [h, wrap_word (by omega)]
    · pointwise
/-- The fourth level's selection from its score table and its rows of logarithms. -/
theorem taken_3 {C : (sh4 2 80 8 8).Idx → EReal} {T : (sh4 2 1 8 8).Idx → EReal} {G : (sh4 2 4 8 8).Idx → EReal} (W Wa Wb : Valuation τ sig (Elt Ideal))
    (hs : ∀ b l k, (W (Proc.devRef .tc main_v42) : S2x64x80.Idx → Ideal .f32) (ix3 b l k) = scoreOf (mapAt D3 C b k l.val l.isLt) (mapAt D3 T b 0 l.val l.isLt))
    (hg : ∀ b l r, (W (Proc.devRef .tc main_v41) : S2x64x4.Idx → Ideal .f32) (ix3 b l r) = mapAt D3 G b r l.val l.isLt)
    (ha : Wa = after hostOps4 W) (hb : Wb = after hostOps4_3 (after hostOps4_2 (after hostOps4_1 Wa))) :
    Taken D3 C T G (after hostOps4_5 (after hostOps4_4 Wb) (Proc.devRef .tc main_v47)) (after hostOps4_5 (after hostOps4_4 Wb) (Proc.devRef .tc main_v44))
      (after hostOps4_5 (after hostOps4_4 Wb) (Proc.devRef .tc main_values_9)) (after hostOps4_5 (after hostOps4_4 Wb) (Proc.devRef .tc main_v45)) := by
  have e1 : after hostOps4_5 (after hostOps4_4 Wb) (Proc.devRef .tc main_v44) = Wb (Proc.devRef .tc main_v44) := by after_reads_simp
  have e2 : after hostOps4_5 (after hostOps4_4 Wb) (Proc.devRef .tc main_values_9) = Wa (Proc.devRef .tc main_values_9) := by rw [hb]; after_reads_simp
  have e3 : after hostOps4_5 (after hostOps4_4 Wb) (Proc.devRef .tc main_v45) = Wb (Proc.devRef .tc main_v45) := by after_reads_simp
  have e4 : Wb (Proc.devRef .tc main_v41) = W (Proc.devRef .tc main_v41) := by rw [hb, ha]; after_reads_simp
  rw [e1, e2, e3]
  refine taken_of D3 (x := Wa (Proc.devRef .tc main_v43)) (I := Wa (Proc.devRef .tc main_indices_10)) (by decide) ?_ sliceFits_S2x5120_S2x1000 ?_ ?_ ?_ ?_ ?_
  · intro b q
    rw [ha]
    after_reads_at
    pointwise
    rw [hs]
    rfl
  · rw [ha]; after_reads_simp
  · rw [ha]; after_reads_simp
  · intro b k p hp hi
    have hc : (Wa (Proc.devRef .tc main_c_11) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [hb]
    after_reads_simp
    exact Routing.pyRem_ap bcast_S_S2x1000 _ (constantI S_ 32 80#32) _ hi rfl hp (by decide) (by decide)
  · intro b k r l hl h
    rw [← hg b ⟨l, hl⟩ r, ← e4]
    after_reads_at
    rw [h, wrap_word (by omega)]
    refine (guard_word (k := l) (n := 63) (by omega) (by decide) (fun _ => BitVec.ofNat 32 l) rfl _ _).trans ?_
    refine (gather3_at (N := 64) (K := 1000) (R := 4) _ _ rfl _ _ b k r ⟨l, hl⟩ (by decide) ?_).trans ?_
    · pointwise
      rw [h, wrap_word (by omega)]
    · pointwise
/-- The fifth level's selection from its score table and its rows of logarithms. -/
theorem taken_4 {C : (sh4 2 80 4 4).Idx → EReal} {T : (sh4 2 1 4 4).Idx → EReal} {G : (sh4 2 4 4 4).Idx → EReal} (W Wa Wb : Valuation τ sig (Elt Ideal))
    (hs : ∀ b l k, (W (Proc.devRef .tc main_v54) : S2x16x80.Idx → Ideal .f32) (ix3 b l k) = scoreOf (mapAt D4 C b k l.val l.isLt) (mapAt D4 T b 0 l.val l.isLt))
    (hg : ∀ b l r, (W (Proc.devRef .tc main_v53) : S2x16x4.Idx → Ideal .f32) (ix3 b l r) = mapAt D4 G b r l.val l.isLt)
    (ha : Wa = after hostOps5 W) (hb : Wb = after hostOps5_3 (after hostOps5_2 (after hostOps5_1 Wa))) :
    Taken D4 C T G (after hostOps5_5 (after hostOps5_4 Wb) (Proc.devRef .tc main_v59)) (after hostOps5_5 (after hostOps5_4 Wb) (Proc.devRef .tc main_v56))
      (after hostOps5_5 (after hostOps5_4 Wb) (Proc.devRef .tc main_values_13)) (after hostOps5_5 (after hostOps5_4 Wb) (Proc.devRef .tc main_v57)) := by
  have e1 : after hostOps5_5 (after hostOps5_4 Wb) (Proc.devRef .tc main_v56) = Wb (Proc.devRef .tc main_v56) := by after_reads_simp
  have e2 : after hostOps5_5 (after hostOps5_4 Wb) (Proc.devRef .tc main_values_13) = Wa (Proc.devRef .tc main_values_13) := by rw [hb]; after_reads_simp
  have e3 : after hostOps5_5 (after hostOps5_4 Wb) (Proc.devRef .tc main_v57) = Wb (Proc.devRef .tc main_v57) := by after_reads_simp
  have e4 : Wb (Proc.devRef .tc main_v53) = W (Proc.devRef .tc main_v53) := by rw [hb, ha]; after_reads_simp
  rw [e1, e2, e3]
  refine taken_of D4 (x := Wa (Proc.devRef .tc main_v55)) (I := Wa (Proc.devRef .tc main_indices_14)) (by decide) ?_ sliceFits_S2x1280_S2x1000 ?_ ?_ ?_ ?_ ?_
  · intro b q
    rw [ha]
    after_reads_at
    pointwise
    rw [hs]
    rfl
  · rw [ha]; after_reads_simp
  · rw [ha]; after_reads_simp
  · intro b k p hp hi
    have hc : (Wa (Proc.devRef .tc main_c_15) : S_.Idx → BitVec 32) ix0 = 80#32 := by rw [ha]; after_reads_at
    rw [hb]
    after_reads_simp
    exact Routing.pyDiv_ap bcast_S_S2x1000 _ _ _ hi hc hp (by decide) (by decide)
  · intro b k p hp hi
    rw [hb]
    after_reads_simp
    exact Routing.pyRem_ap bcast_S_S2x1000 _ (constantI S_ 32 80#32) _ hi rfl hp (by decide) (by decide)
  · intro b k r l hl h
    rw [← hg b ⟨l, hl⟩ r, ← e4]
    after_reads_at
    rw [h, wrap_word (by omega)]
    refine (guard_word (k := l) (n := 15) (by omega) (by decide) (fun _ => BitVec.ofNat 32 l) rfl _ _).trans ?_
    refine (gather3_at (N := 16) (K := 1000) (R := 4) _ _ rfl _ _ b k r ⟨l, hl⟩ (by decide) ?_).trans ?_
    · pointwise
      rw [h, wrap_word (by omega)]
    · pointwise
end Cert.KernelIdeal.Fcos
end
-- ==== Proof.KernScores.lean ====
/- The kernel's five score calls: each fills its table with the scores of its rows. -/
module
public import proofs.«01_k».proof.Proof.RunKernelIdeal
public import proofs.«01_k».proof.Proof.Levels
public import Idealize.ShloMosaic.Lib.Pipeline.ValueKit
@[expose] public section
set_option maxRecDepth 16384
set_option maxHeartbeats 2000000
noncomputable section
namespace Cert.KernelIdeal.Fcos
open Idealize.ShloMosaic Idealize.ShloMosaic.StableHlo Cert.KernelIdeal.Gen Cert.Fcos
open Idealize.ShloMosaic.Pipeline
/-- The score as the kernel writes it. -/
theorem scoreOf_eq (x t : EReal) : (if Ideal.ofBits .f32 0x3E99999A#32 < Ideal.logistic x then Ideal.logistic x * Ideal.logistic t else 0) = scoreOf x t := by
  have h : ∀ z, sigma z = Ideal.logistic z := fun z => by unfold sigma; rw [Ideal.ofBits_one_f32]; rfl
  unfold scoreOf
  rw [h, h, Ideal.ofBits_zero_f32]
  pointwise
/-- Each block is the whole of its array. -/
theorem emb0_2 (t : Fin cfg0.N) (y : S2x4096x80.Idx) : (win0_2.blk t).view.emb y = y := by
  rw [fin_N0 t]
  have h : ∀ a, win0_2.index t0_0 a = 0 := by decide +kernel
  funext a
  apply Fin.ext
  blk_simp [Pipeline.Window.cell_apply, h]
/-- The same of the centredness rows. -/
theorem emb0_1 (t : Fin cfg0.N) (y : S2x4096x1.Idx) : (win0_1.blk t).view.emb y = y := by
  rw [fin_N0 t]
  have h : ∀ a, win0_1.index t0_0 a = 0 := by decide +kernel
  funext a
  apply Fin.ext
  blk_simp [Pipeline.Window.cell_apply, h]
/-- The same of the class rows. -/
theorem emb0_0 (t : Fin cfg0.N) (y : S2x4096x80.Idx) : (win0_0.blk t).view.emb y = y := by
  rw [fin_N0 t]
  have h : ∀ a, win0_0.index t0_0 a = 0 := by decide +kernel
  funext a
  apply Fin.ext
  blk_simp [Pipeline.Window.cell_apply, h]
/-- The class rows the call reads. -/
theorem blk0_0 (V : Entry Ideal) (c : Dev nD) (t : Fin cfg0.N) (y : S2x4096x80.Idx) : (blk0 V c 0 t : S2x4096x80.Idx → Ideal .f32) y = (V c main_v1 : S2x4096x80.Idx → Ideal .f32) y :=
  congrArg (V c main_v1 : S2x4096x80.Idx → Ideal .f32) (emb0_0 t y)
/-- The centredness rows the call reads. -/
theorem blk0_1 (V : Entry Ideal) (c : Dev nD) (t : Fin cfg0.N) (y : S2x4096x1.Idx) : (blk0 V c 1 t : S2x4096x1.Idx → Ideal .f32) y = (V c main_v3 : S2x4096x1.Idx → Ideal .f32) y :=
  congrArg (V c main_v3 : S2x4096x1.Idx → Ideal .f32) (emb0_1 t y)
/-- What the first call leaves in its table: at each location and class, the score. -/
theorem scores0 (V : Entry Ideal) (c : Dev nD) : (dat0 V c).arrAt 2 cfg0.N
   = (fun i : S2x4096x80.Idx => scoreOf ((V c main_v1 : S2x4096x80.Idx → Ideal .f32) i) ((V c main_v3 : S2x4096x1.Idx → Ideal .f32) (ix3 (i 0) (i 1) 0))) := by
  refine (dat0 V c).arrAt_eq_of_covers 2 _ (by decide +kernel) fun t hf y => ?_
  rw [dat0_after2]
  unfold out0_2
  frame_out
  refine Eq.trans ?_ (congrArg (fun i : S2x4096x80.Idx => scoreOf ((V c main_v1 : S2x4096x80.Idx → Ideal .f32) i) ((V c main_v3 : S2x4096x1.Idx → Ideal .f32) (ix3 (i 0) (i 1) 0))) (emb0_2 t y).symm)
  have e0 := blk0_0 V c t
  have e1 := blk0_1 V c t
  generalize (blk0 V c 0 t) = x0 at *
  generalize (blk0 V c 1 t) = x1 at *
  change k0_pay1 x0 x1 (y : S2x4096x80.Idx) = scoreOf ((V c main_v1 : S2x4096x80.Idx → Ideal .f32) (y : S2x4096x80.Idx)) ((V c main_v3 : S2x4096x1.Idx → Ideal .f32) (ix3 ((y : S2x4096x80.Idx) 0) ((y : S2x4096x80.Idx) 1) 0))
  generalize (y : S2x4096x80.Idx) = z
  rw [← e0 z, ← e1]
  idx_vars z
  pointwise [k0_pay1]
  exact scoreOf_eq _ _
/-- Each block is the whole of its array. -/
theorem emb1_2 (t : Fin cfg1.N) (y : S2x1024x80.Idx) : (win1_2.blk t).view.emb y = y := by
  rw [fin_N1 t]
  have h : ∀ a, win1_2.index t1_0 a = 0 := by decide +kernel
  funext a
  apply Fin.ext
  blk_simp [Pipeline.Window.cell_apply, h]
/-- The same of the centredness rows. -/
theorem emb1_1 (t : Fin cfg1.N) (y : S2x1024x1.Idx) : (win1_1.blk t).view.emb y = y := by
  rw [fin_N1 t]
  have h : ∀ a, win1_1.index t1_0 a = 0 := by decide +kernel
  funext a
  apply Fin.ext
  blk_simp [Pipeline.Window.cell_apply, h]
/-- The same of the class rows. -/
theorem emb1_0 (t : Fin cfg1.N) (y : S2x1024x80.Idx) : (win1_0.blk t).view.emb y = y := by
  rw [fin_N1 t]
  have h : ∀ a, win1_0.index t1_0 a = 0 := by decide +kernel
  funext a
  apply Fin.ext
  blk_simp [Pipeline.Window.cell_apply, h]
/-- The class rows the call reads. -/
theorem blk1_0 (V : Entry Ideal) (c : Dev nD) (t : Fin cfg1.N) (y : S2x1024x80.Idx) : (blk1 V c 0 t : S2x1024x80.Idx → Ideal .f32) y = (V c main_v13 : S2x1024x80.Idx → Ideal .f32) y :=
  congrArg (V c main_v13 : S2x1024x80.Idx → Ideal .f32) (emb1_0 t y)
/-- The centredness rows the call reads. -/
theorem blk1_1 (V : Entry Ideal) (c : Dev nD) (t : Fin cfg1.N) (y : S2x1024x1.Idx) : (blk1 V c 1 t : S2x1024x1.Idx → Ideal .f32) y = (V c main_v15 : S2x1024x1.Idx → Ideal .f32) y :=
  congrArg (V c main_v15 : S2x1024x1.Idx → Ideal .f32) (emb1_1 t y)
/-- What the second call leaves in its table: at each location and class, the score. -/
theorem scores1 (V : Entry Ideal) (c : Dev nD) : (dat1 V c).arrAt 2 cfg1.N
   = (fun i : S2x1024x80.Idx => scoreOf ((V c main_v13 : S2x1024x80.Idx → Ideal .f32) i) ((V c main_v15 : S2x1024x1.Idx → Ideal .f32) (ix3 (i 0) (i 1) 0))) := by
  refine (dat1 V c).arrAt_eq_of_covers 2 _ (by decide +kernel) fun t hf y => ?_
  rw [dat1_after2]
  unfold out1_2
  frame_out
  refine Eq.trans ?_ (congrArg (fun i : S2x1024x80.Idx => scoreOf ((V c main_v13 : S2x1024x80.Idx → Ideal .f32) i) ((V c main_v15 : S2x1024x1.Idx → Ideal .f32) (ix3 (i 0) (i 1) 0))) (emb1_2 t y).symm)
  have e0 := blk1_0 V c t
  have e1 := blk1_1 V c t
  generalize (blk1 V c 0 t) = x0 at *
  generalize (blk1 V c 1 t) = x1 at *
  change k1_pay1 x0 x1 (y : S2x1024x80.Idx) = scoreOf ((V c main_v13 : S2x1024x80.Idx → Ideal .f32) (y : S2x1024x80.Idx)) ((V c main_v15 : S2x1024x1.Idx → Ideal .f32) (ix3 ((y : S2x1024x80.Idx) 0) ((y : S2x1024x80.Idx) 1) 0))
  generalize (y : S2x1024x80.Idx) = z
  rw [← e0 z, ← e1]
  idx_vars z
  pointwise [k1_pay1]
  exact scoreOf_eq _ _
/-- Each block is the whole of its array. -/
theorem emb2_2 (t : Fin cfg2.N) (y : S2x256x80.Idx) : (win2_2.blk t).view.emb y = y := by
  rw [fin_N2 t]
  have h : ∀ a, win2_2.index t2_0 a = 0 := by decide +kernel
  funext a
  apply Fin.ext
  blk_simp [Pipeline.Window.cell_apply, h]
/-- The same of the centredness rows. -/
theorem emb2_1 (t : Fin cfg2.N) (y : S2x256x1.Idx) : (win2_1.blk t).view.emb y = y := by
  rw [fin_N2 t]
  have h : ∀ a, win2_1.index t2_0 a = 0 := by decide +kernel
  funext a
  apply Fin.ext
  blk_simp [Pipeline.Window.cell_apply, h]
/-- The same of the class rows. -/
theorem emb2_0 (t : Fin cfg2.N) (y : S2x256x80.Idx) : (win2_0.blk t).view.emb y = y := by
  rw [fin_N2 t]
  have h : ∀ a, win2_0.index t2_0 a = 0 := by decide +kernel
  funext a
  apply Fin.ext
  blk_simp [Pipeline.Window.cell_apply, h]
/-- The class rows the call reads. -/
theorem blk2_0 (V : Entry Ideal) (c : Dev nD) (t : Fin cfg2.N) (y : S2x256x80.Idx) : (blk2 V c 0 t : S2x256x80.Idx → Ideal .f32) y = (V c main_v25 : S2x256x80.Idx → Ideal .f32) y :=
  congrArg (V c main_v25 : S2x256x80.Idx → Ideal .f32) (emb2_0 t y)
/-- The centredness rows the call reads. -/
theorem blk2_1 (V : Entry Ideal) (c : Dev nD) (t : Fin cfg2.N) (y : S2x256x1.Idx) : (blk2 V c 1 t : S2x256x1.Idx → Ideal .f32) y = (V c main_v27 : S2x256x1.Idx → Ideal .f32) y :=
  congrArg (V c main_v27 : S2x256x1.Idx → Ideal .f32) (emb2_1 t y)
/-- What the third call leaves in its table: at each location and class, the score. -/
theorem scores2 (V : Entry Ideal) (c : Dev nD) : (dat2 V c).arrAt 2 cfg2.N
   = (fun i : S2x256x80.Idx => scoreOf ((V c main_v25 : S2x256x80.Idx → Ideal .f32) i) ((V c main_v27 : S2x256x1.Idx → Ideal .f32) (ix3 (i 0) (i 1) 0))) := by
  refine (dat2 V c).arrAt_eq_of_covers 2 _ (by decide +kernel) fun t hf y => ?_
  rw [dat2_after2]
  unfold out2_2
  frame_out
  refine Eq.trans ?_ (congrArg (fun i : S2x256x80.Idx => scoreOf ((V c main_v25 : S2x256x80.Idx → Ideal .f32) i) ((V c main_v27 : S2x256x1.Idx → Ideal .f32) (ix3 (i 0) (i 1) 0))) (emb2_2 t y).symm)
  have e0 := blk2_0 V c t
  have e1 := blk2_1 V c t
  generalize (blk2 V c 0 t) = x0 at *
  generalize (blk2 V c 1 t) = x1 at *
  change k2_pay1 x0 x1 (y : S2x256x80.Idx) = scoreOf ((V c main_v25 : S2x256x80.Idx → Ideal .f32) (y : S2x256x80.Idx)) ((V c main_v27 : S2x256x1.Idx → Ideal .f32) (ix3 ((y : S2x256x80.Idx) 0) ((y : S2x256x80.Idx) 1) 0))
  generalize (y : S2x256x80.Idx) = z
  rw [← e0 z, ← e1]
  idx_vars z
  pointwise [k2_pay1]
  exact scoreOf_eq _ _
/-- Each block is the whole of its array. -/
theorem emb3_2 (t : Fin cfg3.N) (y : S2x64x80.Idx) : (win3_2.blk t).view.emb y = y := by
  rw [fin_N3 t]
  have h : ∀ a, win3_2.index t3_0 a = 0 := by decide +kernel
  funext a
  apply Fin.ext
  blk_simp [Pipeline.Window.cell_apply, h]
/-- The same of the centredness rows. -/
theorem emb3_1 (t : Fin cfg3.N) (y : S2x64x1.Idx) : (win3_1.blk t).view.emb y = y := by
  rw [fin_N3 t]
  have h : ∀ a, win3_1.index t3_0 a = 0 := by decide +kernel
  funext a
  apply Fin.ext
  blk_simp [Pipeline.Window.cell_apply, h]
/-- The same of the class rows. -/
theorem emb3_0 (t : Fin cfg3.N) (y : S2x64x80.Idx) : (win3_0.blk t).view.emb y = y := by
  rw [fin_N3 t]
  have h : ∀ a, win3_0.index t3_0 a = 0 := by decide +kernel
  funext a
  apply Fin.ext
  blk_simp [Pipeline.Window.cell_apply, h]
/-- The class rows the call reads. -/
theorem blk3_0 (V : Entry Ideal) (c : Dev nD) (t : Fin cfg3.N) (y : S2x64x80.Idx) : (blk3 V c 0 t : S2x64x80.Idx → Ideal .f32) y = (V c main_v37 : S2x64x80.Idx → Ideal .f32) y :=
  congrArg (V c main_v37 : S2x64x80.Idx → Ideal .f32) (emb3_0 t y)
/-- The centredness rows the call reads. -/
theorem blk3_1 (V : Entry Ideal) (c : Dev nD) (t : Fin cfg3.N) (y : S2x64x1.Idx) : (blk3 V c 1 t : S2x64x1.Idx → Ideal .f32) y = (V c main_v39 : S2x64x1.Idx → Ideal .f32) y :=
  congrArg (V c main_v39 : S2x64x1.Idx → Ideal .f32) (emb3_1 t y)
/-- What the fourth call leaves in its table: at each location and class, the score. -/
theorem scores3 (V : Entry Ideal) (c : Dev nD) : (dat3 V c).arrAt 2 cfg3.N
   = (fun i : S2x64x80.Idx => scoreOf ((V c main_v37 : S2x64x80.Idx → Ideal .f32) i) ((V c main_v39 : S2x64x1.Idx → Ideal .f32) (ix3 (i 0) (i 1) 0))) := by
  refine (dat3 V c).arrAt_eq_of_covers 2 _ (by decide +kernel) fun t hf y => ?_
  rw [dat3_after2]
  unfold out3_2
  frame_out
  refine Eq.trans ?_ (congrArg (fun i : S2x64x80.Idx => scoreOf ((V c main_v37 : S2x64x80.Idx → Ideal .f32) i) ((V c main_v39 : S2x64x1.Idx → Ideal .f32) (ix3 (i 0) (i 1) 0))) (emb3_2 t y).symm)
  have e0 := blk3_0 V c t
  have e1 := blk3_1 V c t
  generalize (blk3 V c 0 t) = x0 at *
  generalize (blk3 V c 1 t) = x1 at *
  change k3_pay1 x0 x1 (y : S2x64x80.Idx) = scoreOf ((V c main_v37 : S2x64x80.Idx → Ideal .f32) (y : S2x64x80.Idx)) ((V c main_v39 : S2x64x1.Idx → Ideal .f32) (ix3 ((y : S2x64x80.Idx) 0) ((y : S2x64x80.Idx) 1) 0))
  generalize (y : S2x64x80.Idx) = z
  rw [← e0 z, ← e1]
  idx_vars z
  pointwise [k3_pay1]
  exact scoreOf_eq _ _
/-- Each block is the whole of its array. -/
theorem emb4_2 (t : Fin cfg4.N) (y : S2x16x80.Idx) : (win4_2.blk t).view.emb y = y := by
  rw [fin_N4 t]
  have h : ∀ a, win4_2.index t4_0 a = 0 := by decide +kernel
  funext a
  apply Fin.ext
  blk_simp [Pipeline.Window.cell_apply, h]
/-- The same of the centredness rows. -/
theorem emb4_1 (t : Fin cfg4.N) (y : S2x16x1.Idx) : (win4_1.blk t).view.emb y = y := by
  rw [fin_N4 t]
  have h : ∀ a, win4_1.index t4_0 a = 0 := by decide +kernel
  funext a
  apply Fin.ext
  blk_simp [Pipeline.Window.cell_apply, h]
/-- The same of the class rows. -/
theorem emb4_0 (t : Fin cfg4.N) (y : S2x16x80.Idx) : (win4_0.blk t).view.emb y = y := by
  rw [fin_N4 t]
  have h : ∀ a, win4_0.index t4_0 a = 0 := by decide +kernel
  funext a
  apply Fin.ext
  blk_simp [Pipeline.Window.cell_apply, h]
/-- The class rows the call reads. -/
theorem blk4_0 (V : Entry Ideal) (c : Dev nD) (t : Fin cfg4.N) (y : S2x16x80.Idx) : (blk4 V c 0 t : S2x16x80.Idx → Ideal .f32) y = (V c main_v49 : S2x16x80.Idx → Ideal .f32) y :=
  congrArg (V c main_v49 : S2x16x80.Idx → Ideal .f32) (emb4_0 t y)
/-- The centredness rows the call reads. -/
theorem blk4_1 (V : Entry Ideal) (c : Dev nD) (t : Fin cfg4.N) (y : S2x16x1.Idx) : (blk4 V c 1 t : S2x16x1.Idx → Ideal .f32) y = (V c main_v51 : S2x16x1.Idx → Ideal .f32) y :=
  congrArg (V c main_v51 : S2x16x1.Idx → Ideal .f32) (emb4_1 t y)
/-- What the fifth call leaves in its table: at each location and class, the score. -/
theorem scores4 (V : Entry Ideal) (c : Dev nD) : (dat4 V c).arrAt 2 cfg4.N
   = (fun i : S2x16x80.Idx => scoreOf ((V c main_v49 : S2x16x80.Idx → Ideal .f32) i) ((V c main_v51 : S2x16x1.Idx → Ideal .f32) (ix3 (i 0) (i 1) 0))) := by
  refine (dat4 V c).arrAt_eq_of_covers 2 _ (by decide +kernel) fun t hf y => ?_
  rw [dat4_after2]
  unfold out4_2
  frame_out
  refine Eq.trans ?_ (congrArg (fun i : S2x16x80.Idx => scoreOf ((V c main_v49 : S2x16x80.Idx → Ideal .f32) i) ((V c main_v51 : S2x16x1.Idx → Ideal .f32) (ix3 (i 0) (i 1) 0))) (emb4_2 t y).symm)
  have e0 := blk4_0 V c t
  have e1 := blk4_1 V c t
  generalize (blk4 V c 0 t) = x0 at *
  generalize (blk4 V c 1 t) = x1 at *
  change k4_pay1 x0 x1 (y : S2x16x80.Idx) = scoreOf ((V c main_v49 : S2x16x80.Idx → Ideal .f32) (y : S2x16x80.Idx)) ((V c main_v51 : S2x16x1.Idx → Ideal .f32) (ix3 ((y : S2x16x80.Idx) 0) ((y : S2x16x80.Idx) 1) 0))
  generalize (y : S2x16x80.Idx) = z
  rw [← e0 z, ← e1]
  idx_vars z
  pointwise [k4_pay1]
  exact scoreOf_eq _ _
end Cert.KernelIdeal.Fcos
end
-- ==== Proof.KernTables.lean ====
/- The kernel's buffers before its concatenation: what each level's calls and host lines leave, as the candidates they select. -/
module
public import proofs.«01_k».proof.Proof.KernLevels
public import proofs.«01_k».proof.Proof.KernScores
@[expose] public section
set_option maxRecDepth 16384
set_option maxHeartbeats 2000000
noncomputable section
namespace Cert.KernelIdeal.Fcos
open Idealize.ShloMosaic Idealize.ShloMosaic.StableHlo Cert.KernelIdeal.Gen Cert.Fcos

/-- The program's fifteen maps. -/
def kmaps (L : Valuation τ sig (Elt Ideal)) : Maps where
  C0 := L (Proc.devRef .tc main_arg1)
  C1 := L (Proc.devRef .tc main_arg2)
  C2 := L (Proc.devRef .tc main_arg3)
  C3 := L (Proc.devRef .tc main_arg4)
  C4 := L (Proc.devRef .tc main_arg5)
  G0 := L (Proc.devRef .tc main_arg6)
  G1 := L (Proc.devRef .tc main_arg7)
  G2 := L (Proc.devRef .tc main_arg8)
  G3 := L (Proc.devRef .tc main_arg9)
  G4 := L (Proc.devRef .tc main_arg10)
  T0 := L (Proc.devRef .tc main_arg11)
  T1 := L (Proc.devRef .tc main_arg12)
  T2 := L (Proc.devRef .tc main_arg13)
  T3 := L (Proc.devRef .tc main_arg14)
  T4 := L (Proc.devRef .tc main_arg15)

/-- A buffer below all those a stretch writes is not one of them. -/
theorem not_written {W : List (Ref sig .tc)} {n : ℕ} (hW : ∀ w ∈ W, n ≤ w.idx.val) {r : Ref sig .tc} (h : r.idx.val < n) : r ∉ W :=
  fun hm => absurd (hW r hm) (Nat.not_le_of_lt h)

variable (m : (ℓ : Loc nD τ sig) → Buf (Elt Ideal) ℓ) (outs : Outs (F := Ideal)) (c : Dev nD)

/-- The arguments through the first level's lines. -/
theorem hold_0 (r : Ref sig .tc) (h : r.idx.val < 16) : V8 m outs c (Proc.devRef .tc r) = V0 m c (Proc.devRef .tc r) :=
  (V8_of m outs c r (not_written (n := 16) (by decide) h)).trans ((V7_of m outs c r (not_written (n := 16) (by decide) h)).trans ((V6_of m outs c r (not_written (n := 16) (by decide) h)).trans ((V5_of m outs c r (not_written (n := 16) (by decide) h)).trans ((V4_of m outs c r (not_written (n := 16) (by decide) h)).trans ((V3_of m outs c r (not_written (n := 16) (by decide) h)).trans ((V2_of m outs c r (not_written (n := 16) (by decide) h)).trans (V1_of m c r (not_written (n := 16) (by decide) h))))))))
/-- What is before the second level's lines stays through them. -/
theorem hold_1 (r : Ref sig .tc) (h : r.idx.val < main_v11.idx.val + 1) : V16 m outs c (Proc.devRef .tc r) = V8 m outs c (Proc.devRef .tc r) :=
  (V16_of m outs c r (not_written (n := main_v11.idx.val + 1) (by decide) h)).trans ((V15_of m outs c r (not_written (n := main_v11.idx.val + 1) (by decide) h)).trans ((V14_of m outs c r (not_written (n := main_v11.idx.val + 1) (by decide) h)).trans ((V13_of m outs c r (not_written (n := main_v11.idx.val + 1) (by decide) h)).trans ((V12_of m outs c r (not_written (n := main_v11.idx.val + 1) (by decide) h)).trans ((V11_of m outs c r (not_written (n := main_v11.idx.val + 1) (by decide) h)).trans ((V10_of m outs c r (not_written (n := main_v11.idx.val + 1) (by decide) h)).trans (V9_of m outs c r (not_written (n := main_v11.idx.val + 1) (by decide) h))))))))
/-- What is before the third level's lines stays through them. -/
theorem hold_2 (r : Ref sig .tc) (h : r.idx.val < main_v23.idx.val + 1) : V24 m outs c (Proc.devRef .tc r) = V16 m outs c (Proc.devRef .tc r) :=
  (V24_of m outs c r (not_written (n := main_v23.idx.val + 1) (by decide) h)).trans ((V23_of m outs c r (not_written (n := main_v23.idx.val + 1) (by decide) h)).trans ((V22_of m outs c r (not_written (n := main_v23.idx.val + 1) (by decide) h)).trans ((V21_of m outs c r (not_written (n := main_v23.idx.val + 1) (by decide) h)).trans ((V20_of m outs c r (not_written (n := main_v23.idx.val + 1) (by decide) h)).trans ((V19_of m outs c r (not_written (n := main_v23.idx.val + 1) (by decide) h)).trans ((V18_of m outs c r (not_written (n := main_v23.idx.val + 1) (by decide) h)).trans (V17_of m outs c r (not_written (n := main_v23.idx.val + 1) (by decide) h))))))))
/-- What is before the fourth level's lines stays through them. -/
theorem hold_3 (r : Ref sig .tc) (h : r.idx.val < main_v35.idx.val + 1) : V32 m outs c (Proc.devRef .tc r) = V24 m outs c (Proc.devRef .tc r) :=
  (V32_of m outs c r (not_written (n := main_v35.idx.val + 1) (by decide) h)).trans ((V31_of m outs c r (not_written (n := main_v35.idx.val + 1) (by decide) h)).trans ((V30_of m outs c r (not_written (n := main_v35.idx.val + 1) (by decide) h)).trans ((V29_of m outs c r (not_written (n := main_v35.idx.val + 1) (by decide) h)).trans ((V28_of m outs c r (not_written (n := main_v35.idx.val + 1) (by decide) h)).trans ((V27_of m outs c r (not_written (n := main_v35.idx.val + 1) (by decide) h)).trans ((V26_of m outs c r (not_written (n := main_v35.idx.val + 1) (by decide) h)).trans (V25_of m outs c r (not_written (n := main_v35.idx.val + 1) (by decide) h))))))))
/-- What is before the fifth level's lines stays through them. -/
theorem hold_4 (r : Ref sig .tc) (h : r.idx.val < main_v47.idx.val + 1) : V40 m outs c (Proc.devRef .tc r) = V32 m outs c (Proc.devRef .tc r) :=
  (V40_of m outs c r (not_written (n := main_v47.idx.val + 1) (by decide) h)).trans ((V39_of m outs c r (not_written (n := main_v47.idx.val + 1) (by decide) h)).trans ((V38_of m outs c r (not_written (n := main_v47.idx.val + 1) (by decide) h)).trans ((V37_of m outs c r (not_written (n := main_v47.idx.val + 1) (by decide) h)).trans ((V36_of m outs c r (not_written (n := main_v47.idx.val + 1) (by decide) h)).trans ((V35_of m outs c r (not_written (n := main_v47.idx.val + 1) (by decide) h)).trans ((V34_of m outs c r (not_written (n := main_v47.idx.val + 1) (by decide) h)).trans (V33_of m outs c r (not_written (n := main_v47.idx.val + 1) (by decide) h))))))))

/-- The rows the first level's lines lay out. -/
theorem rows_0 (W : Valuation τ sig (Elt Ideal)) (b : Fin 2) (l : Fin 4096) :
    (∀ k, (after hostOps0 W (Proc.devRef .tc main_v1) : S2x4096x80.Idx → Ideal .f32) (ix3 b l k) = mapAt D0 (W (Proc.devRef .tc main_arg1)) b k l.val l.isLt)
    ∧ (after hostOps0 W (Proc.devRef .tc main_v3) : S2x4096x1.Idx → Ideal .f32) (ix3 b l 0) = mapAt D0 (W (Proc.devRef .tc main_arg11)) b 0 l.val l.isLt
    ∧ ∀ r, (after hostOps0 W (Proc.devRef .tc main_v5) : S2x4096x4.Idx → Ideal .f32) (ix3 b l r) = mapAt D0 (W (Proc.devRef .tc main_arg6)) b r l.val l.isLt := by
  unfold mapAt
  refine ⟨fun k => ?_, ?_, fun r => ?_⟩ <;> after_reads_at
/-- The first level's candidates, where its lines end. -/
theorem level_taken_0 (hg : Good m outs) : Taken D0 (kmaps (V0 m c)).C0 (kmaps (V0 m c)).T0 (kmaps (V0 m c)).G0
    (V8 m outs c (Proc.devRef .tc main_v11)) (V8 m outs c (Proc.devRef .tc main_v8)) (V8 m outs c (Proc.devRef .tc main_values)) (V8 m outs c (Proc.devRef .tc main_v9)) := by
  have hr := rows_0 (V0 m c)
  refine taken_0 (V2 m outs c) (V3 m outs c) (V6 m outs c) (fun b l k => ?_) (fun b l r => ?_) rfl rfl
  · have e : V2 m outs c (Proc.devRef .tc main_v6) = (dat0 (entry (V1 m)) c).arrAt 2 cfg0.N := (Function.update_self ..).trans (hg.g0 c)
    rw [e, scores0]
    exact congrArg₂ scoreOf ((hr b l).1 k) (hr b l).2.1
  · have e : V2 m outs c (Proc.devRef .tc main_v5) = V1 m c (Proc.devRef .tc main_v5) := V2_of m outs c main_v5 (by decide)
    rw [e]
    exact (hr b l).2.2 r

/-- The rows the second level's lines lay out. -/
theorem rows_1 (W : Valuation τ sig (Elt Ideal)) (b : Fin 2) (l : Fin 1024) :
    (∀ k, (after hostOps1_6 W (Proc.devRef .tc main_v13) : S2x1024x80.Idx → Ideal .f32) (ix3 b l k) = mapAt D1 (W (Proc.devRef .tc main_arg2)) b k l.val l.isLt)
    ∧ (after hostOps1_6 W (Proc.devRef .tc main_v15) : S2x1024x1.Idx → Ideal .f32) (ix3 b l 0) = mapAt D1 (W (Proc.devRef .tc main_arg12)) b 0 l.val l.isLt
    ∧ ∀ r, (after hostOps1_6 W (Proc.devRef .tc main_v17) : S2x1024x4.Idx → Ideal .f32) (ix3 b l r) = mapAt D1 (W (Proc.devRef .tc main_arg7)) b r l.val l.isLt := by
  unfold mapAt
  refine ⟨fun k => ?_, ?_, fun r => ?_⟩ <;> after_reads_at
/-- Its three arguments are what they were. -/
theorem args_1 : V8 m outs c (Proc.devRef .tc main_arg2) = V0 m c (Proc.devRef .tc main_arg2)
    ∧ V8 m outs c (Proc.devRef .tc main_arg12) = V0 m c (Proc.devRef .tc main_arg12)
    ∧ V8 m outs c (Proc.devRef .tc main_arg7) = V0 m c (Proc.devRef .tc main_arg7) :=
  ⟨hold_0 m outs c main_arg2 (by decide), hold_0 m outs c main_arg12 (by decide), hold_0 m outs c main_arg7 (by decide)⟩
/-- The second level's candidates, where its lines end. -/
theorem level_taken_1 (hg : Good m outs) : Taken D1 (kmaps (V0 m c)).C1 (kmaps (V0 m c)).T1 (kmaps (V0 m c)).G1
    (V16 m outs c (Proc.devRef .tc main_v23)) (V16 m outs c (Proc.devRef .tc main_v20)) (V16 m outs c (Proc.devRef .tc main_values_1)) (V16 m outs c (Proc.devRef .tc main_v21)) := by
  have hr := rows_1 (V8 m outs c)
  rw [(args_1 m outs c).1, (args_1 m outs c).2.1, (args_1 m outs c).2.2] at hr
  refine taken_1 (V10 m outs c) (V11 m outs c) (V14 m outs c) (fun b l k => ?_) (fun b l r => ?_) rfl rfl
  · have e : V10 m outs c (Proc.devRef .tc main_v18) = (dat1 (entry (V9 m outs)) c).arrAt 2 cfg1.N := (Function.update_self ..).trans (hg.g1 c)
    rw [e, scores1]
    exact congrArg₂ scoreOf ((hr b l).1 k) (hr b l).2.1
  · have e : V10 m outs c (Proc.devRef .tc main_v17) = V9 m outs c (Proc.devRef .tc main_v17) := V10_of m outs c main_v17 (by decide)
    rw [e]
    exact (hr b l).2.2 r

/-- The rows the third level's lines lay out. -/
theorem rows_2 (W : Valuation τ sig (Elt Ideal)) (b : Fin 2) (l : Fin 256) :
    (∀ k, (after hostOps2_6 W (Proc.devRef .tc main_v25) : S2x256x80.Idx → Ideal .f32) (ix3 b l k) = mapAt D2 (W (Proc.devRef .tc main_arg3)) b k l.val l.isLt)
    ∧ (after hostOps2_6 W (Proc.devRef .tc main_v27) : S2x256x1.Idx → Ideal .f32) (ix3 b l 0) = mapAt D2 (W (Proc.devRef .tc main_arg13)) b 0 l.val l.isLt
    ∧ ∀ r, (after hostOps2_6 W (Proc.devRef .tc main_v29) : S2x256x4.Idx → Ideal .f32) (ix3 b l r) = mapAt D2 (W (Proc.devRef .tc main_arg8)) b r l.val l.isLt := by
  unfold mapAt
  refine ⟨fun k => ?_, ?_, fun r => ?_⟩ <;> after_reads_at
/-- Its three arguments are what they were. -/
theorem args_2 : V16 m outs c (Proc.devRef .tc main_arg3) = V0 m c (Proc.devRef .tc main_arg3)
    ∧ V16 m outs c (Proc.devRef .tc main_arg13) = V0 m c (Proc.devRef .tc main_arg13)
    ∧ V16 m outs c (Proc.devRef .tc main_arg8) = V0 m c (Proc.devRef .tc main_arg8) :=
  ⟨(hold_1 m outs c main_arg3 (by decide)).trans (hold_0 m outs c main_arg3 (by decide)), (hold_1 m outs c main_arg13 (by decide)).trans (hold_0 m outs c main_arg13 (by decide)), (hold_1 m outs c main_arg8 (by decide)).trans (hold_0 m outs c main_arg8 (by decide))⟩
/-- The third level's candidates, where its lines end. -/
theorem level_taken_2 (hg : Good m outs) : Taken D2 (kmaps (V0 m c)).C2 (kmaps (V0 m c)).T2 (kmaps (V0 m c)).G2
    (V24 m outs c (Proc.devRef .tc main_v35)) (V24 m outs c (Proc.devRef .tc main_v32)) (V24 m outs c (Proc.devRef .tc main_values_5)) (V24 m outs c (Proc.devRef .tc main_v33)) := by
  have hr := rows_2 (V16 m outs c)
  rw [(args_2 m outs c).1, (args_2 m outs c).2.1, (args_2 m outs c).2.2] at hr
  refine taken_2 (V18 m outs c) (V19 m outs c) (V22 m outs c) (fun b l k => ?_) (fun b l r => ?_) rfl rfl
  · have e : V18 m outs c (Proc.devRef .tc main_v30) = (dat2 (entry (V17 m outs)) c).arrAt 2 cfg2.N := (Function.update_self ..).trans (hg.g2 c)
    rw [e, scores2]
    exact congrArg₂ scoreOf ((hr b l).1 k) (hr b l).2.1
  · have e : V18 m outs c (Proc.devRef .tc main_v29) = V17 m outs c (Proc.devRef .tc main_v29) := V18_of m outs c main_v29 (by decide)
    rw [e]
    exact (hr b l).2.2 r

/-- The rows the fourth level's lines lay out. -/
theorem rows_3 (W : Valuation τ sig (Elt Ideal)) (b : Fin 2) (l : Fin 64) :
    (∀ k, (after hostOps3_6 W (Proc.devRef .tc main_v37) : S2x64x80.Idx → Ideal .f32) (ix3 b l k) = mapAt D3 (W (Proc.devRef .tc main_arg4)) b k l.val l.isLt)
    ∧ (after hostOps3_6 W (Proc.devRef .tc main_v39) : S2x64x1.Idx → Ideal .f32) (ix3 b l 0) = mapAt D3 (W (Proc.devRef .tc main_arg14)) b 0 l.val l.isLt
    ∧ ∀ r, (after hostOps3_6 W (Proc.devRef .tc main_v41) : S2x64x4.Idx → Ideal .f32) (ix3 b l r) = mapAt D3 (W (Proc.devRef .tc main_arg9)) b r l.val l.isLt := by
  unfold mapAt
  refine ⟨fun k => ?_, ?_, fun r => ?_⟩ <;> after_reads_at
/-- Its three arguments are what they were. -/
theorem args_3 : V24 m outs c (Proc.devRef .tc main_arg4) = V0 m c (Proc.devRef .tc main_arg4)
    ∧ V24 m outs c (Proc.devRef .tc main_arg14) = V0 m c (Proc.devRef .tc main_arg14)
    ∧ V24 m outs c (Proc.devRef .tc main_arg9) = V0 m c (Proc.devRef .tc main_arg9) :=
  ⟨(hold_2 m outs c main_arg4 (by decide)).trans ((hold_1 m outs c main_arg4 (by decide)).trans (hold_0 m outs c main_arg4 (by decide))), (hold_2 m outs c main_arg14 (by decide)).trans ((hold_1 m outs c main_arg14 (by decide)).trans (hold_0 m outs c main_arg14 (by decide))), (hold_2 m outs c main_arg9 (by decide)).trans ((hold_1 m outs c main_arg9 (by decide)).trans (hold_0 m outs c main_arg9 (by decide)))⟩
/-- The fourth level's candidates, where its lines end. -/
theorem level_taken_3 (hg : Good m outs) : Taken D3 (kmaps (V0 m c)).C3 (kmaps (V0 m c)).T3 (kmaps (V0 m c)).G3
    (V32 m outs c (Proc.devRef .tc main_v47)) (V32 m outs c (Proc.devRef .tc main_v44)) (V32 m outs c (Proc.devRef .tc main_values_9)) (V32 m outs c (Proc.devRef .tc main_v45)) := by
  have hr := rows_3 (V24 m outs c)
  rw [(args_3 m outs c).1, (args_3 m outs c).2.1, (args_3 m outs c).2.2] at hr
  refine taken_3 (V26 m outs c) (V27 m outs c) (V30 m outs c) (fun b l k => ?_) (fun b l r => ?_) rfl rfl
  · have e : V26 m outs c (Proc.devRef .tc main_v42) = (dat3 (entry (V25 m outs)) c).arrAt 2 cfg3.N := (Function.update_self ..).trans (hg.g3 c)
    rw [e, scores3]
    exact congrArg₂ scoreOf ((hr b l).1 k) (hr b l).2.1
  · have e : V26 m outs c (Proc.devRef .tc main_v41) = V25 m outs c (Proc.devRef .tc main_v41) := V26_of m outs c main_v41 (by decide)
    rw [e]
    exact (hr b l).2.2 r

/-- The rows the fifth level's lines lay out. -/
theorem rows_4 (W : Valuation τ sig (Elt Ideal)) (b : Fin 2) (l : Fin 16) :
    (∀ k, (after hostOps4_6 W (Proc.devRef .tc main_v49) : S2x16x80.Idx → Ideal .f32) (ix3 b l k) = mapAt D4 (W (Proc.devRef .tc main_arg5)) b k l.val l.isLt)
    ∧ (after hostOps4_6 W (Proc.devRef .tc main_v51) : S2x16x1.Idx → Ideal .f32) (ix3 b l 0) = mapAt D4 (W (Proc.devRef .tc main_arg15)) b 0 l.val l.isLt
    ∧ ∀ r, (after hostOps4_6 W (Proc.devRef .tc main_v53) : S2x16x4.Idx → Ideal .f32) (ix3 b l r) = mapAt D4 (W (Proc.devRef .tc main_arg10)) b r l.val l.isLt := by
  unfold mapAt
  refine ⟨fun k => ?_, ?_, fun r => ?_⟩ <;> after_reads_at
/-- Its three arguments are what they were. -/
theorem args_4 : V32 m outs c (Proc.devRef .tc main_arg5) = V0 m c (Proc.devRef .tc main_arg5)
    ∧ V32 m outs c (Proc.devRef .tc main_arg15) = V0 m c (Proc.devRef .tc main_arg15)
    ∧ V32 m outs c (Proc.devRef .tc main_arg10) = V0 m c (Proc.devRef .tc main_arg10) :=
  ⟨(hold_3 m outs c main_arg5 (by decide)).trans ((hold_2 m outs c main_arg5 (by decide)).trans ((hold_1 m outs c main_arg5 (by decide)).trans (hold_0 m outs c main_arg5 (by decide)))), (hold_3 m outs c main_arg15 (by decide)).trans ((hold_2 m outs c main_arg15 (by decide)).trans ((hold_1 m outs c main_arg15 (by decide)).trans (hold_0 m outs c main_arg15 (by decide)))), (hold_3 m outs c main_arg10 (by decide)).trans ((hold_2 m outs c main_arg10 (by decide)).trans ((hold_1 m outs c main_arg10 (by decide)).trans (hold_0 m outs c main_arg10 (by decide))))⟩
/-- The fifth level's candidates, where its lines end. -/
theorem level_taken_4 (hg : Good m outs) : Taken D4 (kmaps (V0 m c)).C4 (kmaps (V0 m c)).T4 (kmaps (V0 m c)).G4
    (V40 m outs c (Proc.devRef .tc main_v59)) (V40 m outs c (Proc.devRef .tc main_v56)) (V40 m outs c (Proc.devRef .tc main_values_13)) (V40 m outs c (Proc.devRef .tc main_v57)) := by
  have hr := rows_4 (V32 m outs c)
  rw [(args_4 m outs c).1, (args_4 m outs c).2.1, (args_4 m outs c).2.2] at hr
  refine taken_4 (V34 m outs c) (V35 m outs c) (V38 m outs c) (fun b l k => ?_) (fun b l r => ?_) rfl rfl
  · have e : V34 m outs c (Proc.devRef .tc main_v54) = (dat4 (entry (V33 m outs)) c).arrAt 2 cfg4.N := (Function.update_self ..).trans (hg.g4 c)
    rw [e, scores4]
    exact congrArg₂ scoreOf ((hr b l).1 k) (hr b l).2.1
  · have e : V34 m outs c (Proc.devRef .tc main_v53) = V33 m outs c (Proc.devRef .tc main_v53) := V34_of m outs c main_v53 (by decide)
    rw [e]
    exact (hr b l).2.2 r

end Cert.KernelIdeal.Fcos
end
-- ==== Proof.KernCat.lean ====
/- The kernel's tables for its suppression call: the five levels' put together, padded and cut into rows. -/
module
public import proofs.«01_k».proof.Proof.KernLevels
public import Idealize.ShloMosaic.Lib.Pointwise
@[expose] public section
set_option maxRecDepth 16384
set_option maxHeartbeats 2000000
noncomputable section
namespace Cert.KernelIdeal.Fcos
open Idealize.ShloMosaic Idealize.ShloMosaic.StableHlo Cert.KernelIdeal.Gen Cert.Fcos
variable (W : Valuation τ sig (Elt Ideal))

/-- The logarithms of the five levels in order. -/
theorem kcat66 (b : Fin 2) (r : Fin 4) (p : Fin 5000) : (after hostOps5_6 W (Proc.devRef .tc main_v66) : S2x4x5000.Idx → Ideal .f32) (ix3 b r p) =
    five (fun k => (W (Proc.devRef .tc main_v11) : S2x1000x4.Idx → Ideal .f32) (ix3 b k r)) (fun k => (W (Proc.devRef .tc main_v23) : S2x1000x4.Idx → Ideal .f32) (ix3 b k r)) (fun k => (W (Proc.devRef .tc main_v35) : S2x1000x4.Idx → Ideal .f32) (ix3 b k r))
      (fun k => (W (Proc.devRef .tc main_v47) : S2x1000x4.Idx → Ideal .f32) (ix3 b k r)) (fun k => (W (Proc.devRef .tc main_v59) : S2x1000x4.Idx → Ideal .f32) (ix3 b k r)) p := by
  refine Eq.trans ?_ (five_down _ _ _ _ _ p)
  after_reads_at
  pointwise
  after_reads_simp
/-- The locations as numbers. -/
theorem kcat62 (b : Fin 2) (p : Fin 5000) : (after hostOps5_6 W (Proc.devRef .tc main_v62) : S2x5000.Idx → Ideal .f32) (ix2 b p) =
    FloatOps.sitofp (F := Ideal) .f32 (five (fun k => (W (Proc.devRef .tc main_v8) : S2x1000.Idx → BitVec 32) (ix2 b k)) (fun k => (W (Proc.devRef .tc main_v20) : S2x1000.Idx → BitVec 32) (ix2 b k)) (fun k => (W (Proc.devRef .tc main_v32) : S2x1000.Idx → BitVec 32) (ix2 b k))
      (fun k => (W (Proc.devRef .tc main_v44) : S2x1000.Idx → BitVec 32) (ix2 b k)) (fun k => (W (Proc.devRef .tc main_v56) : S2x1000.Idx → BitVec 32) (ix2 b k)) p) := by
  refine Eq.trans ?_ (congrArg _ (five_down _ _ _ _ _ p))
  after_reads_at
  pointwise
  after_reads_simp
/-- The classes as numbers. -/
theorem kcat65 (b : Fin 2) (p : Fin 5000) : (after hostOps5_6 W (Proc.devRef .tc main_v65) : S2x5000.Idx → Ideal .f32) (ix2 b p) =
    FloatOps.sitofp (F := Ideal) .f32 (five (fun k => (W (Proc.devRef .tc main_v9) : S2x1000.Idx → BitVec 32) (ix2 b k)) (fun k => (W (Proc.devRef .tc main_v21) : S2x1000.Idx → BitVec 32) (ix2 b k)) (fun k => (W (Proc.devRef .tc main_v33) : S2x1000.Idx → BitVec 32) (ix2 b k))
      (fun k => (W (Proc.devRef .tc main_v45) : S2x1000.Idx → BitVec 32) (ix2 b k)) (fun k => (W (Proc.devRef .tc main_v57) : S2x1000.Idx → BitVec 32) (ix2 b k)) p) := by
  refine Eq.trans ?_ (congrArg _ (five_down _ _ _ _ _ p))
  after_reads_at
  pointwise
  after_reads_simp
/-- The scores. -/
theorem kcat63 (b : Fin 2) (p : Fin 5000) : (after hostOps5_6 W (Proc.devRef .tc main_v63) : S2x5000.Idx → Ideal .f32) (ix2 b p) =
    (five (fun k => (W (Proc.devRef .tc main_values) : S2x1000.Idx → Ideal .f32) (ix2 b k)) (fun k => (W (Proc.devRef .tc main_values_1) : S2x1000.Idx → Ideal .f32) (ix2 b k)) (fun k => (W (Proc.devRef .tc main_values_5) : S2x1000.Idx → Ideal .f32) (ix2 b k))
      (fun k => (W (Proc.devRef .tc main_values_9) : S2x1000.Idx → Ideal .f32) (ix2 b k)) (fun k => (W (Proc.devRef .tc main_values_13) : S2x1000.Idx → Ideal .f32) (ix2 b k)) p) := by
  refine Eq.trans ?_ (five_down _ _ _ _ _ p)
  after_reads_at
/-- The lines that pad the tables and cut them into rows. -/
def padded : Valuation τ sig (Elt Ideal) :=
  after hostOps5_14 (after hostOps5_13 (after hostOps5_12 (after hostOps5_11 (after hostOps5_10 (after hostOps5_9 (after hostOps5_8 (after hostOps5_7 W)))))))
/-- The padded table of logarithms, cut into rows. -/
theorem kpad68 (b : Fin 2) (r : Fin 4) (i : Fin 8) (j : Fin 640) (h : i.val * 640 + j.val < 5000) :
    (padded W (Proc.devRef .tc main_v68) : S2x4x8x640.Idx → Ideal .f32) (ix4 b r i j)
      = (W (Proc.devRef .tc main_v66) : S2x4x5000.Idx → Ideal .f32) (ix3 b r ⟨i.val * 640 + j.val, h⟩) := by
  unfold padded
  after_reads_at
  pointwise
  rw [dif_pos h]
/-- The padded table of locations. -/
theorem kpad70 (b : Fin 2) (i : Fin 8) (j : Fin 640) (h : i.val * 640 + j.val < 5000) :
    (padded W (Proc.devRef .tc main_v70) : S2x8x640.Idx → Ideal .f32) (ix3 b i j)
      = (W (Proc.devRef .tc main_v62) : S2x5000.Idx → Ideal .f32) (ix2 b ⟨i.val * 640 + j.val, h⟩) := by
  unfold padded
  after_reads_at
  pointwise
  rw [dif_pos h]
/-- The padded table of scores. -/
theorem kpad72 (b : Fin 2) (i : Fin 8) (j : Fin 640) (h : i.val * 640 + j.val < 5000) :
    (padded W (Proc.devRef .tc main_v72) : S2x8x640.Idx → Ideal .f32) (ix3 b i j)
      = (W (Proc.devRef .tc main_v63) : S2x5000.Idx → Ideal .f32) (ix2 b ⟨i.val * 640 + j.val, h⟩) := by
  unfold padded
  after_reads_at
  pointwise
  rw [dif_pos h]
/-- The padded table of classes. -/
theorem kpad74 (b : Fin 2) (i : Fin 8) (j : Fin 640) (h : i.val * 640 + j.val < 5000) :
    (padded W (Proc.devRef .tc main_v74) : S2x8x640.Idx → Ideal .f32) (ix3 b i j)
      = (W (Proc.devRef .tc main_v65) : S2x5000.Idx → Ideal .f32) (ix2 b ⟨i.val * 640 + j.val, h⟩) := by
  unfold padded
  after_reads_at
  pointwise
  rw [dif_pos h]
end Cert.KernelIdeal.Fcos
end
-- ==== Proof.KernNms.lean ====
/- The kernel's suppression call: what its three outputs hold on the first fifty lanes of each image. -/
module
public import proofs.«01_k».proof.Proof.RunKernelIdeal
public import proofs.«01_k».proof.Proof.NmsValue
public import Idealize.ShloMosaic.Lib.Pipeline.ValueKit
public import Idealize.ShloMosaic.Lib.Pointwise
@[expose] public section
set_option maxRecDepth 16384
set_option maxHeartbeats 2000000
noncomputable section
namespace Cert.KernelIdeal.Fcos
open Idealize.ShloMosaic Idealize.ShloMosaic.StableHlo Cert.KernelIdeal.Gen Cert.Fcos Idealize.ShloMosaic.Pipeline

/-- The grid's point of an image. -/
def point (b : Fin 2) : Fin cfg5.N := ![t5_0, t5_1] b

/-- Every point is an image's. -/
theorem exists_point (t : Fin cfg5.N) : ∃ b, t = point b := by
  rcases fin_N5 t with h | h
  · exact ⟨0, h⟩
  · exact ⟨1, h⟩

/-- The block of an image is its part of the array. -/
theorem emb5_0 (b : Fin 2) (y : S1x4x8x640.Idx) : (win5_0.blk (point b)).view.emb y = ix4 b (y 1) (y 2) (y 3) := by
  have h : ∀ b a, win5_0.index (point b) a = (![b.val, 0, 0, 0] : Fin 4 → ℕ) a := by decide +kernel
  idx_vars y
  funext a
  apply Fin.ext
  blk_simp [Pipeline.Window.cell_apply, h]
  fin_cases a <;> simp
/-- The same of the locations. -/
theorem emb5_1 (b : Fin 2) (y : S1x8x640.Idx) : (win5_1.blk (point b)).view.emb y = ix3 b (y 1) (y 2) := by
  have h : ∀ b a, win5_1.index (point b) a = (![b.val, 0, 0] : Fin 3 → ℕ) a := by decide +kernel
  idx_vars y
  funext a
  apply Fin.ext
  blk_simp [Pipeline.Window.cell_apply, h]
  fin_cases a <;> simp
/-- The same of the scores. -/
theorem emb5_2 (b : Fin 2) (y : S1x8x640.Idx) : (win5_2.blk (point b)).view.emb y = ix3 b (y 1) (y 2) := by
  have h : ∀ b a, win5_2.index (point b) a = (![b.val, 0, 0] : Fin 3 → ℕ) a := by decide +kernel
  idx_vars y
  funext a
  apply Fin.ext
  blk_simp [Pipeline.Window.cell_apply, h]
  fin_cases a <;> simp
/-- The same of the classes. -/
theorem emb5_3 (b : Fin 2) (y : S1x8x640.Idx) : (win5_3.blk (point b)).view.emb y = ix3 b (y 1) (y 2) := by
  have h : ∀ b a, win5_3.index (point b) a = (![b.val, 0, 0] : Fin 3 → ℕ) a := by decide +kernel
  idx_vars y
  funext a
  apply Fin.ext
  blk_simp [Pipeline.Window.cell_apply, h]
  fin_cases a <;> simp
/-- The same of output 0. -/
theorem emb5_4 (b : Fin 2) (y : S1x4x64.Idx) : (win5_4.blk (point b)).view.emb y = ix3 b (y 1) (y 2) := by
  have h : ∀ b a, win5_4.index (point b) a = (![b.val, 0, 0] : Fin 3 → ℕ) a := by decide +kernel
  idx_vars y
  funext a
  apply Fin.ext
  blk_simp [Pipeline.Window.cell_apply, h]
  fin_cases a <;> simp
/-- The same of output 1. -/
theorem emb5_5 (b : Fin 2) (y : S1x1x64.Idx) : (win5_5.blk (point b)).view.emb y = ix3 b (y 1) (y 2) := by
  have h : ∀ b a, win5_5.index (point b) a = (![b.val, 0, 0] : Fin 3 → ℕ) a := by decide +kernel
  idx_vars y
  funext a
  apply Fin.ext
  blk_simp [Pipeline.Window.cell_apply, h]
  fin_cases a <;> simp
/-- The same of output 2. -/
theorem emb5_6 (b : Fin 2) (y : S1x1x64.Idx) : (win5_6.blk (point b)).view.emb y = ix3 b (y 1) (y 2) := by
  have h : ∀ b a, win5_6.index (point b) a = (![b.val, 0, 0] : Fin 3 → ℕ) a := by decide +kernel
  idx_vars y
  funext a
  apply Fin.ext
  blk_simp [Pipeline.Window.cell_apply, h]
  fin_cases a <;> simp
variable (V : Entry Ideal) (c : Dev nD)

/-- The logarithms the call reads at an image. -/
theorem blk5_0 (b : Fin 2) (y : S1x4x8x640.Idx) : (blk5 V c 0 (point b) : S1x4x8x640.Idx → Ideal .f32) y = (V c main_v68 : S2x4x8x640.Idx → Ideal .f32) (ix4 b (y 1) (y 2) (y 3)) :=
  congrArg (V c main_v68 : S2x4x8x640.Idx → Ideal .f32) (emb5_0 b y)
/-- The locations it reads. -/
theorem blk5_1 (b : Fin 2) (y : S1x8x640.Idx) : (blk5 V c 1 (point b) : S1x8x640.Idx → Ideal .f32) y = (V c main_v70 : S2x8x640.Idx → Ideal .f32) (ix3 b (y 1) (y 2)) :=
  congrArg (V c main_v70 : S2x8x640.Idx → Ideal .f32) (emb5_1 b y)
/-- The scores it reads. -/
theorem blk5_2 (b : Fin 2) (y : S1x8x640.Idx) : (blk5 V c 2 (point b) : S1x8x640.Idx → Ideal .f32) y = (V c main_v72 : S2x8x640.Idx → Ideal .f32) (ix3 b (y 1) (y 2)) :=
  congrArg (V c main_v72 : S2x8x640.Idx → Ideal .f32) (emb5_2 b y)
/-- The classes it reads. -/
theorem blk5_3 (b : Fin 2) (y : S1x8x640.Idx) : (blk5 V c 3 (point b) : S1x8x640.Idx → Ideal .f32) y = (V c main_v74 : S2x8x640.Idx → Ideal .f32) (ix3 b (y 1) (y 2)) :=
  congrArg (V c main_v74 : S2x8x640.Idx → Ideal .f32) (emb5_3 b y)

/-- What the loop carries at its end, of an image. -/
def carry (b : Fin 2) : Carry Ideal := nmsOf (blk5 V c 0 (point b)) (blk5 V c 1 (point b)) (blk5 V c 2 (point b)) (blk5 V c 3 (point b))

/-- The array of boxes: of each image, the four sides the loop carries. -/
theorem arr5_4 : (dat5 V c).arrAt 4 cfg5.N = (fun i : S2x4x64.Idx => (k5_pay10 (carry V c (i 0)).2.1 (carry V c (i 0)).2.2.1 (carry V c (i 0)).2.2.2.1 (carry V c (i 0)).2.2.2.2.1 : S1x4x64.Idx → Ideal .f32) (ix3 0 (i 1) (i 2))) := by
  refine (dat5 V c).arrAt_eq_of_covers 4 _ (by decide +kernel) fun t hf y => ?_
  obtain ⟨b, rfl⟩ := exists_point t
  rw [dat5_after4]
  unfold out5_4
  frame_out
  refine Eq.trans ?_ (congrArg (fun i : S2x4x64.Idx => (k5_pay10 (carry V c (i 0)).2.1 (carry V c (i 0)).2.2.1 (carry V c (i 0)).2.2.2.1 (carry V c (i 0)).2.2.2.2.1 : S1x4x64.Idx → Ideal .f32) (ix3 0 (i 1) (i 2))) (emb5_4 b y).symm)
  generalize (y : S1x4x64.Idx) = z
  idx_vars z
  unfold carry
  generalize nmsOf (blk5 V c 0 (point b)) (blk5 V c 1 (point b)) (blk5 V c 2 (point b)) (blk5 V c 3 (point b)) = a
  obtain rfl : z0 = 0 := Subsingleton.elim _ _
  rfl
/-- The array of scores: of each image, the scores the loop carries. -/
theorem arr5_5 : (dat5 V c).arrAt 5 cfg5.N = (fun i : S2x1x64.Idx => (k5_pay11 (carry V c (i 0)).2.2.2.2.2.1 : S1x1x64.Idx → Ideal .f32) (ix3 0 (i 1) (i 2))) := by
  refine (dat5 V c).arrAt_eq_of_covers 5 _ (by decide +kernel) fun t hf y => ?_
  obtain ⟨b, rfl⟩ := exists_point t
  rw [dat5_after5]
  unfold out5_5
  frame_out
  refine Eq.trans ?_ (congrArg (fun i : S2x1x64.Idx => (k5_pay11 (carry V c (i 0)).2.2.2.2.2.1 : S1x1x64.Idx → Ideal .f32) (ix3 0 (i 1) (i 2))) (emb5_5 b y).symm)
  generalize (y : S1x1x64.Idx) = z
  idx_vars z
  unfold carry
  generalize nmsOf (blk5 V c 0 (point b)) (blk5 V c 1 (point b)) (blk5 V c 2 (point b)) (blk5 V c 3 (point b)) = a
  obtain rfl : z0 = 0 := Subsingleton.elim _ _
  rfl
/-- The array of classes: of each image, the classes the loop carries. -/
theorem arr5_6 : (dat5 V c).arrAt 6 cfg5.N = (fun i : S2x1x64.Idx => (k5_pay12 (carry V c (i 0)).2.2.2.2.2.2 : S1x1x64.Idx → Ideal .f32) (ix3 0 (i 1) (i 2))) := by
  refine (dat5 V c).arrAt_eq_of_covers 6 _ (by decide +kernel) fun t hf y => ?_
  obtain ⟨b, rfl⟩ := exists_point t
  rw [dat5_after6]
  unfold out5_6
  frame_out
  refine Eq.trans ?_ (congrArg (fun i : S2x1x64.Idx => (k5_pay12 (carry V c (i 0)).2.2.2.2.2.2 : S1x1x64.Idx → Ideal .f32) (ix3 0 (i 1) (i 2))) (emb5_6 b y).symm)
  generalize (y : S1x1x64.Idx) = z
  idx_vars z
  unfold carry
  generalize nmsOf (blk5 V c 0 (point b)) (blk5 V c 1 (point b)) (blk5 V c 2 (point b)) (blk5 V c 3 (point b)) = a
  obtain rfl : z0 = 0 := Subsingleton.elim _ _
  rfl

/-- What the loop carries of an image whose four tables hold the candidates'. -/
theorem carry_inv (b : Fin 2) (r : Fin 4 → Fin 5000 → EReal) (loc v cf : Fin 5000 → EReal)
    (h0 : ∀ (a : Fin 4) (i : Fin 8) (j : Fin 640) (h : i.val * 640 + j.val < 5000), (V c main_v68 : S2x4x8x640.Idx → Ideal .f32) (ix4 b a i j) = r a ⟨i.val * 640 + j.val, h⟩)
    (h1 : ∀ (i : Fin 8) (j : Fin 640) (h : i.val * 640 + j.val < 5000), (V c main_v70 : S2x8x640.Idx → Ideal .f32) (ix3 b i j) = loc ⟨i.val * 640 + j.val, h⟩)
    (h2 : ∀ (i : Fin 8) (j : Fin 640) (h : i.val * 640 + j.val < 5000), (V c main_v72 : S2x8x640.Idx → Ideal .f32) (ix3 b i j) = v ⟨i.val * 640 + j.val, h⟩)
    (h3 : ∀ (i : Fin 8) (j : Fin 640) (h : i.val * 640 + j.val < 5000), (V c main_v74 : S2x8x640.Idx → Ideal .f32) (ix3 b i j) = cf ⟨i.val * 640 + j.val, h⟩) :
    Inv (ksides r loc cf) (fun p => kscore (v p)) cf 50 (carry V c b) := by
  unfold carry nmsOf
  refine nmsFold_inv _ _ _ _ r loc v cf (fun a i j h => ?_) (fun i j h => ?_) (fun i j h => ?_) (fun i j h => ?_)
  · rw [← h0 a i j h]
    pointwise
    exact blk5_0 V c b (ix4 0 a i j)
  · rw [← h1 i j h]
    pointwise
    exact blk5_1 V c b (ix3 0 i j)
  · rw [← h2 i j h]
    pointwise
    exact blk5_2 V c b (ix3 0 i j)
  · rw [← h3 i j h]
    pointwise
    exact blk5_3 V c b (ix3 0 i j)

/-- The boxes at a lane. -/
theorem lane_boxes (a : Carry Ideal) (o : Fin 64) (r : Fin 4) :
    (k5_pay10 a.2.1 a.2.2.1 a.2.2.2.1 a.2.2.2.2.1 : S1x4x64.Idx → Ideal .f32) (ix3 0 r o) = (![a.2.1 (ix2 0 o), a.2.2.1 (ix2 0 o), a.2.2.2.1 (ix2 0 o), a.2.2.2.2.1 (ix2 0 o)] : Fin 4 → EReal) r := by
  fin_cases r <;> pointwise [k5_pay10] <;> rfl
/-- The score at a lane. -/
theorem lane_score (a : Carry Ideal) (o : Fin 64) : (k5_pay11 a.2.2.2.2.2.1 : S1x1x64.Idx → Ideal .f32) (ix3 0 0 o) = a.2.2.2.2.2.1 (ix2 0 o) := by
  pointwise [k5_pay11]
/-- The class at a lane. -/
theorem lane_class (a : Carry Ideal) (o : Fin 64) : (k5_pay12 a.2.2.2.2.2.2 : S1x1x64.Idx → Ideal .f32) (ix3 0 0 o) = a.2.2.2.2.2.2 (ix2 0 o) := by
  pointwise [k5_pay12]
end Cert.KernelIdeal.Fcos
end
-- ==== Proof.KernFinal.lean ====
/- The kernel's results: at each round's kept candidate, its clipped box, its score and its class. -/
module
public import proofs.«01_k».proof.Proof.KernTables
public import proofs.«01_k».proof.Proof.KernCat
public import proofs.«01_k».proof.Proof.KernNms
@[expose] public section
set_option maxRecDepth 16384
set_option maxHeartbeats 2000000
noncomputable section
namespace Cert.KernelIdeal.Fcos
open Idealize.ShloMosaic Idealize.ShloMosaic.StableHlo Cert.KernelIdeal.Gen Cert.Fcos
variable (m : (ℓ : Loc nD τ sig) → Buf (Elt Ideal) ℓ) (outs : Outs (F := Ideal)) (c : Dev nD)

/-- The suppression call's table of logarithms. -/
theorem logs_at (hg : Good m outs) (b : Fin 2) (a : Fin 4) (i : Fin 8) (j : Fin 640) (h : i.val * 640 + j.val < 5000) :
    (V49 m outs c (Proc.devRef .tc main_v68) : S2x4x8x640.Idx → Ideal .f32) (ix4 b a i j) = ((kmaps (V0 m c)).cand b ⟨i.val * 640 + j.val, h⟩).r a := by
  refine (kpad68 (V41 m outs c) b a i j h).trans ((kcat66 (V40 m outs c) b a _).trans ?_)
  rw [hold_4 m outs c main_v11 (by decide), hold_3 m outs c main_v11 (by decide), hold_2 m outs c main_v11 (by decide), hold_1 m outs c main_v11 (by decide), hold_4 m outs c main_v23 (by decide), hold_3 m outs c main_v23 (by decide), hold_2 m outs c main_v23 (by decide), hold_4 m outs c main_v35 (by decide), hold_3 m outs c main_v35 (by decide), hold_4 m outs c main_v47 (by decide)]
  simp only [(level_taken_0 m outs c hg).logs, (level_taken_1 m outs c hg).logs, (level_taken_2 m outs c hg).logs, (level_taken_3 m outs c hg).logs, (level_taken_4 m outs c hg).logs]
  exact five_map (fun q : Cand => q.r a) _ _ _ _ _ _

/-- Its table of locations. -/
theorem locs_at (hg : Good m outs) (b : Fin 2) (i : Fin 8) (j : Fin 640) (h : i.val * 640 + j.val < 5000) :
    (V49 m outs c (Proc.devRef .tc main_v70) : S2x8x640.Idx → Ideal .f32) (ix3 b i j) = ((((kmaps (V0 m c)).cand b ⟨i.val * 640 + j.val, h⟩).loc : ℝ) : EReal) := by
  refine (kpad70 (V41 m outs c) b i j h).trans ((kcat62 (V40 m outs c) b _).trans ?_)
  rw [hold_4 m outs c main_v8 (by decide), hold_3 m outs c main_v8 (by decide), hold_2 m outs c main_v8 (by decide), hold_1 m outs c main_v8 (by decide), hold_4 m outs c main_v20 (by decide), hold_3 m outs c main_v20 (by decide), hold_2 m outs c main_v20 (by decide), hold_4 m outs c main_v32 (by decide), hold_3 m outs c main_v32 (by decide), hold_4 m outs c main_v44 (by decide)]
  simp only [(level_taken_0 m outs c hg).loc, (level_taken_1 m outs c hg).loc, (level_taken_2 m outs c hg).loc, (level_taken_3 m outs c hg).loc, (level_taken_4 m outs c hg).loc]
  rw [five_map (fun q : Cand => BitVec.ofNat 32 q.loc)]
  exact real_word _ (lt_trans ((kmaps (V0 m c)).loc_lt b _) (by decide))

/-- Its table of scores. -/
theorem vals_at (hg : Good m outs) (b : Fin 2) (i : Fin 8) (j : Fin 640) (h : i.val * 640 + j.val < 5000) :
    (V49 m outs c (Proc.devRef .tc main_v72) : S2x8x640.Idx → Ideal .f32) (ix3 b i j) = ((kmaps (V0 m c)).cand b ⟨i.val * 640 + j.val, h⟩).v := by
  refine (kpad72 (V41 m outs c) b i j h).trans ((kcat63 (V40 m outs c) b _).trans ?_)
  rw [hold_4 m outs c main_values (by decide), hold_3 m outs c main_values (by decide), hold_2 m outs c main_values (by decide), hold_1 m outs c main_values (by decide), hold_4 m outs c main_values_1 (by decide), hold_3 m outs c main_values_1 (by decide), hold_2 m outs c main_values_1 (by decide), hold_4 m outs c main_values_5 (by decide), hold_3 m outs c main_values_5 (by decide), hold_4 m outs c main_values_9 (by decide)]
  simp only [(level_taken_0 m outs c hg).val, (level_taken_1 m outs c hg).val, (level_taken_2 m outs c hg).val, (level_taken_3 m outs c hg).val, (level_taken_4 m outs c hg).val]
  exact five_map (fun q : Cand => q.v) _ _ _ _ _ _

/-- Its table of classes. -/
theorem classes_at (hg : Good m outs) (b : Fin 2) (i : Fin 8) (j : Fin 640) (h : i.val * 640 + j.val < 5000) :
    (V49 m outs c (Proc.devRef .tc main_v74) : S2x8x640.Idx → Ideal .f32) (ix3 b i j) = (kmaps (V0 m c)).clsf b ⟨i.val * 640 + j.val, h⟩ := by
  refine (kpad74 (V41 m outs c) b i j h).trans ((kcat65 (V40 m outs c) b _).trans ?_)
  rw [hold_4 m outs c main_v9 (by decide), hold_3 m outs c main_v9 (by decide), hold_2 m outs c main_v9 (by decide), hold_1 m outs c main_v9 (by decide), hold_4 m outs c main_v21 (by decide), hold_3 m outs c main_v21 (by decide), hold_2 m outs c main_v21 (by decide), hold_4 m outs c main_v33 (by decide), hold_3 m outs c main_v33 (by decide), hold_4 m outs c main_v45 (by decide)]
  simp only [(level_taken_0 m outs c hg).cls, (level_taken_1 m outs c hg).cls, (level_taken_2 m outs c hg).cls, (level_taken_3 m outs c hg).cls, (level_taken_4 m outs c hg).cls]
  rw [five_map (fun q : Cand => BitVec.ofNat 32 q.cls)]
  exact real_word _ (lt_trans ((kmaps (V0 m c)).cls_lt b _) (by decide))

/-- What the suppression loop carries at its end, over the candidates. -/
theorem carried (hg : Good m outs) (b : Fin 2) :
    Inv ((kmaps (V0 m c)).sides b) ((kmaps (V0 m c)).scores b) ((kmaps (V0 m c)).clsf b) 50 (carry (entry (V49 m outs)) c b) :=
  carry_inv (entry (V49 m outs)) c b (fun a p => ((kmaps (V0 m c)).cand b p).r a) (fun p => ((((kmaps (V0 m c)).cand b p).loc : ℝ) : EReal)) (fun p => ((kmaps (V0 m c)).cand b p).v) _
    (logs_at m outs c hg b) (locs_at m outs c hg b) (vals_at m outs c hg b) (classes_at m outs c hg b)

/-- Moving a coordinate by a class's distance and back leaves it. -/
theorem moved_back (x : EReal) (k : ℕ) : x + ((k : ℝ) : EReal) * Ideal.ofBits .f32 0x44800000#32 - ((k : ℝ) : EReal) * Ideal.ofBits .f32 0x44800000#32 = x := by
  rw [c1024, ← EReal.coe_mul]
  exact EReal.add_sub_cancel_right

/-- A class as a number is its word again. -/
theorem class_word (k : ℕ) (h : k < 80) : Ideal.fptosi 32 ((k : ℝ) : EReal) = BitVec.ofNat 32 k := by
  unfold Ideal.fptosi
  rw [Ideal.toIntClamped_coe, if_pos (Nat.cast_nonneg k), Int.floor_natCast, min_eq_right (by norm_num; omega), max_eq_right (by norm_num)]
  exact BitVec.ofInt_natCast 32 k

/-- The last lines take the first fifty lanes. -/
theorem last_boxes (W : Valuation τ sig (Elt Ideal)) (b : Fin 2) (o : Fin 50) (r : Fin 4) : (after hostOps6 W (Proc.devRef .tc main_v77) : S2x50x4.Idx → Ideal .f32) (ix3 b o r)
    = (W (Proc.devRef .tc main_v75_0) : S2x4x64.Idx → Ideal .f32) (ix3 b r ⟨o.val, by omega⟩) := by
  after_reads_at
/-- The same of the scores. -/
theorem last_scores (W : Valuation τ sig (Elt Ideal)) (b : Fin 2) (o : Fin 50) : (after hostOps6 W (Proc.devRef .tc main_v79) : S2x50.Idx → Ideal .f32) (ix2 b o)
    = (W (Proc.devRef .tc main_v75_1) : S2x1x64.Idx → Ideal .f32) (ix3 b 0 ⟨o.val, by omega⟩) := by
  after_reads_at
/-- The same of the classes, as words. -/
theorem last_classes (W : Valuation τ sig (Elt Ideal)) (b : Fin 2) (o : Fin 50) : (after hostOps6 W (Proc.devRef .tc main_v82) : S2x50.Idx → BitVec 32) (ix2 b o)
    = Ideal.fptosi 32 ((W (Proc.devRef .tc main_v75_2) : S2x1x64.Idx → Ideal .f32) (ix3 b 0 ⟨o.val, by omega⟩)) := by
  after_reads_at
  pointwise
  rfl

/-- The first result: the kept candidates' boxes. -/
theorem result_boxes (hg : Good m outs) (b : Fin 2) (o : Fin 50) (r : Fin 4) : (V51 m outs c (Proc.devRef .tc main_v77) : S2x50x4.Idx → Ideal .f32) (ix3 b o r)
    = (kmaps (V0 m c)).side b r ((kmaps (V0 m c)).kept b o) := by
  have e : V50 m outs c (Proc.devRef .tc main_v75_0) = (dat5 (entry (V49 m outs)) c).arrAt 4 cfg5.N := (V50_v75_0 m outs c).trans (hg.g5_4 c)
  have hi := carried m outs c hg b
  refine (last_boxes (V50 m outs c) b o r).trans ?_
  rw [e, arr5_4]
  refine (lane_boxes (carry (entry (V49 m outs)) c b) ⟨o.val, by omega⟩ r).trans ?_
  fin_cases r
  · exact (hi.x1 ⟨o.val, by omega⟩ o.isLt).trans (moved_back _ _)
  · exact (hi.y1 ⟨o.val, by omega⟩ o.isLt).trans (moved_back _ _)
  · exact (hi.x2 ⟨o.val, by omega⟩ o.isLt).trans (moved_back _ _)
  · exact (hi.y2 ⟨o.val, by omega⟩ o.isLt).trans (moved_back _ _)

/-- The second result: their scores. -/
theorem result_scores (hg : Good m outs) (b : Fin 2) (o : Fin 50) : (V51 m outs c (Proc.devRef .tc main_v79) : S2x50.Idx → Ideal .f32) (ix2 b o)
    = (kmaps (V0 m c)).scores b ((kmaps (V0 m c)).kept b o) := by
  have e : V50 m outs c (Proc.devRef .tc main_v75_1) = (dat5 (entry (V49 m outs)) c).arrAt 5 cfg5.N := (V50_v75_1 m outs c).trans (hg.g5_5 c)
  refine (last_scores (V50 m outs c) b o).trans ?_
  rw [e, arr5_5]
  exact (lane_score (carry (entry (V49 m outs)) c b) ⟨o.val, by omega⟩).trans ((carried m outs c hg b).sc ⟨o.val, by omega⟩ o.isLt)

/-- The third result: their classes. -/
theorem result_classes (hg : Good m outs) (b : Fin 2) (o : Fin 50) : (V51 m outs c (Proc.devRef .tc main_v82) : S2x50.Idx → BitVec 32) (ix2 b o)
    = BitVec.ofNat 32 ((kmaps (V0 m c)).cand b ((kmaps (V0 m c)).kept b o)).cls := by
  have e : V50 m outs c (Proc.devRef .tc main_v75_2) = (dat5 (entry (V49 m outs)) c).arrAt 6 cfg5.N := (V50_v75_2 m outs c).trans (hg.g5_6 c)
  refine (last_classes (V50 m outs c) b o).trans ?_
  rw [e, arr5_6]
  refine (congrArg (Ideal.fptosi 32) ((lane_class (carry (entry (V49 m outs)) c b) ⟨o.val, by omega⟩).trans ((carried m outs c hg b).cls ⟨o.val, by omega⟩ o.isLt))).trans ?_
  exact class_word _ ((kmaps (V0 m c)).cls_lt b _)

end Cert.KernelIdeal.Fcos
end
-- ==== Proof.lean ====
module

public import proofs.«01_k».proof.Defs
public import proofs.«01_k».proof.Proof.RunKernel
public import proofs.«01_k».proof.Proof.RunKernelIdeal
public import proofs.«01_k».proof.Proof.RefFinal
public import proofs.«01_k».proof.Proof.KernFinal

@[expose] public section

noncomputable section

namespace Cert.Proof

open Idealize.ShloMosaic

/-- Two functions of two coordinates that agree on every pair are equal at an index. -/
theorem at_ix2 {a b : ℕ} {α : Type} {f g : (⟨2, ![a, b]⟩ : Shape).Idx → α} (h : ∀ i j, f (ix2 i j) = g (ix2 i j)) (i : (⟨2, ![a, b]⟩ : Shape).Idx) : f i = g i := by
  have e : i = ix2 (i 0) (i 1) := by funext k; fin_cases k <;> rfl
  rw [e]
  exact h _ _

/-- The same of three coordinates. -/
theorem at_ix3 {a b d : ℕ} {α : Type} {f g : (⟨3, ![a, b, d]⟩ : Shape).Idx → α} (h : ∀ i j k, f (ix3 i j k) = g (ix3 i j k)) (i : (⟨3, ![a, b, d]⟩ : Shape).Idx) : f i = g i := by
  have e : i = ix3 (i 0) (i 1) (i 2) := by funext k; fin_cases k <;> rfl
  rw [e]
  exact h _ _ _

/-- Launched on the same arguments, the two programs have the same maps. -/
theorem same_maps {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Fcos.mapsOf (StableHlo.launchContents m' c) = Cert.KernelIdeal.Fcos.kmaps (Cert.KernelIdeal.Gen.V0 m c) := by
  unfold Cert.ReferenceIdeal.Fcos.mapsOf Cert.KernelIdeal.Fcos.kmaps
  rw [Cert.Fcos.Maps.mk.injEq]
  exact ⟨h1, h2, h3, h4, h5, h6, h7, h8, h9, h10, h11, h12, h13, h14, h15⟩

/-- The kernel's three results are the reference's: at each round's kept candidate, its clipped box, its score and its class. -/
theorem algebraic : Cert.algebraic_KernelIdeal_ReferenceIdeal (hKernelIdeal := Cert.KernelIdeal.Gen.facts) (hReferenceIdeal := Cert.ReferenceIdeal.Gen.facts) := by
  intro m g m' g' _ hargs
  obtain ⟨outs, hg⟩ := Cert.KernelIdeal.Fcos.good_exists m
  refine ⟨fun c => Cert.KernelIdeal.Gen.V51 m outs c (Proc.devRef .tc Cert.KernelIdeal.main_v77), fun c => Cert.KernelIdeal.Gen.V51 m outs c (Proc.devRef .tc Cert.KernelIdeal.main_v79),
    fun c => Cert.KernelIdeal.Gen.V51 m outs c (Proc.devRef .tc Cert.KernelIdeal.main_v82), ?_, ?_⟩
  · refine (θ_run Cert.KernelIdeal.defs _ _).mono (fun _ h c => ?_) (Cert.KernelIdeal.Fcos.run_contents m g hg)
    exact ⟨h.1 c _ (Cert.KernelIdeal.Fcos.mem_uc Cert.KernelIdeal.main_v77 (by decide)), h.1 c _ (Cert.KernelIdeal.Fcos.mem_uc Cert.KernelIdeal.main_v79 (by decide)),
      h.1 c _ (Cert.KernelIdeal.Fcos.mem_uc Cert.KernelIdeal.main_v82 (by decide)),
      (h.1 c _ (Cert.KernelIdeal.Fcos.mem_uc Cert.KernelIdeal.main_arg0 (by decide))).trans (Cert.KernelIdeal.Gen.V51_main_arg0 m outs c),
      (h.1 c _ (Cert.KernelIdeal.Fcos.mem_uc Cert.KernelIdeal.main_arg1 (by decide))).trans (Cert.KernelIdeal.Gen.V51_main_arg1 m outs c),
      (h.1 c _ (Cert.KernelIdeal.Fcos.mem_uc Cert.KernelIdeal.main_arg2 (by decide))).trans (Cert.KernelIdeal.Gen.V51_main_arg2 m outs c),
      (h.1 c _ (Cert.KernelIdeal.Fcos.mem_uc Cert.KernelIdeal.main_arg3 (by decide))).trans (Cert.KernelIdeal.Gen.V51_main_arg3 m outs c),
      (h.1 c _ (Cert.KernelIdeal.Fcos.mem_uc Cert.KernelIdeal.main_arg4 (by decide))).trans (Cert.KernelIdeal.Gen.V51_main_arg4 m outs c),
      (h.1 c _ (Cert.KernelIdeal.Fcos.mem_uc Cert.KernelIdeal.main_arg5 (by decide))).trans (Cert.KernelIdeal.Gen.V51_main_arg5 m outs c),
      (h.1 c _ (Cert.KernelIdeal.Fcos.mem_uc Cert.KernelIdeal.main_arg6 (by decide))).trans (Cert.KernelIdeal.Gen.V51_main_arg6 m outs c),
      (h.1 c _ (Cert.KernelIdeal.Fcos.mem_uc Cert.KernelIdeal.main_arg7 (by decide))).trans (Cert.KernelIdeal.Gen.V51_main_arg7 m outs c),
      (h.1 c _ (Cert.KernelIdeal.Fcos.mem_uc Cert.KernelIdeal.main_arg8 (by decide))).trans (Cert.KernelIdeal.Gen.V51_main_arg8 m outs c),
      (h.1 c _ (Cert.KernelIdeal.Fcos.mem_uc Cert.KernelIdeal.main_arg9 (by decide))).trans (Cert.KernelIdeal.Gen.V51_main_arg9 m outs c),
      (h.1 c _ (Cert.KernelIdeal.Fcos.mem_uc Cert.KernelIdeal.main_arg10 (by decide))).trans (Cert.KernelIdeal.Gen.V51_main_arg10 m outs c),
      (h.1 c _ (Cert.KernelIdeal.Fcos.mem_uc Cert.KernelIdeal.main_arg11 (by decide))).trans (Cert.KernelIdeal.Gen.V51_main_arg11 m outs c),
      (h.1 c _ (Cert.KernelIdeal.Fcos.mem_uc Cert.KernelIdeal.main_arg12 (by decide))).trans (Cert.KernelIdeal.Gen.V51_main_arg12 m outs c),
      (h.1 c _ (Cert.KernelIdeal.Fcos.mem_uc Cert.KernelIdeal.main_arg13 (by decide))).trans (Cert.KernelIdeal.Gen.V51_main_arg13 m outs c),
      (h.1 c _ (Cert.KernelIdeal.Fcos.mem_uc Cert.KernelIdeal.main_arg14 (by decide))).trans (Cert.KernelIdeal.Gen.V51_main_arg14 m outs c),
      (h.1 c _ (Cert.KernelIdeal.Fcos.mem_uc Cert.KernelIdeal.main_arg15 (by decide))).trans (Cert.KernelIdeal.Gen.V51_main_arg15 m outs c)⟩
  · refine (θ_run Cert.ReferenceIdeal.defs _ _).mono (fun _ h c => ?_) (Cert.ReferenceIdeal.Fcos.run_final m' g')
    obtain ⟨_, h1, h2, h3, h4, h5, h6, h7, h8, h9, h10, h11, h12, h13, h14, h15⟩ := hargs c
    have hm := same_maps c h1 h2 h3 h4 h5 h6 h7 h8 h9 h10 h11 h12 h13 h14 h15
    refine ⟨(h.1 c _ (Cert.ReferenceIdeal.Fcos.mem_uc Cert.ReferenceIdeal.main_v469 (by decide))).trans (funext fun i => ?_),
      (h.1 c _ (Cert.ReferenceIdeal.Fcos.mem_uc Cert.ReferenceIdeal.main_v470 (by decide))).trans (funext fun i => ?_),
      (h.1 c _ (Cert.ReferenceIdeal.Fcos.mem_uc Cert.ReferenceIdeal.main_v471 (by decide))).trans (funext fun i => ?_),
      (h.1 c _ (Cert.ReferenceIdeal.Fcos.mem_uc Cert.ReferenceIdeal.main_arg0 (by decide))).trans (Cert.ReferenceIdeal.Fcos.final_arg m' c Cert.ReferenceIdeal.main_arg0 (by decide) rfl),
      (h.1 c _ (Cert.ReferenceIdeal.Fcos.mem_uc Cert.ReferenceIdeal.main_arg1 (by decide))).trans (Cert.ReferenceIdeal.Fcos.final_arg m' c Cert.ReferenceIdeal.main_arg1 (by decide) rfl),
      (h.1 c _ (Cert.ReferenceIdeal.Fcos.mem_uc Cert.ReferenceIdeal.main_arg2 (by decide))).trans (Cert.ReferenceIdeal.Fcos.final_arg m' c Cert.ReferenceIdeal.main_arg2 (by decide) rfl),
      (h.1 c _ (Cert.ReferenceIdeal.Fcos.mem_uc Cert.ReferenceIdeal.main_arg3 (by decide))).trans (Cert.ReferenceIdeal.Fcos.final_arg m' c Cert.ReferenceIdeal.main_arg3 (by decide) rfl),
      (h.1 c _ (Cert.ReferenceIdeal.Fcos.mem_uc Cert.ReferenceIdeal.main_arg4 (by decide))).trans (Cert.ReferenceIdeal.Fcos.final_arg m' c Cert.ReferenceIdeal.main_arg4 (by decide) rfl),
      (h.1 c _ (Cert.ReferenceIdeal.Fcos.mem_uc Cert.ReferenceIdeal.main_arg5 (by decide))).trans (Cert.ReferenceIdeal.Fcos.final_arg m' c Cert.ReferenceIdeal.main_arg5 (by decide) rfl),
      (h.1 c _ (Cert.ReferenceIdeal.Fcos.mem_uc Cert.ReferenceIdeal.main_arg6 (by decide))).trans (Cert.ReferenceIdeal.Fcos.final_arg m' c Cert.ReferenceIdeal.main_arg6 (by decide) rfl),
      (h.1 c _ (Cert.ReferenceIdeal.Fcos.mem_uc Cert.ReferenceIdeal.main_arg7 (by decide))).trans (Cert.ReferenceIdeal.Fcos.final_arg m' c Cert.ReferenceIdeal.main_arg7 (by decide) rfl),
      (h.1 c _ (Cert.ReferenceIdeal.Fcos.mem_uc Cert.ReferenceIdeal.main_arg8 (by decide))).trans (Cert.ReferenceIdeal.Fcos.final_arg m' c Cert.ReferenceIdeal.main_arg8 (by decide) rfl),
      (h.1 c _ (Cert.ReferenceIdeal.Fcos.mem_uc Cert.ReferenceIdeal.main_arg9 (by decide))).trans (Cert.ReferenceIdeal.Fcos.final_arg m' c Cert.ReferenceIdeal.main_arg9 (by decide) rfl),
      (h.1 c _ (Cert.ReferenceIdeal.Fcos.mem_uc Cert.ReferenceIdeal.main_arg10 (by decide))).trans (Cert.ReferenceIdeal.Fcos.final_arg m' c Cert.ReferenceIdeal.main_arg10 (by decide) rfl),
      (h.1 c _ (Cert.ReferenceIdeal.Fcos.mem_uc Cert.ReferenceIdeal.main_arg11 (by decide))).trans (Cert.ReferenceIdeal.Fcos.final_arg m' c Cert.ReferenceIdeal.main_arg11 (by decide) rfl),
      (h.1 c _ (Cert.ReferenceIdeal.Fcos.mem_uc Cert.ReferenceIdeal.main_arg12 (by decide))).trans (Cert.ReferenceIdeal.Fcos.final_arg m' c Cert.ReferenceIdeal.main_arg12 (by decide) rfl),
      (h.1 c _ (Cert.ReferenceIdeal.Fcos.mem_uc Cert.ReferenceIdeal.main_arg13 (by decide))).trans (Cert.ReferenceIdeal.Fcos.final_arg m' c Cert.ReferenceIdeal.main_arg13 (by decide) rfl),
      (h.1 c _ (Cert.ReferenceIdeal.Fcos.mem_uc Cert.ReferenceIdeal.main_arg14 (by decide))).trans (Cert.ReferenceIdeal.Fcos.final_arg m' c Cert.ReferenceIdeal.main_arg14 (by decide) rfl),
      (h.1 c _ (Cert.ReferenceIdeal.Fcos.mem_uc Cert.ReferenceIdeal.main_arg15 (by decide))).trans (Cert.ReferenceIdeal.Fcos.final_arg m' c Cert.ReferenceIdeal.main_arg15 (by decide) rfl)⟩
    · exact at_ix3 (fun b o r => (Cert.ReferenceIdeal.Fcos.final_boxes m' c b o r).trans
        ((congrArg (fun M : Cert.Fcos.Maps => M.side b r (M.kept b o)) hm).trans (Cert.KernelIdeal.Fcos.result_boxes m outs c hg b o r).symm)) i
    · exact at_ix2 (fun b o => (Cert.ReferenceIdeal.Fcos.final_scores m' c b o).trans
        ((congrArg (fun M : Cert.Fcos.Maps => M.scores b (M.kept b o)) hm).trans (Cert.KernelIdeal.Fcos.result_scores m outs c hg b o).symm)) i
    · exact at_ix2 (fun b o => (Cert.ReferenceIdeal.Fcos.final_classes m' c b o).trans
        ((congrArg (fun M : Cert.Fcos.Maps => BitVec.ofNat 32 (M.cand b (M.kept b o)).cls) hm).trans (Cert.KernelIdeal.Fcos.result_classes m outs c hg b o).symm)) i

/-- The kernel's frame, its idealization's and the reference's; the idealization rewrites nothing; the two programs' results
    agree. -/
theorem claim : Cert.Claim :=
  ⟨Cert.Kernel.Gen.facts, Cert.KernelIdeal.Gen.facts, Cert.ReferenceIdeal.Gen.facts,
    fun m ρ _ => Cert.Kernel.Fcos.frame m ρ,
    fun m ρ _ => Cert.KernelIdeal.Fcos.frame m ρ,
    fun m ρ _ => Cert.ReferenceIdeal.Fcos.frame m ρ,
    trivial, algebraic⟩

end Cert.Proof

end
